-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v23)) (v4 : (c : Dev Cert.KernelIdeal.nD) → Buf (Elt Ideal) ((c.tc : Thread Cert.KernelIdeal.nD Cert.KernelIdeal.τ).loc Cert.KernelIdeal.main_v22_4)) (v5 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_v22_4) = v4 c
          ∧ r.2.mem ((c.tc : Thread Cert.KernelIdeal.nD Cert.KernelIdeal.τ).loc Cert.KernelIdeal.main_v26) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_v58) = v4 c
          ∧ r.2.mem ((c.tc : Thread Cert.ReferenceIdeal.nD Cert.ReferenceIdeal.τ).loc Cert.ReferenceIdeal.main_v56) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v5)) (v2 : (c : Dev Cert.Kernel2Ideal.nD) → Buf (Elt Ideal) ((c.tc : Thread Cert.Kernel2Ideal.nD Cert.Kernel2Ideal.τ).loc Cert.Kernel2Ideal.main_v8)) (v3 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v5) = v1 c
          ∧ r.2.mem ((c.tc : Thread Cert.Kernel2Ideal.nD Cert.Kernel2Ideal.τ).loc Cert.Kernel2Ideal.main_v8) = v2 c
          ∧ r.2.mem ((c.tc : Thread Cert.Kernel2Ideal.nD Cert.Kernel2Ideal.τ).loc Cert.Kernel2Ideal.main_v10) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_v57) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v37) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v16) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)) (v7 : (c : Dev Cert.Kernel6Ideal.nD) → Buf (Elt Ideal) ((c.tc : Thread Cert.Kernel6Ideal.nD Cert.Kernel6Ideal.τ).loc Cert.Kernel6Ideal.main_v0_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_v0_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v7) = v2 c
          ∧ r.2.mem ((c.tc : Thread Cert.Reference6Ideal.nD Cert.Reference6Ideal.τ).loc Cert.Reference6Ideal.main_v13) = v3 c
          ∧ r.2.mem ((c.tc : Thread Cert.Reference6Ideal.nD Cert.Reference6Ideal.τ).loc Cert.Reference6Ideal.main_v2) = v4 c
          ∧ r.2.mem ((c.tc : Thread Cert.Reference6Ideal.nD Cert.Reference6Ideal.τ).loc Cert.Reference6Ideal.main_v50) = v5 c
          ∧ r.2.mem ((c.tc : Thread Cert.Reference6Ideal.nD Cert.Reference6Ideal.τ).loc Cert.Reference6Ideal.main_v31) = v6 c
          ∧ r.2.mem ((c.tc : Thread Cert.Reference6Ideal.nD Cert.Reference6Ideal.τ).loc Cert.Reference6Ideal.main_v37) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v3) = v1 c
          ∧ r.2.mem ((c.tc : Thread Cert.Reference7Ideal.nD Cert.Reference7Ideal.τ).loc Cert.Reference7Ideal.main_v5) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S8192x1024 : Shape := ⟨2, ![8192, 1024]⟩
abbrev S8192x2048 : Shape := ⟨2, ![8192, 2048]⟩
abbrev S8192x512 : Shape := ⟨2, ![8192, 512]⟩
abbrev S1x1024 : Shape := ⟨2, ![1, 1024]⟩
abbrev S1024x1024 : Shape := ⟨2, ![1024, 1024]⟩
abbrev S8x128x128 : Shape := ⟨3, ![8, 128, 128]⟩
abbrev S8x128 : Shape := ⟨2, ![8, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192x512 : S_.BroadcastsInDim S8192x512 (![] : Fin 0 → Fin S8192x512.rank)
  reducesTo_S8192x512_S_d0_1 : S8192x512.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S1024x1024 .f32) (main_arg5 : FVec F S8x128x128 .f32) (main_arg6 : FVec F S8x128 .f32) (main_v3 : IVec S_ 1) (main_v7 : IVec S_ 1) (main_v11 : IVec S_ 1) (main_v15 : IVec S_ 1) : IVec S_ 1 :=
  let main_v16 : FVec F S1024x1024 .f32 := Host.absf main_arg4
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S8x128x128 .f32 := Host.absf main_arg5
  let main_cst_8 : FVec F S_ .f32 := constant S_ .f32 0x7F800000#32
  let main_v21 : FVec F S8x128x128 .f32 := broadcastInDim S8x128x128 ![] bcast_S_S8x128x128 main_cst_8
  let main_v22 : IVec S8x128x128 1 := cmpf .olt main_v20 main_v21
  let main_c_9 : IVec S_ 1 := constantI S_ 1 1#1
  let main_v23 : IVec S_ 1 := (fun x v => Host.reduce IntOp.andi x v reducesTo_S8x128x128_S_d0_1_2 h_S_) main_v22 main_c_9
  let main_v24 : FVec F S8x128 .f32 := Host.absf main_arg6
  let main_cst_10 : FVec F S_ .f32 := constant S_ .f32 0x7F800000#32
  let main_v25 : FVec F S8x128 .f32 := broadcastInDim S8x128 ![] bcast_S_S8x128 main_cst_10
  let main_v26 : IVec S8x128 1 := cmpf .olt main_v24 main_v25
  let main_c_11 : IVec S_ 1 := constantI S_ 1 1#1
  let main_v27 : IVec S_ 1 := (fun x v => Host.reduce IntOp.andi x v reducesTo_S8x128_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S8192x2048 .f32) (main_arg2 : FVec F S8192x512 .f32) (main_arg3 : FVec F S1x1024 .f32) (main_arg4 : FVec F S1024x1024 .f32) (main_arg5 : FVec F S8x128x128 .f32) (main_arg6 : FVec F S8x128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : FVec F S8192x512 .f32 := Host.absf main_arg2
  let main_cst_2 : FVec F S_ .f32 := constant S_ .f32 0x7F800000#32
  let main_v9 : FVec F S8192x512 .f32 := broadcastInDim S8192x512 ![] bcast_S_S8192x512 main_cst_2
  let main_v10 : IVec S8192x512 1 := cmpf .olt main_v8 main_v9
  let main_c_3 : IVec S_ 1 := constantI S_ 1 1#1
  let main_v11 : IVec S_ 1 := (fun x v => Host.reduce IntOp.andi x v reducesTo_S8192x512_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_v3 main_v7 main_v11 main_v15
-- ==== Pre_finite2.lean ====
abbrev S8192x1024 : Shape := ⟨2, ![8192, 1024]⟩
abbrev S8192x512 : Shape := ⟨2, ![8192, 512]⟩
abbrev S8192x256 : Shape := ⟨2, ![8192, 256]⟩
abbrev S8192x2048 : Shape := ⟨2, ![8192, 2048]⟩
abbrev S1024x2816 : Shape := ⟨2, ![1024, 2816]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x256 : S_.BroadcastsInDim S8192x256 (![] : Fin 0 → Fin S8192x256.rank)
  reducesTo_S8192x256_S_d0_1 : S8192x256.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v6 : IVec S_ 1) (main_v10 : IVec S_ 1) (main_v14 : IVec S_ 1) (main_v18 : IVec S_ 1) (main_v22 : IVec S_ 1) (main_v26 : IVec S_ 1) (main_v30 : IVec S_ 1) (main_v31 : FVec F S1x1024 .f32) (main_v32 : FVec F S1x1024 .f32) : IVec S_ 1 :=
  let main_v33 : IVec S1x1024 1 := cmpf .olt main_v31 main_v32
  let main_c_13 : IVec S_ 1 := constantI S_ 1 1#1
  let main_v34 : IVec S_ 1 := (fun x v => Host.reduce IntOp.andi x v reducesTo_S1x1024_S_d0_1 h_S_) main_v33 main_c_13
  let main_v35 : IVec S_ 1 := andi main_v6 main_v10
  let main_v36 : IVec S_ 1 := andi main_v35 main_v14
  let main_v37 : IVec S_ 1 := andi main_v36 main_v18
  let main_v38 : IVec S_ 1 := andi main_v37 main_v22
  let main_v39 : IVec S_ 1 := andi main_v38 main_v26
  let main_v40 : IVec S_ 1 := andi main_v39 main_v30
  let main_v41 : IVec S_ 1 := andi main_v40 main_v34
  main_v41

def fn_part1 {F : FTy → Type} [FloatOps F] (main_arg5 : FVec F S1024x2816 .f32) (main_arg6 : FVec F S1x1024 .f32) (main_arg7 : FVec F S1x1024 .f32) (main_v2 : FVec F S8192x2048 .f32) (main_v6 : IVec S_ 1) (main_v10 : IVec S_ 1) (main_v14 : IVec S_ 1) (main_v15 : FVec F S8192x256 .f32) (main_v16 : FVec F S8192x256 .f32) : IVec S_ 1 :=
  let main_v17 : IVec S8192x256 1 := cmpf .olt main_v15 main_v16
  let main_c_5 : IVec S_ 1 := constantI S_ 1 1#1
  let main_v18 : IVec S_ 1 := (fun x v => Host.reduce IntOp.andi x v reducesTo_S8192x256_S_d0_1 h_S_) main_v17 main_c_5
  let main_v19 : FVec F S8192x2048 .f32 := Host.absf main_v2
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : FVec F S1024x2816 .f32 := Host.absf main_arg5
  let main_cst_8 : FVec F S_ .f32 := constant S_ .f32 0x7F800000#32
  let main_v24 : FVec F S1024x2816 .f32 := broadcastInDim S1024x2816 ![] bcast_S_S1024x2816 main_cst_8
  let main_v25 : IVec S1024x2816 1 := cmpf .olt main_v23 main_v24
  let main_c_9 : IVec S_ 1 := constantI S_ 1 1#1
  let main_v26 : IVec S_ 1 := (fun x v => Host.reduce IntOp.andi x v reducesTo_S1024x2816_S_d0_1 h_S_) main_v25 main_c_9
  let main_v27 : FVec F S1x1024 .f32 := Host.absf main_arg6
  let main_cst_10 : FVec F S_ .f32 := constant S_ .f32 0x7F800000#32
  let main_v28 : FVec F S1x1024 .f32 := broadcastInDim S1x1024 ![] bcast_S_S1x1024 main_cst_10
  let main_v29 : IVec S1x1024 1 := cmpf .olt main_v27 main_v28
  let main_c_11 : IVec S_ 1 := constantI S_ 1 1#1
  let main_v30 : IVec S_ 1 := (fun x v => Host.reduce IntOp.andi x v reducesTo_S1x1024_S_d0_1 h_S_) main_v29 main_c_11
  let main_v31 : FVec F S1x1024 .f32 := Host.absf main_arg7
  let main_cst_12 : FVec F S_ .f32 := constant S_ .f32 0x7F800000#32
  let main_v32 : FVec F S1x1024 .f32 := broadcastInDim S1x1024 ![] bcast_S_S1x1024 main_cst_12
  fn_part2 (F := F) main_v6 main_v10 main_v14 main_v18 main_v22 main_v26 main_v30 main_v31 main_v32

def fn {F : FTy → Type} [FloatOps F] (main_arg0 : FVec F S8192x1024 .f32) (main_arg1 : FVec F S8192x1024 .f32) (main_arg2 : FVec F S8192x512 .bf16) (main_arg3 : FVec F S8192x256 .bf16) (main_arg4 : FVec F S8192x2048 .bf16) (main_arg5 : FVec F S1024x2816 .f32) (main_arg6 : FVec F S1x1024 .f32) (main_arg7 : FVec F S1x1024 .f32) : IVec S_ 1 :=
  let main_v0 : FVec F S8192x512 .f32 := (extf .f32 · bitsLt_bf16_f32) main_arg2
  let main_v1 : FVec F S8192x256 .f32 := (extf .f32 · bitsLt_bf16_f32) main_arg3
  let main_v2 : FVec F S8192x2048 .f32 := (extf .f32 · bitsLt_bf16_f32) main_arg4
  let main_v3 : FVec F S8192x1024 .f32 := Host.absf main_arg0
  let main_cst : FVec F S_ .f32 := constant S_ .f32 0x7F800000#32
  let main_v4 : FVec F S8192x1024 .f32 := broadcastInDim S8192x1024 ![] bcast_S_S8192x1024 main_cst
  let main_v5 : IVec S8192x1024 1 := cmpf .olt main_v3 main_v4
  let main_c : IVec S_ 1 := constantI S_ 1 1#1
  let main_v6 : IVec S_ 1 := (fun x v => Host.reduce IntOp.andi x v reducesTo_S8192x1024_S_d0_1 h_S_) main_v5 main_c
  let main_v7 : FVec F S8192x1024 .f32 := Host.absf main_arg1
  let main_cst_0 : FVec F S_ .f32 := constant S_ .f32 0x7F800000#32
  let main_v8 : FVec F S8192x1024 .f32 := broadcastInDim S8192x1024 ![] bcast_S_S8192x1024 main_cst_0
  let main_v9 : IVec S8192x1024 1 := cmpf .olt main_v7 main_v8
  let main_c_1 : IVec S_ 1 := constantI S_ 1 1#1
  let main_v10 : IVec S_ 1 := (fun x v => Host.reduce IntOp.andi x v reducesTo_S8192x1024_S_d0_1 h_S_) main_v9 main_c_1
  let main_v11 : FVec F S8192x512 .f32 := Host.absf main_v0
  let main_cst_2 : FVec F S_ .f32 := constant S_ .f32 0x7F800000#32
  let main_v12 : FVec F S8192x512 .f32 := broadcastInDim S8192x512 ![] bcast_S_S8192x512 main_cst_2
  let main_v13 : IVec S8192x512 1 := cmpf .olt main_v11 main_v12
  let main_c_3 : IVec S_ 1 := constantI S_ 1 1#1
  let main_v14 : IVec S_ 1 := (fun x v => Host.reduce IntOp.andi x v reducesTo_S8192x512_S_d0_1 h_S_) main_v13 main_c_3
  let main_v15 : FVec F S8192x256 .f32 := Host.absf main_v1
  let main_cst_4 : FVec F S_ .f32 := constant S_ .f32 0x7F800000#32
  let main_v16 : FVec F S8192x256 .f32 := broadcastInDim S8192x256 ![] bcast_S_S8192x256 main_cst_4
  fn_part1 (F := F) main_arg5 main_arg6 main_arg7 main_v2 main_v6 main_v10 main_v14 main_v15 main_v16
-- ==== Kernel.lean ====
abbrev S8192x1024 : Shape := ⟨2, ![8192, 1024]⟩
abbrev S8192x2048 : Shape := ⟨2, ![8192, 2048]⟩
abbrev S8192x512 : Shape := ⟨2, ![8192, 512]⟩
abbrev S1x1024 : Shape := ⟨2, ![1, 1024]⟩
abbrev S1024x1024 : Shape := ⟨2, ![1024, 1024]⟩
abbrev S8x128x128 : Shape := ⟨3, ![8, 128, 128]⟩
abbrev S8x128 : Shape := ⟨2, ![8, 128]⟩
abbrev S64x128x8x64 : Shape := ⟨4, ![64, 128, 8, 64]⟩
abbrev S_ : Shape := ⟨0, ![]⟩
abbrev S64x128x8 : Shape := ⟨3, ![64, 128, 8]⟩
abbrev S64x128x8x1 : Shape := ⟨4, ![64, 128, 8, 1]⟩
abbrev S8x64x64x128 : Shape := ⟨4, ![8, 64, 64, 128]⟩
abbrev S128x8 : Shape := ⟨2, ![128, 8]⟩
abbrev S1x128x8x1 : Shape := ⟨4, ![1, 128, 8, 1]⟩
abbrev S8x1024 : Shape := ⟨2, ![8, 1024]⟩
abbrev S128x512 : Shape := ⟨2, ![128, 512]⟩
abbrev S512x1024 : Shape := ⟨2, ![512, 1024]⟩
abbrev S512x2048 : Shape := ⟨2, ![512, 2048]⟩
abbrev S512x512 : Shape := ⟨2, ![512, 512]⟩
abbrev S256x256 : Shape := ⟨2, ![256, 256]⟩
abbrev S128x128 : Shape := ⟨2, ![128, 128]⟩
abbrev S512x256 : Shape := ⟨2, ![512, 256]⟩
abbrev S1x128x128 : Shape := ⟨3, ![1, 128, 128]⟩
abbrev S128x8x1024 : Shape := ⟨3, ![128, 8, 1024]⟩
abbrev S1024 : Shape := ⟨1, ![1024]⟩
abbrev S128x8x64 : Shape := ⟨3, ![128, 8, 64]⟩

abbrev nBuf : Space → Nat
  | .hbm => 44
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x512, .f32⟩
  | .hbm, ⟨3, _⟩ => ⟨S1x1024, .f32⟩
  | .hbm, ⟨4, _⟩ => ⟨S1024x1024, .f32⟩
  | .hbm, ⟨5, _⟩ => ⟨S8x128x128, .f32⟩
  | .hbm, ⟨6, _⟩ => ⟨S8x128, .f32⟩
  | .hbm, ⟨7, _⟩ => ⟨S8192x512, .f32⟩
  | .hbm, ⟨8, _⟩ => ⟨S64x128x8x64, .f32⟩
  | .hbm, ⟨9, _⟩ => ⟨S64x128x8x64, .f32⟩
  | .hbm, ⟨10, _⟩ => ⟨S_, .f32⟩
  | .hbm, ⟨11, _⟩ => ⟨S64x128x8, .f32⟩
  | .hbm, ⟨12, _⟩ => ⟨S64x128x8x1, .f32⟩
  | .hbm, ⟨13, _⟩ => ⟨S_, .f32⟩
  | .hbm, ⟨14, _⟩ => ⟨S64x128x8x1, .f32⟩
  | .hbm, ⟨15, _⟩ => ⟨S64x128x8x1, .f32⟩
  | .hbm, ⟨16, _⟩ => ⟨S_, .f32⟩
  | .hbm, ⟨17, _⟩ => ⟨S64x128x8x1, .f32⟩
  | .hbm, ⟨18, _⟩ => ⟨S64x128x8x1, .f32⟩
  | .hbm, ⟨19, _⟩ => ⟨S64x128x8x1, .f32⟩
  | .hbm, ⟨20, _⟩ => ⟨S64x128x8x64, .f32⟩
  | .hbm, ⟨21, _⟩ => ⟨S64x128x8x64, .f32⟩
  | .hbm, ⟨22, _⟩ => ⟨S8x64x64x128, .f32⟩
  | .hbm, ⟨23, _⟩ => ⟨S64x128x8x64, .f32⟩
  | .hbm, ⟨24, _⟩ => ⟨S128x8, .f32⟩
  | .hbm, ⟨25, _⟩ => ⟨S1x128x8x1, .f32⟩
  | .hbm, ⟨26, _⟩ => ⟨S64x128x8x64, .f32⟩
  | .hbm, ⟨27, _⟩ => ⟨S64x128x8x64, .f32⟩
  | .hbm, ⟨28, _⟩ => ⟨S8192x512, .f32⟩
  | .hbm, ⟨29, _⟩ => ⟨S8x128x128, .bf16⟩
  | .hbm, ⟨30, _⟩ => ⟨S8x128x128, .bf16⟩
  | .hbm, ⟨31, _⟩ => ⟨S1024x1024, .bf16⟩
  | .hbm, ⟨32, _⟩ => ⟨S8192x2048, .bf16⟩
  | .hbm, ⟨33, _⟩ => ⟨S8192x512, .f32⟩
  | .hbm, ⟨34, _⟩ => ⟨S1024x1024, .bf16⟩
  | .hbm, ⟨35, _⟩ => ⟨S8x1024, .f32⟩
  | .hbm, ⟨36, _⟩ => ⟨S8x128x128, .f32⟩
  | .hbm, ⟨37, _⟩ => ⟨S128x512, .f32⟩
  | .hbm, ⟨38, _⟩ => ⟨S_, .f32⟩
  | .hbm, ⟨39, _⟩ => ⟨S1024, .f32⟩
  | .hbm, ⟨40, _⟩ => ⟨S128x8x64, .f32⟩
  | .hbm, ⟨41, _⟩ => ⟨S_, .f32⟩
  | .hbm, ⟨42, _⟩ => ⟨S128x8, .f32⟩
  | .hbm, ⟨43, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x1024, .f32⟩
  | .local _ .vmem, ⟨9, _⟩ => ⟨S1024x1024, .bf16⟩
  | .local _ .vmem, ⟨10, _⟩ => ⟨S8x128x128, .bf16⟩
  | .local _ .vmem, ⟨11, _⟩ => ⟨S512x2048, .bf16⟩
  | .local _ .vmem, ⟨12, _⟩ => ⟨S512x2048, .bf16⟩
  | .local _ .vmem, ⟨13, _⟩ => ⟨S512x512, .f32⟩
  | .local _ .vmem, ⟨14, _⟩ => ⟨S512x512, .f32⟩
  | .local _ .vmem, ⟨15, _⟩ => ⟨S1024x1024, .bf16⟩
  | .local _ .vmem, ⟨16, _⟩ => ⟨S8x1024, .f32⟩
  | .local _ .vmem, ⟨17, _⟩ => ⟨S8x128x128, .f32⟩
  | .local _ .vmem, ⟨18, _⟩ => ⟨S128x512, .f32⟩
  | .local _ .vmem, ⟨19, _⟩ => ⟨S1024x1024, .f32⟩
  | .local _ .vmem, ⟨20, _⟩ => ⟨S512x1024, .bf16⟩
  | .local _ .vmem, ⟨21, _⟩ => ⟨S512x1024, .f32⟩
  | .local _ .vmem, ⟨22, _⟩ => ⟨S512x512, .f32⟩
  | .local _ .vmem, ⟨23, _⟩ => ⟨S512x512, .f32⟩
  | .local _ .vmem, ⟨24, _⟩ => ⟨S512x512, .bf16⟩
  | .local _ .vmem, ⟨25, _⟩ => ⟨S512x512, .bf16⟩
  | .local _ .vmem, ⟨26, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev main_v22_4 : Ref sig .tc := ⟨.hbm, 36, rfl⟩
abbrev main_v22_5 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_49 : BitVec 32 := 0#32
  let c4_i32 : BitVec 32 := 4#32
  let v106 : BitVec 32 := Scalar.addi c0_i32_49 c4_i32
  let c1_i32 : BitVec 32 := 1#32
  ⟨c0_i32_49, v106, c1_i32⟩
def k0_mult1 (k0_t1 : Fin k0_t1_loop.trips) : BitVec 32 :=
  let c0_i32_49 : BitVec 32 := 0#32
  let c1_i32 : BitVec 32 := 1#32
  let arg22 : BitVec 32 := Scf.iv c0_i32_49 c1_i32 k0_t1
  let c128_i32 : BitVec 32 := 128#32
  let v288 : BitVec 32 := Scalar.muli arg22 c128_i32
  v288
def k0_off1 (k0_t1 : Fin k0_t1_loop.trips) : Fin 2 → Nat :=
  let c0_i32_49 : BitVec 32 := 0#32
  let c1_i32 : BitVec 32 := 1#32
  let arg22 : BitVec 32 := Scf.iv c0_i32_49 c1_i32 k0_t1
  let c128_i32 : BitVec 32 := 128#32
  let v288 : BitVec 32 := Scalar.muli arg22 c128_i32
  let v289 : BitVec 32 := v288
  let v290 : Index := Scalar.indexCast v289
  let c0_197 : Index := 0#32
  ![v290.toNat, 0]
def k0_off2 (k0_t1 : Fin k0_t1_loop.trips) : Fin 2 → Nat :=
  let c0_i32_49 : BitVec 32 := 0#32
  let c1_i32 : BitVec 32 := 1#32
  let arg22 : BitVec 32 := Scf.iv c0_i32_49 c1_i32 k0_t1
  let c128_i32 : BitVec 32 := 128#32
  let v288 : BitVec 32 := Scalar.muli arg22 c128_i32
  let v289 : BitVec 32 := v288
  let v293 : Index := Scalar.indexCast v289
  let c512 : Index := 512#32
  ![v293.toNat, 512]
def k0_off3 (k0_t1 : Fin k0_t1_loop.trips) : Fin 2 → Nat :=
  let c0_i32_49 : BitVec 32 := 0#32
  let c1_i32 : BitVec 32 := 1#32
  let arg22 : BitVec 32 := Scf.iv c0_i32_49 c1_i32 k0_t1
  let c128_i32 : BitVec 32 := 128#32
  let v288 : BitVec 32 := Scalar.muli arg22 c128_i32
  let v289 : BitVec 32 := v288
  let v295 : Index := Scalar.indexCast v289
  let c1536 : Index := 1536#32
  ![v295.toNat, 1536]
def k0_off4 (k0_t1 : Fin k0_t1_loop.trips) : Fin 2 → Nat :=
  let c0_i32_49 : BitVec 32 := 0#32
  let c1_i32 : BitVec 32 := 1#32
  let arg22 : BitVec 32 := Scf.iv c0_i32_49 c1_i32 k0_t1
  let c128_i32 : BitVec 32 := 128#32
  let v288 : BitVec 32 := Scalar.muli arg22 c128_i32
  let v289 : BitVec 32 := v288
  let v308 : Index := Scalar.indexCast v289
  let c512_201 : Index := 512#32
  ![v308.toNat, 512]
@[reducible] def k0_t2_loop : Scf.Loop 32 :=
  let c0_i32_51 : BitVec 32 := 0#32
  let c4_i32_52 : BitVec 32 := 4#32
  let v107 : BitVec 32 := Scalar.addi c0_i32_51 c4_i32_52
  let c1_i32_53 : BitVec 32 := 1#32
  ⟨c0_i32_51, v107, c1_i32_53⟩
def k0_mult2 (k0_t2 : Fin k0_t2_loop.trips) : BitVec 32 :=
  let c0_i32_51 : BitVec 32 := 0#32
  let c1_i32_53 : BitVec 32 := 1#32
  let arg22 : BitVec 32 := Scf.iv c0_i32_51 c1_i32_53 k0_t2
  let c128_i32 : BitVec 32 := 128#32
  let v288 : BitVec 32 := Scalar.muli arg22 c128_i32
  v288
def k0_off5 (k0_t2 : Fin k0_t2_loop.trips) : Fin 2 → Nat :=
  let c0_i32_51 : BitVec 32 := 0#32
  let c1_i32_53 : BitVec 32 := 1#32
  let arg22 : BitVec 32 := Scf.iv c0_i32_51 c1_i32_53 k0_t2
  let c128_i32 : BitVec 32 := 128#32
  let v288 : BitVec 32 := Scalar.muli arg22 c128_i32
  let v289 : BitVec 32 := v288
  let v290 : Index := Scalar.indexCast v289
  let c0_197 : Index := 0#32
  ![v290.toNat, 0]
def k0_off6 (k0_t2 : Fin k0_t2_loop.trips) : Fin 2 → Nat :=
  let c0_i32_51 : BitVec 32 := 0#32
  let c1_i32_53 : BitVec 32 := 1#32
  let arg22 : BitVec 32 := Scf.iv c0_i32_51 c1_i32_53 k0_t2
  let c128_i32 : BitVec 32 := 128#32
  let v288 : BitVec 32 := Scalar.muli arg22 c128_i32
  let v289 : BitVec 32 := v288
  let v303 : Index := Scalar.indexCast v289
  let c128_207 : Index := 128#32
  ![v303.toNat, 128]
def k0_off7 (k0_t2 : Fin k0_t2_loop.trips) : Fin 2 → Nat :=
  let c0_i32_51 : BitVec 32 := 0#32
  let c1_i32_53 : BitVec 32 := 1#32
  let arg22 : BitVec 32 := Scf.iv c0_i32_51 c1_i32_53 k0_t2
  let c128_i32 : BitVec 32 := 128#32
  let v288 : BitVec 32 := Scalar.muli arg22 c128_i32
  let v289 : BitVec 32 := v288
  let v316 : Index := Scalar.indexCast v289
  let c256_217 : Index := 256#32
  ![v316.toNat, 256]
def k0_off8 (k0_t2 : Fin k0_t2_loop.trips) : Fin 2 → Nat :=
  let c0_i32_51 : BitVec 32 := 0#32
  let c1_i32_53 : BitVec 32 := 1#32
  let arg22 : BitVec 32 := Scf.iv c0_i32_51 c1_i32_53 k0_t2
  let c128_i32 : BitVec 32 := 128#32
  let v288 : BitVec 32 := Scalar.muli arg22 c128_i32
  let v289 : BitVec 32 := v288
  let v329 : Index := Scalar.indexCast v289
  let c384_227 : Index := 384#32
  ![v329.toNat, 384]
def k0_cond2 (i : grid0.Coords) : BitVec 1 :=
  let arg0 : BitVec 32 := BitVec.ofNat 32 (i 0).val
  let c15_i32 : BitVec 32 := 15#32
  let v285 : BitVec 1 := Scalar.cmpi .eq arg0 c15_i32
  let v286 : BitVec 32 := Scalar.extui v285
  let c0_i32_196 : BitVec 32 := 0#32
  let v287 : BitVec 1 := Scalar.cmpi .ne v286 c0_i32_196
  v287

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S8192x2048 : Shape := ⟨2, ![8192, 2048]⟩
abbrev S8192x512 : Shape := ⟨2, ![8192, 512]⟩
abbrev S1x1024 : Shape := ⟨2, ![1, 1024]⟩
abbrev S1024x1024 : Shape := ⟨2, ![1024, 1024]⟩
abbrev S8x128x128 : Shape := ⟨3, ![8, 128, 128]⟩
abbrev S8x128 : Shape := ⟨2, ![8, 128]⟩
abbrev S64x128x8x64 : Shape := ⟨4, ![64, 128, 8, 64]⟩
abbrev S_ : Shape := ⟨0, ![]⟩
abbrev S64x128x8 : Shape := ⟨3, ![64, 128, 8]⟩
abbrev S64x128x8x1 : Shape := ⟨4, ![64, 128, 8, 1]⟩
abbrev S8x64x64x128 : Shape := ⟨4, ![8, 64, 64, 128]⟩
abbrev S128x8 : Shape := ⟨2, ![128, 8]⟩
abbrev S1x128x8x1 : Shape := ⟨4, ![1, 128, 8, 1]⟩
abbrev S1024 : Shape := ⟨1, ![1024]⟩

abbrev nBuf : Space → Nat
  | .hbm => 127
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x512, .f32⟩
  | .hbm, ⟨3, _⟩ => ⟨S1x1024, .f32⟩
  | .hbm, ⟨4, _⟩ => ⟨S1024x1024, .f32⟩
  | .hbm, ⟨5, _⟩ => ⟨S8x128x128, .f32⟩
  | .hbm, ⟨6, _⟩ => ⟨S8x128, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S64x128x8x64, .f32⟩
  | .hbm, ⟨12, _⟩ => ⟨S64x128x8x64, .f32⟩
  | .hbm, ⟨13, _⟩ => ⟨S_, .f32⟩
  | .hbm, ⟨14, _⟩ => ⟨S64x128x8, .f32⟩
  | .hbm, ⟨15, _⟩ => ⟨S64x128x8x1, .f32⟩
  | .hbm, ⟨16, _⟩ => ⟨S_, .f32⟩
  | .hbm, ⟨17, _⟩ => ⟨S64x128x8x1, .f32⟩
  | .hbm, ⟨18, _⟩ => ⟨S64x128x8x1, .f32⟩
  | .hbm, ⟨19, _⟩ => ⟨S_, .f32⟩
  | .hbm, ⟨20, _⟩ => ⟨S64x128x8x1, .f32⟩
  | .hbm, ⟨21, _⟩ => ⟨S64x128x8x1, .f32⟩
  | .hbm, ⟨22, _⟩ => ⟨S64x128x8x1, .f32⟩
  | .hbm, ⟨23, _⟩ => ⟨S64x128x8x1, .f32⟩
  | .hbm, ⟨24, _⟩ => ⟨S_, .f32⟩
  | .hbm, ⟨25, _⟩ => ⟨S64x128x8x1, .f32⟩
  | .hbm, ⟨26, _⟩ => ⟨S64x128x8x1, .f32⟩
  | .hbm, ⟨27, _⟩ => ⟨S64x128x8x64, .f32⟩
  | .hbm, ⟨28, _⟩ => ⟨S64x128x8x64, .f32⟩
  | .hbm, ⟨29, _⟩ => ⟨S8x64x64x128, .f32⟩
  | .hbm, ⟨30, _⟩ => ⟨S64x128x8x64, .f32⟩
  | .hbm, ⟨31, _⟩ => ⟨S128x8, .f32⟩
  | .hbm, ⟨32, _⟩ => ⟨S1x128x8x1, .f32⟩
  | .hbm, ⟨33, _⟩ => ⟨S64x128x8x64, .f32⟩
  | .hbm, ⟨34, _⟩ => ⟨S64x128x8x64, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S8192x512, .f32⟩
  | .hbm, ⟨58, _⟩ => ⟨S8192x512, .f32⟩
  | .hbm, ⟨59, _⟩ => ⟨S_, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S1024x1024, .f32⟩
  | .hbm, ⟨76, _⟩ => ⟨S1024x1024, .f32⟩
  | .hbm, ⟨77, _⟩ => ⟨S8192x1024, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S8192x512, .f32⟩
  | .hbm, ⟨84, _⟩ => ⟨S8192x512, .f32⟩
  | .hbm, ⟨85, _⟩ => ⟨S8192x512, .f32⟩
  | .hbm, ⟨86, _⟩ => ⟨S8192x512, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S8192x512, .f32⟩
  | .hbm, ⟨93, _⟩ => ⟨S8192x512, .f32⟩
  | .hbm, ⟨94, _⟩ => ⟨S64x128x8x64, .f32⟩
  | .hbm, ⟨95, _⟩ => ⟨S_, .f32⟩
  | .hbm, ⟨96, _⟩ => ⟨S128x8, .f32⟩
  | .hbm, ⟨97, _⟩ => ⟨S1x128x8x1, .f32⟩
  | .hbm, ⟨98, _⟩ => ⟨S_, .f32⟩
  | .hbm, ⟨99, _⟩ => ⟨S128x8, .f32⟩
  | .hbm, ⟨100, _⟩ => ⟨S8x128, .f32⟩
  | .hbm, ⟨101, _⟩ => ⟨S8x64x64x128, .f32⟩
  | .hbm, ⟨102, _⟩ => ⟨S8x128x128, .f32⟩
  | .hbm, ⟨103, _⟩ => ⟨S8x64x64x128, .f32⟩
  | .hbm, ⟨104, _⟩ => ⟨S64x128x8x64, .f32⟩
  | .hbm, ⟨105, _⟩ => ⟨S64x128x8x64, .f32⟩
  | .hbm, ⟨106, _⟩ => ⟨S_, .f32⟩
  | .hbm, ⟨107, _⟩ => ⟨S64x128x8, .f32⟩
  | .hbm, ⟨108, _⟩ => ⟨S64x128x8x1, .f32⟩
  | .hbm, ⟨109, _⟩ => ⟨S64x128x8x64, .f32⟩
  | .hbm, ⟨110, _⟩ => ⟨S64x128x8x64, .f32⟩
  | .hbm, ⟨111, _⟩ => ⟨S64x128x8x1, .f32⟩
  | .hbm, ⟨112, _⟩ => ⟨S_, .f32⟩
  | .hbm, ⟨113, _⟩ => ⟨S64x128x8x1, .f32⟩
  | .hbm, ⟨114, _⟩ => ⟨S64x128x8x1, .f32⟩
  | .hbm, ⟨115, _⟩ => ⟨S_, .f32⟩
  | .hbm, ⟨116, _⟩ => ⟨S64x128x8, .f32⟩
  | .hbm, ⟨117, _⟩ => ⟨S64x128x8x64, .f32⟩
  | .hbm, ⟨118, _⟩ => ⟨S64x128x8x64, .f32⟩
  | .hbm, ⟨119, _⟩ => ⟨S64x128x8x64, .f32⟩
  | .hbm, ⟨120, _⟩ => ⟨S64x128x8x64, .f32⟩
  | .hbm, ⟨121, _⟩ => ⟨S64x128x8x64, .f32⟩
  | .hbm, ⟨122, _⟩ => ⟨S8192x512, .f32⟩
  | .hbm, ⟨123, _⟩ => ⟨S8192x2048, .f32⟩
  | .hbm, ⟨124, _⟩ => ⟨S8192x2048, .bf16⟩
  | .hbm, ⟨125, _⟩ => ⟨S1024x1024, .bf16⟩
  | .hbm, ⟨126, _⟩ => ⟨S1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v26_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v26_1 : Ref sig .tc := ⟨.hbm, 48, rfl⟩
abbrev main_v26_0 : Ref sig .tc := ⟨.hbm, 49, rfl⟩
abbrev main_v27 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_v28_2 : Ref sig .tc := ⟨.hbm, 58, rfl⟩
abbrev main_call1_cst_1 : Ref sig .tc := ⟨.hbm, 59, rfl⟩
abbrev main_call1_v6 : Ref sig .tc := ⟨.hbm, 60, rfl⟩
abbrev main_call1_v7 : Ref sig .tc := ⟨.hbm, 61, rfl⟩
abbrev main_v28_1 : Ref sig .tc := ⟨.hbm, 62, rfl⟩
abbrev main_v28_0 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_3 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_4 : Ref sig .tc := ⟨.hbm, 95, rfl⟩
abbrev main_v53 : Ref sig .tc := ⟨.hbm, 96, rfl⟩
abbrev main_v54 : Ref sig .tc := ⟨.hbm, 97, rfl⟩
abbrev main_cst_5 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_6 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_7 : Ref sig .tc := ⟨.hbm, 112, rfl⟩
abbrev main_v67 : Ref sig .tc := ⟨.hbm, 113, rfl⟩
abbrev main_v68 : Ref sig .tc := ⟨.hbm, 114, rfl⟩
abbrev main_cst_8 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩

abbrev nD : Nat := 1
abbrev τ : Topo := Topo.v7x

variable {F : FTy → Type} [FloatOps F]
-- ==== Kernel2.lean ====
abbrev S8192x1024 : Shape := ⟨2, ![8192, 1024]⟩
abbrev S8192x512 : Shape := ⟨2, ![8192, 512]⟩
abbrev S8192x256 : Shape := ⟨2, ![8192, 256]⟩
abbrev S8192x2048 : Shape := ⟨2, ![8192, 2048]⟩
abbrev S1024x2816 : Shape := ⟨2, ![1024, 2816]⟩
abbrev S1x1024 : Shape := ⟨2, ![1, 1024]⟩
abbrev S_ : Shape := ⟨0, ![]⟩
abbrev S2816x1024 : Shape := ⟨2, ![2816, 1024]⟩
abbrev S8x1024 : Shape := ⟨2, ![8, 1024]⟩
abbrev S512x1024 : Shape := ⟨2, ![512, 1024]⟩
abbrev S512x512 : Shape := ⟨2, ![512, 512]⟩
abbrev S512x256 : Shape := ⟨2, ![512, 256]⟩
abbrev S512x2048 : Shape := ⟨2, ![512, 2048]⟩
abbrev S256x1024 : Shape := ⟨2, ![256, 1024]⟩
abbrev S2048x1024 : Shape := ⟨2, ![2048, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 24
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .bf16⟩
  | .hbm, ⟨3, _⟩ => ⟨S8192x256, .bf16⟩
  | .hbm, ⟨4, _⟩ => ⟨S8192x2048, .bf16⟩
  | .hbm, ⟨5, _⟩ => ⟨S1024x2816, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S2816x1024, .f32⟩
  | .hbm, ⟨12, _⟩ => ⟨S2816x1024, .bf16⟩
  | .hbm, ⟨13, _⟩ => ⟨S8192x1024, .f32⟩
  | .hbm, ⟨14, _⟩ => ⟨S8x1024, .f32⟩
  | .hbm, ⟨15, _⟩ => ⟨S8x1024, .f32⟩
  | .hbm, ⟨16, _⟩ => ⟨S_, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x2048, .bf16⟩
  | .local _ .vmem, ⟨9, _⟩ => ⟨S512x2048, .bf16⟩
  | .local _ .vmem, ⟨10, _⟩ => ⟨S2816x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S8x1024, .f32⟩
  | .local _ .vmem, ⟨16, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_cst_0 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S8192x1024 : Shape := ⟨2, ![8192, 1024]⟩
abbrev S8192x512 : Shape := ⟨2, ![8192, 512]⟩
abbrev S8192x256 : Shape := ⟨2, ![8192, 256]⟩
abbrev S8192x2048 : Shape := ⟨2, ![8192, 2048]⟩
abbrev S1024x2816 : Shape := ⟨2, ![1024, 2816]⟩
abbrev S1x1024 : Shape := ⟨2, ![1, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .bf16⟩
  | .hbm, ⟨3, _⟩ => ⟨S8192x256, .bf16⟩
  | .hbm, ⟨4, _⟩ => ⟨S8192x2048, .bf16⟩
  | .hbm, ⟨5, _⟩ => ⟨S1024x2816, .f32⟩
  | .hbm, ⟨6, _⟩ => ⟨S1x1024, .f32⟩
  | .hbm, ⟨7, _⟩ => ⟨S1x1024, .f32⟩
  | .hbm, ⟨8, _⟩ => ⟨S8192x512, .f32⟩
  | .hbm, ⟨9, _⟩ => ⟨S8192x256, .f32⟩
  | .hbm, ⟨10, _⟩ => ⟨S8192x2048, .f32⟩
  | .hbm, ⟨11, _⟩ => ⟨S8192x2816, .f32⟩
  | .hbm, ⟨12, _⟩ => ⟨S_, .f32⟩
  | .hbm, ⟨13, _⟩ => ⟨S1x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x2816, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1024, .f32⟩
  | .hbm, ⟨76, _⟩ => ⟨S1024, .f32⟩
  | .hbm, ⟨77, _⟩ => ⟨S1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S8192x512 : Shape := ⟨2, ![8192, 512]⟩
abbrev S8192x256 : Shape := ⟨2, ![8192, 256]⟩
abbrev S16x128x256 : Shape := ⟨3, ![16, 128, 256]⟩
abbrev S8192x2048 : Shape := ⟨2, ![8192, 2048]⟩
abbrev S_ : Shape := ⟨0, ![]⟩
abbrev S2816x1024 : Shape := ⟨2, ![2816, 1024]⟩
abbrev S512x1024 : Shape := ⟨2, ![512, 1024]⟩
abbrev S512x512 : Shape := ⟨2, ![512, 512]⟩
abbrev S512x256 : Shape := ⟨2, ![512, 256]⟩
abbrev S1x128x256 : Shape := ⟨3, ![1, 128, 256]⟩
abbrev S512x2048 : Shape := ⟨2, ![512, 2048]⟩
abbrev S128x256 : Shape := ⟨2, ![128, 256]⟩
abbrev S256x256 : Shape := ⟨2, ![256, 256]⟩
abbrev S512 : Shape := ⟨1, ![512]⟩
abbrev S512x1 : Shape := ⟨2, ![512, 1]⟩
abbrev S256x1024 : Shape := ⟨2, ![256, 1024]⟩
abbrev S2048x1024 : Shape := ⟨2, ![2048, 1024]⟩

abbrev nBuf : Space → Nat
  | .hbm => 14
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x512, .bf16⟩
  | .hbm, ⟨5, _⟩ => ⟨S8192x256, .f32⟩
  | .hbm, ⟨6, _⟩ => ⟨S16x128x256, .f32⟩
  | .hbm, ⟨7, _⟩ => ⟨S16x128x256, .f32⟩
  | .hbm, ⟨8, _⟩ => ⟨S8192x2048, .bf16⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S2816x1024, .bf16⟩
  | .hbm, ⟨13, _⟩ => ⟨S8192x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x512, .bf16⟩
  | .local _ .vmem, ⟨6, _⟩ => ⟨S512x512, .bf16⟩
  | .local _ .vmem, ⟨7, _⟩ => ⟨S512x256, .f32⟩
  | .local _ .vmem, ⟨8, _⟩ => ⟨S512x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S512x2048, .bf16⟩
  | .local _ .vmem, ⟨14, _⟩ => ⟨S512x2048, .bf16⟩
  | .local _ .vmem, ⟨15, _⟩ => ⟨S2816x1024, .bf16⟩
  | .local _ .vmem, ⟨16, _⟩ => ⟨S512x256, .bf16⟩
  | .local _ .vmem, ⟨17, _⟩ => ⟨S512x256, .bf16⟩
  | .local _ .vmem, ⟨18, _⟩ => ⟨S2816x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_48 : BitVec 32 := 15#32
  let v68 : BitVec 1 := Scalar.cmpi .eq arg0 c15_i32_48
  let v69 : BitVec 32 := Scalar.extui v68
  let c0_i32_49 : BitVec 32 := 0#32
  let v70 : BitVec 1 := Scalar.cmpi .ne v69 c0_i32_49
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 3 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8192x1024 : Shape := ⟨2, ![8192, 1024]⟩
abbrev S1x1024 : Shape := ⟨2, ![1, 1024]⟩
abbrev S8192x512 : Shape := ⟨2, ![8192, 512]⟩
abbrev S8192x256 : Shape := ⟨2, ![8192, 256]⟩
abbrev S16x128x256 : Shape := ⟨3, ![16, 128, 256]⟩
abbrev S8192x2048 : Shape := ⟨2, ![8192, 2048]⟩
abbrev S15x128x256 : Shape := ⟨3, ![15, 128, 256]⟩
abbrev S_ : Shape := ⟨0, ![]⟩
abbrev S1x128x256 : Shape := ⟨3, ![1, 128, 256]⟩
abbrev S16x256x256 : Shape := ⟨3, ![16, 256, 256]⟩
abbrev S16x512x256 : Shape := ⟨3, ![16, 512, 256]⟩
abbrev S8192x2816 : Shape := ⟨2, ![8192, 2816]⟩
abbrev S1024x2816 : Shape := ⟨2, ![1024, 2816]⟩
abbrev S8192 : Shape := ⟨1, ![8192]⟩
abbrev S8192x1 : Shape := ⟨2, ![8192, 1]⟩
abbrev S2816x1024 : Shape := ⟨2, ![2816, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x512, .bf16⟩
  | .hbm, ⟨5, _⟩ => ⟨S8192x256, .f32⟩
  | .hbm, ⟨6, _⟩ => ⟨S16x128x256, .f32⟩
  | .hbm, ⟨7, _⟩ => ⟨S16x128x256, .f32⟩
  | .hbm, ⟨8, _⟩ => ⟨S8192x2048, .bf16⟩
  | .hbm, ⟨9, _⟩ => ⟨S15x128x256, .f32⟩
  | .hbm, ⟨10, _⟩ => ⟨S_, .f32⟩
  | .hbm, ⟨11, _⟩ => ⟨S1x128x256, .f32⟩
  | .hbm, ⟨12, _⟩ => ⟨S16x128x256, .f32⟩
  | .hbm, ⟨13, _⟩ => ⟨S_, .f32⟩
  | .hbm, ⟨14, _⟩ => ⟨S1x128x256, .f32⟩
  | .hbm, ⟨15, _⟩ => ⟨S15x128x256, .f32⟩
  | .hbm, ⟨16, _⟩ => ⟨S16x128x256, .f32⟩
  | .hbm, ⟨17, _⟩ => ⟨S_, .f32⟩
  | .hbm, ⟨18, _⟩ => ⟨S16x256x256, .f32⟩
  | .hbm, ⟨19, _⟩ => ⟨S16x512x256, .f32⟩
  | .hbm, ⟨20, _⟩ => ⟨S8192x256, .f32⟩
  | .hbm, ⟨21, _⟩ => ⟨S8192x256, .f32⟩
  | .hbm, ⟨22, _⟩ => ⟨S8192x512, .f32⟩
  | .hbm, ⟨23, _⟩ => ⟨S8192x2048, .f32⟩
  | .hbm, ⟨24, _⟩ => ⟨S8192x2816, .f32⟩
  | .hbm, ⟨25, _⟩ => ⟨S_, .f32⟩
  | .hbm, ⟨26, _⟩ => ⟨S1024x2816, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x2816, .f32⟩
  | .hbm, ⟨50, _⟩ => ⟨S2816x1024, .f32⟩
  | .hbm, ⟨51, _⟩ => ⟨S1024x2816, .f32⟩
  | .hbm, ⟨52, _⟩ => ⟨S2816x1024, .f32⟩
  | .hbm, ⟨53, _⟩ => ⟨S2816x1024, .bf16⟩
  | .hbm, ⟨54, _⟩ => ⟨S8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x2816 : Shape := ⟨2, ![1024, 2816]⟩
abbrev S_ : Shape := ⟨0, ![]⟩
abbrev S2816x1024 : Shape := ⟨2, ![2816, 1024]⟩
abbrev S8192x768 : Shape := ⟨2, ![8192, 768]⟩
abbrev S8192x2048 : Shape := ⟨2, ![8192, 2048]⟩
abbrev S512x1024 : Shape := ⟨2, ![512, 1024]⟩
abbrev S512x768 : Shape := ⟨2, ![512, 768]⟩
abbrev S512x2048 : Shape := ⟨2, ![512, 2048]⟩
abbrev S512 : Shape := ⟨1, ![512]⟩
abbrev S512x1 : Shape := ⟨2, ![512, 1]⟩
abbrev S768x1024 : Shape := ⟨2, ![768, 1024]⟩
abbrev S2048x1024 : Shape := ⟨2, ![2048, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S2816x1024, .f32⟩
  | .hbm, ⟨9, _⟩ => ⟨S2816x1024, .bf16⟩
  | .hbm, ⟨10, _⟩ => ⟨S8192x768, .f32⟩
  | .hbm, ⟨11, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S2816x1024, .bf16⟩
  | .local _ .vmem, ⟨6, _⟩ => ⟨S512x768, .f32⟩
  | .local _ .vmem, ⟨7, _⟩ => ⟨S512x768, .f32⟩
  | .local _ .vmem, ⟨8, _⟩ => ⟨S512x2048, .f32⟩
  | .local _ .vmem, ⟨9, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8192x1024 : Shape := ⟨2, ![8192, 1024]⟩
abbrev S1x1024 : Shape := ⟨2, ![1, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8192x768 : Shape := ⟨2, ![8192, 768]⟩
abbrev S8192x2048 : Shape := ⟨2, ![8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x768, .f32⟩
  | .hbm, ⟨29, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel5.lean ====
abbrev S8x1024 : Shape := ⟨2, ![8, 1024]⟩
abbrev S2x8x384 : Shape := ⟨3, ![2, 8, 384]⟩
abbrev S2x1024x384 : Shape := ⟨3, ![2, 1024, 384]⟩
abbrev S1x8x384 : Shape := ⟨3, ![1, 8, 384]⟩
abbrev S8x384 : Shape := ⟨2, ![8, 384]⟩
abbrev S1024x384 : Shape := ⟨2, ![1024, 384]⟩
abbrev S1x1024x384 : Shape := ⟨3, ![1, 1024, 384]⟩

abbrev nBuf : Space → Nat
  | .hbm => 9
  | .vmem => 9
  | .smem => 0
  | _ => 0

abbrev bufTy : (tb : Table) → Fin (tcTables nBuf tb) → BufTy
  | .hbm, ⟨0, _⟩ => ⟨S8x1024, .f32⟩
  | .hbm, ⟨1, _⟩ => ⟨S2x8x384, .f32⟩
  | .hbm, ⟨2, _⟩ => ⟨S2x1024x384, .f32⟩
  | .hbm, ⟨3, _⟩ => ⟨S2x1024x384, .f32⟩
  | .hbm, ⟨4, _⟩ => ⟨S2x1024x384, .f32⟩
  | .hbm, ⟨5, _⟩ => ⟨S2x1024x384, .f32⟩
  | .hbm, ⟨6, _⟩ => ⟨S2x1024x384, .f32⟩
  | .hbm, ⟨7, _⟩ => ⟨S2x1024x384, .f32⟩
  | .hbm, ⟨8, _⟩ => ⟨S2x1024x384, .f32⟩
  | .local _ .vmem, ⟨0, _⟩ => ⟨S8x1024, .f32⟩
  | .local _ .vmem, ⟨1, _⟩ => ⟨S2x8x384, .f32⟩
  | .local _ .vmem, ⟨2, _⟩ => ⟨S2x1024x384, .f32⟩
  | .local _ .vmem, ⟨3, _⟩ => ⟨S2x1024x384, .f32⟩
  | .local _ .vmem, ⟨4, _⟩ => ⟨S2x1024x384, .f32⟩
  | .local _ .vmem, ⟨5, _⟩ => ⟨S2x1024x384, .f32⟩
  | .local _ .vmem, ⟨6, _⟩ => ⟨S2x1024x384, .f32⟩
  | .local _ .vmem, ⟨7, _⟩ => ⟨S2x1024x384, .f32⟩
  | .local _ .vmem, ⟨8, _⟩ => ⟨S2x1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference5Ideal.lean ====
abbrev S8x1024 : Shape := ⟨2, ![8, 1024]⟩
abbrev S2x8x384 : Shape := ⟨3, ![2, 8, 384]⟩
abbrev S2x1024x384 : Shape := ⟨3, ![2, 1024, 384]⟩
abbrev S_ : Shape := ⟨0, ![]⟩
abbrev S2x384x8 : Shape := ⟨3, ![2, 384, 8]⟩
abbrev S2x384x1024 : Shape := ⟨3, ![2, 384, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x384, .f32⟩
  | .hbm, ⟨2, _⟩ => ⟨S2x1024x384, .f32⟩
  | .hbm, ⟨3, _⟩ => ⟨S2x1024x384, .f32⟩
  | .hbm, ⟨4, _⟩ => ⟨S2x1024x384, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S2x384x8, .f32⟩
  | .hbm, ⟨15, _⟩ => ⟨S2x8x384, .f32⟩
  | .hbm, ⟨16, _⟩ => ⟨S2x384x8, .f32⟩
  | .hbm, ⟨17, _⟩ => ⟨S2x384x1024, .f32⟩
  | .hbm, ⟨18, _⟩ => ⟨S2x1024x384, .f32⟩
  | .hbm, ⟨19, _⟩ => ⟨S_, .f32⟩
  | .hbm, ⟨20, _⟩ => ⟨S2x1024x384, .f32⟩
  | .hbm, ⟨21, _⟩ => ⟨S2x1024x384, .f32⟩
  | .hbm, ⟨22, _⟩ => ⟨S_, .f32⟩
  | .hbm, ⟨23, _⟩ => ⟨S2x1024x384, .f32⟩
  | .hbm, ⟨24, _⟩ => ⟨S2x1024x384, .f32⟩
  | .hbm, ⟨25, _⟩ => ⟨S2x1024x384, .f32⟩
  | .hbm, ⟨26, _⟩ => ⟨S_, .f32⟩
  | .hbm, ⟨27, _⟩ => ⟨S2x1024x384, .f32⟩
  | .hbm, ⟨28, _⟩ => ⟨S2x1024x384, .f32⟩
  | .hbm, ⟨29, _⟩ => ⟨S2x1024x384, .f32⟩
  | .hbm, ⟨30, _⟩ => ⟨S_, .f32⟩
  | .hbm, ⟨31, _⟩ => ⟨S2x1024x384, .f32⟩
  | .hbm, ⟨32, _⟩ => ⟨S2x1024x384, .f32⟩
  | .hbm, ⟨33, _⟩ => ⟨S2x1024x384, .f32⟩
  | .hbm, ⟨34, _⟩ => ⟨S_, .f32⟩
  | .hbm, ⟨35, _⟩ => ⟨S2x1024x384, .f32⟩
  | .hbm, ⟨36, _⟩ => ⟨S2x1024x384, .f32⟩
  | .hbm, ⟨37, _⟩ => ⟨S_, .f32⟩
  | .hbm, ⟨38, _⟩ => ⟨S2x1024x384, .f32⟩
  | .hbm, ⟨39, _⟩ => ⟨S2x1024x384, .f32⟩
  | .hbm, ⟨40, _⟩ => ⟨S2x1024x384, .f32⟩
  | .hbm, ⟨41, _⟩ => ⟨S_, .f32⟩
  | .hbm, ⟨42, _⟩ => ⟨S2x1024x384, .f32⟩
  | .hbm, ⟨43, _⟩ => ⟨S2x1024x384, .f32⟩
  | .hbm, ⟨44, _⟩ => ⟨S2x1024x384, .f32⟩
  | .hbm, ⟨45, _⟩ => ⟨S_, .f32⟩
  | .hbm, ⟨46, _⟩ => ⟨S2x1024x384, .f32⟩
  | .hbm, ⟨47, _⟩ => ⟨S2x1024x384, .f32⟩
  | .hbm, ⟨48, _⟩ => ⟨S2x1024x384, .f32⟩
  | .hbm, ⟨49, _⟩ => ⟨S_, .f32⟩
  | .hbm, ⟨50, _⟩ => ⟨S2x1024x384, .f32⟩
  | .hbm, ⟨51, _⟩ => ⟨S2x1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Kernel6.lean ====
abbrev S8x112x128 : Shape := ⟨3, ![8, 112, 128]⟩
abbrev S8x2048x128 : Shape := ⟨3, ![8, 2048, 128]⟩
abbrev S112x128 : Shape := ⟨2, ![112, 128]⟩
abbrev S2048x128 : Shape := ⟨2, ![2048, 128]⟩
abbrev S1x112x128 : Shape := ⟨3, ![1, 112, 128]⟩
abbrev S1x2048x128 : Shape := ⟨3, ![1, 2048, 128]⟩

abbrev nBuf : Space → Nat
  | .hbm => 16
  | .vmem => 16
  | .smem => 0
  | _ => 0

abbrev bufTy : (tb : Table) → Fin (tcTables nBuf tb) → BufTy
  | .hbm, ⟨0, _⟩ => ⟨S8x112x128, .f32⟩
  | .hbm, ⟨1, _⟩ => ⟨S8x2048x128, .bf16⟩
  | .hbm, ⟨2, _⟩ => ⟨S112x128, .f32⟩
  | .hbm, ⟨3, _⟩ => ⟨S112x128, .f32⟩
  | .hbm, ⟨4, _⟩ => ⟨S112x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S112x128, .f32⟩
  | .hbm, ⟨9, _⟩ => ⟨S112x128, .f32⟩
  | .hbm, ⟨10, _⟩ => ⟨S112x128, .f32⟩
  | .hbm, ⟨11, _⟩ => ⟨S112x128, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S2048x128, .f32⟩
  | .local _ .vmem, ⟨0, _⟩ => ⟨S8x112x128, .f32⟩
  | .local _ .vmem, ⟨1, _⟩ => ⟨S8x2048x128, .bf16⟩
  | .local _ .vmem, ⟨2, _⟩ => ⟨S112x128, .f32⟩
  | .local _ .vmem, ⟨3, _⟩ => ⟨S112x128, .f32⟩
  | .local _ .vmem, ⟨4, _⟩ => ⟨S112x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S112x128, .f32⟩
  | .local _ .vmem, ⟨9, _⟩ => ⟨S112x128, .f32⟩
  | .local _ .vmem, ⟨10, _⟩ => ⟨S112x128, .f32⟩
  | .local _ .vmem, ⟨11, _⟩ => ⟨S112x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S8x112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S8x112x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S112x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S112x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S112x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S112x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S112x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2048x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2048x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Reference6Ideal.lean ====
abbrev S8x112x128 : Shape := ⟨3, ![8, 112, 128]⟩
abbrev S8x2048x128 : Shape := ⟨3, ![8, 2048, 128]⟩
abbrev S112x128 : Shape := ⟨2, ![112, 128]⟩
abbrev S2048x128 : Shape := ⟨2, ![2048, 128]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S8x112x128, .f32⟩
  | .hbm, ⟨1, _⟩ => ⟨S8x2048x128, .bf16⟩
  | .hbm, ⟨2, _⟩ => ⟨S112x128, .f32⟩
  | .hbm, ⟨3, _⟩ => ⟨S112x128, .f32⟩
  | .hbm, ⟨4, _⟩ => ⟨S112x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S_, .f32⟩
  | .hbm, ⟨9, _⟩ => ⟨S112x128, .f32⟩
  | .hbm, ⟨10, _⟩ => ⟨S8x2048x128, .f32⟩
  | .hbm, ⟨11, _⟩ => ⟨S_, .f32⟩
  | .hbm, ⟨12, _⟩ => ⟨S2048x128, .f32⟩
  | .hbm, ⟨13, _⟩ => ⟨S_, .f32⟩
  | .hbm, ⟨14, _⟩ => ⟨S112x128, .f32⟩
  | .hbm, ⟨15, _⟩ => ⟨S112x128, .f32⟩
  | .hbm, ⟨16, _⟩ => ⟨S_, .f32⟩
  | .hbm, ⟨17, _⟩ => ⟨S112x128, .f32⟩
  | .hbm, ⟨18, _⟩ => ⟨S112x128, .f32⟩
  | .hbm, ⟨19, _⟩ => ⟨S112x128, .f32⟩
  | .hbm, ⟨20, _⟩ => ⟨S_, .f32⟩
  | .hbm, ⟨21, _⟩ => ⟨S112x128, .f32⟩
  | .hbm, ⟨22, _⟩ => ⟨S112x128, .f32⟩
  | .hbm, ⟨23, _⟩ => ⟨S112x128, .f32⟩
  | .hbm, ⟨24, _⟩ => ⟨S_, .f32⟩
  | .hbm, ⟨25, _⟩ => ⟨S112x128, .f32⟩
  | .hbm, ⟨26, _⟩ => ⟨S112x128, .f32⟩
  | .hbm, ⟨27, _⟩ => ⟨S112x128, .f32⟩
  | .hbm, ⟨28, _⟩ => ⟨S_, .f32⟩
  | .hbm, ⟨29, _⟩ => ⟨S112x128, .f32⟩
  | .hbm, ⟨30, _⟩ => ⟨S112x128, .f32⟩
  | .hbm, ⟨31, _⟩ => ⟨S_, .f32⟩
  | .hbm, ⟨32, _⟩ => ⟨S112x128, .f32⟩
  | .hbm, ⟨33, _⟩ => ⟨S112x128, .f32⟩
  | .hbm, ⟨34, _⟩ => ⟨S112x128, .f32⟩
  | .hbm, ⟨35, _⟩ => ⟨S_, .f32⟩
  | .hbm, ⟨36, _⟩ => ⟨S112x128, .f32⟩
  | .hbm, ⟨37, _⟩ => ⟨S112x128, .f32⟩
  | .hbm, ⟨38, _⟩ => ⟨S112x128, .f32⟩
  | .hbm, ⟨39, _⟩ => ⟨S_, .f32⟩
  | .hbm, ⟨40, _⟩ => ⟨S112x128, .f32⟩
  | .hbm, ⟨41, _⟩ => ⟨S112x128, .f32⟩
  | .hbm, ⟨42, _⟩ => ⟨S112x128, .f32⟩
  | .hbm, ⟨43, _⟩ => ⟨S_, .f32⟩
  | .hbm, ⟨44, _⟩ => ⟨S112x128, .f32⟩
  | .hbm, ⟨45, _⟩ => ⟨S112x128, .f32⟩
  | .hbm, ⟨46, _⟩ => ⟨S_, .f32⟩
  | .hbm, ⟨47, _⟩ => ⟨S2048x128, .f32⟩
  | .hbm, ⟨48, _⟩ => ⟨S2048x128, .f32⟩
  | .hbm, ⟨49, _⟩ => ⟨S_, .f32⟩
  | .hbm, ⟨50, _⟩ => ⟨S2048x128, .f32⟩
  | .hbm, ⟨51, _⟩ => ⟨S2048x128, .f32⟩
  | .hbm, ⟨52, _⟩ => ⟨S2048x128, .f32⟩
  | .hbm, ⟨53, _⟩ => ⟨S_, .f32⟩
  | .hbm, ⟨54, _⟩ => ⟨S2048x128, .f32⟩
  | .hbm, ⟨55, _⟩ => ⟨S2048x128, .f32⟩
  | .hbm, ⟨56, _⟩ => ⟨S2048x128, .f32⟩
  | .hbm, ⟨57, _⟩ => ⟨S_, .f32⟩
  | .hbm, ⟨58, _⟩ => ⟨S2048x128, .f32⟩
  | .hbm, ⟨59, _⟩ => ⟨S2048x128, .f32⟩
  | .hbm, ⟨60, _⟩ => ⟨S2048x128, .f32⟩
  | .hbm, ⟨61, _⟩ => ⟨S_, .f32⟩
  | .hbm, ⟨62, _⟩ => ⟨S2048x128, .f32⟩
  | .hbm, ⟨63, _⟩ => ⟨S2048x128, .f32⟩
  | .hbm, ⟨64, _⟩ => ⟨S_, .f32⟩
  | .hbm, ⟨65, _⟩ => ⟨S2048x128, .f32⟩
  | .hbm, ⟨66, _⟩ => ⟨S2048x128, .f32⟩
  | .hbm, ⟨67, _⟩ => ⟨S2048x128, .f32⟩
  | .hbm, ⟨68, _⟩ => ⟨S_, .f32⟩
  | .hbm, ⟨69, _⟩ => ⟨S2048x128, .f32⟩
  | .hbm, ⟨70, _⟩ => ⟨S2048x128, .f32⟩
  | .hbm, ⟨71, _⟩ => ⟨S2048x128, .f32⟩
  | .hbm, ⟨72, _⟩ => ⟨S_, .f32⟩
  | .hbm, ⟨73, _⟩ => ⟨S2048x128, .f32⟩
  | .hbm, ⟨74, _⟩ => ⟨S2048x128, .f32⟩
  | .hbm, ⟨75, _⟩ => ⟨S2048x128, .f32⟩
  | .hbm, ⟨76, _⟩ => ⟨S_, .f32⟩
  | .hbm, ⟨77, _⟩ => ⟨S2048x128, .f32⟩
  | .hbm, ⟨78, _⟩ => ⟨S2048x128, .f32⟩
  | _, _ => ⟨S8x112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_7 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_v26 : Ref sig .tc := ⟨.hbm, 45, rfl⟩
abbrev main_cst_10 : Ref sig .tc := ⟨.hbm, 46, rfl⟩
abbrev main_v27 : Ref sig .tc := ⟨.hbm, 47, rfl⟩
abbrev main_v28 : Ref sig .tc := ⟨.hbm, 48, rfl⟩
abbrev main_cst_11 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_12 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_13 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_14 : Ref sig .tc := ⟨.hbm, 61, rfl⟩
abbrev main_v38 : Ref sig .tc := ⟨.hbm, 62, rfl⟩
abbrev main_v39 : Ref sig .tc := ⟨.hbm, 63, rfl⟩
abbrev main_cst_15 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_16 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_17 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_18 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== Kernel7.lean ====
abbrev S8x128x1024 : Shape := ⟨3, ![8, 128, 1024]⟩
abbrev S8x352x1024 : Shape := ⟨3, ![8, 352, 1024]⟩
abbrev S128x1024 : Shape := ⟨2, ![128, 1024]⟩
abbrev S352x1024 : Shape := ⟨2, ![352, 1024]⟩
abbrev S1x128x1024 : Shape := ⟨3, ![1, 128, 1024]⟩
abbrev S1x352x1024 : Shape := ⟨3, ![1, 352, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8x128x1024, .bf16⟩
  | .hbm, ⟨1, _⟩ => ⟨S8x352x1024, .bf16⟩
  | .hbm, ⟨2, _⟩ => ⟨S8x128x1024, .bf16⟩
  | .hbm, ⟨3, _⟩ => ⟨S128x1024, .f32⟩
  | .hbm, ⟨4, _⟩ => ⟨S352x1024, .f32⟩
  | .hbm, ⟨5, _⟩ => ⟨S128x1024, .f32⟩
  | .local _ .vmem, ⟨0, _⟩ => ⟨S8x128x1024, .bf16⟩
  | .local _ .vmem, ⟨1, _⟩ => ⟨S8x352x1024, .bf16⟩
  | .local _ .vmem, ⟨2, _⟩ => ⟨S8x128x1024, .bf16⟩
  | .local _ .vmem, ⟨3, _⟩ => ⟨S128x1024, .f32⟩
  | .local _ .vmem, ⟨4, _⟩ => ⟨S352x1024, .f32⟩
  | .local _ .vmem, ⟨5, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference7Ideal.lean ====
abbrev S8x128x1024 : Shape := ⟨3, ![8, 128, 1024]⟩
abbrev S8x352x1024 : Shape := ⟨3, ![8, 352, 1024]⟩
abbrev S_ : Shape := ⟨0, ![]⟩
abbrev S128x1024 : Shape := ⟨2, ![128, 1024]⟩
abbrev S352x1024 : Shape := ⟨2, ![352, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x352x1024, .bf16⟩
  | .hbm, ⟨2, _⟩ => ⟨S8x128x1024, .bf16⟩
  | .hbm, ⟨3, _⟩ => ⟨S8x128x1024, .f32⟩
  | .hbm, ⟨4, _⟩ => ⟨S_, .f32⟩
  | .hbm, ⟨5, _⟩ => ⟨S128x1024, .f32⟩
  | .hbm, ⟨6, _⟩ => ⟨S8x352x1024, .f32⟩
  | .hbm, ⟨7, _⟩ => ⟨S_, .f32⟩
  | .hbm, ⟨8, _⟩ => ⟨S352x1024, .f32⟩
  | .hbm, ⟨9, _⟩ => ⟨S8x128x1024, .f32⟩
  | .hbm, ⟨10, _⟩ => ⟨S_, .f32⟩
  | .hbm, ⟨11, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Body1.lean ====
module

public import proofs.«01_k».proof.Proof.Gen.KernelIdeal.Skeleton
public import Idealize.ShloMosaic.Lib.Exec
public import Idealize.ShloMosaic.Lib.Tactic
public import Idealize.ShloMosaic.Lib.VecWindow
public import Idealize.ShloMosaic.Lib.Pipeline.Kit

@[expose] public section

set_option maxRecDepth 16384

noncomputable section

namespace Cert.MixBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow
open Cert.KernelIdeal Cert.KernelIdeal.Gen

variable {F : FTy → Type} [FloatOps F]

local notation "𝕄" => MT nD τ sig Unit (Elt F) ℕ (UR sig nD τ) ℕ

/-- A whole memref held at contents that read `x`. -/
abbrev held (c : Dev nD) {sp : Space} {s : Shape} {e : EltTy} {m : Memref sig .tc sp s e} (hm : m.IsWhole) (x : s.Idx → Elt F e) : sProp 𝕄 :=
  m.view.loc (c : Thread nD τ) ↦[m.view.set]{fullShare} hm.unread x

/-- Contents that read `x` are `x`'s own. -/
theorem pointsTo_unread (c : Dev nD) {sp : Space} {s : Shape} {e : EltTy} {m : Memref sig .tc sp s e} (hm : m.IsWhole) {f : m.view.ty.Contents (Elt F)} {x : s.Idx → Elt F e}
    (h : m.view.read (Elt F) f = x) :
    (m.view.loc (c : Thread nD τ) ↦[m.view.set]{fullShare} f : sProp 𝕄) ⊢ held c hm x := by
  obtain rfl := hm.eq_unread h
  exact .rfl

/-- Held at `x` and owned at `x` are the same. -/
theorem held_owns (c : Dev nD) {sp : Space} {s : Shape} {e : EltTy} {m : Memref sig .tc sp s e} (hm : m.IsWhole) (x : s.Idx → Elt F e) :
    (held c hm x : sProp 𝕄) ⊢ owns (c : Thread nD τ) m fullShare x := by
  unfold owns
  iintro H
  iexists _
  isplitr
  · ipureintro; exact hm.read_unread x
  iexact H

theorem owns_held (c : Dev nD) {sp : Space} {s : Shape} {e : EltTy} {m : Memref sig .tc sp s e} (hm : m.IsWhole) (x : s.Idx → Elt F e) :
    (owns (c : Thread nD τ) m fullShare x : sProp 𝕄) ⊢ held c hm x := by
  unfold owns
  iintro ⟨%f, %hf, H⟩
  obtain rfl := hm.eq_unread hf
  iexact H

section Reads
variable {s : Shape} {e : EltTy} {sp : Space} {κ : Kind}

/-- A load at a rectangle reads a window of what the memref reads. -/
theorem readAt_win (v : View sig κ sp s e) (f : v.ty.Contents (Elt F)) {off size : Fin s.rank → ℕ} (inb : ∀ a, off a + size a ≤ s.size a) :
    v.readAt (Elt F) (Rect.unit off size inb).toLoadRect f = window (v.read (Elt F) f) off size inb :=
  View.readAt_unit v f inb rfl inb

/-- A store at a rectangle puts its payload over what was there. -/
theorem read_writes_put (v : View sig κ sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = put (v.read (Elt F) (v.writes (Elt F) f L)) off size w :=
  View.read_writes_cons_put v f inb w L rfl

end Reads

section Whole
variable {α : Type}

/-- The window of all of `S512x1024` is the whole. -/
theorem whole_1 (x : S512x1024.Idx → α) (inb : ∀ a, (![0, 0] : Fin 2 → ℕ) a + (![512, 1024] : Fin 2 → ℕ) a ≤ S512x1024.size a) : window (s := S512x1024) x ![0, 0] ![512, 1024] inb = x :=
  funext fun y => congrArg x (Rect.emb_unit_full (s := S512x1024) inb y)

/-- A put over all of `S512x1024` leaves the payload. -/
theorem over_1 (x : S512x1024.Idx → α) (w : S512x1024.Idx → α) : put (s := S512x1024) x ![0, 0] ![512, 1024] w = w := by
  funext y
  unfold put
  rw [dif_pos (fun a => ⟨by fin_cases a <;> exact Nat.zero_le _, by fin_cases a <;> first | exact (y 0).isLt.trans_eq (Nat.zero_add _).symm | exact (y 1).isLt.trans_eq (Nat.zero_add _).symm | exact (y 1).isLt.trans_eq (Nat.zero_add _).symm⟩)]
  exact congrArg w (funext fun a => Fin.ext (by fin_cases a <;> exact Nat.sub_zero _))

/-- The window of all of `S1x1024` is the whole. -/
theorem whole_2 (x : S1x1024.Idx → α) (inb : ∀ a, (![0, 0] : Fin 2 → ℕ) a + (![1, 1024] : Fin 2 → ℕ) a ≤ S1x1024.size a) : window (s := S1x1024) x ![0, 0] ![1, 1024] inb = x :=
  funext fun y => congrArg x (Rect.emb_unit_full (s := S1x1024) inb y)

/-- A put over all of `S1x1024` leaves the payload. -/
theorem over_2 (x : S1x1024.Idx → α) (w : S1x1024.Idx → α) : put (s := S1x1024) x ![0, 0] ![1, 1024] w = w := by
  funext y
  unfold put
  rw [dif_pos (fun a => ⟨by fin_cases a <;> exact Nat.zero_le _, by fin_cases a <;> first | exact (y 0).isLt.trans_eq (Nat.zero_add _).symm | exact (y 1).isLt.trans_eq (Nat.zero_add _).symm | exact (y 1).isLt.trans_eq (Nat.zero_add _).symm⟩)]
  exact congrArg w (funext fun a => Fin.ext (by fin_cases a <;> exact Nat.sub_zero _))

/-- The window of all of `S1024x1024` is the whole. -/
theorem whole_3 (x : S1024x1024.Idx → α) (inb : ∀ a, (![0, 0] : Fin 2 → ℕ) a + (![1024, 1024] : Fin 2 → ℕ) a ≤ S1024x1024.size a) : window (s := S1024x1024) x ![0, 0] ![1024, 1024] inb = x :=
  funext fun y => congrArg x (Rect.emb_unit_full (s := S1024x1024) inb y)

/-- A put over all of `S1024x1024` leaves the payload. -/
theorem over_3 (x : S1024x1024.Idx → α) (w : S1024x1024.Idx → α) : put (s := S1024x1024) x ![0, 0] ![1024, 1024] w = w := by
  funext y
  unfold put
  rw [dif_pos (fun a => ⟨by fin_cases a <;> exact Nat.zero_le _, by fin_cases a <;> first | exact (y 0).isLt.trans_eq (Nat.zero_add _).symm | exact (y 1).isLt.trans_eq (Nat.zero_add _).symm | exact (y 1).isLt.trans_eq (Nat.zero_add _).symm⟩)]
  exact congrArg w (funext fun a => Fin.ext (by fin_cases a <;> exact Nat.sub_zero _))

/-- The window of all of `S512x512` is the whole. -/
theorem whole_4 (x : S512x512.Idx → α) (inb : ∀ a, (![0, 0] : Fin 2 → ℕ) a + (![512, 512] : Fin 2 → ℕ) a ≤ S512x512.size a) : window (s := S512x512) x ![0, 0] ![512, 512] inb = x :=
  funext fun y => congrArg x (Rect.emb_unit_full (s := S512x512) inb y)

/-- A put over all of `S512x512` leaves the payload. -/
theorem over_4 (x : S512x512.Idx → α) (w : S512x512.Idx → α) : put (s := S512x512) x ![0, 0] ![512, 512] w = w := by
  funext y
  unfold put
  rw [dif_pos (fun a => ⟨by fin_cases a <;> exact Nat.zero_le _, by fin_cases a <;> first | exact (y 0).isLt.trans_eq (Nat.zero_add _).symm | exact (y 1).isLt.trans_eq (Nat.zero_add _).symm | exact (y 1).isLt.trans_eq (Nat.zero_add _).symm⟩)]
  exact congrArg w (funext fun a => Fin.ext (by fin_cases a <;> exact Nat.sub_zero _))

/-- The window of all of `S128x512` is the whole. -/
theorem whole_5 (x : S128x512.Idx → α) (inb : ∀ a, (![0, 0] : Fin 2 → ℕ) a + (![128, 512] : Fin 2 → ℕ) a ≤ S128x512.size a) : window (s := S128x512) x ![0, 0] ![128, 512] inb = x :=
  funext fun y => congrArg x (Rect.emb_unit_full (s := S128x512) inb y)

/-- A put over all of `S128x512` leaves the payload. -/
theorem over_5 (x : S128x512.Idx → α) (w : S128x512.Idx → α) : put (s := S128x512) x ![0, 0] ![128, 512] w = w := by
  funext y
  unfold put
  rw [dif_pos (fun a => ⟨by fin_cases a <;> exact Nat.zero_le _, by fin_cases a <;> first | exact (y 0).isLt.trans_eq (Nat.zero_add _).symm | exact (y 1).isLt.trans_eq (Nat.zero_add _).symm | exact (y 1).isLt.trans_eq (Nat.zero_add _).symm⟩)]
  exact congrArg w (funext fun a => Fin.ext (by fin_cases a <;> exact Nat.sub_zero _))

/-- The window of all of `S8x128x128` is the whole. -/
theorem whole_6 (x : S8x128x128.Idx → α) (inb : ∀ a, (![0, 0, 0] : Fin 3 → ℕ) a + (![8, 128, 128] : Fin 3 → ℕ) a ≤ S8x128x128.size a) : window (s := S8x128x128) x ![0, 0, 0] ![8, 128, 128] inb = x :=
  funext fun y => congrArg x (Rect.emb_unit_full (s := S8x128x128) inb y)

/-- A put over all of `S8x128x128` leaves the payload. -/
theorem over_6 (x : S8x128x128.Idx → α) (w : S8x128x128.Idx → α) : put (s := S8x128x128) x ![0, 0, 0] ![8, 128, 128] w = w := by
  funext y
  unfold put
  rw [dif_pos (fun a => ⟨by fin_cases a <;> exact Nat.zero_le _, by fin_cases a <;> first | exact (y 0).isLt.trans_eq (Nat.zero_add _).symm | exact (y 1).isLt.trans_eq (Nat.zero_add _).symm | exact (y 2).isLt.trans_eq (Nat.zero_add _).symm⟩)]
  exact congrArg w (funext fun a => Fin.ext (by fin_cases a <;> exact Nat.sub_zero _))

/-- The window of all of `S8x1024` is the whole. -/
theorem whole_7 (x : S8x1024.Idx → α) (inb : ∀ a, (![0, 0] : Fin 2 → ℕ) a + (![8, 1024] : Fin 2 → ℕ) a ≤ S8x1024.size a) : window (s := S8x1024) x ![0, 0] ![8, 1024] inb = x :=
  funext fun y => congrArg x (Rect.emb_unit_full (s := S8x1024) inb y)

/-- A put over all of `S8x1024` leaves the payload. -/
theorem over_7 (x : S8x1024.Idx → α) (w : S8x1024.Idx → α) : put (s := S8x1024) x ![0, 0] ![8, 1024] w = w := by
  funext y
  unfold put
  rw [dif_pos (fun a => ⟨by fin_cases a <;> exact Nat.zero_le _, by fin_cases a <;> first | exact (y 0).isLt.trans_eq (Nat.zero_add _).symm | exact (y 1).isLt.trans_eq (Nat.zero_add _).symm | exact (y 1).isLt.trans_eq (Nat.zero_add _).symm⟩)]
  exact congrArg w (funext fun a => Fin.ext (by fin_cases a <;> exact Nat.sub_zero _))

end Whole

section Parts

variable (c : Dev nD) (i : grid0.Coords)
variable (arg1 : Memref sig .tc .vmem S512x1024 .f32) (harg1 : arg1.IsWhole)
variable (arg2 : Memref sig .tc .vmem S512x2048 .f32) (harg2 : arg2.IsWhole)
variable (arg3 : Memref sig .tc .vmem S512x512 .f32) (harg3 : arg3.IsWhole)
variable (arg4 : Memref sig .tc .vmem S512x512 .f32) (harg4 : arg4.IsWhole)
variable (arg5 : Memref sig .tc .vmem S1x1024 .f32) (harg5 : arg5.IsWhole)
variable (arg6 : Memref sig .tc .vmem S1024x1024 .bf16) (harg6 : arg6.IsWhole)
variable (arg7 : Memref sig .tc .vmem S8x128x128 .bf16) (harg7 : arg7.IsWhole)
variable (arg8 : Memref sig .tc .vmem S512x2048 .bf16) (harg8 : arg8.IsWhole)
variable (arg9 : Memref sig .tc .vmem S512x512 .f32) (harg9 : arg9.IsWhole)
variable (arg10 : Memref sig .tc .vmem S1024x1024 .bf16) (harg10 : arg10.IsWhole)
variable (arg11 : Memref sig .tc .vmem S8x1024 .f32) (harg11 : arg11.IsWhole)
variable (arg12 : Memref sig .tc .vmem S8x128x128 .f32) (harg12 : arg12.IsWhole)
variable (arg13 : Memref sig .tc .vmem S128x512 .f32) (harg13 : arg13.IsWhole)
variable (arg14 : Memref sig .tc .vmem S1024x1024 .f32) (harg14 : arg14.IsWhole)
variable (arg15 : Memref sig .tc .vmem S512x1024 .bf16) (harg15 : arg15.IsWhole)
variable (arg16 : Memref sig .tc .vmem S512x1024 .f32) (harg16 : arg16.IsWhole)
variable (arg17 : Memref sig .tc .vmem S512x512 .f32) (harg17 : arg17.IsWhole)
variable (arg18 : Memref sig .tc .vmem S512x512 .f32) (harg18 : arg18.IsWhole)
variable (arg19 : Memref sig .tc .vmem S512x512 .bf16) (harg19 : arg19.IsWhole)
variable (arg20 : Memref sig .tc .vmem S512x512 .bf16) (harg20 : arg20.IsWhole)
variable (arg21 : Memref sig .tc .vmem S512x512 .f32) (harg21 : arg21.IsWhole)

set_option maxHeartbeats 1000000 in
/-- At a later grid point the part forms the gradient behind the output projection. -/
theorem part3_later (x0 : Vec F S512x1024 .f32) (x1 : Vec F S512x2048 .f32) (x4 : Vec F S1x1024 .f32) (x5 : Vec F S1024x1024 .bf16) (d16 : Vec F S512x1024 .f32) (hc : ¬ (Scalar.cmpi .ne (Scalar.extui (Scalar.cmpi .eq (BitVec.ofNat 32 (i 0).val) 0#32) : BitVec 32) 0#32 = 1#1)) (E : Set ℕ) (K : _ → sProp 𝕄) :
    iprop(held c harg1 (x0) ∗ held c harg2 (x1) ∗ held c harg5 (x4) ∗ held c harg6 (x5) ∗ held c harg16 (d16) ∗ (iprop(held c harg1 (x0) ∗ held c harg2 (x1) ∗ held c harg5 (x4) ∗ held c harg6 (x5) ∗ held c harg16 (k0_pay22 x0 x4 x5)) -∗ K ⟨BitVec.ofNat 32 (i 0).val, k0_pay20 (F := F), k0_pay21, x0, window x1 ![0, 0] S512x512.size inb_S512x2048_S512x512_0_0, k0_pay23 (window x1 ![0, 0] S512x512.size inb_S512x2048_S512x512_0_0)⟩))
      ⊢ wp frame (wpE (defs₀ (F := F)) Variants.none (c : Thread nD τ) none) E (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [k0_part3_eq_skeleton]; unfold k0_part3_skel
  unfold held
  iintro ⟨H1, H2, H5, H6, H16, Hk⟩
  sl_exec (disch := sl_exact hc)
  sl_step
  simp only [read_writes_put, readAt_win, Memref.IsWhole.read_unread, View.writes_nil, whole_1, whole_2, whole_3, whole_4, whole_5, whole_6, whole_7, over_1, over_2, over_3, over_4, over_5, over_6, over_7]
  iapply Hk
  isplitl [H1]
  · iexact H1
  isplitl [H2]
  · iexact H2
  isplitl [H5]
  · iexact H5
  isplitl [H6]
  · iexact H6
  iapply (pointsTo_unread c harg16 ?_)
  on_goal 2 => iexact H16
  simp only [read_writes_put, readAt_win, Memref.IsWhole.read_unread, View.writes_nil, whole_1, whole_2, whole_3, whole_4, whole_5, whole_6, whole_7, over_1, over_2, over_3, over_4, over_5, over_6, over_7]

set_option maxHeartbeats 1000000 in
/-- At the first grid point the part also clears the three accumulators. -/
theorem part3_first (x0 : Vec F S512x1024 .f32) (x1 : Vec F S512x2048 .f32) (x4 : Vec F S1x1024 .f32) (x5 : Vec F S1024x1024 .bf16) (d16 : Vec F S512x1024 .f32) (d12 : Vec F S8x128x128 .f32) (d13 : Vec F S128x512 .f32) (d14 : Vec F S1024x1024 .f32) (hc : (Scalar.cmpi .ne (Scalar.extui (Scalar.cmpi .eq (BitVec.ofNat 32 (i 0).val) 0#32) : BitVec 32) 0#32 = 1#1)) (E : Set ℕ) (K : _ → sProp 𝕄) :
    iprop(held c harg1 (x0) ∗ held c harg2 (x1) ∗ held c harg5 (x4) ∗ held c harg6 (x5) ∗ held c harg16 (d16) ∗ held c harg12 (d12) ∗ held c harg13 (d13) ∗ held c harg14 (d14) ∗ (iprop(held c harg1 (x0) ∗ held c harg2 (x1) ∗ held c harg5 (x4) ∗ held c harg6 (x5) ∗ held c harg16 (k0_pay22 x0 x4 x5) ∗ held c harg12 (k0_pay18) ∗ held c harg13 (k0_pay19) ∗ held c harg14 (k0_pay17)) -∗ K ⟨BitVec.ofNat 32 (i 0).val, k0_pay20 (F := F), k0_pay21, x0, window x1 ![0, 0] S512x512.size inb_S512x2048_S512x512_0_0, k0_pay23 (window x1 ![0, 0] S512x512.size inb_S512x2048_S512x512_0_0)⟩))
      ⊢ wp frame (wpE (defs₀ (F := F)) Variants.none (c : Thread nD τ) none) E (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [k0_part3_eq_skeleton]; unfold k0_part3_skel
  unfold held
  iintro ⟨H1, H2, H5, H6, H16, H12, H13, H14, Hk⟩
  sl_exec (disch := sl_exact hc)
  sl_step
  simp only [read_writes_put, readAt_win, Memref.IsWhole.read_unread, View.writes_nil, whole_1, whole_2, whole_3, whole_4, whole_5, whole_6, whole_7, over_1, over_2, over_3, over_4, over_5, over_6, over_7]
  iapply Hk
  isplitl [H1]
  · iexact H1
  isplitl [H2]
  · iexact H2
  isplitl [H5]
  · iexact H5
  isplitl [H6]
  · iexact H6
  isplitl [H16]
  · iapply (pointsTo_unread c harg16 ?_)
    on_goal 2 => iexact H16
    simp only [read_writes_put, readAt_win, Memref.IsWhole.read_unread, View.writes_nil, whole_1, whole_2, whole_3, whole_4, whole_5, whole_6, whole_7, over_1, over_2, over_3, over_4, over_5, over_6, over_7]
  isplitl [H12]
  · iapply (pointsTo_unread c harg12 ?_)
    on_goal 2 => iexact H12
    simp only [read_writes_put, readAt_win, Memref.IsWhole.read_unread, View.writes_nil, whole_1, whole_2, whole_3, whole_4, whole_5, whole_6, whole_7, over_1, over_2, over_3, over_4, over_5, over_6, over_7]
  isplitl [H13]
  · iapply (pointsTo_unread c harg13 ?_)
    on_goal 2 => iexact H13
    simp only [read_writes_put, readAt_win, Memref.IsWhole.read_unread, View.writes_nil, whole_1, whole_2, whole_3, whole_4, whole_5, whole_6, whole_7, over_1, over_2, over_3, over_4, over_5, over_6, over_7]
  iapply (pointsTo_unread c harg14 ?_)
  on_goal 2 => iexact H14
  simp only [read_writes_put, readAt_win, Memref.IsWhole.read_unread, View.writes_nil, whole_1, whole_2, whole_3, whole_4, whole_5, whole_6, whole_7, over_1, over_2, over_3, over_4, over_5, over_6, over_7]

set_option maxHeartbeats 1000000 in
/-- The attention branch's gate: its product, and the gradients of the attention output and of the gate. -/
theorem part4_run (x1 : Vec F S512x2048 .f32) (x2 : Vec F S512x512 .f32) (dy : Vec F S512x1024 .f32) (d8 : Vec F S512x2048 .bf16) (d9 : Vec F S512x512 .f32) (d15 : Vec F S512x1024 .bf16) (d17 : Vec F S512x512 .f32) (v13 : FVec F S256x256 .bf16) (v28 v35 : FVec F S512x512 .f32) (E : Set ℕ) (K : _ → sProp 𝕄) :
    iprop(held c harg2 (x1) ∗ held c harg3 (x2) ∗ held c harg16 (dy) ∗ held c harg8 (d8) ∗ held c harg9 (d9) ∗ held c harg15 (d15) ∗ held c harg17 (d17) ∗ (iprop(held c harg2 (x1) ∗ held c harg3 (x2) ∗ held c harg16 (dy) ∗ held c harg8 (put d8 ![0, 0] S512x512.size (k0_pay27 v28 v35 x2 (window dy ![0, 0] S512x512.size inb_S512x1024_S512x512_0_0))) ∗ held c harg9 (k0_pay26 v28 v35 (window dy ![0, 0] S512x512.size inb_S512x1024_S512x512_0_0)) ∗ held c harg15 (put d15 ![0, 0] S512x512.size (k0_pay25 v28 v35 x2)) ∗ held c harg17 (d17)) -∗ K ⟨k0_pay28 v13 (window x1 ![0, 1024] S512x256.size inb_S512x2048_S512x256_0_1024), k0_pay29 v13 (window x1 ![0, 1024] S512x256.size inb_S512x2048_S512x256_0_1024)⟩))
      ⊢ wp frame (wpE (defs₀ (F := F)) Variants.none (c : Thread nD τ) none) E (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v13 v28 v35) K := by
  simp only [k0_part4_eq_skeleton]; unfold k0_part4_skel
  unfold held
  iintro ⟨H2, H3, H16, H8, H9, H15, H17, Hk⟩
  sl_exec
  sl_step
  simp only [read_writes_put, readAt_win, Memref.IsWhole.read_unread, View.writes_nil, whole_1, whole_2, whole_3, whole_4, whole_5, whole_6, whole_7, over_1, over_2, over_3, over_4, over_5, over_6, over_7]
  iapply Hk
  isplitl [H2]
  · iexact H2
  isplitl [H3]
  · iexact H3
  isplitl [H16]
  · iexact H16
  isplitl [H8]
  · iapply (pointsTo_unread c harg8 ?_)
    on_goal 2 => iexact H8
    simp only [read_writes_put, readAt_win, Memref.IsWhole.read_unread, View.writes_nil, whole_1, whole_2, whole_3, whole_4, whole_5, whole_6, whole_7, over_1, over_2, over_3, over_4, over_5, over_6, over_7]
  isplitl [H9]
  · iapply (pointsTo_unread c harg9 ?_)
    on_goal 2 => iexact H9
    simp only [read_writes_put, readAt_win, Memref.IsWhole.read_unread, View.writes_nil, whole_1, whole_2, whole_3, whole_4, whole_5, whole_6, whole_7, over_1, over_2, over_3, over_4, over_5, over_6, over_7]
  isplitl [H15]
  · iapply (pointsTo_unread c harg15 ?_)
    on_goal 2 => iexact H15
    simp only [read_writes_put, readAt_win, Memref.IsWhole.read_unread, View.writes_nil, whole_1, whole_2, whole_3, whole_4, whole_5, whole_6, whole_7, over_1, over_2, over_3, over_4, over_5, over_6, over_7]
  iexact H17

end Parts

end Cert.MixBwd

end
-- ==== Proof.Body2.lean ====
module

public import proofs.«01_k».proof.Proof.Body1

@[expose] public section

set_option maxRecDepth 16384

noncomputable section

namespace Cert.MixBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow
open Cert.KernelIdeal Cert.KernelIdeal.Gen

variable {F : FTy → Type} [FloatOps F]

local notation "𝕄" => MT nD τ sig Unit (Elt F) ℕ (UR sig nD τ) ℕ

/-- `n` trips of a step, in order, stopped after `k`. -/
def trips {α : Type} (n : ℕ) (f : Fin n → α → α) (a : α) : ℕ → α
  | 0 => a
  | k + 1 => if h : k < n then f ⟨k, h⟩ (trips n f a k) else trips n f a k

theorem trips_succ {α : Type} {n : ℕ} (f : Fin n → α → α) (a : α) (k : Fin n) : trips n f a (k.val + 1) = f k (trips n f a k.val) := by
  show (if h : k.val < n then f ⟨k.val, h⟩ (trips n f a k.val) else trips n f a k.val) = _
  rw [dif_pos k.isLt]

/-- An element no trip changes keeps its first value. -/
theorem trips_miss {ι β : Type} {n : ℕ} (f : Fin n → (ι → β) → ι → β) (a : ι → β) (y : ι) (miss : ∀ k b, f k b y = b y) (k : ℕ) : trips n f a k y = a y := by
  induction k with
  | zero => rfl
  | succ k ih =>
    show (if h : k < n then f ⟨k, h⟩ (trips n f a k) else trips n f a k) y = _
    split
    · rw [miss, ih]
    · exact ih

/-- An element one trip sets, whatever it finds, and no other trip changes, ends with that trip's value. -/
theorem trips_hit {ι β : Type} {n : ℕ} (f : Fin n → (ι → β) → ι → β) (a : ι → β) (y : ι) (k0 : Fin n) (v : β) (hit : ∀ b, f k0 b y = v)
    (miss : ∀ k b, k ≠ k0 → f k b y = b y) (k : ℕ) (hk : k0.val < k) : trips n f a k y = v := by
  induction k with
  | zero => omega
  | succ k ih =>
    show (if h : k < n then f ⟨k, h⟩ (trips n f a k) else trips n f a k) y = _
    by_cases e : k = k0.val
    · subst e
      rw [dif_pos k0.isLt]; exact hit _
    · have := ih (by omega)
      split
      · rw [miss _ _ (fun hh => e (congrArg Fin.val hh)), this]
      · exact this

/-- Inside the put: the payload. -/
theorem put_in {α : Type} {s : Shape} (x : s.Idx → α) (off size : Fin s.rank → ℕ) (w : ((a : Fin s.rank) → Fin (size a)) → α) (y : s.Idx)
    (z : (a : Fin s.rank) → Fin (size a)) (h : ∀ a, (y a).val = off a + (z a).val) : put x off size w y = w z := by
  have h' : ∀ a, off a ≤ (y a).val ∧ (y a).val < off a + size a := fun a => by have := h a; have := (z a).isLt; omega
  unfold put
  rw [dif_pos h']
  exact congrArg w (funext fun a => Fin.ext (by show (y a).val - off a = _; have := h a; omega))

/-- Outside the put, on some axis: what was there. -/
theorem put_out {α : Type} {s : Shape} (x : s.Idx → α) (off size : Fin s.rank → ℕ) (w : ((a : Fin s.rank) → Fin (size a)) → α) (y : s.Idx)
    (a : Fin s.rank) (h : (y a).val < off a ∨ off a + size a ≤ (y a).val) : put x off size w y = x y := by
  unfold put
  rw [dif_neg (fun h' => by have := h' a; omega)]

/-! ## The two row-block loops, one trip at a time -/

/-- A trip's gradient of the spatial product, 128 rows. -/
abbrev dsvBlk (x1 : Vec F S512x2048 .f32) (dy : Vec F S512x1024 .f32) (k : Fin k0_t1_loop.trips) : FVec F S128x512 .f32 :=
  k0_pay13 (window x1 (k0_off2 k) S128x512.size (k0_off2_inb k)) (window x1 (k0_off3 k) S128x512.size (k0_off3_inb k)) (window dy (k0_off4 k) S128x512.size (k0_off4_inb k))

/-- One trip's rows of the gated MLP output. -/
def step15 (x1 : Vec F S512x2048 .f32) (x3 : Vec F S512x512 .f32) (k : Fin k0_t1_loop.trips) (d : Vec F S512x1024 .bf16) : Vec F S512x1024 .bf16 :=
  put d (k0_off4 k) S128x512.size (k0_pay9 (window x3 (k0_off1 k) S128x512.size (k0_off1_inb k)) (window x1 (k0_off2 k) S128x512.size (k0_off2_inb k)) (window x1 (k0_off3 k) S128x512.size (k0_off3_inb k)))

/-- One trip's rows of the gradients of the MLP gate and of the up projection. -/
def step8 (x1 : Vec F S512x2048 .f32) (x3 : Vec F S512x512 .f32) (dy : Vec F S512x1024 .f32) (k : Fin k0_t1_loop.trips) (d : Vec F S512x2048 .bf16) : Vec F S512x2048 .bf16 :=
  put (put d (k0_off3 k) S128x512.size (k0_pay11 (window x3 (k0_off1 k) S128x512.size (k0_off1_inb k)) (window x1 (k0_off2 k) S128x512.size (k0_off2_inb k)) (window x1 (k0_off3 k) S128x512.size (k0_off3_inb k)) (window dy (k0_off4 k) S128x512.size (k0_off4_inb k)))) (k0_off2 k) S128x512.size (k0_pay12 (window x3 (k0_off1 k) S128x512.size (k0_off1_inb k)) (window x1 (k0_off3 k) S128x512.size (k0_off3_inb k)) (window dy (k0_off4 k) S128x512.size (k0_off4_inb k)))

/-- One trip's rows of the gradient of the spatial product, rounded. -/
def step20 (x1 : Vec F S512x2048 .f32) (dy : Vec F S512x1024 .f32) (k : Fin k0_t1_loop.trips) (d : Vec F S512x512 .bf16) : Vec F S512x512 .bf16 :=
  put d (k0_off1 k) S128x512.size (k0_pay38 (dsvBlk x1 dy k))

/-- One trip's addition to the bias gradient. -/
def step13 (x1 : Vec F S512x2048 .f32) (dy : Vec F S512x1024 .f32) (k : Fin k0_t1_loop.trips) (d : Vec F S128x512 .f32) : Vec F S128x512 .f32 :=
  k0_pay39 (dsvBlk x1 dy k) d

/-- One trip's rows of the gradient of the normalised values: each group pair's weights against its rows. -/
def step21 (v16 : IVec S128x128 1) (x6 : Vec F S8x128x128 .bf16) (ds : Vec F S512x512 .bf16) (k : Fin k0_t2_loop.trips) (d : Vec F S512x512 .f32) : Vec F S512x512 .f32 :=
  put (put (put (put d (k0_off5 k) S128x128.size (k0_pay14 v16 (window ds (k0_off5 k) S128x128.size (k0_off5_inb k)) (window x6 ![0, 0, 0] S1x128x128.size inb_S8x128x128_S1x128x128_0_0_0) (window x6 ![1, 0, 0] S1x128x128.size inb_S8x128x128_S1x128x128_1_0_0))) (k0_off6 k) S128x128.size (k0_pay15 v16 (window ds (k0_off6 k) S128x128.size (k0_off6_inb k)) (window x6 ![2, 0, 0] S1x128x128.size inb_S8x128x128_S1x128x128_2_0_0) (window x6 ![3, 0, 0] S1x128x128.size inb_S8x128x128_S1x128x128_3_0_0))) (k0_off7 k) S128x128.size (k0_pay40 v16 (window ds (k0_off7 k) S128x128.size (k0_off7_inb k)) (k0_pay16 (window x6 ![4, 0, 0] S1x128x128.size inb_S8x128x128_S1x128x128_4_0_0)) (window x6 ![5, 0, 0] S1x128x128.size inb_S8x128x128_S1x128x128_5_0_0))) (k0_off8 k) S128x128.size (k0_pay41 v16 (window ds (k0_off8 k) S128x128.size (k0_off8_inb k)) (window x6 ![6, 0, 0] S1x128x128.size inb_S8x128x128_S1x128x128_6_0_0) (window x6 ![7, 0, 0] S1x128x128.size inb_S8x128x128_S1x128x128_7_0_0))

section Parts

variable (c : Dev nD) (i : grid0.Coords)
variable (arg1 : Memref sig .tc .vmem S512x1024 .f32) (harg1 : arg1.IsWhole)
variable (arg2 : Memref sig .tc .vmem S512x2048 .f32) (harg2 : arg2.IsWhole)
variable (arg3 : Memref sig .tc .vmem S512x512 .f32) (harg3 : arg3.IsWhole)
variable (arg4 : Memref sig .tc .vmem S512x512 .f32) (harg4 : arg4.IsWhole)
variable (arg5 : Memref sig .tc .vmem S1x1024 .f32) (harg5 : arg5.IsWhole)
variable (arg6 : Memref sig .tc .vmem S1024x1024 .bf16) (harg6 : arg6.IsWhole)
variable (arg7 : Memref sig .tc .vmem S8x128x128 .bf16) (harg7 : arg7.IsWhole)
variable (arg8 : Memref sig .tc .vmem S512x2048 .bf16) (harg8 : arg8.IsWhole)
variable (arg9 : Memref sig .tc .vmem S512x512 .f32) (harg9 : arg9.IsWhole)
variable (arg10 : Memref sig .tc .vmem S1024x1024 .bf16) (harg10 : arg10.IsWhole)
variable (arg11 : Memref sig .tc .vmem S8x1024 .f32) (harg11 : arg11.IsWhole)
variable (arg12 : Memref sig .tc .vmem S8x128x128 .f32) (harg12 : arg12.IsWhole)
variable (arg13 : Memref sig .tc .vmem S128x512 .f32) (harg13 : arg13.IsWhole)
variable (arg14 : Memref sig .tc .vmem S1024x1024 .f32) (harg14 : arg14.IsWhole)
variable (arg15 : Memref sig .tc .vmem S512x1024 .bf16) (harg15 : arg15.IsWhole)
variable (arg16 : Memref sig .tc .vmem S512x1024 .f32) (harg16 : arg16.IsWhole)
variable (arg17 : Memref sig .tc .vmem S512x512 .f32) (harg17 : arg17.IsWhole)
variable (arg18 : Memref sig .tc .vmem S512x512 .f32) (harg18 : arg18.IsWhole)
variable (arg19 : Memref sig .tc .vmem S512x512 .bf16) (harg19 : arg19.IsWhole)
variable (arg20 : Memref sig .tc .vmem S512x512 .bf16) (harg20 : arg20.IsWhole)
variable (arg21 : Memref sig .tc .vmem S512x512 .f32) (harg21 : arg21.IsWhole)

set_option maxHeartbeats 1000000 in
/-- One trip of the first loop. -/
theorem trip1_run (x1 : Vec F S512x2048 .f32) (x3 : Vec F S512x512 .f32) (dy : Vec F S512x1024 .f32) (d8 : Vec F S512x2048 .bf16) (d13 : Vec F S128x512 .f32) (d15 : Vec F S512x1024 .bf16) (d20 : Vec F S512x512 .bf16) (v13 : FVec F S256x256 .bf16) (v69 v70 : FVec F S512x256 .f32) (k : Fin k0_t1_loop.trips) (E : Set ℕ) (K : _ → sProp 𝕄) :
    iprop(held c harg2 (x1) ∗ held c harg4 (x3) ∗ held c harg16 (dy) ∗ held c harg8 (d8) ∗ held c harg13 (d13) ∗ held c harg15 (d15) ∗ held c harg20 (d20) ∗ (iprop(held c harg2 (x1) ∗ held c harg4 (x3) ∗ held c harg16 (dy) ∗ held c harg8 (step8 x1 x3 dy k d8) ∗ held c harg13 (step13 x1 dy k d13) ∗ held c harg15 (step15 x1 x3 k d15) ∗ held c harg20 (step20 x1 dy k d20)) -∗ K ()))
      ⊢ wp frame (wpE (defs₀ (F := F)) Variants.none (c : Thread nD τ) none) E (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v13 v69 v70 k ()) K := by
  unfold k0_t1_body; simp only [k0_part1_eq_skeleton]; unfold k0_part1_skel
  unfold held
  iintro ⟨H2, H4, H16, H8, H13, H15, H20, Hk⟩
  sl_exec
  sl_step
  simp only [read_writes_put, readAt_win, Memref.IsWhole.read_unread, View.writes_nil, whole_1, whole_2, whole_3, whole_4, whole_5, whole_6, whole_7, over_1, over_2, over_3, over_4, over_5, over_6, over_7]
  iapply Hk
  isplitl [H2]
  · iexact H2
  isplitl [H4]
  · iexact H4
  isplitl [H16]
  · iexact H16
  isplitl [H8]
  · iapply (pointsTo_unread c harg8 ?_)
    on_goal 2 => iexact H8
    simp only [read_writes_put, readAt_win, Memref.IsWhole.read_unread, View.writes_nil, whole_1, whole_2, whole_3, whole_4, whole_5, whole_6, whole_7, over_1, over_2, over_3, over_4, over_5, over_6, over_7, step8, step13, step15, step20, dsvBlk]
  isplitl [H13]
  · iapply (pointsTo_unread c harg13 ?_)
    on_goal 2 => iexact H13
    simp only [read_writes_put, readAt_win, Memref.IsWhole.read_unread, View.writes_nil, whole_1, whole_2, whole_3, whole_4, whole_5, whole_6, whole_7, over_1, over_2, over_3, over_4, over_5, over_6, over_7, step8, step13, step15, step20, dsvBlk]
  isplitl [H15]
  · iapply (pointsTo_unread c harg15 ?_)
    on_goal 2 => iexact H15
    simp only [read_writes_put, readAt_win, Memref.IsWhole.read_unread, View.writes_nil, whole_1, whole_2, whole_3, whole_4, whole_5, whole_6, whole_7, over_1, over_2, over_3, over_4, over_5, over_6, over_7, step8, step13, step15, step20, dsvBlk]
  iapply (pointsTo_unread c harg20 ?_)
  on_goal 2 => iexact H20
  simp only [read_writes_put, readAt_win, Memref.IsWhole.read_unread, View.writes_nil, whole_1, whole_2, whole_3, whole_4, whole_5, whole_6, whole_7, over_1, over_2, over_3, over_4, over_5, over_6, over_7, step8, step13, step15, step20, dsvBlk]

set_option maxHeartbeats 1000000 in
/-- The first loop, whole. -/
theorem loop1_run (x1 : Vec F S512x2048 .f32) (x3 : Vec F S512x512 .f32) (dy : Vec F S512x1024 .f32) (d8 : Vec F S512x2048 .bf16) (d13 : Vec F S128x512 .f32) (d15 : Vec F S512x1024 .bf16) (d20 : Vec F S512x512 .bf16) (v13 : FVec F S256x256 .bf16) (v69 v70 : FVec F S512x256 .f32) (E : Set ℕ) (K : _ → sProp 𝕄) :
    iprop(held c harg2 (x1) ∗ held c harg4 (x3) ∗ held c harg16 (dy) ∗ held c harg8 (d8) ∗ held c harg13 (d13) ∗ held c harg15 (d15) ∗ held c harg20 (d20) ∗ (iprop(held c harg2 (x1) ∗ held c harg4 (x3) ∗ held c harg16 (dy) ∗ held c harg8 (trips k0_t1_loop.trips (step8 x1 x3 dy) d8 (k0_t1_loop.trips)) ∗ held c harg13 (trips k0_t1_loop.trips (step13 x1 dy) d13 (k0_t1_loop.trips)) ∗ held c harg15 (trips k0_t1_loop.trips (step15 x1 x3) d15 (k0_t1_loop.trips)) ∗ held c harg20 (trips k0_t1_loop.trips (step20 x1 dy) d20 (k0_t1_loop.trips))) -∗ K ()))
      ⊢ wp frame (wpE (defs₀ (F := F)) Variants.none (c : Thread nD τ) none) E (Scf.Loop.for k0_t1_loop k0_t1_ok () (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v13 v69 v70)) K := by
  iintro ⟨H2, H4, H16, H8, H13, H15, H20, Hk⟩
  iapply (Scf.wp_for _ _ _ _ _ _ _ _ _ (fun k (_ : Unit) => iprop(held c harg2 (x1) ∗ held c harg4 (x3) ∗ held c harg16 (dy) ∗ held c harg8 (trips k0_t1_loop.trips (step8 x1 x3 dy) d8 (k)) ∗ held c harg13 (trips k0_t1_loop.trips (step13 x1 dy) d13 (k)) ∗ held c harg15 (trips k0_t1_loop.trips (step15 x1 x3) d15 (k)) ∗ held c harg20 (trips k0_t1_loop.trips (step20 x1 dy) d20 (k)))) ?_)
  on_goal 2 =>
    isplitl [H2 H4 H16 H8 H13 H15 H20]
    · isplitl [H2]; · iexact H2
      isplitl [H4]; · iexact H4
      isplitl [H16]; · iexact H16
      isplitl [H8]; · iexact H8
      isplitl [H13]; · iexact H13
      isplitl [H15]; · iexact H15
      iexact H20
    iintro %acc H
    iapply Hk; iexact H
  intro k acc
  iintro ⟨H2, H4, H16, H8, H13, H15, H20⟩
  iapply (trip1_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x3 dy _ _ _ _ v13 v69 v70 k)
  isplitl [H2]; · iexact H2
  isplitl [H4]; · iexact H4
  isplitl [H16]; · iexact H16
  isplitl [H8]; · iexact H8
  isplitl [H13]; · iexact H13
  isplitl [H15]; · iexact H15
  isplitl [H20]; · iexact H20
  iintro H
  simp only [trips_succ]
  iexact H

set_option maxHeartbeats 1000000 in
/-- One trip of the second loop. -/
theorem trip2_run (v16 : IVec S128x128 1) (x6 : Vec F S8x128x128 .bf16) (ds : Vec F S512x512 .bf16) (d21 : Vec F S512x512 .f32) (k : Fin k0_t2_loop.trips) (E : Set ℕ) (K : _ → sProp 𝕄) :
    iprop(held c harg7 (x6) ∗ held c harg20 (ds) ∗ held c harg21 (d21) ∗ (iprop(held c harg7 (x6) ∗ held c harg20 (ds) ∗ held c harg21 (step21 v16 x6 ds k d21)) -∗ K ()))
      ⊢ wp frame (wpE (defs₀ (F := F)) Variants.none (c : Thread nD τ) none) E (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v16 k ()) K := by
  unfold k0_t2_body; simp only [k0_part2_eq_skeleton]; unfold k0_part2_skel
  unfold held
  iintro ⟨H7, H20, H21, Hk⟩
  sl_exec
  sl_step
  simp only [read_writes_put, readAt_win, Memref.IsWhole.read_unread, View.writes_nil, whole_1, whole_2, whole_3, whole_4, whole_5, whole_6, whole_7, over_1, over_2, over_3, over_4, over_5, over_6, over_7]
  iapply Hk
  isplitl [H7]
  · iexact H7
  isplitl [H20]
  · iexact H20
  iapply (pointsTo_unread c harg21 ?_)
  on_goal 2 => iexact H21
  simp only [read_writes_put, readAt_win, Memref.IsWhole.read_unread, View.writes_nil, whole_1, whole_2, whole_3, whole_4, whole_5, whole_6, whole_7, over_1, over_2, over_3, over_4, over_5, over_6, over_7, step21]

set_option maxHeartbeats 1000000 in
/-- The second loop, whole. -/
theorem loop2_run (v16 : IVec S128x128 1) (x6 : Vec F S8x128x128 .bf16) (ds : Vec F S512x512 .bf16) (d21 : Vec F S512x512 .f32) (E : Set ℕ) (K : _ → sProp 𝕄) :
    iprop(held c harg7 (x6) ∗ held c harg20 (ds) ∗ held c harg21 (d21) ∗ (iprop(held c harg7 (x6) ∗ held c harg20 (ds) ∗ held c harg21 (trips k0_t2_loop.trips (step21 v16 x6 ds) d21 (k0_t2_loop.trips))) -∗ K ()))
      ⊢ wp frame (wpE (defs₀ (F := F)) Variants.none (c : Thread nD τ) none) E (Scf.Loop.for k0_t2_loop k0_t2_ok () (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v16)) K := by
  iintro ⟨H7, H20, H21, Hk⟩
  iapply (Scf.wp_for _ _ _ _ _ _ _ _ _ (fun k (_ : Unit) => iprop(held c harg7 (x6) ∗ held c harg20 (ds) ∗ held c harg21 (trips k0_t2_loop.trips (step21 v16 x6 ds) d21 (k)))) ?_)
  on_goal 2 =>
    isplitl [H7 H20 H21]
    · isplitl [H7]; · iexact H7
      isplitl [H20]; · iexact H20
      iexact H21
    iintro %acc H
    iapply Hk; iexact H
  intro k acc
  iintro ⟨H7, H20, H21⟩
  iapply (trip2_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v16 x6 ds _ k)
  isplitl [H7]; · iexact H7
  isplitl [H20]; · iexact H20
  isplitl [H21]; · iexact H21
  iintro H
  simp only [trips_succ]
  iexact H

end Parts

end Cert.MixBwd

end
-- ==== Proof.Body3.lean ====
module

public import proofs.«01_k».proof.Proof.Body2
public import Idealize.ShloMosaic.Lib.Pointwise

@[expose] public section

set_option maxRecDepth 16384

noncomputable section

namespace Cert.MixBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow Idealize.ShloMosaic.Pointwise
open Cert.KernelIdeal Cert.KernelIdeal.Gen

variable {F : FTy → Type} [FloatOps F]

local notation "𝕄" => MT nD τ sig Unit (Elt F) ℕ (UR sig nD τ) ℕ

/-- Inside a rank-2 put: the payload at the offset index. -/
theorem put_in2 {α : Type} {n0 n1 : ℕ} (x : (⟨2, ![n0, n1]⟩ : Shape).Idx → α) (o0 o1 s0 s1 : ℕ) (w : (⟨2, ![s0, s1]⟩ : Shape).Idx → α)
    (y : (⟨2, ![n0, n1]⟩ : Shape).Idx) (a : Fin s0) (b : Fin s1) (h0 : (y 0).val = o0 + a.val) (h1 : (y 1).val = o1 + b.val) :
    put (s := ⟨2, ![n0, n1]⟩) x ![o0, o1] ![s0, s1] w y = w (ix2 a b) :=
  put_in (s := ⟨2, ![n0, n1]⟩) x ![o0, o1] ![s0, s1] w y (ix2 a b) (fun i => by
    match i with
    | 0 => exact h0
    | 1 => exact h1)

/-- Outside a rank-2 put: what was there. -/
theorem put_out2 {α : Type} {n0 n1 : ℕ} (x : (⟨2, ![n0, n1]⟩ : Shape).Idx → α) (o0 o1 s0 s1 : ℕ) (w : (⟨2, ![s0, s1]⟩ : Shape).Idx → α)
    (y : (⟨2, ![n0, n1]⟩ : Shape).Idx) (h : ((y 0).val < o0 ∨ o0 + s0 ≤ (y 0).val) ∨ ((y 1).val < o1 ∨ o1 + s1 ≤ (y 1).val)) :
    put (s := ⟨2, ![n0, n1]⟩) x ![o0, o1] ![s0, s1] w y = x y := by
  rcases h with h | h
  · exact put_out (s := ⟨2, ![n0, n1]⟩) x ![o0, o1] ![s0, s1] w y 0 h
  · exact put_out (s := ⟨2, ![n0, n1]⟩) x ![o0, o1] ![s0, s1] w y 1 h

/-- Two halves side by side. -/
def two {α : Type} (a b : S512x256.Idx → α) : S512x512.Idx → α := fun y =>
  if h : (y 1).val < 256 then a (ix2 (y 0) ⟨(y 1).val, h⟩) else b (ix2 (y 0) ⟨(y 1).val - 256, by have := (y 1).isLt; change (y 1).val < 512 at this; omega⟩)

/-- The two half-width puts side by side cover the whole, so what was there before does not matter. -/
theorem put_put_two {α : Type} (x : S512x512.Idx → α) (a b : S512x256.Idx → α) :
    put (s := S512x512) (put (s := S512x512) x ![0, 0] ![512, 256] a) ![0, 256] ![512, 256] b = two a b := by
  funext y
  have h1 : (y 1).val < 512 := (y 1).isLt
  unfold two
  by_cases h : (y 1).val < 256
  · rw [dif_pos h, put_out2 _ 0 256 512 256 _ y (Or.inr (Or.inl h))]
    exact put_in2 _ 0 0 512 256 a y (y 0) ⟨(y 1).val, h⟩ (Nat.zero_add _).symm (Nat.zero_add _).symm
  · rw [dif_neg h]
    exact put_in2 _ 0 256 512 256 b y (y 0) ⟨(y 1).val - 256, by omega⟩ (Nat.zero_add _).symm (by show (y 1).val = 256 + ((y 1).val - 256); omega)

section Slabs
variable {α : Type}
theorem slab_1_0 (x : S8x128x128.Idx → α) (w : ((a : Fin 3) → Fin ((![1, 128, 128] : Fin 3 → ℕ) a)) → α) (inb) : window (s := S8x128x128) (put (s := S8x128x128) x ![0, 0, 0] ![1, 128, 128] w) ![1, 0, 0] ![1, 128, 128] inb = window (s := S8x128x128) x ![1, 0, 0] ![1, 128, 128] inb :=
  window_put_of_disjoint _ _ _ _ _ _ _ 0 (by decide)
theorem slab_2_1 (x : S8x128x128.Idx → α) (w : ((a : Fin 3) → Fin ((![1, 128, 128] : Fin 3 → ℕ) a)) → α) (inb) : window (s := S8x128x128) (put (s := S8x128x128) x ![1, 0, 0] ![1, 128, 128] w) ![2, 0, 0] ![1, 128, 128] inb = window (s := S8x128x128) x ![2, 0, 0] ![1, 128, 128] inb :=
  window_put_of_disjoint _ _ _ _ _ _ _ 0 (by decide)
theorem slab_4_3 (x : S8x128x128.Idx → α) (w : ((a : Fin 3) → Fin ((![1, 128, 128] : Fin 3 → ℕ) a)) → α) (inb) : window (s := S8x128x128) (put (s := S8x128x128) x ![3, 0, 0] ![1, 128, 128] w) ![4, 0, 0] ![1, 128, 128] inb = window (s := S8x128x128) x ![4, 0, 0] ![1, 128, 128] inb :=
  window_put_of_disjoint _ _ _ _ _ _ _ 0 (by decide)
theorem slab_5_4 (x : S8x128x128.Idx → α) (w : ((a : Fin 3) → Fin ((![1, 128, 128] : Fin 3 → ℕ) a)) → α) (inb) : window (s := S8x128x128) (put (s := S8x128x128) x ![4, 0, 0] ![1, 128, 128] w) ![5, 0, 0] ![1, 128, 128] inb = window (s := S8x128x128) x ![5, 0, 0] ![1, 128, 128] inb :=
  window_put_of_disjoint _ _ _ _ _ _ _ 0 (by decide)
theorem slab_6_5 (x : S8x128x128.Idx → α) (w : ((a : Fin 3) → Fin ((![1, 128, 128] : Fin 3 → ℕ) a)) → α) (inb) : window (s := S8x128x128) (put (s := S8x128x128) x ![5, 0, 0] ![1, 128, 128] w) ![6, 0, 0] ![1, 128, 128] inb = window (s := S8x128x128) x ![6, 0, 0] ![1, 128, 128] inb :=
  window_put_of_disjoint _ _ _ _ _ _ _ 0 (by decide)
theorem slab_6_4 (x : S8x128x128.Idx → α) (w : ((a : Fin 3) → Fin ((![1, 128, 128] : Fin 3 → ℕ) a)) → α) (inb) : window (s := S8x128x128) (put (s := S8x128x128) x ![4, 0, 0] ![1, 128, 128] w) ![6, 0, 0] ![1, 128, 128] inb = window (s := S8x128x128) x ![6, 0, 0] ![1, 128, 128] inb :=
  window_put_of_disjoint _ _ _ _ _ _ _ 0 (by decide)
theorem slab_7_6 (x : S8x128x128.Idx → α) (w : ((a : Fin 3) → Fin ((![1, 128, 128] : Fin 3 → ℕ) a)) → α) (inb) : window (s := S8x128x128) (put (s := S8x128x128) x ![6, 0, 0] ![1, 128, 128] w) ![7, 0, 0] ![1, 128, 128] inb = window (s := S8x128x128) x ![7, 0, 0] ![1, 128, 128] inb :=
  window_put_of_disjoint _ _ _ _ _ _ _ 0 (by decide)
end Slabs

section Parts

variable (c : Dev nD) (i : grid0.Coords)
variable (arg1 : Memref sig .tc .vmem S512x1024 .f32) (harg1 : arg1.IsWhole)
variable (arg2 : Memref sig .tc .vmem S512x2048 .f32) (harg2 : arg2.IsWhole)
variable (arg3 : Memref sig .tc .vmem S512x512 .f32) (harg3 : arg3.IsWhole)
variable (arg4 : Memref sig .tc .vmem S512x512 .f32) (harg4 : arg4.IsWhole)
variable (arg5 : Memref sig .tc .vmem S1x1024 .f32) (harg5 : arg5.IsWhole)
variable (arg6 : Memref sig .tc .vmem S1024x1024 .bf16) (harg6 : arg6.IsWhole)
variable (arg7 : Memref sig .tc .vmem S8x128x128 .bf16) (harg7 : arg7.IsWhole)
variable (arg8 : Memref sig .tc .vmem S512x2048 .bf16) (harg8 : arg8.IsWhole)
variable (arg9 : Memref sig .tc .vmem S512x512 .f32) (harg9 : arg9.IsWhole)
variable (arg10 : Memref sig .tc .vmem S1024x1024 .bf16) (harg10 : arg10.IsWhole)
variable (arg11 : Memref sig .tc .vmem S8x1024 .f32) (harg11 : arg11.IsWhole)
variable (arg12 : Memref sig .tc .vmem S8x128x128 .f32) (harg12 : arg12.IsWhole)
variable (arg13 : Memref sig .tc .vmem S128x512 .f32) (harg13 : arg13.IsWhole)
variable (arg14 : Memref sig .tc .vmem S1024x1024 .f32) (harg14 : arg14.IsWhole)
variable (arg15 : Memref sig .tc .vmem S512x1024 .bf16) (harg15 : arg15.IsWhole)
variable (arg16 : Memref sig .tc .vmem S512x1024 .f32) (harg16 : arg16.IsWhole)
variable (arg17 : Memref sig .tc .vmem S512x512 .f32) (harg17 : arg17.IsWhole)
variable (arg18 : Memref sig .tc .vmem S512x512 .f32) (harg18 : arg18.IsWhole)
variable (arg19 : Memref sig .tc .vmem S512x512 .bf16) (harg19 : arg19.IsWhole)
variable (arg20 : Memref sig .tc .vmem S512x512 .bf16) (harg20 : arg20.IsWhole)
variable (arg21 : Memref sig .tc .vmem S512x512 .f32) (harg21 : arg21.IsWhole)

set_option maxHeartbeats 1000000 in
/-- The normalised values and their scales are stored, then the first loop runs. -/
theorem part5_run (x1 : Vec F S512x2048 .f32) (x3 : Vec F S512x512 .f32) (dy : Vec F S512x1024 .f32) (d8 : Vec F S512x2048 .bf16) (d13 : Vec F S128x512 .f32) (d15 : Vec F S512x1024 .bf16) (d17 d18 : Vec F S512x512 .f32) (d19 d20 : Vec F S512x512 .bf16) (v13 : FVec F S256x256 .bf16) (v69 v70 : FVec F S512x256 .f32) (E : Set ℕ) (K : _ → sProp 𝕄) :
    iprop(held c harg2 (x1) ∗ held c harg4 (x3) ∗ held c harg16 (dy) ∗ held c harg8 (d8) ∗ held c harg13 (d13) ∗ held c harg15 (d15) ∗ held c harg17 (d17) ∗ held c harg18 (d18) ∗ held c harg19 (d19) ∗ held c harg20 (d20) ∗ (iprop(held c harg2 (x1) ∗ held c harg4 (x3) ∗ held c harg16 (dy) ∗ held c harg8 (trips k0_t1_loop.trips (step8 x1 x3 dy) d8 k0_t1_loop.trips) ∗ held c harg13 (trips k0_t1_loop.trips (step13 x1 dy) d13 k0_t1_loop.trips) ∗ held c harg15 (trips k0_t1_loop.trips (step15 x1 x3) d15 k0_t1_loop.trips) ∗ held c harg17 (two (k0_pay30 v70) (k0_pay35 v13 (window x1 ![0, 1280] S512x256.size inb_S512x2048_S512x256_0_1280))) ∗ held c harg18 (two (k0_pay31 v69) (k0_pay36 v13 (window x1 ![0, 1280] S512x256.size inb_S512x2048_S512x256_0_1280))) ∗ held c harg19 (two (k0_pay32 v70) (k0_pay37 v13 (window x1 ![0, 1280] S512x256.size inb_S512x2048_S512x256_0_1280))) ∗ held c harg20 (trips k0_t1_loop.trips (step20 x1 dy) d20 k0_t1_loop.trips)) -∗ K ⟨⟩))
      ⊢ wp frame (wpE (defs₀ (F := F)) Variants.none (c : Thread nD τ) none) E (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v13 v69 v70) K := by
  simp only [k0_part5_eq_skeleton]; unfold k0_part5_skel
  iintro ⟨H2, H4, H16, H8, H13, H15, H17, H18, H19, H20, Hk⟩
  sl_exec
  rw [wp_bind]
  simp only [read_writes_put, readAt_win, Memref.IsWhole.read_unread, View.writes_nil, whole_1, whole_2, whole_3, whole_4, whole_5, whole_6, whole_7, over_1, over_2, over_3, over_4, over_5, over_6, over_7]
  iapply (loop1_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x3 dy d8 d13 d15 d20 v13 v69 v70)
  isplitl [H2]; · iexact H2
  isplitl [H4]; · iexact H4
  isplitl [H16]; · iexact H16
  isplitl [H8]; · iexact H8
  isplitl [H13]; · iexact H13
  isplitl [H15]; · iexact H15
  isplitl [H20]; · iexact H20
  iintro ⟨H2, H4, H16, H8, H13, H15, H20⟩
  sl_step
  iapply Hk
  isplitl [H2]
  · iexact H2
  isplitl [H4]
  · iexact H4
  isplitl [H16]
  · iexact H16
  isplitl [H8]
  · iexact H8
  isplitl [H13]
  · iexact H13
  isplitl [H15]
  · iexact H15
  isplitl [H17]
  · iapply (pointsTo_unread c harg17 ?_)
    on_goal 2 => iexact H17
    try delta part5_run.sl.H17_2
    try delta part5_run.sl.H18_2
    try delta part5_run.sl.H19_2
    simp only [read_writes_put, readAt_win, Memref.IsWhole.read_unread, View.writes_nil, whole_1, whole_2, whole_3, whole_4, whole_5, whole_6, whole_7, over_1, over_2, over_3, over_4, over_5, over_6, over_7, put_put_two]
  isplitl [H18]
  · iapply (pointsTo_unread c harg18 ?_)
    on_goal 2 => iexact H18
    try delta part5_run.sl.H17_2
    try delta part5_run.sl.H18_2
    try delta part5_run.sl.H19_2
    simp only [read_writes_put, readAt_win, Memref.IsWhole.read_unread, View.writes_nil, whole_1, whole_2, whole_3, whole_4, whole_5, whole_6, whole_7, over_1, over_2, over_3, over_4, over_5, over_6, over_7, put_put_two]
  isplitl [H19]
  · iapply (pointsTo_unread c harg19 ?_)
    on_goal 2 => iexact H19
    try delta part5_run.sl.H17_2
    try delta part5_run.sl.H18_2
    try delta part5_run.sl.H19_2
    simp only [read_writes_put, readAt_win, Memref.IsWhole.read_unread, View.writes_nil, whole_1, whole_2, whole_3, whole_4, whole_5, whole_6, whole_7, over_1, over_2, over_3, over_4, over_5, over_6, over_7, put_put_two]
  · iexact H20

set_option maxHeartbeats 1000000 in
/-- The second loop, then the first group's weight gradient. -/
theorem part6_run (v16 : IVec S128x128 1) (x6 : Vec F S8x128x128 .bf16) (ds vn : Vec F S512x512 .bf16) (d21 : Vec F S512x512 .f32) (x12 : Vec F S8x128x128 .f32) (E : Set ℕ) (K : _ → sProp 𝕄) :
    iprop(held c harg7 (x6) ∗ held c harg20 (ds) ∗ held c harg21 (d21) ∗ held c harg19 (vn) ∗ held c harg12 (x12) ∗ (iprop(held c harg7 (x6) ∗ held c harg20 (ds) ∗ held c harg21 (trips k0_t2_loop.trips (step21 v16 x6 ds) d21 k0_t2_loop.trips) ∗ held c harg19 (vn) ∗ held c harg12 (put x12 ![0, 0, 0] S1x128x128.size (k0_pay44 v16 (window ds ![0, 0] S128x128.size inb_S512x512_S128x128_0_0) (window ds ![128, 0] S128x128.size inb_S512x512_S128x128_128_0) (window ds ![256, 0] S128x128.size inb_S512x512_S128x128_256_0) (window ds ![384, 0] S128x128.size inb_S512x512_S128x128_384_0) (window vn ![0, 0] S128x128.size inb_S512x512_S128x128_0_0) (window vn ![128, 0] S128x128.size inb_S512x512_S128x128_128_0) (window vn ![256, 0] S128x128.size inb_S512x512_S128x128_256_0) (window vn ![384, 0] S128x128.size inb_S512x512_S128x128_384_0) (window x12 ![0, 0, 0] S1x128x128.size inb_S8x128x128_S1x128x128_0_0_0)))) -∗ K ⟨k0_pay42 (F := F), (window ds ![128, 0] S128x128.size inb_S512x512_S128x128_128_0), (window ds ![256, 0] S128x128.size inb_S512x512_S128x128_256_0), (window ds ![384, 0] S128x128.size inb_S512x512_S128x128_384_0), k0_pay43 (window vn ![0, 0] S128x128.size inb_S512x512_S128x128_0_0) (window vn ![128, 0] S128x128.size inb_S512x512_S128x128_128_0) (window vn ![256, 0] S128x128.size inb_S512x512_S128x128_256_0) (window vn ![384, 0] S128x128.size inb_S512x512_S128x128_384_0), k0_pay45 (window x12 ![1, 0, 0] S1x128x128.size inb_S8x128x128_S1x128x128_1_0_0), k0_pay46 v16 (window ds ![0, 0] S128x128.size inb_S512x512_S128x128_0_0)⟩))
      ⊢ wp frame (wpE (defs₀ (F := F)) Variants.none (c : Thread nD τ) none) E (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v16) K := by
  simp only [k0_part6_eq_skeleton]; unfold k0_part6_skel
  unfold held
  iintro ⟨H7, H20, H21, H19, H12, Hk⟩
  rw [wp_bind]
  iapply (loop2_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v16 x6 ds d21)
  isplitl [H7]; · iexact H7
  isplitl [H20]; · iexact H20
  isplitl [H21]; · iexact H21
  iintro ⟨H7, H20, H21⟩
  sl_exec
  sl_step
  try delta part6_run.sl.v130
  simp only [read_writes_put, readAt_win, Memref.IsWhole.read_unread, View.writes_nil, whole_1, whole_2, whole_3, whole_4, whole_5, whole_6, whole_7, over_1, over_2, over_3, over_4, over_5, over_6, over_7, slab_1_0, slab_2_1, slab_4_3, slab_5_4, slab_6_5, slab_6_4, slab_7_6]
  iapply Hk
  isplitl [H7]
  · iexact H7
  isplitl [H20]
  · iexact H20
  isplitl [H21]
  · iapply (pointsTo_unread c harg21 ?_)
    on_goal 2 => iexact H21
    simp only [read_writes_put, readAt_win, Memref.IsWhole.read_unread, View.writes_nil, whole_1, whole_2, whole_3, whole_4, whole_5, whole_6, whole_7, over_1, over_2, over_3, over_4, over_5, over_6, over_7, slab_1_0, slab_2_1, slab_4_3, slab_5_4, slab_6_5, slab_6_4, slab_7_6]
  isplitl [H19]
  · iexact H19
  iapply (pointsTo_unread c harg12 ?_)
  on_goal 2 => iexact H12
  simp only [read_writes_put, readAt_win, Memref.IsWhole.read_unread, View.writes_nil, whole_1, whole_2, whole_3, whole_4, whole_5, whole_6, whole_7, over_1, over_2, over_3, over_4, over_5, over_6, over_7, slab_1_0, slab_2_1, slab_4_3, slab_5_4, slab_6_5, slab_6_4, slab_7_6]

set_option maxHeartbeats 1000000 in
/-- The second and third groups' weight gradients. -/
theorem part7_run (ds vn : Vec F S512x512 .bf16) (x12 : Vec F S8x128x128 .f32) (v16 : IVec S128x128 1) (v108 : FVec F S128x128 .bf16) (v110 v111 v112 : Vec F S128x128 .bf16) (v117 : FVec F S128x512 .bf16) (v131 : FVec F S128x128 .f32) (v132 : FVec F S128x128 .bf16) (E : Set ℕ) (K : _ → sProp 𝕄) :
    iprop(held c harg20 (ds) ∗ held c harg19 (vn) ∗ held c harg12 (x12) ∗ (iprop(held c harg20 (ds) ∗ held c harg19 (vn) ∗ held c harg12 (put (put (x12) ![1, 0, 0] S1x128x128.size (k0_pay47 v16 v108 v110 v111 v112 v117 v131 v132)) ![2, 0, 0] S1x128x128.size (k0_pay49 v16 v108 (window ds ![0, 128] S128x128.size inb_S512x512_S128x128_0_128) (window ds ![128, 128] S128x128.size inb_S512x512_S128x128_128_128) (window ds ![256, 128] S128x128.size inb_S512x512_S128x128_256_128) (window ds ![384, 128] S128x128.size inb_S512x512_S128x128_384_128) (window vn ![0, 128] S128x128.size inb_S512x512_S128x128_0_128) (window vn ![128, 128] S128x128.size inb_S512x512_S128x128_128_128) (window vn ![256, 128] S128x128.size inb_S512x512_S128x128_256_128) (window vn ![384, 128] S128x128.size inb_S512x512_S128x128_384_128) (window x12 ![2, 0, 0] S1x128x128.size inb_S8x128x128_S1x128x128_2_0_0)))) -∗ K ⟨(window ds ![0, 128] S128x128.size inb_S512x512_S128x128_0_128), (window ds ![128, 128] S128x128.size inb_S512x512_S128x128_128_128), (window ds ![256, 128] S128x128.size inb_S512x512_S128x128_256_128), (window ds ![384, 128] S128x128.size inb_S512x512_S128x128_384_128), k0_pay48 (window vn ![0, 128] S128x128.size inb_S512x512_S128x128_0_128) (window vn ![128, 128] S128x128.size inb_S512x512_S128x128_128_128) (window vn ![256, 128] S128x128.size inb_S512x512_S128x128_256_128) (window vn ![384, 128] S128x128.size inb_S512x512_S128x128_384_128)⟩))
      ⊢ wp frame (wpE (defs₀ (F := F)) Variants.none (c : Thread nD τ) none) E (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v16 v108 v110 v111 v112 v117 v131 v132) K := by
  simp only [k0_part7_eq_skeleton]; unfold k0_part7_skel
  unfold held
  iintro ⟨H20, H19, H12, Hk⟩
  sl_exec
  sl_step
  try delta part7_run.sl.v151
  simp only [read_writes_put, readAt_win, Memref.IsWhole.read_unread, View.writes_nil, whole_1, whole_2, whole_3, whole_4, whole_5, whole_6, whole_7, over_1, over_2, over_3, over_4, over_5, over_6, over_7, slab_1_0, slab_2_1, slab_4_3, slab_5_4, slab_6_5, slab_6_4, slab_7_6]
  iapply Hk
  isplitl [H20]
  · iexact H20
  isplitl [H19]
  · iexact H19
  iapply (pointsTo_unread c harg12 ?_)
  on_goal 2 => iexact H12
  simp only [read_writes_put, readAt_win, Memref.IsWhole.read_unread, View.writes_nil, whole_1, whole_2, whole_3, whole_4, whole_5, whole_6, whole_7, over_1, over_2, over_3, over_4, over_5, over_6, over_7, slab_1_0, slab_2_1, slab_4_3, slab_5_4, slab_6_5, slab_6_4, slab_7_6]

set_option maxHeartbeats 1000000 in
/-- The fourth group's weight gradient, and the fifth's product. -/
theorem part8_run (ds vn : Vec F S512x512 .bf16) (x12 : Vec F S8x128x128 .f32) (v16 : IVec S128x128 1) (v108 : FVec F S128x128 .bf16) (v142 v143 v144 v145 : Vec F S128x128 .bf16) (v150 : FVec F S128x512 .bf16) (E : Set ℕ) (K : _ → sProp 𝕄) :
    iprop(held c harg20 (ds) ∗ held c harg19 (vn) ∗ held c harg12 (x12) ∗ (iprop(held c harg20 (ds) ∗ held c harg19 (vn) ∗ held c harg12 (put (x12) ![3, 0, 0] S1x128x128.size (k0_pay50 v16 v108 v142 v143 v144 v145 v150 (window x12 ![3, 0, 0] S1x128x128.size inb_S8x128x128_S1x128x128_3_0_0)))) -∗ K ⟨(window ds ![0, 256] S128x128.size inb_S512x512_S128x128_0_256), (window ds ![128, 256] S128x128.size inb_S512x512_S128x128_128_256), (window ds ![256, 256] S128x128.size inb_S512x512_S128x128_256_256), (window ds ![384, 256] S128x128.size inb_S512x512_S128x128_384_256), k0_pay51 (window vn ![0, 256] S128x128.size inb_S512x512_S128x128_0_256) (window vn ![128, 256] S128x128.size inb_S512x512_S128x128_128_256) (window vn ![256, 256] S128x128.size inb_S512x512_S128x128_256_256) (window vn ![384, 256] S128x128.size inb_S512x512_S128x128_384_256), k0_pay52 v16 v108 (window ds ![0, 256] S128x128.size inb_S512x512_S128x128_0_256) (window ds ![128, 256] S128x128.size inb_S512x512_S128x128_128_256) (window ds ![256, 256] S128x128.size inb_S512x512_S128x128_256_256) (window ds ![384, 256] S128x128.size inb_S512x512_S128x128_384_256) (window vn ![0, 256] S128x128.size inb_S512x512_S128x128_0_256) (window vn ![128, 256] S128x128.size inb_S512x512_S128x128_128_256) (window vn ![256, 256] S128x128.size inb_S512x512_S128x128_256_256) (window vn ![384, 256] S128x128.size inb_S512x512_S128x128_384_256) (window x12 ![4, 0, 0] S1x128x128.size inb_S8x128x128_S1x128x128_4_0_0)⟩))
      ⊢ wp frame (wpE (defs₀ (F := F)) Variants.none (c : Thread nD τ) none) E (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v16 v108 v142 v143 v144 v145 v150) K := by
  simp only [k0_part8_eq_skeleton]; unfold k0_part8_skel
  unfold held
  iintro ⟨H20, H19, H12, Hk⟩
  sl_exec
  sl_step
  try delta part8_run.sl.v184
  simp only [read_writes_put, readAt_win, Memref.IsWhole.read_unread, View.writes_nil, whole_1, whole_2, whole_3, whole_4, whole_5, whole_6, whole_7, over_1, over_2, over_3, over_4, over_5, over_6, over_7, slab_1_0, slab_2_1, slab_4_3, slab_5_4, slab_6_5, slab_6_4, slab_7_6]
  iapply Hk
  isplitl [H20]
  · iexact H20
  isplitl [H19]
  · iexact H19
  iapply (pointsTo_unread c harg12 ?_)
  on_goal 2 => iexact H12
  simp only [read_writes_put, readAt_win, Memref.IsWhole.read_unread, View.writes_nil, whole_1, whole_2, whole_3, whole_4, whole_5, whole_6, whole_7, over_1, over_2, over_3, over_4, over_5, over_6, over_7, slab_1_0, slab_2_1, slab_4_3, slab_5_4, slab_6_5, slab_6_4, slab_7_6]

set_option maxHeartbeats 1000000 in
/-- The fifth and sixth groups' weight gradients. -/
theorem part9_run (ds vn : Vec F S512x512 .bf16) (x12 : Vec F S8x128x128 .f32) (v16 : IVec S128x128 1) (v108 : FVec F S128x128 .bf16) (v175 v176 v177 v178 : Vec F S128x128 .bf16) (v183 : FVec F S128x512 .bf16) (v192 : FVec F S128x128 .f32) (E : Set ℕ) (K : _ → sProp 𝕄) :
    iprop(held c harg20 (ds) ∗ held c harg19 (vn) ∗ held c harg12 (x12) ∗ (iprop(held c harg20 (ds) ∗ held c harg19 (vn) ∗ held c harg12 (put (put (x12) ![4, 0, 0] S1x128x128.size (k0_pay53 v192)) ![5, 0, 0] S1x128x128.size (k0_pay54 v16 v108 v175 v176 v177 v178 v183 (window x12 ![5, 0, 0] S1x128x128.size inb_S8x128x128_S1x128x128_5_0_0)))) -∗ K ⟨(window ds ![0, 384] S128x128.size inb_S512x512_S128x128_0_384), (window ds ![128, 384] S128x128.size inb_S512x512_S128x128_128_384), (window ds ![256, 384] S128x128.size inb_S512x512_S128x128_256_384), (window ds ![384, 384] S128x128.size inb_S512x512_S128x128_384_384), k0_pay55 (window vn ![0, 384] S128x128.size inb_S512x512_S128x128_0_384) (window vn ![128, 384] S128x128.size inb_S512x512_S128x128_128_384) (window vn ![256, 384] S128x128.size inb_S512x512_S128x128_256_384) (window vn ![384, 384] S128x128.size inb_S512x512_S128x128_384_384), k0_pay56 (window x12 ![6, 0, 0] S1x128x128.size inb_S8x128x128_S1x128x128_6_0_0), k0_pay57 v16 v108 (window ds ![0, 384] S128x128.size inb_S512x512_S128x128_0_384) (window ds ![128, 384] S128x128.size inb_S512x512_S128x128_128_384) (window ds ![256, 384] S128x128.size inb_S512x512_S128x128_256_384) (window ds ![384, 384] S128x128.size inb_S512x512_S128x128_384_384), constant S128x128 .f32 0x00000000#32⟩))
      ⊢ wp frame (wpE (defs₀ (F := F)) Variants.none (c : Thread nD τ) none) E (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v16 v108 v175 v176 v177 v178 v183 v192) K := by
  simp only [k0_part9_eq_skeleton]; unfold k0_part9_skel
  unfold held
  iintro ⟨H20, H19, H12, Hk⟩
  sl_exec
  sl_step
  try delta part9_run.sl.v196
  try delta part9_run.sl.v217
  try delta part9_run.sl.cst_157
  simp only [read_writes_put, readAt_win, Memref.IsWhole.read_unread, View.writes_nil, whole_1, whole_2, whole_3, whole_4, whole_5, whole_6, whole_7, over_1, over_2, over_3, over_4, over_5, over_6, over_7, slab_1_0, slab_2_1, slab_4_3, slab_5_4, slab_6_5, slab_6_4, slab_7_6]
  iapply Hk
  isplitl [H20]
  · iexact H20
  isplitl [H19]
  · iexact H19
  iapply (pointsTo_unread c harg12 ?_)
  on_goal 2 => iexact H12
  simp only [read_writes_put, readAt_win, Memref.IsWhole.read_unread, View.writes_nil, whole_1, whole_2, whole_3, whole_4, whole_5, whole_6, whole_7, over_1, over_2, over_3, over_4, over_5, over_6, over_7, slab_1_0, slab_2_1, slab_4_3, slab_5_4, slab_6_5, slab_6_4, slab_7_6]

set_option maxHeartbeats 1000000 in
/-- The last two groups' weight gradients, and the first half of the gradient of the value projection. -/
theorem part10_run (d8 : Vec F S512x2048 .bf16) (a17 a18 a21 : Vec F S512x512 .f32) (x12 : Vec F S8x128x128 .f32) (v13 : FVec F S256x256 .bf16) (v16 : IVec S128x128 1) (v108 : FVec F S128x128 .bf16) (v208 v209 v210 v211 : Vec F S128x128 .bf16) (v216 : FVec F S128x512 .bf16) (v218 : FVec F S128x128 .f32) (v223 : FVec F S128x512 .bf16) (z : FVec F S128x128 .f32) (E : Set ℕ) (K : _ → sProp 𝕄) :
    iprop(held c harg8 (d8) ∗ held c harg17 (a17) ∗ held c harg18 (a18) ∗ held c harg21 (a21) ∗ held c harg12 (x12) ∗ (iprop(held c harg8 (put d8 ![0, 1024] S512x256.size (k0_pay60 v13 (window a21 ![0, 0] S512x256.size inb_S512x512_S512x256_0_0) (window a17 ![0, 0] S512x256.size inb_S512x512_S512x256_0_0) (window a18 ![0, 0] S512x256.size inb_S512x512_S512x256_0_0))) ∗ held c harg17 (a17) ∗ held c harg18 (a18) ∗ held c harg21 (a21) ∗ held c harg12 (put (put (x12) ![6, 0, 0] S1x128x128.size (k0_pay58 v216 v218 v223 z)) ![7, 0, 0] S1x128x128.size (k0_pay59 v16 v108 v208 v209 v210 v211 v216 (window x12 ![7, 0, 0] S1x128x128.size inb_S8x128x128_S1x128x128_7_0_0)))) -∗ K ⟨⟩))
      ⊢ wp frame (wpE (defs₀ (F := F)) Variants.none (c : Thread nD τ) none) E (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v13 v16 v108 v208 v209 v210 v211 v216 v218 v223 z) K := by
  simp only [k0_part10_eq_skeleton]; unfold k0_part10_skel
  unfold held
  iintro ⟨H8, H17, H18, H21, H12, Hk⟩
  sl_exec
  sl_step
  try delta part10_run.sl.v229
  simp only [read_writes_put, readAt_win, Memref.IsWhole.read_unread, View.writes_nil, whole_1, whole_2, whole_3, whole_4, whole_5, whole_6, whole_7, over_1, over_2, over_3, over_4, over_5, over_6, over_7, slab_1_0, slab_2_1, slab_4_3, slab_5_4, slab_6_5, slab_6_4, slab_7_6]
  iapply Hk
  isplitl [H8]
  · iapply (pointsTo_unread c harg8 ?_)
    on_goal 2 => iexact H8
    simp only [read_writes_put, readAt_win, Memref.IsWhole.read_unread, View.writes_nil, whole_1, whole_2, whole_3, whole_4, whole_5, whole_6, whole_7, over_1, over_2, over_3, over_4, over_5, over_6, over_7, slab_1_0, slab_2_1, slab_4_3, slab_5_4, slab_6_5, slab_6_4, slab_7_6]
  isplitl [H17]
  · iexact H17
  isplitl [H18]
  · iexact H18
  isplitl [H21]
  · iexact H21
  iapply (pointsTo_unread c harg12 ?_)
  on_goal 2 => iexact H12
  simp only [read_writes_put, readAt_win, Memref.IsWhole.read_unread, View.writes_nil, whole_1, whole_2, whole_3, whole_4, whole_5, whole_6, whole_7, over_1, over_2, over_3, over_4, over_5, over_6, over_7, slab_1_0, slab_2_1, slab_4_3, slab_5_4, slab_6_5, slab_6_4, slab_7_6]

end Parts

end Cert.MixBwd

end
-- ==== Proof.Point.lean ====
module

public import proofs.«01_k».proof.Proof.Body3

@[expose] public section

set_option maxRecDepth 16384

noncomputable section

namespace Cert.MixBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow Idealize.ShloMosaic.Pointwise
open Cert.KernelIdeal Cert.KernelIdeal.Gen

variable {F : FTy → Type} [FloatOps F]

local notation "𝕄" => MT nD τ sig Unit (Elt F) ℕ (UR sig nD τ) ℕ

/-! ## What one grid point leaves, as functions of its blocks -/

/-- Contents nothing reads. -/
def base {s : Shape} {e : EltTy} : Vec F s e := fun _ => Classical.arbitrary (Elt F e)

/-- The attention branch's gate input. -/
abbrev gaV (x1 : Vec F S512x2048 .f32) : Vec F S512x512 .f32 := window x1 ![0, 0] S512x512.size inb_S512x2048_S512x512_0_0
/-- The two halves of the value projection. -/
abbrev vLo (x1 : Vec F S512x2048 .f32) : Vec F S512x256 .f32 := (window x1 ![0, 1024] S512x256.size inb_S512x2048_S512x256_0_1024)
abbrev vHi (x1 : Vec F S512x2048 .f32) : Vec F S512x256 .f32 := (window x1 ![0, 1280] S512x256.size inb_S512x2048_S512x256_0_1280)
/-- The attention branch's rows of the gradient behind the output projection. -/
abbrev dyA (dy : Vec F S512x1024 .f32) : Vec F S512x512 .f32 := window dy ![0, 0] S512x512.size inb_S512x1024_S512x512_0_0

/-- The gated values the output projection multiplies, over whatever was there. -/
def yOver (x1 : Vec F S512x2048 .f32) (x2 : Vec F S512x512 .f32) (x3 : Vec F S512x512 .f32) (d : Vec F S512x1024 .bf16) : Vec F S512x1024 .bf16 :=
  trips k0_t1_loop.trips (step15 x1 x3) (put d ![0, 0] S512x512.size (k0_pay25 (gaV x1) (k0_pay23 (gaV x1)) x2)) k0_t1_loop.trips
/-- The gated values the output projection multiplies. -/
def yV (x1 : Vec F S512x2048 .f32) (x2 : Vec F S512x512 .f32) (x3 : Vec F S512x512 .f32) : Vec F S512x1024 .bf16 := yOver x1 x2 x3 base
/-- The gradient of the attention output. -/
def doV (x1 : Vec F S512x2048 .f32) (dy : Vec F S512x1024 .f32) : Vec F S512x512 .f32 := k0_pay26 (gaV x1) (k0_pay23 (gaV x1)) (dyA dy)
/-- The normalised values, their scales, and the normalised values rounded. -/
def vnV (x1 : Vec F S512x2048 .f32) : Vec F S512x512 .f32 := two (k0_pay30 (k0_pay29 (k0_pay20 (F := F)) (vLo x1))) (k0_pay35 (k0_pay20 (F := F)) (vHi x1))
def rvV (x1 : Vec F S512x2048 .f32) : Vec F S512x512 .f32 := two (k0_pay31 (k0_pay28 (k0_pay20 (F := F)) (vLo x1))) (k0_pay36 (k0_pay20 (F := F)) (vHi x1))
def vnbV (x1 : Vec F S512x2048 .f32) : Vec F S512x512 .bf16 := two (k0_pay32 (k0_pay29 (k0_pay20 (F := F)) (vLo x1))) (k0_pay37 (k0_pay20 (F := F)) (vHi x1))
/-- The gradient of the spatial product, over whatever was there. -/
def dsOver (x1 : Vec F S512x2048 .f32) (dy : Vec F S512x1024 .f32) (d : Vec F S512x512 .bf16) : Vec F S512x512 .bf16 := trips k0_t1_loop.trips (step20 x1 dy) d k0_t1_loop.trips
/-- The gradient of the spatial product. -/
def dsV (x1 : Vec F S512x2048 .f32) (dy : Vec F S512x1024 .f32) : Vec F S512x512 .bf16 := dsOver x1 dy base
/-- The bias gradient after this point's rows. -/
def dbsV (x1 : Vec F S512x2048 .f32) (dy : Vec F S512x1024 .f32) (d : Vec F S128x512 .f32) : Vec F S128x512 .f32 := trips k0_t1_loop.trips (step13 x1 dy) d k0_t1_loop.trips
/-- The gradient of the normalised values, over whatever was there. -/
def dvnOver (x6 : Vec F S8x128x128 .bf16) (ds : Vec F S512x512 .bf16) (d : Vec F S512x512 .f32) : Vec F S512x512 .f32 := trips k0_t2_loop.trips (step21 k0_pay21 x6 ds) d k0_t2_loop.trips
/-- The gradient of the normalised values. -/
def dvnV (x6 : Vec F S8x128x128 .bf16) (ds : Vec F S512x512 .bf16) : Vec F S512x512 .f32 := dvnOver x6 ds base
/-- The weight gradients after part 6. -/
def dws6 (ds vn : Vec F S512x512 .bf16) (x : Vec F S8x128x128 .f32) : Vec F S8x128x128 .f32 :=
  put (x) ![0, 0, 0] S1x128x128.size (k0_pay44 k0_pay21 (window ds ![0, 0] S128x128.size inb_S512x512_S128x128_0_0) (window ds ![128, 0] S128x128.size inb_S512x512_S128x128_128_0) (window ds ![256, 0] S128x128.size inb_S512x512_S128x128_256_0) (window ds ![384, 0] S128x128.size inb_S512x512_S128x128_384_0) (window vn ![0, 0] S128x128.size inb_S512x512_S128x128_0_0) (window vn ![128, 0] S128x128.size inb_S512x512_S128x128_128_0) (window vn ![256, 0] S128x128.size inb_S512x512_S128x128_256_0) (window vn ![384, 0] S128x128.size inb_S512x512_S128x128_384_0) (window x ![0, 0, 0] S1x128x128.size inb_S8x128x128_S1x128x128_0_0_0))
/-- The weight gradients after part 7. `x` is what the part before found, `y` what this one does. -/
def dws7 (ds vn : Vec F S512x512 .bf16) (x y : Vec F S8x128x128 .f32) : Vec F S8x128x128 .f32 :=
  put (put (y) ![1, 0, 0] S1x128x128.size (k0_pay47 k0_pay21 (k0_pay42 (F := F)) (window ds ![128, 0] S128x128.size inb_S512x512_S128x128_128_0) (window ds ![256, 0] S128x128.size inb_S512x512_S128x128_256_0) (window ds ![384, 0] S128x128.size inb_S512x512_S128x128_384_0) (k0_pay43 (window vn ![0, 0] S128x128.size inb_S512x512_S128x128_0_0) (window vn ![128, 0] S128x128.size inb_S512x512_S128x128_128_0) (window vn ![256, 0] S128x128.size inb_S512x512_S128x128_256_0) (window vn ![384, 0] S128x128.size inb_S512x512_S128x128_384_0)) (k0_pay45 (window x ![1, 0, 0] S1x128x128.size inb_S8x128x128_S1x128x128_1_0_0)) (k0_pay46 k0_pay21 (window ds ![0, 0] S128x128.size inb_S512x512_S128x128_0_0)))) ![2, 0, 0] S1x128x128.size (k0_pay49 k0_pay21 (k0_pay42 (F := F)) (window ds ![0, 128] S128x128.size inb_S512x512_S128x128_0_128) (window ds ![128, 128] S128x128.size inb_S512x512_S128x128_128_128) (window ds ![256, 128] S128x128.size inb_S512x512_S128x128_256_128) (window ds ![384, 128] S128x128.size inb_S512x512_S128x128_384_128) (window vn ![0, 128] S128x128.size inb_S512x512_S128x128_0_128) (window vn ![128, 128] S128x128.size inb_S512x512_S128x128_128_128) (window vn ![256, 128] S128x128.size inb_S512x512_S128x128_256_128) (window vn ![384, 128] S128x128.size inb_S512x512_S128x128_384_128) (window y ![2, 0, 0] S1x128x128.size inb_S8x128x128_S1x128x128_2_0_0))
/-- The weight gradients after part 8. -/
def dws8 (ds vn : Vec F S512x512 .bf16) (x : Vec F S8x128x128 .f32) : Vec F S8x128x128 .f32 :=
  put (x) ![3, 0, 0] S1x128x128.size (k0_pay50 k0_pay21 (k0_pay42 (F := F)) (window ds ![0, 128] S128x128.size inb_S512x512_S128x128_0_128) (window ds ![128, 128] S128x128.size inb_S512x512_S128x128_128_128) (window ds ![256, 128] S128x128.size inb_S512x512_S128x128_256_128) (window ds ![384, 128] S128x128.size inb_S512x512_S128x128_384_128) (k0_pay48 (window vn ![0, 128] S128x128.size inb_S512x512_S128x128_0_128) (window vn ![128, 128] S128x128.size inb_S512x512_S128x128_128_128) (window vn ![256, 128] S128x128.size inb_S512x512_S128x128_256_128) (window vn ![384, 128] S128x128.size inb_S512x512_S128x128_384_128)) (window x ![3, 0, 0] S1x128x128.size inb_S8x128x128_S1x128x128_3_0_0))
/-- The weight gradients after part 9. `x` is what the part before found, `y` what this one does. -/
def dws9 (ds vn : Vec F S512x512 .bf16) (x y : Vec F S8x128x128 .f32) : Vec F S8x128x128 .f32 :=
  put (put (y) ![4, 0, 0] S1x128x128.size (k0_pay53 (k0_pay52 k0_pay21 (k0_pay42 (F := F)) (window ds ![0, 256] S128x128.size inb_S512x512_S128x128_0_256) (window ds ![128, 256] S128x128.size inb_S512x512_S128x128_128_256) (window ds ![256, 256] S128x128.size inb_S512x512_S128x128_256_256) (window ds ![384, 256] S128x128.size inb_S512x512_S128x128_384_256) (window vn ![0, 256] S128x128.size inb_S512x512_S128x128_0_256) (window vn ![128, 256] S128x128.size inb_S512x512_S128x128_128_256) (window vn ![256, 256] S128x128.size inb_S512x512_S128x128_256_256) (window vn ![384, 256] S128x128.size inb_S512x512_S128x128_384_256) (window x ![4, 0, 0] S1x128x128.size inb_S8x128x128_S1x128x128_4_0_0)))) ![5, 0, 0] S1x128x128.size (k0_pay54 k0_pay21 (k0_pay42 (F := F)) (window ds ![0, 256] S128x128.size inb_S512x512_S128x128_0_256) (window ds ![128, 256] S128x128.size inb_S512x512_S128x128_128_256) (window ds ![256, 256] S128x128.size inb_S512x512_S128x128_256_256) (window ds ![384, 256] S128x128.size inb_S512x512_S128x128_384_256) (k0_pay51 (window vn ![0, 256] S128x128.size inb_S512x512_S128x128_0_256) (window vn ![128, 256] S128x128.size inb_S512x512_S128x128_128_256) (window vn ![256, 256] S128x128.size inb_S512x512_S128x128_256_256) (window vn ![384, 256] S128x128.size inb_S512x512_S128x128_384_256)) (window y ![5, 0, 0] S1x128x128.size inb_S8x128x128_S1x128x128_5_0_0))
/-- The weight gradients after part 10. `x` is what the part before found, `y` what this one does. -/
def dws10 (ds vn : Vec F S512x512 .bf16) (x y : Vec F S8x128x128 .f32) : Vec F S8x128x128 .f32 :=
  put (put (y) ![6, 0, 0] S1x128x128.size (k0_pay58 (k0_pay55 (window vn ![0, 384] S128x128.size inb_S512x512_S128x128_0_384) (window vn ![128, 384] S128x128.size inb_S512x512_S128x128_128_384) (window vn ![256, 384] S128x128.size inb_S512x512_S128x128_256_384) (window vn ![384, 384] S128x128.size inb_S512x512_S128x128_384_384)) (k0_pay56 (window x ![6, 0, 0] S1x128x128.size inb_S8x128x128_S1x128x128_6_0_0)) (k0_pay57 k0_pay21 (k0_pay42 (F := F)) (window ds ![0, 384] S128x128.size inb_S512x512_S128x128_0_384) (window ds ![128, 384] S128x128.size inb_S512x512_S128x128_128_384) (window ds ![256, 384] S128x128.size inb_S512x512_S128x128_256_384) (window ds ![384, 384] S128x128.size inb_S512x512_S128x128_384_384)) (constant S128x128 .f32 0x00000000#32))) ![7, 0, 0] S1x128x128.size (k0_pay59 k0_pay21 (k0_pay42 (F := F)) (window ds ![0, 384] S128x128.size inb_S512x512_S128x128_0_384) (window ds ![128, 384] S128x128.size inb_S512x512_S128x128_128_384) (window ds ![256, 384] S128x128.size inb_S512x512_S128x128_256_384) (window ds ![384, 384] S128x128.size inb_S512x512_S128x128_384_384) (k0_pay55 (window vn ![0, 384] S128x128.size inb_S512x512_S128x128_0_384) (window vn ![128, 384] S128x128.size inb_S512x512_S128x128_128_384) (window vn ![256, 384] S128x128.size inb_S512x512_S128x128_256_384) (window vn ![384, 384] S128x128.size inb_S512x512_S128x128_384_384)) (window y ![7, 0, 0] S1x128x128.size inb_S8x128x128_S1x128x128_7_0_0))
/-- The weight gradients after this point's rows. -/
def dwsV (ds vn : Vec F S512x512 .bf16) (x : Vec F S8x128x128 .f32) : Vec F S8x128x128 .f32 :=
  dws10 ds vn (dws8 ds vn (dws7 ds vn x (dws6 ds vn x))) (dws9 ds vn (dws7 ds vn x (dws6 ds vn x)) (dws8 ds vn (dws7 ds vn x (dws6 ds vn x))))
theorem dwsV_eq (ds vn : Vec F S512x512 .bf16) (x : Vec F S8x128x128 .f32) :
    dwsV ds vn x =
      dws10 ds vn (dws8 ds vn (dws7 ds vn x (dws6 ds vn x))) (dws9 ds vn (dws7 ds vn x (dws6 ds vn x)) (dws8 ds vn (dws7 ds vn x (dws6 ds vn x)))) := rfl
/-- The gradient of the fused projection's output, over whatever was there. -/
def dpbOver (x1 : Vec F S512x2048 .f32) (x2 : Vec F S512x512 .f32) (x3 : Vec F S512x512 .f32) (dy : Vec F S512x1024 .f32) (dvn : Vec F S512x512 .f32) (d : Vec F S512x2048 .bf16) : Vec F S512x2048 .bf16 :=
  put (put (trips k0_t1_loop.trips (step8 x1 x3 dy) (put d ![0, 0] S512x512.size (k0_pay27 (gaV x1) (k0_pay23 (gaV x1)) x2 (dyA dy))) k0_t1_loop.trips)
    ![0, 1024] S512x256.size (k0_pay60 (k0_pay20 (F := F)) (window dvn ![0, 0] S512x256.size inb_S512x512_S512x256_0_0) (window (vnV x1) ![0, 0] S512x256.size inb_S512x512_S512x256_0_0) (window (rvV x1) ![0, 0] S512x256.size inb_S512x512_S512x256_0_0)))
    ![0, 1280] S512x256.size (k0_pay1 (k0_pay20 (F := F)) (window dvn ![0, 256] S512x256.size inb_S512x512_S512x256_0_256) (window (vnV x1) ![0, 256] S512x256.size inb_S512x512_S512x256_0_256) (window (rvV x1) ![0, 256] S512x256.size inb_S512x512_S512x256_0_256))
/-- The gradient of the fused projection's output. -/
def dpbV (x1 : Vec F S512x2048 .f32) (x2 : Vec F S512x512 .f32) (x3 : Vec F S512x512 .f32) (dy : Vec F S512x1024 .f32) (dvn : Vec F S512x512 .f32) : Vec F S512x2048 .bf16 := dpbOver x1 x2 x3 dy dvn base

/-! ## What was there before does not matter -/

theorem trips1 : k0_t1_loop.trips = 4 := by decide
theorem trips2 : k0_t2_loop.trips = 4 := by decide

/-- The row block a row lies in. -/
def blk1 (r : Fin 512) : Fin k0_t1_loop.trips := ⟨r.val / 128, by rw [trips1]; omega⟩
def blk2 (r : Fin 512) : Fin k0_t2_loop.trips := ⟨r.val / 128, by rw [trips2]; omega⟩
/-- The row within its block. -/
def rowIn (r : Fin 512) : Fin 128 := ⟨r.val % 128, Nat.mod_lt _ (by decide)⟩

/-- A loop of row-block puts at one column offset: at a column inside, the block's payload. -/
theorem rows_in {α : Type} {n1 m o s1 : ℕ} (hm : m = 4) (f : Fin m → ((⟨2, ![512, n1]⟩ : Shape).Idx → α) → (⟨2, ![512, n1]⟩ : Shape).Idx → α)
    (w : Fin m → (⟨2, ![128, s1]⟩ : Shape).Idx → α) (a : (⟨2, ![512, n1]⟩ : Shape).Idx → α) (r : Fin 512) (q : Fin n1) (b : Fin s1) (hq : q.val = o + b.val)
    (hf : ∀ k d r', f k d (ix2 r' q) = put (s := ⟨2, ![512, n1]⟩) d ![128 * k.val, o] ![128, s1] (w k) (ix2 r' q)) :
    trips m f a m (ix2 r q) = w ⟨r.val / 128, by omega⟩ (ix2 (rowIn r) b) := by
  refine trips_hit f a (ix2 r q) ⟨r.val / 128, by omega⟩ _ (fun d => ?_) (fun k d hk => ?_) m (by show r.val / 128 < m; omega)
  · rw [hf]
    exact put_in2 _ _ _ _ _ _ _ (rowIn r) b (by show r.val = 128 * (r.val / 128) + r.val % 128; omega) hq
  · rw [hf]
    refine put_out2 _ _ _ _ _ _ _ (Or.inl ?_)
    show r.val < 128 * k.val ∨ 128 * k.val + 128 ≤ r.val
    have : k.val ≠ r.val / 128 := fun h => hk (Fin.ext h)
    omega

/-- A loop that changes nothing at a column. -/
theorem rows_out {α : Type} {n1 m : ℕ} (f : Fin m → ((⟨2, ![512, n1]⟩ : Shape).Idx → α) → (⟨2, ![512, n1]⟩ : Shape).Idx → α)
    (a : (⟨2, ![512, n1]⟩ : Shape).Idx → α) (r : Fin 512) (q : Fin n1) (hf : ∀ k d, f k d (ix2 r q) = d (ix2 r q)) :
    trips m f a m (ix2 r q) = a (ix2 r q) :=
  trips_miss f a (ix2 r q) hf m

/-- The gated attention half. -/
theorem yOver_lo (x1 : Vec F S512x2048 .f32) (x2 : Vec F S512x512 .f32) (x3 : Vec F S512x512 .f32) (d : Vec F S512x1024 .bf16) (r : Fin 512) (q : Fin 1024) (hq : q.val < 512) :
    yOver x1 x2 x3 d (ix2 r q) = k0_pay25 (gaV x1) (k0_pay23 (gaV x1)) x2 (ix2 r ⟨q.val, hq⟩) := by
  unfold yOver
  refine (rows_out _ _ r q (fun k d' => ?_)).trans ?_
  · unfold step15; rw [k0_off4_eq]; exact put_out2 _ _ _ _ _ _ _ (Or.inr (Or.inl (by show q.val < 512; exact hq)))
  · exact put_in2 _ _ _ _ _ _ _ r ⟨q.val, hq⟩ (Nat.zero_add _).symm (Nat.zero_add _).symm

/-- The gated MLP half. -/
theorem yOver_hi (x1 : Vec F S512x2048 .f32) (x2 : Vec F S512x512 .f32) (x3 : Vec F S512x512 .f32) (d : Vec F S512x1024 .bf16) (r : Fin 512) (q : Fin 1024) (b : Fin 512) (hq : q.val = 512 + b.val) :
    yOver x1 x2 x3 d (ix2 r q) = k0_pay9 (window x3 (k0_off1 (blk1 r)) S128x512.size (k0_off1_inb (blk1 r))) (window x1 (k0_off2 (blk1 r)) S128x512.size (k0_off2_inb (blk1 r))) (window x1 (k0_off3 (blk1 r)) S128x512.size (k0_off3_inb (blk1 r))) (ix2 (rowIn r) b) := by
  unfold yOver
  refine rows_in trips1 _ (fun k => k0_pay9 (window x3 (k0_off1 k) S128x512.size (k0_off1_inb k)) (window x1 (k0_off2 k) S128x512.size (k0_off2_inb k)) (window x1 (k0_off3 k) S128x512.size (k0_off3_inb k))) _ r q b hq (fun k d' r' => ?_)
  unfold step15; rw [k0_off4_eq]

theorem yOver_any (x1 : Vec F S512x2048 .f32) (x2 : Vec F S512x512 .f32) (x3 : Vec F S512x512 .f32) (d : Vec F S512x1024 .bf16) : yOver x1 x2 x3 d = yV x1 x2 x3 := by
  funext y
  obtain ⟨r, q, rfl⟩ : ∃ (r : Fin 512) (q : Fin 1024), y = ix2 r q := ⟨y 0, y 1, eq_ix2 y⟩
  unfold yV
  by_cases hq : q.val < 512
  · rw [yOver_lo _ _ _ _ _ _ hq, yOver_lo _ _ _ _ _ _ hq]
  · rw [yOver_hi _ _ _ _ _ _ ⟨q.val - 512, by omega⟩ (by show q.val = 512 + (q.val - 512); omega), yOver_hi _ _ _ _ _ _ ⟨q.val - 512, by omega⟩ (by show q.val = 512 + (q.val - 512); omega)]

theorem dsOver_at (x1 : Vec F S512x2048 .f32) (dy : Vec F S512x1024 .f32) (d : Vec F S512x512 .bf16) (r q : Fin 512) :
    dsOver x1 dy d (ix2 r q) = k0_pay38 (dsvBlk x1 dy (blk1 r)) (ix2 (rowIn r) q) := by
  unfold dsOver
  refine rows_in trips1 _ (fun k => k0_pay38 (dsvBlk x1 dy k)) _ r q q (Nat.zero_add _).symm (fun k d' r' => ?_)
  unfold step20; rw [k0_off1_eq]

theorem dsOver_any (x1 : Vec F S512x2048 .f32) (dy : Vec F S512x1024 .f32) (d : Vec F S512x512 .bf16) : dsOver x1 dy d = dsV x1 dy := by
  funext y
  obtain ⟨r, q, rfl⟩ : ∃ (r : Fin 512) (q : Fin 512), y = ix2 r q := ⟨y 0, y 1, eq_ix2 y⟩
  unfold dsV
  rw [dsOver_at, dsOver_at]

theorem dvnOver_at0 (x6 : Vec F S8x128x128 .bf16) (ds : Vec F S512x512 .bf16) (d : Vec F S512x512 .f32) (r q : Fin 512) (b : Fin 128) (hq : q.val = 0 + b.val) :
    dvnOver x6 ds d (ix2 r q) = k0_pay14 k0_pay21 (window ds (k0_off5 (blk2 r)) S128x128.size (k0_off5_inb (blk2 r))) (window x6 ![0, 0, 0] S1x128x128.size inb_S8x128x128_S1x128x128_0_0_0) (window x6 ![1, 0, 0] S1x128x128.size inb_S8x128x128_S1x128x128_1_0_0) (ix2 (rowIn r) b) := by
  unfold dvnOver
  refine rows_in trips2 _ (fun k => k0_pay14 k0_pay21 (window ds (k0_off5 k) S128x128.size (k0_off5_inb k)) (window x6 ![0, 0, 0] S1x128x128.size inb_S8x128x128_S1x128x128_0_0_0) (window x6 ![1, 0, 0] S1x128x128.size inb_S8x128x128_S1x128x128_1_0_0)) _ r q b hq (fun k d' r' => ?_)
  unfold step21
  simp only [k0_off5_eq, k0_off6_eq, k0_off7_eq, k0_off8_eq]
  refine (put_out2 _ _ _ _ _ _ _ (Or.inr (Or.inl (by show q.val < 384; have := b.isLt; omega)))).trans ?_
  refine (put_out2 _ _ _ _ _ _ _ (Or.inr (Or.inl (by show q.val < 256; have := b.isLt; omega)))).trans ?_
  refine (put_out2 _ _ _ _ _ _ _ (Or.inr (Or.inl (by show q.val < 128; have := b.isLt; omega)))).trans ?_
  rfl

theorem dvnOver_at1 (x6 : Vec F S8x128x128 .bf16) (ds : Vec F S512x512 .bf16) (d : Vec F S512x512 .f32) (r q : Fin 512) (b : Fin 128) (hq : q.val = 128 + b.val) :
    dvnOver x6 ds d (ix2 r q) = k0_pay15 k0_pay21 (window ds (k0_off6 (blk2 r)) S128x128.size (k0_off6_inb (blk2 r))) (window x6 ![2, 0, 0] S1x128x128.size inb_S8x128x128_S1x128x128_2_0_0) (window x6 ![3, 0, 0] S1x128x128.size inb_S8x128x128_S1x128x128_3_0_0) (ix2 (rowIn r) b) := by
  unfold dvnOver
  refine rows_in trips2 _ (fun k => k0_pay15 k0_pay21 (window ds (k0_off6 k) S128x128.size (k0_off6_inb k)) (window x6 ![2, 0, 0] S1x128x128.size inb_S8x128x128_S1x128x128_2_0_0) (window x6 ![3, 0, 0] S1x128x128.size inb_S8x128x128_S1x128x128_3_0_0)) _ r q b hq (fun k d' r' => ?_)
  unfold step21
  simp only [k0_off5_eq, k0_off6_eq, k0_off7_eq, k0_off8_eq]
  refine (put_out2 _ _ _ _ _ _ _ (Or.inr (Or.inl (by show q.val < 384; have := b.isLt; omega)))).trans ?_
  refine (put_out2 _ _ _ _ _ _ _ (Or.inr (Or.inl (by show q.val < 256; have := b.isLt; omega)))).trans ?_
  simp only [put]
  split
  · rfl
  · rename_i hno
    rw [dif_neg (fun hh => by have := (hh 1).2; change q.val < 0 + 128 at this; omega)]

theorem dvnOver_at2 (x6 : Vec F S8x128x128 .bf16) (ds : Vec F S512x512 .bf16) (d : Vec F S512x512 .f32) (r q : Fin 512) (b : Fin 128) (hq : q.val = 256 + b.val) :
    dvnOver x6 ds d (ix2 r q) = k0_pay40 k0_pay21 (window ds (k0_off7 (blk2 r)) S128x128.size (k0_off7_inb (blk2 r))) (k0_pay16 (window x6 ![4, 0, 0] S1x128x128.size inb_S8x128x128_S1x128x128_4_0_0)) (window x6 ![5, 0, 0] S1x128x128.size inb_S8x128x128_S1x128x128_5_0_0) (ix2 (rowIn r) b) := by
  unfold dvnOver
  refine rows_in trips2 _ (fun k => k0_pay40 k0_pay21 (window ds (k0_off7 k) S128x128.size (k0_off7_inb k)) (k0_pay16 (window x6 ![4, 0, 0] S1x128x128.size inb_S8x128x128_S1x128x128_4_0_0)) (window x6 ![5, 0, 0] S1x128x128.size inb_S8x128x128_S1x128x128_5_0_0)) _ r q b hq (fun k d' r' => ?_)
  unfold step21
  simp only [k0_off5_eq, k0_off6_eq, k0_off7_eq, k0_off8_eq]
  refine (put_out2 _ _ _ _ _ _ _ (Or.inr (Or.inl (by show q.val < 384; have := b.isLt; omega)))).trans ?_
  simp only [put]
  split
  · rfl
  · rename_i hno
    rw [dif_neg (fun hh => by have := (hh 1).2; change q.val < 128 + 128 at this; omega)]
    rw [dif_neg (fun hh => by have := (hh 1).2; change q.val < 0 + 128 at this; omega)]

theorem dvnOver_at3 (x6 : Vec F S8x128x128 .bf16) (ds : Vec F S512x512 .bf16) (d : Vec F S512x512 .f32) (r q : Fin 512) (b : Fin 128) (hq : q.val = 384 + b.val) :
    dvnOver x6 ds d (ix2 r q) = k0_pay41 k0_pay21 (window ds (k0_off8 (blk2 r)) S128x128.size (k0_off8_inb (blk2 r))) (window x6 ![6, 0, 0] S1x128x128.size inb_S8x128x128_S1x128x128_6_0_0) (window x6 ![7, 0, 0] S1x128x128.size inb_S8x128x128_S1x128x128_7_0_0) (ix2 (rowIn r) b) := by
  unfold dvnOver
  refine rows_in trips2 _ (fun k => k0_pay41 k0_pay21 (window ds (k0_off8 k) S128x128.size (k0_off8_inb k)) (window x6 ![6, 0, 0] S1x128x128.size inb_S8x128x128_S1x128x128_6_0_0) (window x6 ![7, 0, 0] S1x128x128.size inb_S8x128x128_S1x128x128_7_0_0)) _ r q b hq (fun k d' r' => ?_)
  unfold step21
  simp only [k0_off5_eq, k0_off6_eq, k0_off7_eq, k0_off8_eq]
  simp only [put]
  split
  · rfl
  · rename_i hno
    rw [dif_neg (fun hh => by have := (hh 1).2; change q.val < 256 + 128 at this; omega)]
    rw [dif_neg (fun hh => by have := (hh 1).2; change q.val < 128 + 128 at this; omega)]
    rw [dif_neg (fun hh => by have := (hh 1).2; change q.val < 0 + 128 at this; omega)]

theorem dvnOver_any (x6 : Vec F S8x128x128 .bf16) (ds : Vec F S512x512 .bf16) (d : Vec F S512x512 .f32) : dvnOver x6 ds d = dvnV x6 ds := by
  funext y
  obtain ⟨r, q, rfl⟩ : ∃ (r : Fin 512) (q : Fin 512), y = ix2 r q := ⟨y 0, y 1, eq_ix2 y⟩
  unfold dvnV
  have hq := q.isLt
  rcases (by omega : q.val < 128 ∨ (128 ≤ q.val ∧ q.val < 256) ∨ (256 ≤ q.val ∧ q.val < 384) ∨ 384 ≤ q.val) with h | h | h | h
  · rw [dvnOver_at0 _ _ _ _ _ ⟨q.val - 0, by omega⟩ (by show q.val = 0 + (q.val - 0); omega), dvnOver_at0 _ _ _ _ _ ⟨q.val - 0, by omega⟩ (by show q.val = 0 + (q.val - 0); omega)]
  · rw [dvnOver_at1 _ _ _ _ _ ⟨q.val - 128, by omega⟩ (by show q.val = 128 + (q.val - 128); omega), dvnOver_at1 _ _ _ _ _ ⟨q.val - 128, by omega⟩ (by show q.val = 128 + (q.val - 128); omega)]
  · rw [dvnOver_at2 _ _ _ _ _ ⟨q.val - 256, by omega⟩ (by show q.val = 256 + (q.val - 256); omega), dvnOver_at2 _ _ _ _ _ ⟨q.val - 256, by omega⟩ (by show q.val = 256 + (q.val - 256); omega)]
  · rw [dvnOver_at3 _ _ _ _ _ ⟨q.val - 384, by omega⟩ (by show q.val = 384 + (q.val - 384); omega), dvnOver_at3 _ _ _ _ _ ⟨q.val - 384, by omega⟩ (by show q.val = 384 + (q.val - 384); omega)]

/-- The attention gate's columns. -/
theorem dpbOver_a (x1 : Vec F S512x2048 .f32) (x2 : Vec F S512x512 .f32) (x3 : Vec F S512x512 .f32) (dy : Vec F S512x1024 .f32) (dvn : Vec F S512x512 .f32) (d : Vec F S512x2048 .bf16) (r : Fin 512) (q : Fin 2048) (hq : q.val < 512) :
    dpbOver x1 x2 x3 dy dvn d (ix2 r q) = k0_pay27 (gaV x1) (k0_pay23 (gaV x1)) x2 (dyA dy) (ix2 r ⟨q.val, hq⟩) := by
  unfold dpbOver
  refine (put_out2 _ _ _ _ _ _ _ (Or.inr (Or.inl (by show q.val < 1280; omega)))).trans ?_
  refine (put_out2 _ _ _ _ _ _ _ (Or.inr (Or.inl (by show q.val < 1024; omega)))).trans ?_
  refine (rows_out _ _ r q (fun k d' => ?_)).trans ?_
  · unfold step8; simp only [k0_off2_eq, k0_off3_eq]
    refine (put_out2 _ _ _ _ _ _ _ (Or.inr (Or.inl (by show q.val < 512; omega)))).trans ?_
    exact put_out2 _ _ _ _ _ _ _ (Or.inr (Or.inl (by show q.val < 1536; omega)))
  · exact put_in2 _ _ _ _ _ _ _ r ⟨q.val, hq⟩ (Nat.zero_add _).symm (Nat.zero_add _).symm

/-- The up projection's columns. -/
theorem dpbOver_u (x1 : Vec F S512x2048 .f32) (x2 : Vec F S512x512 .f32) (x3 : Vec F S512x512 .f32) (dy : Vec F S512x1024 .f32) (dvn : Vec F S512x512 .f32) (d : Vec F S512x2048 .bf16) (r : Fin 512) (q : Fin 2048) (b : Fin 512) (hq : q.val = 512 + b.val) :
    dpbOver x1 x2 x3 dy dvn d (ix2 r q) = k0_pay12 (window x3 (k0_off1 (blk1 r)) S128x512.size (k0_off1_inb (blk1 r))) (window x1 (k0_off3 (blk1 r)) S128x512.size (k0_off3_inb (blk1 r))) (window dy (k0_off4 (blk1 r)) S128x512.size (k0_off4_inb (blk1 r))) (ix2 (rowIn r) b) := by
  have hb := b.isLt
  unfold dpbOver
  refine (put_out2 _ _ _ _ _ _ _ (Or.inr (Or.inl (by show q.val < 1280; omega)))).trans ?_
  refine (put_out2 _ _ _ _ _ _ _ (Or.inr (Or.inl (by show q.val < 1024; omega)))).trans ?_
  refine rows_in trips1 _ (fun k => k0_pay12 (window x3 (k0_off1 k) S128x512.size (k0_off1_inb k)) (window x1 (k0_off3 k) S128x512.size (k0_off3_inb k)) (window dy (k0_off4 k) S128x512.size (k0_off4_inb k))) _ r q b hq (fun k d' r' => ?_)
  unfold step8; simp only [k0_off2_eq, k0_off3_eq]
  simp only [put]
  split
  · rfl
  · rw [dif_neg (fun hh => by have := (hh 1).1; change 1536 ≤ q.val at this; omega)]

/-- The MLP gate's columns. -/
theorem dpbOver_g (x1 : Vec F S512x2048 .f32) (x2 : Vec F S512x512 .f32) (x3 : Vec F S512x512 .f32) (dy : Vec F S512x1024 .f32) (dvn : Vec F S512x512 .f32) (d : Vec F S512x2048 .bf16) (r : Fin 512) (q : Fin 2048) (b : Fin 512) (hq : q.val = 1536 + b.val) :
    dpbOver x1 x2 x3 dy dvn d (ix2 r q) = k0_pay11 (window x3 (k0_off1 (blk1 r)) S128x512.size (k0_off1_inb (blk1 r))) (window x1 (k0_off2 (blk1 r)) S128x512.size (k0_off2_inb (blk1 r))) (window x1 (k0_off3 (blk1 r)) S128x512.size (k0_off3_inb (blk1 r))) (window dy (k0_off4 (blk1 r)) S128x512.size (k0_off4_inb (blk1 r))) (ix2 (rowIn r) b) := by
  have hb := b.isLt
  unfold dpbOver
  refine (put_out2 _ _ _ _ _ _ _ (Or.inr (Or.inr (by show 1280 + 256 ≤ q.val; omega)))).trans ?_
  refine (put_out2 _ _ _ _ _ _ _ (Or.inr (Or.inr (by show 1024 + 256 ≤ q.val; omega)))).trans ?_
  refine rows_in trips1 _ (fun k => k0_pay11 (window x3 (k0_off1 k) S128x512.size (k0_off1_inb k)) (window x1 (k0_off2 k) S128x512.size (k0_off2_inb k)) (window x1 (k0_off3 k) S128x512.size (k0_off3_inb k)) (window dy (k0_off4 k) S128x512.size (k0_off4_inb k))) _ r q b hq (fun k d' r' => ?_)
  unfold step8; simp only [k0_off2_eq, k0_off3_eq]
  exact put_out2 _ _ _ _ _ _ _ (Or.inr (Or.inr (by show 512 + 512 ≤ q.val; omega)))

/-- The value projection's columns, first half. -/
theorem dpbOver_v (x1 : Vec F S512x2048 .f32) (x2 : Vec F S512x512 .f32) (x3 : Vec F S512x512 .f32) (dy : Vec F S512x1024 .f32) (dvn : Vec F S512x512 .f32) (d : Vec F S512x2048 .bf16) (r : Fin 512) (q : Fin 2048) (b : Fin 256) (hq : q.val = 1024 + b.val) :
    dpbOver x1 x2 x3 dy dvn d (ix2 r q) = k0_pay60 (k0_pay20 (F := F)) (window dvn ![0, 0] S512x256.size inb_S512x512_S512x256_0_0) (window (vnV x1) ![0, 0] S512x256.size inb_S512x512_S512x256_0_0) (window (rvV x1) ![0, 0] S512x256.size inb_S512x512_S512x256_0_0) (ix2 r b) := by
  have hb := b.isLt
  unfold dpbOver
  refine (put_out2 _ _ _ _ _ _ _ (Or.inr (Or.inl (by show q.val < 1280; omega)))).trans ?_
  exact put_in2 _ _ _ _ _ _ _ r b (Nat.zero_add _).symm hq

/-- The value projection's columns, second half. -/
theorem dpbOver_w (x1 : Vec F S512x2048 .f32) (x2 : Vec F S512x512 .f32) (x3 : Vec F S512x512 .f32) (dy : Vec F S512x1024 .f32) (dvn : Vec F S512x512 .f32) (d : Vec F S512x2048 .bf16) (r : Fin 512) (q : Fin 2048) (b : Fin 256) (hq : q.val = 1280 + b.val) :
    dpbOver x1 x2 x3 dy dvn d (ix2 r q) = k0_pay1 (k0_pay20 (F := F)) (window dvn ![0, 256] S512x256.size inb_S512x512_S512x256_0_256) (window (vnV x1) ![0, 256] S512x256.size inb_S512x512_S512x256_0_256) (window (rvV x1) ![0, 256] S512x256.size inb_S512x512_S512x256_0_256) (ix2 r b) := by
  unfold dpbOver
  exact put_in2 _ _ _ _ _ _ _ r b (Nat.zero_add _).symm hq

theorem dpbOver_any (x1 : Vec F S512x2048 .f32) (x2 : Vec F S512x512 .f32) (x3 : Vec F S512x512 .f32) (dy : Vec F S512x1024 .f32) (dvn : Vec F S512x512 .f32) (d : Vec F S512x2048 .bf16) : dpbOver x1 x2 x3 dy dvn d = dpbV x1 x2 x3 dy dvn := by
  funext y
  obtain ⟨r, q, rfl⟩ : ∃ (r : Fin 512) (q : Fin 2048), y = ix2 r q := ⟨y 0, y 1, eq_ix2 y⟩
  unfold dpbV
  have hq := q.isLt
  rcases (by omega : q.val < 512 ∨ (512 ≤ q.val ∧ q.val < 1024) ∨ (1024 ≤ q.val ∧ q.val < 1280) ∨ (1280 ≤ q.val ∧ q.val < 1536) ∨ 1536 ≤ q.val) with h | h | h | h | h
  · rw [dpbOver_a _ _ _ _ _ _ _ _ h, dpbOver_a _ _ _ _ _ _ _ _ h]
  · rw [dpbOver_u _ _ _ _ _ _ _ _ ⟨q.val - 512, by omega⟩ (by show q.val = 512 + (q.val - 512); omega), dpbOver_u _ _ _ _ _ _ _ _ ⟨q.val - 512, by omega⟩ (by show q.val = 512 + (q.val - 512); omega)]
  · rw [dpbOver_v _ _ _ _ _ _ _ _ ⟨q.val - 1024, by omega⟩ (by show q.val = 1024 + (q.val - 1024); omega), dpbOver_v _ _ _ _ _ _ _ _ ⟨q.val - 1024, by omega⟩ (by show q.val = 1024 + (q.val - 1024); omega)]
  · rw [dpbOver_w _ _ _ _ _ _ _ _ ⟨q.val - 1280, by omega⟩ (by show q.val = 1280 + (q.val - 1280); omega), dpbOver_w _ _ _ _ _ _ _ _ ⟨q.val - 1280, by omega⟩ (by show q.val = 1280 + (q.val - 1280); omega)]
  · rw [dpbOver_g _ _ _ _ _ _ _ _ ⟨q.val - 1536, by omega⟩ (by show q.val = 1536 + (q.val - 1536); omega), dpbOver_g _ _ _ _ _ _ _ _ ⟨q.val - 1536, by omega⟩ (by show q.val = 1536 + (q.val - 1536); omega)]

end Cert.MixBwd

end
-- ==== Proof.Body.lean ====
module

public import proofs.«01_k».proof.Proof.Point

@[expose] public section

set_option maxRecDepth 16384

noncomputable section

namespace Cert.MixBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow Idealize.ShloMosaic.Pointwise
open Cert.KernelIdeal Cert.KernelIdeal.Gen

variable {F : FTy → Type} [FloatOps F]

local notation "𝕄" => MT nD τ sig Unit (Elt F) ℕ (UR sig nD τ) ℕ

section Body

variable (c : Dev nD) (i : grid0.Coords)
variable (arg1 : Memref sig .tc .vmem S512x1024 .f32) (harg1 : arg1.IsWhole)
variable (arg2 : Memref sig .tc .vmem S512x2048 .f32) (harg2 : arg2.IsWhole)
variable (arg3 : Memref sig .tc .vmem S512x512 .f32) (harg3 : arg3.IsWhole)
variable (arg4 : Memref sig .tc .vmem S512x512 .f32) (harg4 : arg4.IsWhole)
variable (arg5 : Memref sig .tc .vmem S1x1024 .f32) (harg5 : arg5.IsWhole)
variable (arg6 : Memref sig .tc .vmem S1024x1024 .bf16) (harg6 : arg6.IsWhole)
variable (arg7 : Memref sig .tc .vmem S8x128x128 .bf16) (harg7 : arg7.IsWhole)
variable (arg8 : Memref sig .tc .vmem S512x2048 .bf16) (harg8 : arg8.IsWhole)
variable (arg9 : Memref sig .tc .vmem S512x512 .f32) (harg9 : arg9.IsWhole)
variable (arg10 : Memref sig .tc .vmem S1024x1024 .bf16) (harg10 : arg10.IsWhole)
variable (arg11 : Memref sig .tc .vmem S8x1024 .f32) (harg11 : arg11.IsWhole)
variable (arg12 : Memref sig .tc .vmem S8x128x128 .f32) (harg12 : arg12.IsWhole)
variable (arg13 : Memref sig .tc .vmem S128x512 .f32) (harg13 : arg13.IsWhole)
variable (arg14 : Memref sig .tc .vmem S1024x1024 .f32) (harg14 : arg14.IsWhole)
variable (arg15 : Memref sig .tc .vmem S512x1024 .bf16) (harg15 : arg15.IsWhole)
variable (arg16 : Memref sig .tc .vmem S512x1024 .f32) (harg16 : arg16.IsWhole)
variable (arg17 : Memref sig .tc .vmem S512x512 .f32) (harg17 : arg17.IsWhole)
variable (arg18 : Memref sig .tc .vmem S512x512 .f32) (harg18 : arg18.IsWhole)
variable (arg19 : Memref sig .tc .vmem S512x512 .bf16) (harg19 : arg19.IsWhole)
variable (arg20 : Memref sig .tc .vmem S512x512 .bf16) (harg20 : arg20.IsWhole)
variable (arg21 : Memref sig .tc .vmem S512x512 .f32) (harg21 : arg21.IsWhole)

/-- Part 6 as the body calls it. -/
theorem part6_std (x6 : Vec F S8x128x128 .bf16) (ds vn : Vec F S512x512 .bf16) (d21 : Vec F S512x512 .f32) (x : Vec F S8x128x128 .f32) (E : Set ℕ) (K : _ → sProp 𝕄) :
    iprop(held c harg7 (x6) ∗ held c harg20 (ds) ∗ held c harg21 (d21) ∗ held c harg19 (vn) ∗ held c harg12 (x) ∗ (iprop(held c harg7 (x6) ∗ held c harg20 (ds) ∗ held c harg21 (dvnOver x6 ds d21) ∗ held c harg19 (vn) ∗ held c harg12 (dws6 ds vn x)) -∗ K ⟨(k0_pay42 (F := F)), (window ds ![128, 0] S128x128.size inb_S512x512_S128x128_128_0), (window ds ![256, 0] S128x128.size inb_S512x512_S128x128_256_0), (window ds ![384, 0] S128x128.size inb_S512x512_S128x128_384_0), k0_pay43 (window vn ![0, 0] S128x128.size inb_S512x512_S128x128_0_0) (window vn ![128, 0] S128x128.size inb_S512x512_S128x128_128_0) (window vn ![256, 0] S128x128.size inb_S512x512_S128x128_256_0) (window vn ![384, 0] S128x128.size inb_S512x512_S128x128_384_0), k0_pay45 (window x ![1, 0, 0] S1x128x128.size inb_S8x128x128_S1x128x128_1_0_0), k0_pay46 k0_pay21 (window ds ![0, 0] S128x128.size inb_S512x512_S128x128_0_0)⟩))
      ⊢ wp frame (wpE (defs₀ (F := F)) Variants.none (c : Thread nD τ) none) E (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_pay21) K :=
  part6_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_pay21 x6 ds vn d21 x E K

/-- Part 7 as the body calls it. -/
theorem part7_std (ds vn : Vec F S512x512 .bf16) (x y : Vec F S8x128x128 .f32) (E : Set ℕ) (K : _ → sProp 𝕄) :
    iprop(held c harg20 (ds) ∗ held c harg19 (vn) ∗ held c harg12 (y) ∗ (iprop(held c harg20 (ds) ∗ held c harg19 (vn) ∗ held c harg12 (dws7 ds vn x y)) -∗ K ⟨(window ds ![0, 128] S128x128.size inb_S512x512_S128x128_0_128), (window ds ![128, 128] S128x128.size inb_S512x512_S128x128_128_128), (window ds ![256, 128] S128x128.size inb_S512x512_S128x128_256_128), (window ds ![384, 128] S128x128.size inb_S512x512_S128x128_384_128), k0_pay48 (window vn ![0, 128] S128x128.size inb_S512x512_S128x128_0_128) (window vn ![128, 128] S128x128.size inb_S512x512_S128x128_128_128) (window vn ![256, 128] S128x128.size inb_S512x512_S128x128_256_128) (window vn ![384, 128] S128x128.size inb_S512x512_S128x128_384_128)⟩))
      ⊢ wp frame (wpE (defs₀ (F := F)) Variants.none (c : Thread nD τ) none) E (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_pay21 (k0_pay42 (F := F)) (window ds ![128, 0] S128x128.size inb_S512x512_S128x128_128_0) (window ds ![256, 0] S128x128.size inb_S512x512_S128x128_256_0) (window ds ![384, 0] S128x128.size inb_S512x512_S128x128_384_0) (k0_pay43 (window vn ![0, 0] S128x128.size inb_S512x512_S128x128_0_0) (window vn ![128, 0] S128x128.size inb_S512x512_S128x128_128_0) (window vn ![256, 0] S128x128.size inb_S512x512_S128x128_256_0) (window vn ![384, 0] S128x128.size inb_S512x512_S128x128_384_0)) (k0_pay45 (window x ![1, 0, 0] S1x128x128.size inb_S8x128x128_S1x128x128_1_0_0)) (k0_pay46 k0_pay21 (window ds ![0, 0] S128x128.size inb_S512x512_S128x128_0_0))) K :=
  part7_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 ds vn y k0_pay21 (k0_pay42 (F := F)) (window ds ![128, 0] S128x128.size inb_S512x512_S128x128_128_0) (window ds ![256, 0] S128x128.size inb_S512x512_S128x128_256_0) (window ds ![384, 0] S128x128.size inb_S512x512_S128x128_384_0) (k0_pay43 (window vn ![0, 0] S128x128.size inb_S512x512_S128x128_0_0) (window vn ![128, 0] S128x128.size inb_S512x512_S128x128_128_0) (window vn ![256, 0] S128x128.size inb_S512x512_S128x128_256_0) (window vn ![384, 0] S128x128.size inb_S512x512_S128x128_384_0)) (k0_pay45 (window x ![1, 0, 0] S1x128x128.size inb_S8x128x128_S1x128x128_1_0_0)) (k0_pay46 k0_pay21 (window ds ![0, 0] S128x128.size inb_S512x512_S128x128_0_0)) E K

/-- Part 8 as the body calls it. -/
theorem part8_std (ds vn : Vec F S512x512 .bf16) (x : Vec F S8x128x128 .f32) (E : Set ℕ) (K : _ → sProp 𝕄) :
    iprop(held c harg20 (ds) ∗ held c harg19 (vn) ∗ held c harg12 (x) ∗ (iprop(held c harg20 (ds) ∗ held c harg19 (vn) ∗ held c harg12 (dws8 ds vn x)) -∗ K ⟨(window ds ![0, 256] S128x128.size inb_S512x512_S128x128_0_256), (window ds ![128, 256] S128x128.size inb_S512x512_S128x128_128_256), (window ds ![256, 256] S128x128.size inb_S512x512_S128x128_256_256), (window ds ![384, 256] S128x128.size inb_S512x512_S128x128_384_256), k0_pay51 (window vn ![0, 256] S128x128.size inb_S512x512_S128x128_0_256) (window vn ![128, 256] S128x128.size inb_S512x512_S128x128_128_256) (window vn ![256, 256] S128x128.size inb_S512x512_S128x128_256_256) (window vn ![384, 256] S128x128.size inb_S512x512_S128x128_384_256), k0_pay52 k0_pay21 (k0_pay42 (F := F)) (window ds ![0, 256] S128x128.size inb_S512x512_S128x128_0_256) (window ds ![128, 256] S128x128.size inb_S512x512_S128x128_128_256) (window ds ![256, 256] S128x128.size inb_S512x512_S128x128_256_256) (window ds ![384, 256] S128x128.size inb_S512x512_S128x128_384_256) (window vn ![0, 256] S128x128.size inb_S512x512_S128x128_0_256) (window vn ![128, 256] S128x128.size inb_S512x512_S128x128_128_256) (window vn ![256, 256] S128x128.size inb_S512x512_S128x128_256_256) (window vn ![384, 256] S128x128.size inb_S512x512_S128x128_384_256) (window x ![4, 0, 0] S1x128x128.size inb_S8x128x128_S1x128x128_4_0_0)⟩))
      ⊢ wp frame (wpE (defs₀ (F := F)) Variants.none (c : Thread nD τ) none) E (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_pay21 (k0_pay42 (F := F)) (window ds ![0, 128] S128x128.size inb_S512x512_S128x128_0_128) (window ds ![128, 128] S128x128.size inb_S512x512_S128x128_128_128) (window ds ![256, 128] S128x128.size inb_S512x512_S128x128_256_128) (window ds ![384, 128] S128x128.size inb_S512x512_S128x128_384_128) (k0_pay48 (window vn ![0, 128] S128x128.size inb_S512x512_S128x128_0_128) (window vn ![128, 128] S128x128.size inb_S512x512_S128x128_128_128) (window vn ![256, 128] S128x128.size inb_S512x512_S128x128_256_128) (window vn ![384, 128] S128x128.size inb_S512x512_S128x128_384_128))) K :=
  part8_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 ds vn x k0_pay21 (k0_pay42 (F := F)) (window ds ![0, 128] S128x128.size inb_S512x512_S128x128_0_128) (window ds ![128, 128] S128x128.size inb_S512x512_S128x128_128_128) (window ds ![256, 128] S128x128.size inb_S512x512_S128x128_256_128) (window ds ![384, 128] S128x128.size inb_S512x512_S128x128_384_128) (k0_pay48 (window vn ![0, 128] S128x128.size inb_S512x512_S128x128_0_128) (window vn ![128, 128] S128x128.size inb_S512x512_S128x128_128_128) (window vn ![256, 128] S128x128.size inb_S512x512_S128x128_256_128) (window vn ![384, 128] S128x128.size inb_S512x512_S128x128_384_128)) E K

/-- Part 9 as the body calls it. -/
theorem part9_std (ds vn : Vec F S512x512 .bf16) (x y : Vec F S8x128x128 .f32) (E : Set ℕ) (K : _ → sProp 𝕄) :
    iprop(held c harg20 (ds) ∗ held c harg19 (vn) ∗ held c harg12 (y) ∗ (iprop(held c harg20 (ds) ∗ held c harg19 (vn) ∗ held c harg12 (dws9 ds vn x y)) -∗ K ⟨(window ds ![0, 384] S128x128.size inb_S512x512_S128x128_0_384), (window ds ![128, 384] S128x128.size inb_S512x512_S128x128_128_384), (window ds ![256, 384] S128x128.size inb_S512x512_S128x128_256_384), (window ds ![384, 384] S128x128.size inb_S512x512_S128x128_384_384), k0_pay55 (window vn ![0, 384] S128x128.size inb_S512x512_S128x128_0_384) (window vn ![128, 384] S128x128.size inb_S512x512_S128x128_128_384) (window vn ![256, 384] S128x128.size inb_S512x512_S128x128_256_384) (window vn ![384, 384] S128x128.size inb_S512x512_S128x128_384_384), k0_pay56 (window y ![6, 0, 0] S1x128x128.size inb_S8x128x128_S1x128x128_6_0_0), k0_pay57 k0_pay21 (k0_pay42 (F := F)) (window ds ![0, 384] S128x128.size inb_S512x512_S128x128_0_384) (window ds ![128, 384] S128x128.size inb_S512x512_S128x128_128_384) (window ds ![256, 384] S128x128.size inb_S512x512_S128x128_256_384) (window ds ![384, 384] S128x128.size inb_S512x512_S128x128_384_384), constant S128x128 .f32 0x00000000#32⟩))
      ⊢ wp frame (wpE (defs₀ (F := F)) Variants.none (c : Thread nD τ) none) E (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_pay21 (k0_pay42 (F := F)) (window ds ![0, 256] S128x128.size inb_S512x512_S128x128_0_256) (window ds ![128, 256] S128x128.size inb_S512x512_S128x128_128_256) (window ds ![256, 256] S128x128.size inb_S512x512_S128x128_256_256) (window ds ![384, 256] S128x128.size inb_S512x512_S128x128_384_256) (k0_pay51 (window vn ![0, 256] S128x128.size inb_S512x512_S128x128_0_256) (window vn ![128, 256] S128x128.size inb_S512x512_S128x128_128_256) (window vn ![256, 256] S128x128.size inb_S512x512_S128x128_256_256) (window vn ![384, 256] S128x128.size inb_S512x512_S128x128_384_256)) (k0_pay52 k0_pay21 (k0_pay42 (F := F)) (window ds ![0, 256] S128x128.size inb_S512x512_S128x128_0_256) (window ds ![128, 256] S128x128.size inb_S512x512_S128x128_128_256) (window ds ![256, 256] S128x128.size inb_S512x512_S128x128_256_256) (window ds ![384, 256] S128x128.size inb_S512x512_S128x128_384_256) (window vn ![0, 256] S128x128.size inb_S512x512_S128x128_0_256) (window vn ![128, 256] S128x128.size inb_S512x512_S128x128_128_256) (window vn ![256, 256] S128x128.size inb_S512x512_S128x128_256_256) (window vn ![384, 256] S128x128.size inb_S512x512_S128x128_384_256) (window x ![4, 0, 0] S1x128x128.size inb_S8x128x128_S1x128x128_4_0_0))) K :=
  part9_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 ds vn y k0_pay21 (k0_pay42 (F := F)) (window ds ![0, 256] S128x128.size inb_S512x512_S128x128_0_256) (window ds ![128, 256] S128x128.size inb_S512x512_S128x128_128_256) (window ds ![256, 256] S128x128.size inb_S512x512_S128x128_256_256) (window ds ![384, 256] S128x128.size inb_S512x512_S128x128_384_256) (k0_pay51 (window vn ![0, 256] S128x128.size inb_S512x512_S128x128_0_256) (window vn ![128, 256] S128x128.size inb_S512x512_S128x128_128_256) (window vn ![256, 256] S128x128.size inb_S512x512_S128x128_256_256) (window vn ![384, 256] S128x128.size inb_S512x512_S128x128_384_256)) (k0_pay52 k0_pay21 (k0_pay42 (F := F)) (window ds ![0, 256] S128x128.size inb_S512x512_S128x128_0_256) (window ds ![128, 256] S128x128.size inb_S512x512_S128x128_128_256) (window ds ![256, 256] S128x128.size inb_S512x512_S128x128_256_256) (window ds ![384, 256] S128x128.size inb_S512x512_S128x128_384_256) (window vn ![0, 256] S128x128.size inb_S512x512_S128x128_0_256) (window vn ![128, 256] S128x128.size inb_S512x512_S128x128_128_256) (window vn ![256, 256] S128x128.size inb_S512x512_S128x128_256_256) (window vn ![384, 256] S128x128.size inb_S512x512_S128x128_384_256) (window x ![4, 0, 0] S1x128x128.size inb_S8x128x128_S1x128x128_4_0_0)) E K

/-- Part 10 as the body calls it. -/
theorem part10_std (ds vn : Vec F S512x512 .bf16) (x y : Vec F S8x128x128 .f32) (d8 : Vec F S512x2048 .bf16) (a17 a18 a21 : Vec F S512x512 .f32) (E : Set ℕ) (K : _ → sProp 𝕄) :
    iprop(held c harg8 (d8) ∗ held c harg17 (a17) ∗ held c harg18 (a18) ∗ held c harg21 (a21) ∗ held c harg12 (y) ∗ (iprop(held c harg8 (put d8 ![0, 1024] S512x256.size (k0_pay60 (k0_pay20 (F := F)) (window a21 ![0, 0] S512x256.size inb_S512x512_S512x256_0_0) (window a17 ![0, 0] S512x256.size inb_S512x512_S512x256_0_0) (window a18 ![0, 0] S512x256.size inb_S512x512_S512x256_0_0))) ∗ held c harg17 (a17) ∗ held c harg18 (a18) ∗ held c harg21 (a21) ∗ held c harg12 (dws10 ds vn x y)) -∗ K ⟨⟩))
      ⊢ wp frame (wpE (defs₀ (F := F)) Variants.none (c : Thread nD τ) none) E (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (k0_pay20 (F := F)) k0_pay21 (k0_pay42 (F := F)) (window ds ![0, 384] S128x128.size inb_S512x512_S128x128_0_384) (window ds ![128, 384] S128x128.size inb_S512x512_S128x128_128_384) (window ds ![256, 384] S128x128.size inb_S512x512_S128x128_256_384) (window ds ![384, 384] S128x128.size inb_S512x512_S128x128_384_384) (k0_pay55 (window vn ![0, 384] S128x128.size inb_S512x512_S128x128_0_384) (window vn ![128, 384] S128x128.size inb_S512x512_S128x128_128_384) (window vn ![256, 384] S128x128.size inb_S512x512_S128x128_256_384) (window vn ![384, 384] S128x128.size inb_S512x512_S128x128_384_384)) (k0_pay56 (window x ![6, 0, 0] S1x128x128.size inb_S8x128x128_S1x128x128_6_0_0)) (k0_pay57 k0_pay21 (k0_pay42 (F := F)) (window ds ![0, 384] S128x128.size inb_S512x512_S128x128_0_384) (window ds ![128, 384] S128x128.size inb_S512x512_S128x128_128_384) (window ds ![256, 384] S128x128.size inb_S512x512_S128x128_256_384) (window ds ![384, 384] S128x128.size inb_S512x512_S128x128_384_384)) (constant S128x128 .f32 0x00000000#32)) K :=
  part10_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 d8 a17 a18 a21 y (k0_pay20 (F := F)) k0_pay21 (k0_pay42 (F := F)) (window ds ![0, 384] S128x128.size inb_S512x512_S128x128_0_384) (window ds ![128, 384] S128x128.size inb_S512x512_S128x128_128_384) (window ds ![256, 384] S128x128.size inb_S512x512_S128x128_256_384) (window ds ![384, 384] S128x128.size inb_S512x512_S128x128_384_384) (k0_pay55 (window vn ![0, 384] S128x128.size inb_S512x512_S128x128_0_384) (window vn ![128, 384] S128x128.size inb_S512x512_S128x128_128_384) (window vn ![256, 384] S128x128.size inb_S512x512_S128x128_256_384) (window vn ![384, 384] S128x128.size inb_S512x512_S128x128_384_384)) (k0_pay56 (window x ![6, 0, 0] S1x128x128.size inb_S8x128x128_S1x128x128_6_0_0)) (k0_pay57 k0_pay21 (k0_pay42 (F := F)) (window ds ![0, 384] S128x128.size inb_S512x512_S128x128_0_384) (window ds ![128, 384] S128x128.size inb_S512x512_S128x128_128_384) (window ds ![256, 384] S128x128.size inb_S512x512_S128x128_256_384) (window ds ![384, 384] S128x128.size inb_S512x512_S128x128_384_384)) (constant S128x128 .f32 0x00000000#32) E K

set_option maxHeartbeats 4000000 in
/-- One run of the body at a middle grid point. -/
theorem body_mid (x0 : Vec F S512x1024 .f32) (x1 : Vec F S512x2048 .f32) (x2 : Vec F S512x512 .f32) (x3 : Vec F S512x512 .f32) (x4 : Vec F S1x1024 .f32) (x5 : Vec F S1024x1024 .bf16) (x6 : Vec F S8x128x128 .bf16) (d8 : Vec F S512x2048 .bf16) (d9 : Vec F S512x512 .f32) (d12 : Vec F S8x128x128 .f32) (d13 : Vec F S128x512 .f32) (d14 : Vec F S1024x1024 .f32) (d15 : Vec F S512x1024 .bf16) (d16 : Vec F S512x1024 .f32) (d17 : Vec F S512x512 .f32) (d18 : Vec F S512x512 .f32) (d19 : Vec F S512x512 .bf16) (d20 : Vec F S512x512 .bf16) (d21 : Vec F S512x512 .f32) (hc1 : ¬ (Scalar.cmpi .ne (Scalar.extui (Scalar.cmpi .eq (BitVec.ofNat 32 (i 0).val) 0#32) : BitVec 32) 0#32 = 1#1)) (hc2 : ¬ (k0_cond2 i = 1#1)) (E : Set ℕ) (K : _ → sProp 𝕄) :
    iprop(held c harg1 (x0) ∗ held c harg2 (x1) ∗ held c harg3 (x2) ∗ held c harg4 (x3) ∗ held c harg5 (x4) ∗ held c harg6 (x5) ∗ held c harg7 (x6) ∗ held c harg8 (d8) ∗ held c harg9 (d9) ∗ held c harg12 (d12) ∗ held c harg13 (d13) ∗ held c harg14 (d14) ∗ held c harg15 (d15) ∗ held c harg16 (d16) ∗ held c harg17 (d17) ∗ held c harg18 (d18) ∗ held c harg19 (d19) ∗ held c harg20 (d20) ∗ held c harg21 (d21)
      ∗ (iprop(held c harg1 (x0) ∗ held c harg2 (x1) ∗ held c harg3 (x2) ∗ held c harg4 (x3) ∗ held c harg5 (x4) ∗ held c harg6 (x5) ∗ held c harg7 (x6) ∗ held c harg8 (dpbV x1 x2 x3 (k0_pay22 x0 x4 x5) (dvnV x6 (dsV x1 (k0_pay22 x0 x4 x5)))) ∗ held c harg9 (doV x1 (k0_pay22 x0 x4 x5)) ∗ held c harg12 (dwsV (dsV x1 (k0_pay22 x0 x4 x5)) (vnbV x1) (d12)) ∗ held c harg13 (dbsV x1 (k0_pay22 x0 x4 x5) (d13)) ∗ held c harg14 (k0_pay2 x0 (d14) (yV x1 x2 x3)) ∗ held c harg15 ((yV x1 x2 x3)) ∗ held c harg16 ((k0_pay22 x0 x4 x5)) ∗ held c harg17 (vnV x1) ∗ held c harg18 (rvV x1) ∗ held c harg19 (vnbV x1) ∗ held c harg20 ((dsV x1 (k0_pay22 x0 x4 x5))) ∗ held c harg21 (dvnV x6 (dsV x1 (k0_pay22 x0 x4 x5)))) -∗ K ⟨⟩))
      ⊢ wp frame (wpE (defs₀ (F := F)) Variants.none (c : Thread nD τ) none) E (cc0_mix_out_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_mix_out_bwd_eq_skeleton]; unfold cc0_mix_out_bwd_skel
  iintro ⟨H1, H2, H3, H4, H5, H6, H7, H8, H9, H12, H13, H14, H15, H16, H17, H18, H19, H20, H21, Hk⟩
  rw [wp_bind]
  iapply (part3_later c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x4 x5 d16 hc1)
  isplitl [H1]; · iexact H1
  isplitl [H2]; · iexact H2
  isplitl [H5]; · iexact H5
  isplitl [H6]; · iexact H6
  isplitl [H16]; · iexact H16
  iintro ⟨H1, H2, H5, H6, H16⟩
  dsimp only
  rw [wp_bind]
  iapply (part4_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 (k0_pay22 x0 x4 x5) d8 d9 d15 d17 _ _ _)
  isplitl [H2]; · iexact H2
  isplitl [H3]; · iexact H3
  isplitl [H16]; · iexact H16
  isplitl [H8]; · iexact H8
  isplitl [H9]; · iexact H9
  isplitl [H15]; · iexact H15
  isplitl [H17]; · iexact H17
  iintro ⟨H2, H3, H16, H8, H9, H15, H17⟩
  dsimp only
  rw [wp_bind]
  iapply (part5_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x3 (k0_pay22 x0 x4 x5) _ _ _ d17 d18 d19 d20 _ _ _)
  isplitl [H2]; · iexact H2
  isplitl [H4]; · iexact H4
  isplitl [H16]; · iexact H16
  isplitl [H8]; · iexact H8
  isplitl [H13]; · iexact H13
  isplitl [H15]; · iexact H15
  isplitl [H17]; · iexact H17
  isplitl [H18]; · iexact H18
  isplitl [H19]; · iexact H19
  isplitl [H20]; · iexact H20
  iintro ⟨H2, H4, H16, H8, H13, H15, H17, H18, H19, H20⟩
  dsimp only
  rw [show trips k0_t1_loop.trips (step20 x1 (k0_pay22 x0 x4 x5)) d20 k0_t1_loop.trips = (dsV x1 (k0_pay22 x0 x4 x5)) from dsOver_any x1 (k0_pay22 x0 x4 x5) d20,
    show trips k0_t1_loop.trips (step15 x1 x3) (put d15 ![0, 0] S512x512.size (k0_pay25 (gaV x1) (k0_pay23 (gaV x1)) x2)) k0_t1_loop.trips = (yV x1 x2 x3) from yOver_any x1 x2 x3 d15]
  rw [wp_bind]
  iapply (part6_std c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x6 (dsV x1 (k0_pay22 x0 x4 x5)) (vnbV x1) d21 _)
  isplitl [H7]; · iexact H7
  isplitl [H20]; · iexact H20
  isplitl [H21]; · iexact H21
  isplitl [H19]; · iexact H19
  isplitl [H12]; · iexact H12
  iintro ⟨H7, H20, H21, H19, H12⟩
  dsimp only
  rw [dvnOver_any x6 (dsV x1 (k0_pay22 x0 x4 x5)) d21]
  rw [wp_bind]
  iapply (part7_std c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (dsV x1 (k0_pay22 x0 x4 x5)) (vnbV x1) _ _)
  isplitl [H20]; · iexact H20
  isplitl [H19]; · iexact H19
  isplitl [H12]; · iexact H12
  iintro ⟨H20, H19, H12⟩
  dsimp only
  rw [wp_bind]
  iapply (part8_std c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (dsV x1 (k0_pay22 x0 x4 x5)) (vnbV x1) _)
  isplitl [H20]; · iexact H20
  isplitl [H19]; · iexact H19
  isplitl [H12]; · iexact H12
  iintro ⟨H20, H19, H12⟩
  dsimp only
  rw [wp_bind]
  iapply (part9_std c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (dsV x1 (k0_pay22 x0 x4 x5)) (vnbV x1) _ _)
  isplitl [H20]; · iexact H20
  isplitl [H19]; · iexact H19
  isplitl [H12]; · iexact H12
  iintro ⟨H20, H19, H12⟩
  dsimp only
  rw [wp_bind]
  iapply (part10_std c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (dsV x1 (k0_pay22 x0 x4 x5)) (vnbV x1) _ _ _ (vnV x1) (rvV x1) (dvnV x6 (dsV x1 (k0_pay22 x0 x4 x5))))
  isplitl [H8]; · iexact H8
  isplitl [H17]; · iexact H17
  isplitl [H18]; · iexact H18
  isplitl [H21]; · iexact H21
  isplitl [H12]; · iexact H12
  iintro ⟨H8, H17, H18, H21, H12⟩
  dsimp only
  sl_exec (disch := sl_exact hc2)
  sl_step
  rw [← dwsV_eq]
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iapply (pointsTo_unread c harg8 ?_)
    on_goal 2 => iexact H8
    simp only [read_writes_put, readAt_win, Memref.IsWhole.read_unread, View.writes_nil, whole_1, whole_2, whole_3, whole_4, whole_5, whole_6, whole_7, over_1, over_2, over_3, over_4, over_5, over_6, over_7]
    exact dpbOver_any x1 x2 x3 (k0_pay22 x0 x4 x5) _ d8
  isplitl [H9]
  · iexact H9
  isplitl [H12]
  · iexact H12
  isplitl [H13]
  · iexact H13
  isplitl [H14]
  · iapply (pointsTo_unread c harg14 ?_)
    on_goal 2 => iexact H14
    simp only [read_writes_put, readAt_win, Memref.IsWhole.read_unread, View.writes_nil, whole_1, whole_2, whole_3, whole_4, whole_5, whole_6, whole_7, over_1, over_2, over_3, over_4, over_5, over_6, over_7]
  isplitl [H15]
  · iexact H15
  isplitl [H16]
  · iexact H16
  isplitl [H17]
  · iexact H17
  isplitl [H18]
  · iexact H18
  isplitl [H19]
  · iexact H19
  isplitl [H20]
  · iexact H20
  · iexact H21

set_option maxHeartbeats 4000000 in
/-- One run of the body at the first grid point. -/
theorem body_first (x0 : Vec F S512x1024 .f32) (x1 : Vec F S512x2048 .f32) (x2 : Vec F S512x512 .f32) (x3 : Vec F S512x512 .f32) (x4 : Vec F S1x1024 .f32) (x5 : Vec F S1024x1024 .bf16) (x6 : Vec F S8x128x128 .bf16) (d8 : Vec F S512x2048 .bf16) (d9 : Vec F S512x512 .f32) (d12 : Vec F S8x128x128 .f32) (d13 : Vec F S128x512 .f32) (d14 : Vec F S1024x1024 .f32) (d15 : Vec F S512x1024 .bf16) (d16 : Vec F S512x1024 .f32) (d17 : Vec F S512x512 .f32) (d18 : Vec F S512x512 .f32) (d19 : Vec F S512x512 .bf16) (d20 : Vec F S512x512 .bf16) (d21 : Vec F S512x512 .f32) (hc1 : (Scalar.cmpi .ne (Scalar.extui (Scalar.cmpi .eq (BitVec.ofNat 32 (i 0).val) 0#32) : BitVec 32) 0#32 = 1#1)) (hc2 : ¬ (k0_cond2 i = 1#1)) (E : Set ℕ) (K : _ → sProp 𝕄) :
    iprop(held c harg1 (x0) ∗ held c harg2 (x1) ∗ held c harg3 (x2) ∗ held c harg4 (x3) ∗ held c harg5 (x4) ∗ held c harg6 (x5) ∗ held c harg7 (x6) ∗ held c harg8 (d8) ∗ held c harg9 (d9) ∗ held c harg12 (d12) ∗ held c harg13 (d13) ∗ held c harg14 (d14) ∗ held c harg15 (d15) ∗ held c harg16 (d16) ∗ held c harg17 (d17) ∗ held c harg18 (d18) ∗ held c harg19 (d19) ∗ held c harg20 (d20) ∗ held c harg21 (d21)
      ∗ (iprop(held c harg1 (x0) ∗ held c harg2 (x1) ∗ held c harg3 (x2) ∗ held c harg4 (x3) ∗ held c harg5 (x4) ∗ held c harg6 (x5) ∗ held c harg7 (x6) ∗ held c harg8 (dpbV x1 x2 x3 (k0_pay22 x0 x4 x5) (dvnV x6 (dsV x1 (k0_pay22 x0 x4 x5)))) ∗ held c harg9 (doV x1 (k0_pay22 x0 x4 x5)) ∗ held c harg12 (dwsV (dsV x1 (k0_pay22 x0 x4 x5)) (vnbV x1) (k0_pay18)) ∗ held c harg13 (dbsV x1 (k0_pay22 x0 x4 x5) (k0_pay19)) ∗ held c harg14 (k0_pay2 x0 (k0_pay17) (yV x1 x2 x3)) ∗ held c harg15 ((yV x1 x2 x3)) ∗ held c harg16 ((k0_pay22 x0 x4 x5)) ∗ held c harg17 (vnV x1) ∗ held c harg18 (rvV x1) ∗ held c harg19 (vnbV x1) ∗ held c harg20 ((dsV x1 (k0_pay22 x0 x4 x5))) ∗ held c harg21 (dvnV x6 (dsV x1 (k0_pay22 x0 x4 x5)))) -∗ K ⟨⟩))
      ⊢ wp frame (wpE (defs₀ (F := F)) Variants.none (c : Thread nD τ) none) E (cc0_mix_out_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_mix_out_bwd_eq_skeleton]; unfold cc0_mix_out_bwd_skel
  iintro ⟨H1, H2, H3, H4, H5, H6, H7, H8, H9, H12, H13, H14, H15, H16, H17, H18, H19, H20, H21, Hk⟩
  rw [wp_bind]
  iapply (part3_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x4 x5 d16 d12 d13 d14 hc1)
  isplitl [H1]; · iexact H1
  isplitl [H2]; · iexact H2
  isplitl [H5]; · iexact H5
  isplitl [H6]; · iexact H6
  isplitl [H16]; · iexact H16
  isplitl [H12]; · iexact H12
  isplitl [H13]; · iexact H13
  isplitl [H14]; · iexact H14
  iintro ⟨H1, H2, H5, H6, H16, H12, H13, H14⟩
  dsimp only
  rw [wp_bind]
  iapply (part4_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 (k0_pay22 x0 x4 x5) d8 d9 d15 d17 _ _ _)
  isplitl [H2]; · iexact H2
  isplitl [H3]; · iexact H3
  isplitl [H16]; · iexact H16
  isplitl [H8]; · iexact H8
  isplitl [H9]; · iexact H9
  isplitl [H15]; · iexact H15
  isplitl [H17]; · iexact H17
  iintro ⟨H2, H3, H16, H8, H9, H15, H17⟩
  dsimp only
  rw [wp_bind]
  iapply (part5_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x3 (k0_pay22 x0 x4 x5) _ _ _ d17 d18 d19 d20 _ _ _)
  isplitl [H2]; · iexact H2
  isplitl [H4]; · iexact H4
  isplitl [H16]; · iexact H16
  isplitl [H8]; · iexact H8
  isplitl [H13]; · iexact H13
  isplitl [H15]; · iexact H15
  isplitl [H17]; · iexact H17
  isplitl [H18]; · iexact H18
  isplitl [H19]; · iexact H19
  isplitl [H20]; · iexact H20
  iintro ⟨H2, H4, H16, H8, H13, H15, H17, H18, H19, H20⟩
  dsimp only
  rw [show trips k0_t1_loop.trips (step20 x1 (k0_pay22 x0 x4 x5)) d20 k0_t1_loop.trips = (dsV x1 (k0_pay22 x0 x4 x5)) from dsOver_any x1 (k0_pay22 x0 x4 x5) d20,
    show trips k0_t1_loop.trips (step15 x1 x3) (put d15 ![0, 0] S512x512.size (k0_pay25 (gaV x1) (k0_pay23 (gaV x1)) x2)) k0_t1_loop.trips = (yV x1 x2 x3) from yOver_any x1 x2 x3 d15]
  rw [wp_bind]
  iapply (part6_std c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x6 (dsV x1 (k0_pay22 x0 x4 x5)) (vnbV x1) d21 _)
  isplitl [H7]; · iexact H7
  isplitl [H20]; · iexact H20
  isplitl [H21]; · iexact H21
  isplitl [H19]; · iexact H19
  isplitl [H12]; · iexact H12
  iintro ⟨H7, H20, H21, H19, H12⟩
  dsimp only
  rw [dvnOver_any x6 (dsV x1 (k0_pay22 x0 x4 x5)) d21]
  rw [wp_bind]
  iapply (part7_std c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (dsV x1 (k0_pay22 x0 x4 x5)) (vnbV x1) _ _)
  isplitl [H20]; · iexact H20
  isplitl [H19]; · iexact H19
  isplitl [H12]; · iexact H12
  iintro ⟨H20, H19, H12⟩
  dsimp only
  rw [wp_bind]
  iapply (part8_std c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (dsV x1 (k0_pay22 x0 x4 x5)) (vnbV x1) _)
  isplitl [H20]; · iexact H20
  isplitl [H19]; · iexact H19
  isplitl [H12]; · iexact H12
  iintro ⟨H20, H19, H12⟩
  dsimp only
  rw [wp_bind]
  iapply (part9_std c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (dsV x1 (k0_pay22 x0 x4 x5)) (vnbV x1) _ _)
  isplitl [H20]; · iexact H20
  isplitl [H19]; · iexact H19
  isplitl [H12]; · iexact H12
  iintro ⟨H20, H19, H12⟩
  dsimp only
  rw [wp_bind]
  iapply (part10_std c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (dsV x1 (k0_pay22 x0 x4 x5)) (vnbV x1) _ _ _ (vnV x1) (rvV x1) (dvnV x6 (dsV x1 (k0_pay22 x0 x4 x5))))
  isplitl [H8]; · iexact H8
  isplitl [H17]; · iexact H17
  isplitl [H18]; · iexact H18
  isplitl [H21]; · iexact H21
  isplitl [H12]; · iexact H12
  iintro ⟨H8, H17, H18, H21, H12⟩
  dsimp only
  sl_exec (disch := sl_exact hc2)
  sl_step
  rw [← dwsV_eq]
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iapply (pointsTo_unread c harg8 ?_)
    on_goal 2 => iexact H8
    simp only [read_writes_put, readAt_win, Memref.IsWhole.read_unread, View.writes_nil, whole_1, whole_2, whole_3, whole_4, whole_5, whole_6, whole_7, over_1, over_2, over_3, over_4, over_5, over_6, over_7]
    exact dpbOver_any x1 x2 x3 (k0_pay22 x0 x4 x5) _ d8
  isplitl [H9]
  · iexact H9
  isplitl [H12]
  · iexact H12
  isplitl [H13]
  · iexact H13
  isplitl [H14]
  · iapply (pointsTo_unread c harg14 ?_)
    on_goal 2 => iexact H14
    simp only [read_writes_put, readAt_win, Memref.IsWhole.read_unread, View.writes_nil, whole_1, whole_2, whole_3, whole_4, whole_5, whole_6, whole_7, over_1, over_2, over_3, over_4, over_5, over_6, over_7]
  isplitl [H15]
  · iexact H15
  isplitl [H16]
  · iexact H16
  isplitl [H17]
  · iexact H17
  isplitl [H18]
  · iexact H18
  isplitl [H19]
  · iexact H19
  isplitl [H20]
  · iexact H20
  · iexact H21

set_option maxHeartbeats 4000000 in
/-- One run of the body at the last grid point. -/
theorem body_last (x0 : Vec F S512x1024 .f32) (x1 : Vec F S512x2048 .f32) (x2 : Vec F S512x512 .f32) (x3 : Vec F S512x512 .f32) (x4 : Vec F S1x1024 .f32) (x5 : Vec F S1024x1024 .bf16) (x6 : Vec F S8x128x128 .bf16) (d8 : Vec F S512x2048 .bf16) (d9 : Vec F S512x512 .f32) (d10 : Vec F S1024x1024 .bf16) (d11 : Vec F S8x1024 .f32) (d12 : Vec F S8x128x128 .f32) (d13 : Vec F S128x512 .f32) (d14 : Vec F S1024x1024 .f32) (d15 : Vec F S512x1024 .bf16) (d16 : Vec F S512x1024 .f32) (d17 : Vec F S512x512 .f32) (d18 : Vec F S512x512 .f32) (d19 : Vec F S512x512 .bf16) (d20 : Vec F S512x512 .bf16) (d21 : Vec F S512x512 .f32) (hc1 : ¬ (Scalar.cmpi .ne (Scalar.extui (Scalar.cmpi .eq (BitVec.ofNat 32 (i 0).val) 0#32) : BitVec 32) 0#32 = 1#1)) (hc2 : (k0_cond2 i = 1#1)) (E : Set ℕ) (K : _ → sProp 𝕄) :
    iprop(held c harg1 (x0) ∗ held c harg2 (x1) ∗ held c harg3 (x2) ∗ held c harg4 (x3) ∗ held c harg5 (x4) ∗ held c harg6 (x5) ∗ held c harg7 (x6) ∗ held c harg8 (d8) ∗ held c harg9 (d9) ∗ held c harg10 (d10) ∗ held c harg11 (d11) ∗ held c harg12 (d12) ∗ held c harg13 (d13) ∗ held c harg14 (d14) ∗ held c harg15 (d15) ∗ held c harg16 (d16) ∗ held c harg17 (d17) ∗ held c harg18 (d18) ∗ held c harg19 (d19) ∗ held c harg20 (d20) ∗ held c harg21 (d21)
      ∗ (iprop(held c harg1 (x0) ∗ held c harg2 (x1) ∗ held c harg3 (x2) ∗ held c harg4 (x3) ∗ held c harg5 (x4) ∗ held c harg6 (x5) ∗ held c harg7 (x6) ∗ held c harg8 (dpbV x1 x2 x3 (k0_pay22 x0 x4 x5) (dvnV x6 (dsV x1 (k0_pay22 x0 x4 x5)))) ∗ held c harg9 (doV x1 (k0_pay22 x0 x4 x5)) ∗ held c harg10 (k0_pay3 (k0_pay2 x0 (d14) (yV x1 x2 x3)) x4) ∗ held c harg11 (k0_pay4 (k0_pay2 x0 (d14) (yV x1 x2 x3)) x5) ∗ held c harg12 (dwsV (dsV x1 (k0_pay22 x0 x4 x5)) (vnbV x1) (d12)) ∗ held c harg13 (dbsV x1 (k0_pay22 x0 x4 x5) (d13)) ∗ held c harg14 (k0_pay2 x0 (d14) (yV x1 x2 x3)) ∗ held c harg15 ((yV x1 x2 x3)) ∗ held c harg16 ((k0_pay22 x0 x4 x5)) ∗ held c harg17 (vnV x1) ∗ held c harg18 (rvV x1) ∗ held c harg19 (vnbV x1) ∗ held c harg20 ((dsV x1 (k0_pay22 x0 x4 x5))) ∗ held c harg21 (dvnV x6 (dsV x1 (k0_pay22 x0 x4 x5)))) -∗ K ⟨⟩))
      ⊢ wp frame (wpE (defs₀ (F := F)) Variants.none (c : Thread nD τ) none) E (cc0_mix_out_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_mix_out_bwd_eq_skeleton]; unfold cc0_mix_out_bwd_skel
  iintro ⟨H1, H2, H3, H4, H5, H6, H7, H8, H9, H10, H11, H12, H13, H14, H15, H16, H17, H18, H19, H20, H21, Hk⟩
  rw [wp_bind]
  iapply (part3_later c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x4 x5 d16 hc1)
  isplitl [H1]; · iexact H1
  isplitl [H2]; · iexact H2
  isplitl [H5]; · iexact H5
  isplitl [H6]; · iexact H6
  isplitl [H16]; · iexact H16
  iintro ⟨H1, H2, H5, H6, H16⟩
  dsimp only
  rw [wp_bind]
  iapply (part4_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 (k0_pay22 x0 x4 x5) d8 d9 d15 d17 _ _ _)
  isplitl [H2]; · iexact H2
  isplitl [H3]; · iexact H3
  isplitl [H16]; · iexact H16
  isplitl [H8]; · iexact H8
  isplitl [H9]; · iexact H9
  isplitl [H15]; · iexact H15
  isplitl [H17]; · iexact H17
  iintro ⟨H2, H3, H16, H8, H9, H15, H17⟩
  dsimp only
  rw [wp_bind]
  iapply (part5_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x3 (k0_pay22 x0 x4 x5) _ _ _ d17 d18 d19 d20 _ _ _)
  isplitl [H2]; · iexact H2
  isplitl [H4]; · iexact H4
  isplitl [H16]; · iexact H16
  isplitl [H8]; · iexact H8
  isplitl [H13]; · iexact H13
  isplitl [H15]; · iexact H15
  isplitl [H17]; · iexact H17
  isplitl [H18]; · iexact H18
  isplitl [H19]; · iexact H19
  isplitl [H20]; · iexact H20
  iintro ⟨H2, H4, H16, H8, H13, H15, H17, H18, H19, H20⟩
  dsimp only
  rw [show trips k0_t1_loop.trips (step20 x1 (k0_pay22 x0 x4 x5)) d20 k0_t1_loop.trips = (dsV x1 (k0_pay22 x0 x4 x5)) from dsOver_any x1 (k0_pay22 x0 x4 x5) d20,
    show trips k0_t1_loop.trips (step15 x1 x3) (put d15 ![0, 0] S512x512.size (k0_pay25 (gaV x1) (k0_pay23 (gaV x1)) x2)) k0_t1_loop.trips = (yV x1 x2 x3) from yOver_any x1 x2 x3 d15]
  rw [wp_bind]
  iapply (part6_std c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x6 (dsV x1 (k0_pay22 x0 x4 x5)) (vnbV x1) d21 _)
  isplitl [H7]; · iexact H7
  isplitl [H20]; · iexact H20
  isplitl [H21]; · iexact H21
  isplitl [H19]; · iexact H19
  isplitl [H12]; · iexact H12
  iintro ⟨H7, H20, H21, H19, H12⟩
  dsimp only
  rw [dvnOver_any x6 (dsV x1 (k0_pay22 x0 x4 x5)) d21]
  rw [wp_bind]
  iapply (part7_std c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (dsV x1 (k0_pay22 x0 x4 x5)) (vnbV x1) _ _)
  isplitl [H20]; · iexact H20
  isplitl [H19]; · iexact H19
  isplitl [H12]; · iexact H12
  iintro ⟨H20, H19, H12⟩
  dsimp only
  rw [wp_bind]
  iapply (part8_std c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (dsV x1 (k0_pay22 x0 x4 x5)) (vnbV x1) _)
  isplitl [H20]; · iexact H20
  isplitl [H19]; · iexact H19
  isplitl [H12]; · iexact H12
  iintro ⟨H20, H19, H12⟩
  dsimp only
  rw [wp_bind]
  iapply (part9_std c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (dsV x1 (k0_pay22 x0 x4 x5)) (vnbV x1) _ _)
  isplitl [H20]; · iexact H20
  isplitl [H19]; · iexact H19
  isplitl [H12]; · iexact H12
  iintro ⟨H20, H19, H12⟩
  dsimp only
  rw [wp_bind]
  iapply (part10_std c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (dsV x1 (k0_pay22 x0 x4 x5)) (vnbV x1) _ _ _ (vnV x1) (rvV x1) (dvnV x6 (dsV x1 (k0_pay22 x0 x4 x5))))
  isplitl [H8]; · iexact H8
  isplitl [H17]; · iexact H17
  isplitl [H18]; · iexact H18
  isplitl [H21]; · iexact H21
  isplitl [H12]; · iexact H12
  iintro ⟨H8, H17, H18, H21, H12⟩
  dsimp only
  sl_exec (disch := sl_exact hc2)
  sl_step
  rw [← dwsV_eq]
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iapply (pointsTo_unread c harg8 ?_)
    on_goal 2 => iexact H8
    simp only [read_writes_put, readAt_win, Memref.IsWhole.read_unread, View.writes_nil, whole_1, whole_2, whole_3, whole_4, whole_5, whole_6, whole_7, over_1, over_2, over_3, over_4, over_5, over_6, over_7]
    exact dpbOver_any x1 x2 x3 (k0_pay22 x0 x4 x5) _ d8
  isplitl [H9]
  · iexact H9
  isplitl [H10]
  · iapply (pointsTo_unread c harg10 ?_)
    on_goal 2 => iexact H10
    delta body_last.sl.v288 View.readCov
    delta body_last.sl.H14_1
    simp only [read_writes_put, readAt_win, Memref.IsWhole.read_unread, View.writes_nil, whole_1, whole_2, whole_3, whole_4, whole_5, whole_6, whole_7, over_1, over_2, over_3, over_4, over_5, over_6, over_7]
  isplitl [H11]
  · iapply (pointsTo_unread c harg11 ?_)
    on_goal 2 => iexact H11
    delta body_last.sl.v288 View.readCov
    delta body_last.sl.H14_1
    simp only [read_writes_put, readAt_win, Memref.IsWhole.read_unread, View.writes_nil, whole_1, whole_2, whole_3, whole_4, whole_5, whole_6, whole_7, over_1, over_2, over_3, over_4, over_5, over_6, over_7]
  isplitl [H12]
  · iexact H12
  isplitl [H13]
  · iexact H13
  isplitl [H14]
  · iapply (pointsTo_unread c harg14 ?_)
    on_goal 2 => iexact H14
    delta body_last.sl.H14_1
    simp only [read_writes_put, readAt_win, Memref.IsWhole.read_unread, View.writes_nil, whole_1, whole_2, whole_3, whole_4, whole_5, whole_6, whole_7, over_1, over_2, over_3, over_4, over_5, over_6, over_7]
  isplitl [H15]
  · iexact H15
  isplitl [H16]
  · iexact H16
  isplitl [H17]
  · iexact H17
  isplitl [H18]
  · iexact H18
  isplitl [H19]
  · iexact H19
  isplitl [H20]
  · iexact H20
  · iexact H21

end Body

end Cert.MixBwd

end
-- ==== Proof.Run.lean ====
module

public import proofs.«01_k».proof.Proof.Body
public import proofs.«01_k».proof.Proof.Gen.KernelIdeal.Frame
public import Idealize.ShloMosaic.Lib.WordCmp
public import Idealize.ShloMosaic.Lib.Claim

@[expose] public section

set_option maxRecDepth 16384

noncomputable section

namespace Cert.MixBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow Idealize.ShloMosaic.Pointwise
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The grid's conditions -/

/-- The body starts the accumulators at the first point only. -/
theorem first_iff : ∀ t : Fin cfg0.N,
    Scalar.cmpi .ne (Scalar.extui (Scalar.cmpi .eq (BitVec.ofNat 32 (grid0.coords t 0).val) 0#32) : BitVec 32) 0#32 = 1#1 ↔ t.val = 0 :=
  (by decide +kernel : ∀ t : Fin grid0.N, _)

/-- The body stores the output projection's gradients at the last point only. -/
theorem last_iff : ∀ t : Fin cfg0.N, k0_cond2 (grid0.coords t) = 1#1 ↔ t.val = 15 :=
  (by decide +kernel : ∀ t : Fin grid0.N, _)

theorem points : cfg0.N = 16 := N_0

/-- Before the last point the two outputs stored there are left alone, and not written back. -/
theorem idle_9 : ∀ t : Fin cfg0.N, t.val ≠ 15 → cfg0.idle 9 (grid0.coords t) = true := (by decide +kernel : ∀ t : Fin grid0.N, _)
theorem idle_10 : ∀ t : Fin cfg0.N, t.val ≠ 15 → cfg0.idle 10 (grid0.coords t) = true := (by decide +kernel : ∀ t : Fin grid0.N, _)
theorem kept_9 : ∀ t : Fin cfg0.N, t.val ≠ 15 → (cfg0.win 9).flush t = false := (by decide +kernel : ∀ t : Fin grid0.N, _)
theorem kept_10 : ∀ t : Fin cfg0.N, t.val ≠ 15 → (cfg0.win 10).flush t = false := (by decide +kernel : ∀ t : Fin grid0.N, _)
theorem live_9 : ∀ t : Fin cfg0.N, t.val = 15 → cfg0.idle 9 (grid0.coords t) = false := (by decide +kernel : ∀ t : Fin grid0.N, _)
theorem live_10 : ∀ t : Fin cfg0.N, t.val = 15 → cfg0.idle 10 (grid0.coords t) = false := (by decide +kernel : ∀ t : Fin grid0.N, _)

/-! ## What is carried from point to point -/

/-- `z` folded through the first `n` points. -/
def carried {α : Type} (f : Fin cfg0.N → α → α) (z : α) : (n : ℕ) → n ≤ cfg0.N → α
  | 0, _ => z
  | n + 1, h => f ⟨n, h⟩ (carried f z n (Nat.le_of_succ_le h))

theorem carried_succ {α : Type} (f : Fin cfg0.N → α → α) (z : α) (t : Fin cfg0.N) :
    carried f z (t.val + 1) t.isLt = f t (carried f z t.val t.isLt.le) := rfl

theorem carried_zero {α : Type} (f : Fin cfg0.N → α → α) (z : α) (n : ℕ) (h : n ≤ cfg0.N) (hn : n = 0) : carried f z n h = z := by
  subst hn; rfl

theorem carried_pred {α : Type} (f : Fin cfg0.N → α → α) (z : α) (n : ℕ) (hn : n ≠ 0) (h : n ≤ cfg0.N) (h' : n - 1 + 1 ≤ cfg0.N) :
    carried f z (n - 1 + 1) h' = carried f z n h := by
  cases n with
  | zero => exact absurd rfl hn
  | succ n => rfl

variable (m : (ℓ : Loc nD τ sig) → Buf (Elt F) ℓ) (ρ : Dev nD → PrngReg)

/-- The blocks the body reads at a point. -/
abbrev b0 (c : Dev nD) (t : Fin cfg0.N) : Vec F S512x1024 .f32 := iblk m c 0 t
abbrev b1 (c : Dev nD) (t : Fin cfg0.N) : Vec F S512x2048 .f32 := iblk m c 1 t
abbrev b2 (c : Dev nD) (t : Fin cfg0.N) : Vec F S512x512 .f32 := iblk m c 2 t
abbrev b3 (c : Dev nD) (t : Fin cfg0.N) : Vec F S512x512 .f32 := iblk m c 3 t
abbrev b4 (c : Dev nD) (t : Fin cfg0.N) : Vec F S1x1024 .f32 := iblk m c 4 t
abbrev b5 (c : Dev nD) (t : Fin cfg0.N) : Vec F S1024x1024 .bf16 := iblk m c 5 t
abbrev b6 (c : Dev nD) (t : Fin cfg0.N) : Vec F S8x128x128 .bf16 := iblk m c 6 t

/-- The cotangent of the mixed channels at a point. -/
def dyAt (c : Dev nD) (t : Fin cfg0.N) : Vec F S512x1024 .f32 := k0_pay22 (b0 m c t) (b4 m c t) (b5 m c t)
/-- The cotangent of the spatial gate at a point. -/
def dsAt (c : Dev nD) (t : Fin cfg0.N) : Vec F S512x512 .bf16 := dsV (b1 m c t) (dyAt m c t)
/-- The rows of the fused projection's gradient at a point. -/
def dpbAt (c : Dev nD) (t : Fin cfg0.N) : Vec F S512x2048 .bf16 :=
  dpbV (b1 m c t) (b2 m c t) (b3 m c t) (dyAt m c t) (dvnV (b6 m c t) (dsAt m c t))
/-- The rows of the attention output's gradient at a point. -/
def doAt (c : Dev nD) (t : Fin cfg0.N) : Vec F S512x512 .f32 := doV (b1 m c t) (dyAt m c t)
/-- One point's step of the spatial weights' gradient, of the biases', and of the unscaled output projection's. -/
def dwsStep (c : Dev nD) (t : Fin cfg0.N) (x : Vec F S8x128x128 .f32) : Vec F S8x128x128 .f32 := dwsV (dsAt m c t) (vnbV (b1 m c t)) x
def dbsStep (c : Dev nD) (t : Fin cfg0.N) (x : Vec F S128x512 .f32) : Vec F S128x512 .f32 := dbsV (b1 m c t) (dyAt m c t) x
def gStep (c : Dev nD) (t : Fin cfg0.N) (x : Vec F S1024x1024 .f32) : Vec F S1024x1024 .f32 :=
  k0_pay2 (b0 m c t) x (yV (b1 m c t) (b2 m c t) (b3 m c t))
/-- The three accumulators before point `n`. -/
def dwsAt (c : Dev nD) (n : ℕ) (h : n ≤ cfg0.N) : Vec F S8x128x128 .f32 := carried (dwsStep m c) k0_pay18 n h
def dbsAt (c : Dev nD) (n : ℕ) (h : n ≤ cfg0.N) : Vec F S128x512 .f32 := carried (dbsStep m c) k0_pay19 n h
def gAt (c : Dev nD) (n : ℕ) (h : n ≤ cfg0.N) : Vec F S1024x1024 .f32 := carried (gStep m c) k0_pay17 n h

theorem dwsAt_succ (c : Dev nD) (t : Fin cfg0.N) :
    dwsAt m c (t.val + 1) t.isLt = dwsV (dsV (b1 m c t) (k0_pay22 (b0 m c t) (b4 m c t) (b5 m c t))) (vnbV (b1 m c t)) (dwsAt m c t.val t.isLt.le) := rfl
theorem dbsAt_succ (c : Dev nD) (t : Fin cfg0.N) :
    dbsAt m c (t.val + 1) t.isLt = dbsV (b1 m c t) (k0_pay22 (b0 m c t) (b4 m c t) (b5 m c t)) (dbsAt m c t.val t.isLt.le) := rfl
theorem gAt_succ (c : Dev nD) (t : Fin cfg0.N) :
    gAt m c (t.val + 1) t.isLt = k0_pay2 (b0 m c t) (gAt m c t.val t.isLt.le) (yV (b1 m c t) (b2 m c t) (b3 m c t)) := rfl
theorem dwsAt_zero (c : Dev nD) (n : ℕ) (h : n ≤ cfg0.N) (hn : n = 0) : dwsAt m c n h = k0_pay18 := carried_zero _ _ n h hn
theorem dbsAt_zero (c : Dev nD) (n : ℕ) (h : n ≤ cfg0.N) (hn : n = 0) : dbsAt m c n h = k0_pay19 := carried_zero _ _ n h hn
theorem gAt_zero (c : Dev nD) (n : ℕ) (h : n ≤ cfg0.N) (hn : n = 0) : gAt m c n h = k0_pay17 := carried_zero _ _ n h hn
theorem dpbAt_eq (c : Dev nD) (t : Fin cfg0.N) : dpbAt m c t = dpbV (b1 m c t) (b2 m c t) (b3 m c t) (k0_pay22 (b0 m c t) (b4 m c t) (b5 m c t))
    (dvnV (b6 m c t) (dsV (b1 m c t) (k0_pay22 (b0 m c t) (b4 m c t) (b5 m c t)))) := rfl
theorem doAt_eq (c : Dev nD) (t : Fin cfg0.N) : doAt m c t = doV (b1 m c t) (k0_pay22 (b0 m c t) (b4 m c t) (b5 m c t)) := rfl

/-! ## The staging and scratch buffers -/

abbrev mw0 (t : Fin cfg0.N) : Memref sig .tc .vmem S512x1024 .f32 := win0_0.stage (cfg0.slots t 0)
abbrev hw0 (t : Fin cfg0.N) : (mw0 t).IsWhole := hstage0_0 ((cfg0.slots t 0).cast nbuf0_0)
abbrev mw1 (t : Fin cfg0.N) : Memref sig .tc .vmem S512x2048 .f32 := win0_1.stage (cfg0.slots t 1)
abbrev hw1 (t : Fin cfg0.N) : (mw1 t).IsWhole := hstage0_1 ((cfg0.slots t 1).cast nbuf0_1)
abbrev mw2 (t : Fin cfg0.N) : Memref sig .tc .vmem S512x512 .f32 := win0_2.stage (cfg0.slots t 2)
abbrev hw2 (t : Fin cfg0.N) : (mw2 t).IsWhole := hstage0_2 ((cfg0.slots t 2).cast nbuf0_2)
abbrev mw3 (t : Fin cfg0.N) : Memref sig .tc .vmem S512x512 .f32 := win0_3.stage (cfg0.slots t 3)
abbrev hw3 (t : Fin cfg0.N) : (mw3 t).IsWhole := hstage0_3 ((cfg0.slots t 3).cast nbuf0_3)
abbrev mw4 (t : Fin cfg0.N) : Memref sig .tc .vmem S1x1024 .f32 := win0_4.stage (cfg0.slots t 4)
abbrev hw4 (t : Fin cfg0.N) : (mw4 t).IsWhole := hstage0_4 ((cfg0.slots t 4).cast nbuf0_4)
abbrev mw5 (t : Fin cfg0.N) : Memref sig .tc .vmem S1024x1024 .bf16 := win0_5.stage (cfg0.slots t 5)
abbrev hw5 (t : Fin cfg0.N) : (mw5 t).IsWhole := hstage0_5 ((cfg0.slots t 5).cast nbuf0_5)
abbrev mw6 (t : Fin cfg0.N) : Memref sig .tc .vmem S8x128x128 .bf16 := win0_6.stage (cfg0.slots t 6)
abbrev hw6 (t : Fin cfg0.N) : (mw6 t).IsWhole := hstage0_6 ((cfg0.slots t 6).cast nbuf0_6)
abbrev mw7 (t : Fin cfg0.N) : Memref sig .tc .vmem S512x2048 .bf16 := win0_7.stage (cfg0.slots t 7)
abbrev hw7 (t : Fin cfg0.N) : (mw7 t).IsWhole := hstage0_7 ((cfg0.slots t 7).cast nbuf0_7)
abbrev mw8 (t : Fin cfg0.N) : Memref sig .tc .vmem S512x512 .f32 := win0_8.stage (cfg0.slots t 8)
abbrev hw8 (t : Fin cfg0.N) : (mw8 t).IsWhole := hstage0_8 ((cfg0.slots t 8).cast nbuf0_8)
abbrev mw9 (t : Fin cfg0.N) : Memref sig .tc .vmem S1024x1024 .bf16 := win0_9.stage (cfg0.slots t 9)
abbrev hw9 (t : Fin cfg0.N) : (mw9 t).IsWhole := hstage0_9 ((cfg0.slots t 9).cast nbuf0_9)
abbrev mw10 (t : Fin cfg0.N) : Memref sig .tc .vmem S8x1024 .f32 := win0_10.stage (cfg0.slots t 10)
abbrev hw10 (t : Fin cfg0.N) : (mw10 t).IsWhole := hstage0_10 ((cfg0.slots t 10).cast nbuf0_10)
abbrev mw11 (t : Fin cfg0.N) : Memref sig .tc .vmem S8x128x128 .f32 := win0_11.stage (cfg0.slots t 11)
abbrev hw11 (t : Fin cfg0.N) : (mw11 t).IsWhole := hstage0_11 ((cfg0.slots t 11).cast nbuf0_11)
abbrev mw12 (t : Fin cfg0.N) : Memref sig .tc .vmem S128x512 .f32 := win0_12.stage (cfg0.slots t 12)
abbrev hw12 (t : Fin cfg0.N) : (mw12 t).IsWhole := hstage0_12 ((cfg0.slots t 12).cast nbuf0_12)
abbrev ms0 : Memref sig .tc .vmem S1024x1024 .f32 := Memref.whole cc0_scratch0
abbrev hs0 : ms0.IsWhole := Memref.isWhole_whole _
abbrev ms1 : Memref sig .tc .vmem S512x1024 .bf16 := Memref.whole cc0_scratch1
abbrev hs1 : ms1.IsWhole := Memref.isWhole_whole _
abbrev ms2 : Memref sig .tc .vmem S512x1024 .f32 := Memref.whole cc0_scratch2
abbrev hs2 : ms2.IsWhole := Memref.isWhole_whole _
abbrev ms3 : Memref sig .tc .vmem S512x512 .f32 := Memref.whole cc0_scratch3
abbrev hs3 : ms3.IsWhole := Memref.isWhole_whole _
abbrev ms4 : Memref sig .tc .vmem S512x512 .f32 := Memref.whole cc0_scratch4
abbrev hs4 : ms4.IsWhole := Memref.isWhole_whole _
abbrev ms5 : Memref sig .tc .vmem S512x512 .bf16 := Memref.whole cc0_scratch5
abbrev hs5 : ms5.IsWhole := Memref.isWhole_whole _
abbrev ms6 : Memref sig .tc .vmem S512x512 .bf16 := Memref.whole cc0_scratch6
abbrev hs6 : ms6.IsWhole := Memref.isWhole_whole _
abbrev ms7 : Memref sig .tc .vmem S512x512 .f32 := Memref.whole cc0_scratch7
abbrev hs7 : ms7.IsWhole := Memref.isWhole_whole _

/-- What the region is handed: the scratch buffers at anything, and the generator register. -/
theorem handed_eq (c : Dev nD) :
    (Pipeline.ΦA spec0 c : sProp 𝕄) = iprop(iprop((∃ d, owns (c : Thread nD τ) ms0 fullShare d) ∗ (∃ d, owns (c : Thread nD τ) ms1 fullShare d) ∗ (∃ d, owns (c : Thread nD τ) ms2 fullShare d) ∗ (∃ d, owns (c : Thread nD τ) ms3 fullShare d) ∗ (∃ d, owns (c : Thread nD τ) ms4 fullShare d) ∗ (∃ d, owns (c : Thread nD τ) ms5 fullShare d) ∗ (∃ d, owns (c : Thread nD τ) ms6 fullShare d) ∗ (∃ d, owns (c : Thread nD τ) ms7 fullShare d)) ∗ (∃ r, prngReg c r)) := by
  unfold Pipeline.ΦA; rw [scopedRest0_eq]; simp only [ms0, ms1, ms2, ms3, ms4, ms5, ms6, ms7, owns_whole]; try rfl

/-- The region's invariant before point `n`: the unscaled weight gradient in its scratch buffer, the others at anything. -/
def inv (c : Dev nD) : (n : ℕ) → n ≤ cfg0.N → sProp 𝕄
  | 0, _ => Pipeline.ΦA spec0 c
  | n + 1, hn => iprop(iprop(owns (c : Thread nD τ) ms0 fullShare (gAt m c (n + 1) hn) ∗ (∃ d, owns (c : Thread nD τ) ms1 fullShare d) ∗ (∃ d, owns (c : Thread nD τ) ms2 fullShare d) ∗ (∃ d, owns (c : Thread nD τ) ms3 fullShare d) ∗ (∃ d, owns (c : Thread nD τ) ms4 fullShare d) ∗ (∃ d, owns (c : Thread nD τ) ms5 fullShare d) ∗ (∃ d, owns (c : Thread nD τ) ms6 fullShare d) ∗ (∃ d, owns (c : Thread nD τ) ms7 fullShare d)) ∗ (∃ r, prngReg c r))

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = iprop(iprop(owns (c : Thread nD τ) ms0 fullShare (gAt m c n h) ∗ (∃ d, owns (c : Thread nD τ) ms1 fullShare d) ∗ (∃ d, owns (c : Thread nD τ) ms2 fullShare d) ∗ (∃ d, owns (c : Thread nD τ) ms3 fullShare d) ∗ (∃ d, owns (c : Thread nD τ) ms4 fullShare d) ∗ (∃ d, owns (c : Thread nD τ) ms5 fullShare d) ∗ (∃ d, owns (c : Thread nD τ) ms6 fullShare d) ∗ (∃ d, owns (c : Thread nD τ) ms7 fullShare d)) ∗ (∃ r, prngReg c r)) := by
  cases n with
  | zero => exact absurd rfl hz
  | succ n => rfl

/-- The pipeline's data: the arrays as found, and what every point leaves in each window's buffer. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dpbAt m c t
    | ⟨8, _⟩ => doAt m c t
    | ⟨9, _⟩ => k0_pay3 (gAt m c (t.val + 1) t.isLt) (b4 m c t)
    | ⟨10, _⟩ => k0_pay4 (gAt m c (t.val + 1) t.isLt) (b5 m c t)
    | ⟨11, _⟩ => dwsAt m c (t.val + 1) t.isLt
    | ⟨12, _⟩ => dbsAt m c (t.val + 1) t.isLt
  Φ t := inv m c t.val (Nat.le_of_lt_succ t.isLt)
  q _ := fullShare
  owed _ := 0

theorem data_A (c : Dev nD) (w : Fin cfg0.W) : (data m 0 c).A w = V m c (Pipeline.arrRef spec0 w) := by
  dsimp only [data]

theorem inv_castSucc (c : Dev nD) (t : Fin cfg0.N) : (data m 0 c).Φ t.castSucc = inv m c t.val (Nat.le_of_lt t.isLt) := by
  dsimp only [data]; exact Pipeline.Dat.Φ_castSucc (inv m c) t

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t = iblk m c 5 t := by dsimp only [data]
theorem after_6 (c : Dev nD) (t : Fin cfg0.N) : (data m 0 c).after 6 t = iblk m c 6 t := by dsimp only [data]
theorem after_7 (c : Dev nD) (t : Fin cfg0.N) : (data m 0 c).after 7 t = dpbAt m c t := by dsimp only [data]
theorem after_8 (c : Dev nD) (t : Fin cfg0.N) : (data m 0 c).after 8 t = doAt m c t := by dsimp only [data]
theorem after_9 (c : Dev nD) (t : Fin cfg0.N) : (data m 0 c).after 9 t = k0_pay3 (gAt m c (t.val + 1) t.isLt) (b4 m c t) := by dsimp only [data]
theorem after_10 (c : Dev nD) (t : Fin cfg0.N) : (data m 0 c).after 10 t = k0_pay4 (gAt m c (t.val + 1) t.isLt) (b5 m c t) := by dsimp only [data]
theorem after_11 (c : Dev nD) (t : Fin cfg0.N) : (data m 0 c).after 11 t = dwsAt m c (t.val + 1) t.isLt := by dsimp only [data]
theorem after_12 (c : Dev nD) (t : Fin cfg0.N) : (data m 0 c).after 12 t = dbsAt m c (t.val + 1) t.isLt := by dsimp only [data]
theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d
theorem before_3 (c : Dev nD) (t : Fin cfg0.N) (d) : (data m 0 c).before 3 t d = iblk m c 3 t :=
  before0_3_of m (data m 0 c) (data_A m c 3) (after_3 m c) t d
theorem before_4 (c : Dev nD) (t : Fin cfg0.N) (d) : (data m 0 c).before 4 t d = iblk m c 4 t :=
  before0_4_of m (data m 0 c) (data_A m c 4) (after_4 m c) t d
theorem before_5 (c : Dev nD) (t : Fin cfg0.N) (d) : (data m 0 c).before 5 t d = iblk m c 5 t :=
  before0_5_of m (data m 0 c) (data_A m c 5) (after_5 m c) t d
theorem before_6 (c : Dev nD) (t : Fin cfg0.N) (d) : (data m 0 c).before 6 t d = iblk m c 6 t :=
  before0_6_of m (data m 0 c) (data_A m c 6) (after_6 m c) t d
theorem before_11 (c : Dev nD) (t : Fin cfg0.N) (h0 : t.val ≠ 0) (d) :
    (data m 0 c).before 11 t d = dwsAt m c t.val t.isLt.le := by
  have hN : t.val < 16 := lt_of_lt_of_eq t.isLt points
  rw [Dat.before_out_kept _ 11 rfl t (by omega) (Bool.eq_false_iff.mpr fun h => by have := (flush0_11 _).mp h; dsimp only at this; omega)
    (fun _ => rfl) (fun _ _ => rfl)]
  dsimp only [data]
  exact carried_pred _ _ _ h0 _ _
theorem before_12 (c : Dev nD) (t : Fin cfg0.N) (h0 : t.val ≠ 0) (d) :
    (data m 0 c).before 12 t d = dbsAt m c t.val t.isLt.le := by
  have hN : t.val < 16 := lt_of_lt_of_eq t.isLt points
  rw [Dat.before_out_kept _ 12 rfl t (by omega) (Bool.eq_false_iff.mpr fun h => by have := (flush0_12 _).mp h; dsimp only at this; omega)
    (fun _ => rfl) (fun _ _ => rfl)]
  dsimp only [data]
  exact carried_pred _ _ _ h0 _ _
theorem leaves_0 (c : Dev nD) (t : Fin cfg0.N) : (data m 0 c).leavesExact 0 t = owns (c : Thread nD τ) (mw0 t) fullShare (iblk m c 0 t) := by
  unfold Dat.leavesExact; rw [show cfg0.idle 0 (grid0.coords t) = false from rfl, after_0]
theorem leaves_1 (c : Dev nD) (t : Fin cfg0.N) : (data m 0 c).leavesExact 1 t = owns (c : Thread nD τ) (mw1 t) fullShare (iblk m c 1 t) := by
  unfold Dat.leavesExact; rw [show cfg0.idle 1 (grid0.coords t) = false from rfl, after_1]
theorem leaves_2 (c : Dev nD) (t : Fin cfg0.N) : (data m 0 c).leavesExact 2 t = owns (c : Thread nD τ) (mw2 t) fullShare (iblk m c 2 t) := by
  unfold Dat.leavesExact; rw [show cfg0.idle 2 (grid0.coords t) = false from rfl, after_2]
theorem leaves_3 (c : Dev nD) (t : Fin cfg0.N) : (data m 0 c).leavesExact 3 t = owns (c : Thread nD τ) (mw3 t) fullShare (iblk m c 3 t) := by
  unfold Dat.leavesExact; rw [show cfg0.idle 3 (grid0.coords t) = false from rfl, after_3]
theorem leaves_4 (c : Dev nD) (t : Fin cfg0.N) : (data m 0 c).leavesExact 4 t = owns (c : Thread nD τ) (mw4 t) fullShare (iblk m c 4 t) := by
  unfold Dat.leavesExact; rw [show cfg0.idle 4 (grid0.coords t) = false from rfl, after_4]
theorem leaves_5 (c : Dev nD) (t : Fin cfg0.N) : (data m 0 c).leavesExact 5 t = owns (c : Thread nD τ) (mw5 t) fullShare (iblk m c 5 t) := by
  unfold Dat.leavesExact; rw [show cfg0.idle 5 (grid0.coords t) = false from rfl, after_5]
theorem leaves_6 (c : Dev nD) (t : Fin cfg0.N) : (data m 0 c).leavesExact 6 t = owns (c : Thread nD τ) (mw6 t) fullShare (iblk m c 6 t) := by
  unfold Dat.leavesExact; rw [show cfg0.idle 6 (grid0.coords t) = false from rfl, after_6]
theorem leaves_7 (c : Dev nD) (t : Fin cfg0.N) : (data m 0 c).leavesExact 7 t = owns (c : Thread nD τ) (mw7 t) fullShare (dpbAt m c t) := by
  unfold Dat.leavesExact; rw [show cfg0.idle 7 (grid0.coords t) = false from rfl, after_7]
theorem leaves_8 (c : Dev nD) (t : Fin cfg0.N) : (data m 0 c).leavesExact 8 t = owns (c : Thread nD τ) (mw8 t) fullShare (doAt m c t) := by
  unfold Dat.leavesExact; rw [show cfg0.idle 8 (grid0.coords t) = false from rfl, after_8]
theorem leaves_11 (c : Dev nD) (t : Fin cfg0.N) : (data m 0 c).leavesExact 11 t = owns (c : Thread nD τ) (mw11 t) fullShare (dwsAt m c (t.val + 1) t.isLt) := by
  unfold Dat.leavesExact; rw [show cfg0.idle 11 (grid0.coords t) = false from rfl, after_11]
theorem leaves_12 (c : Dev nD) (t : Fin cfg0.N) : (data m 0 c).leavesExact 12 t = owns (c : Thread nD τ) (mw12 t) fullShare (dbsAt m c (t.val + 1) t.isLt) := by
  unfold Dat.leavesExact; rw [show cfg0.idle 12 (grid0.coords t) = false from rfl, after_12]
theorem leaves_9 (c : Dev nD) (t : Fin cfg0.N) (h : t.val = 15) : (data m 0 c).leavesExact 9 t = owns (c : Thread nD τ) (mw9 t) fullShare (k0_pay3 (gAt m c (t.val + 1) t.isLt) (b4 m c t)) := by
  unfold Dat.leavesExact; rw [live_9 t h, after_9]
theorem leaves_10 (c : Dev nD) (t : Fin cfg0.N) (h : t.val = 15) : (data m 0 c).leavesExact 10 t = owns (c : Thread nD τ) (mw10 t) fullShare (k0_pay4 (gAt m c (t.val + 1) t.isLt) (b5 m c t)) := by
  unfold Dat.leavesExact; rw [live_10 t h, after_10]

/-- What the body is called with at a point, and what it returns. -/
def bodyPre (c : Dev nD) (t : Fin cfg0.N) : sProp 𝕄 :=
  iprop((data m 0 c).Φ t.castSucc ∗ (data m 0 c).owesAt () t.castSucc
    ∗ (∃ d, owns (c : Thread nD τ) (mw0 t) fullShare ((data m 0 c).before 0 t d))
    ∗ (∃ d, owns (c : Thread nD τ) (mw1 t) fullShare ((data m 0 c).before 1 t d))
    ∗ (∃ d, owns (c : Thread nD τ) (mw2 t) fullShare ((data m 0 c).before 2 t d))
    ∗ (∃ d, owns (c : Thread nD τ) (mw3 t) fullShare ((data m 0 c).before 3 t d))
    ∗ (∃ d, owns (c : Thread nD τ) (mw4 t) fullShare ((data m 0 c).before 4 t d))
    ∗ (∃ d, owns (c : Thread nD τ) (mw5 t) fullShare ((data m 0 c).before 5 t d))
    ∗ (∃ d, owns (c : Thread nD τ) (mw6 t) fullShare ((data m 0 c).before 6 t d))
    ∗ (∃ d, owns (c : Thread nD τ) (mw7 t) fullShare ((data m 0 c).before 7 t d))
    ∗ (∃ d, owns (c : Thread nD τ) (mw8 t) fullShare ((data m 0 c).before 8 t d))
    ∗ (∃ d, owns (c : Thread nD τ) (mw9 t) fullShare ((data m 0 c).before 9 t d))
    ∗ (∃ d, owns (c : Thread nD τ) (mw10 t) fullShare ((data m 0 c).before 10 t d))
    ∗ (∃ d, owns (c : Thread nD τ) (mw11 t) fullShare ((data m 0 c).before 11 t d))
    ∗ (∃ d, owns (c : Thread nD τ) (mw12 t) fullShare ((data m 0 c).before 12 t d)))
def bodyPost (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t
    ∗ (data m 0 c).leavesExact 8 t
    ∗ (data m 0 c).leavesExact 9 t
    ∗ (data m 0 c).leavesExact 10 t
    ∗ (data m 0 c).leavesExact 11 t
    ∗ (data m 0 c).leavesExact 12 t)

set_option maxHeartbeats 4000000 in
/-- The body at the first point. -/
theorem sound_first (c : Dev nD) (t : Fin cfg0.N) (h0 : t.val = 0) (h1 : t.val ≠ 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (data m 0 c).owesAt () t.succ = (data m 0 c).owesAt () t.castSucc from rfl]
  rw [show (data m 0 c).Φ t.succ = inv m c (t.val + 1) t.isLt from rfl, inv_pos m c _ _ (Nat.succ_ne_zero _)]
  rw [leaves_0, leaves_1, leaves_2, leaves_3, leaves_4, leaves_5, leaves_6, leaves_7, leaves_8, leaves_11, leaves_12, inv_castSucc]
  rw [inv_zero m c _ _ h0, handed_eq]
  rw [Dat.leavesExact_idle (data m 0 c) 9 t (idle_9 t h1) (kept_9 t h1), Dat.leavesExact_idle (data m 0 c) 10 t (idle_10 t h1) (kept_10 t h1)]
  rw [dwsAt_succ, dbsAt_succ, gAt_succ, dpbAt_eq, doAt_eq]
  rw [dwsAt_zero m c _ _ h0, dbsAt_zero m c _ _ h0, gAt_zero m c _ _ h0]
  iintro ⟨⟨⟨⟨%g0, S0⟩, ⟨%g1, S1⟩, ⟨%g2, S2⟩, ⟨%g3, S3⟩, ⟨%g4, S4⟩, ⟨%g5, S5⟩, ⟨%g6, S6⟩, ⟨%g7, S7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_first c (grid0.coords t) _ (hw0 t) _ (hw1 t) _ (hw2 t) _ (hw3 t) _ (hw4 t) _ (hw5 t) _ (hw6 t) _ (hw7 t) _ (hw8 t) _ (hw9 t) _ (hw10 t) _ (hw11 t) _ (hw12 t) _ hs0 _ hs1 _ hs2 _ hs3 _ hs4 _ hs5 _ hs6 _ hs7 (b0 m c t) (b1 m c t) (b2 m c t) (b3 m c t) (b4 m c t) (b5 m c t) (b6 m c t) _ _ _ _ _ _ _ _ _ _ _ _ ((first_iff t).mpr h0) (fun h => h1 ((last_iff t).mp h)) Set.univ _)
  isplitl [H0]
  · iapply (owns_held c (hw0 t) _); iexact H0
  isplitl [H1]
  · iapply (owns_held c (hw1 t) _); iexact H1
  isplitl [H2]
  · iapply (owns_held c (hw2 t) _); iexact H2
  isplitl [H3]
  · iapply (owns_held c (hw3 t) _); iexact H3
  isplitl [H4]
  · iapply (owns_held c (hw4 t) _); iexact H4
  isplitl [H5]
  · iapply (owns_held c (hw5 t) _); iexact H5
  isplitl [H6]
  · iapply (owns_held c (hw6 t) _); iexact H6
  isplitl [H7]
  · iapply (owns_held c (hw7 t) _); iexact H7
  isplitl [H8]
  · iapply (owns_held c (hw8 t) _); iexact H8
  isplitl [H11]
  · iapply (owns_held c (hw11 t) _); iexact H11
  isplitl [H12]
  · iapply (owns_held c (hw12 t) _); iexact H12
  isplitl [S0]
  · iapply (owns_held c (hs0) _); iexact S0
  isplitl [S1]
  · iapply (owns_held c (hs1) _); iexact S1
  isplitl [S2]
  · iapply (owns_held c (hs2) _); iexact S2
  isplitl [S3]
  · iapply (owns_held c (hs3) _); iexact S3
  isplitl [S4]
  · iapply (owns_held c (hs4) _); iexact S4
  isplitl [S5]
  · iapply (owns_held c (hs5) _); iexact S5
  isplitl [S6]
  · iapply (owns_held c (hs6) _); iexact S6
  isplitl [S7]
  · iapply (owns_held c (hs7) _); iexact S7
  iintro ⟨H0, H1, H2, H3, H4, H5, H6, H7, H8, H11, H12, S0, S1, S2, S3, S4, S5, S6, S7⟩
  isplitl [S0 S1 S2 S3 S4 S5 S6 S7 Hg]
  · isplitl [S0 S1 S2 S3 S4 S5 S6 S7]
    · isplitl [S0]
      · iapply (held_owns c hs0 _); iexact S0
      isplitl [S1]
      · iexists _; iapply (held_owns c hs1 _); iexact S1
      isplitl [S2]
      · iexists _; iapply (held_owns c hs2 _); iexact S2
      isplitl [S3]
      · iexists _; iapply (held_owns c hs3 _); iexact S3
      isplitl [S4]
      · iexists _; iapply (held_owns c hs4 _); iexact S4
      isplitl [S5]
      · iexists _; iapply (held_owns c hs5 _); iexact S5
      isplitl [S6]
      · iexists _; iapply (held_owns c hs6 _); iexact S6
      iexists _; iapply (held_owns c hs7 _); iexact S7
    iexact Hg
  isplitl [Ho]
  · iexact Ho
  isplitl [H0]
  · iapply (held_owns c (hw0 t) _); iexact H0
  isplitl [H1]
  · iapply (held_owns c (hw1 t) _); iexact H1
  isplitl [H2]
  · iapply (held_owns c (hw2 t) _); iexact H2
  isplitl [H3]
  · iapply (held_owns c (hw3 t) _); iexact H3
  isplitl [H4]
  · iapply (held_owns c (hw4 t) _); iexact H4
  isplitl [H5]
  · iapply (held_owns c (hw5 t) _); iexact H5
  isplitl [H6]
  · iapply (held_owns c (hw6 t) _); iexact H6
  isplitl [H7]
  · iapply (held_owns c (hw7 t) _); iexact H7
  isplitl [H8]
  · iapply (held_owns c (hw8 t) _); iexact H8
  isplitl [H9]
  · iexists _; iexact H9
  isplitl [H10]
  · iexists _; iexact H10
  isplitl [H11]
  · iapply (held_owns c (hw11 t) _); iexact H11
  iapply (held_owns c (hw12 t) _); iexact H12

set_option maxHeartbeats 4000000 in
/-- The body at a point between. -/
theorem sound_mid (c : Dev nD) (t : Fin cfg0.N) (h0 : t.val ≠ 0) (h1 : t.val ≠ 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (data m 0 c).owesAt () t.succ = (data m 0 c).owesAt () t.castSucc from rfl]
  rw [show (data m 0 c).Φ t.succ = inv m c (t.val + 1) t.isLt from rfl, inv_pos m c _ _ (Nat.succ_ne_zero _)]
  rw [leaves_0, leaves_1, leaves_2, leaves_3, leaves_4, leaves_5, leaves_6, leaves_7, leaves_8, leaves_11, leaves_12, inv_castSucc]
  rw [inv_pos m c _ _ h0]
  simp only [before_11 m c t h0, before_12 m c t h0]
  rw [Dat.leavesExact_idle (data m 0 c) 9 t (idle_9 t h1) (kept_9 t h1), Dat.leavesExact_idle (data m 0 c) 10 t (idle_10 t h1) (kept_10 t h1)]
  rw [dwsAt_succ, dbsAt_succ, gAt_succ, dpbAt_eq, doAt_eq]
  iintro ⟨⟨⟨S0, ⟨%g1, S1⟩, ⟨%g2, S2⟩, ⟨%g3, S3⟩, ⟨%g4, S4⟩, ⟨%g5, S5⟩, ⟨%g6, S6⟩, ⟨%g7, S7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_mid c (grid0.coords t) _ (hw0 t) _ (hw1 t) _ (hw2 t) _ (hw3 t) _ (hw4 t) _ (hw5 t) _ (hw6 t) _ (hw7 t) _ (hw8 t) _ (hw9 t) _ (hw10 t) _ (hw11 t) _ (hw12 t) _ hs0 _ hs1 _ hs2 _ hs3 _ hs4 _ hs5 _ hs6 _ hs7 (b0 m c t) (b1 m c t) (b2 m c t) (b3 m c t) (b4 m c t) (b5 m c t) (b6 m c t) _ _ _ _ _ _ _ _ _ _ _ _ (fun h => h0 ((first_iff t).mp h)) (fun h => h1 ((last_iff t).mp h)) Set.univ _)
  isplitl [H0]
  · iapply (owns_held c (hw0 t) _); iexact H0
  isplitl [H1]
  · iapply (owns_held c (hw1 t) _); iexact H1
  isplitl [H2]
  · iapply (owns_held c (hw2 t) _); iexact H2
  isplitl [H3]
  · iapply (owns_held c (hw3 t) _); iexact H3
  isplitl [H4]
  · iapply (owns_held c (hw4 t) _); iexact H4
  isplitl [H5]
  · iapply (owns_held c (hw5 t) _); iexact H5
  isplitl [H6]
  · iapply (owns_held c (hw6 t) _); iexact H6
  isplitl [H7]
  · iapply (owns_held c (hw7 t) _); iexact H7
  isplitl [H8]
  · iapply (owns_held c (hw8 t) _); iexact H8
  isplitl [H11]
  · iapply (owns_held c (hw11 t) _); iexact H11
  isplitl [H12]
  · iapply (owns_held c (hw12 t) _); iexact H12
  isplitl [S0]
  · iapply (owns_held c (hs0) _); iexact S0
  isplitl [S1]
  · iapply (owns_held c (hs1) _); iexact S1
  isplitl [S2]
  · iapply (owns_held c (hs2) _); iexact S2
  isplitl [S3]
  · iapply (owns_held c (hs3) _); iexact S3
  isplitl [S4]
  · iapply (owns_held c (hs4) _); iexact S4
  isplitl [S5]
  · iapply (owns_held c (hs5) _); iexact S5
  isplitl [S6]
  · iapply (owns_held c (hs6) _); iexact S6
  isplitl [S7]
  · iapply (owns_held c (hs7) _); iexact S7
  iintro ⟨H0, H1, H2, H3, H4, H5, H6, H7, H8, H11, H12, S0, S1, S2, S3, S4, S5, S6, S7⟩
  isplitl [S0 S1 S2 S3 S4 S5 S6 S7 Hg]
  · isplitl [S0 S1 S2 S3 S4 S5 S6 S7]
    · isplitl [S0]
      · iapply (held_owns c hs0 _); iexact S0
      isplitl [S1]
      · iexists _; iapply (held_owns c hs1 _); iexact S1
      isplitl [S2]
      · iexists _; iapply (held_owns c hs2 _); iexact S2
      isplitl [S3]
      · iexists _; iapply (held_owns c hs3 _); iexact S3
      isplitl [S4]
      · iexists _; iapply (held_owns c hs4 _); iexact S4
      isplitl [S5]
      · iexists _; iapply (held_owns c hs5 _); iexact S5
      isplitl [S6]
      · iexists _; iapply (held_owns c hs6 _); iexact S6
      iexists _; iapply (held_owns c hs7 _); iexact S7
    iexact Hg
  isplitl [Ho]
  · iexact Ho
  isplitl [H0]
  · iapply (held_owns c (hw0 t) _); iexact H0
  isplitl [H1]
  · iapply (held_owns c (hw1 t) _); iexact H1
  isplitl [H2]
  · iapply (held_owns c (hw2 t) _); iexact H2
  isplitl [H3]
  · iapply (held_owns c (hw3 t) _); iexact H3
  isplitl [H4]
  · iapply (held_owns c (hw4 t) _); iexact H4
  isplitl [H5]
  · iapply (held_owns c (hw5 t) _); iexact H5
  isplitl [H6]
  · iapply (held_owns c (hw6 t) _); iexact H6
  isplitl [H7]
  · iapply (held_owns c (hw7 t) _); iexact H7
  isplitl [H8]
  · iapply (held_owns c (hw8 t) _); iexact H8
  isplitl [H9]
  · iexists _; iexact H9
  isplitl [H10]
  · iexists _; iexact H10
  isplitl [H11]
  · iapply (held_owns c (hw11 t) _); iexact H11
  iapply (held_owns c (hw12 t) _); iexact H12

set_option maxHeartbeats 4000000 in
/-- The body at the last point. -/
theorem sound_last (c : Dev nD) (t : Fin cfg0.N) (h0 : t.val ≠ 0) (h1 : t.val = 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (data m 0 c).owesAt () t.succ = (data m 0 c).owesAt () t.castSucc from rfl]
  rw [show (data m 0 c).Φ t.succ = inv m c (t.val + 1) t.isLt from rfl, inv_pos m c _ _ (Nat.succ_ne_zero _)]
  rw [leaves_0, leaves_1, leaves_2, leaves_3, leaves_4, leaves_5, leaves_6, leaves_7, leaves_8, leaves_11, leaves_12, inv_castSucc]
  rw [inv_pos m c _ _ h0]
  simp only [before_11 m c t h0, before_12 m c t h0]
  rw [leaves_9 m c t h1, leaves_10 m c t h1]
  rw [dwsAt_succ, dbsAt_succ, gAt_succ, dpbAt_eq, doAt_eq]
  iintro ⟨⟨⟨S0, ⟨%g1, S1⟩, ⟨%g2, S2⟩, ⟨%g3, S3⟩, ⟨%g4, S4⟩, ⟨%g5, S5⟩, ⟨%g6, S6⟩, ⟨%g7, S7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_last c (grid0.coords t) _ (hw0 t) _ (hw1 t) _ (hw2 t) _ (hw3 t) _ (hw4 t) _ (hw5 t) _ (hw6 t) _ (hw7 t) _ (hw8 t) _ (hw9 t) _ (hw10 t) _ (hw11 t) _ (hw12 t) _ hs0 _ hs1 _ hs2 _ hs3 _ hs4 _ hs5 _ hs6 _ hs7 (b0 m c t) (b1 m c t) (b2 m c t) (b3 m c t) (b4 m c t) (b5 m c t) (b6 m c t) _ _ _ _ _ _ _ _ _ _ _ _ _ _ (fun h => h0 ((first_iff t).mp h)) ((last_iff t).mpr h1) Set.univ _)
  isplitl [H0]
  · iapply (owns_held c (hw0 t) _); iexact H0
  isplitl [H1]
  · iapply (owns_held c (hw1 t) _); iexact H1
  isplitl [H2]
  · iapply (owns_held c (hw2 t) _); iexact H2
  isplitl [H3]
  · iapply (owns_held c (hw3 t) _); iexact H3
  isplitl [H4]
  · iapply (owns_held c (hw4 t) _); iexact H4
  isplitl [H5]
  · iapply (owns_held c (hw5 t) _); iexact H5
  isplitl [H6]
  · iapply (owns_held c (hw6 t) _); iexact H6
  isplitl [H7]
  · iapply (owns_held c (hw7 t) _); iexact H7
  isplitl [H8]
  · iapply (owns_held c (hw8 t) _); iexact H8
  isplitl [H9]
  · iapply (owns_held c (hw9 t) _); iexact H9
  isplitl [H10]
  · iapply (owns_held c (hw10 t) _); iexact H10
  isplitl [H11]
  · iapply (owns_held c (hw11 t) _); iexact H11
  isplitl [H12]
  · iapply (owns_held c (hw12 t) _); iexact H12
  isplitl [S0]
  · iapply (owns_held c (hs0) _); iexact S0
  isplitl [S1]
  · iapply (owns_held c (hs1) _); iexact S1
  isplitl [S2]
  · iapply (owns_held c (hs2) _); iexact S2
  isplitl [S3]
  · iapply (owns_held c (hs3) _); iexact S3
  isplitl [S4]
  · iapply (owns_held c (hs4) _); iexact S4
  isplitl [S5]
  · iapply (owns_held c (hs5) _); iexact S5
  isplitl [S6]
  · iapply (owns_held c (hs6) _); iexact S6
  isplitl [S7]
  · iapply (owns_held c (hs7) _); iexact S7
  iintro ⟨H0, H1, H2, H3, H4, H5, H6, H7, H8, H9, H10, H11, H12, S0, S1, S2, S3, S4, S5, S6, S7⟩
  isplitl [S0 S1 S2 S3 S4 S5 S6 S7 Hg]
  · isplitl [S0 S1 S2 S3 S4 S5 S6 S7]
    · isplitl [S0]
      · iapply (held_owns c hs0 _); iexact S0
      isplitl [S1]
      · iexists _; iapply (held_owns c hs1 _); iexact S1
      isplitl [S2]
      · iexists _; iapply (held_owns c hs2 _); iexact S2
      isplitl [S3]
      · iexists _; iapply (held_owns c hs3 _); iexact S3
      isplitl [S4]
      · iexists _; iapply (held_owns c hs4 _); iexact S4
      isplitl [S5]
      · iexists _; iapply (held_owns c hs5 _); iexact S5
      isplitl [S6]
      · iexists _; iapply (held_owns c hs6 _); iexact S6
      iexists _; iapply (held_owns c hs7 _); iexact S7
    iexact Hg
  isplitl [Ho]
  · iexact Ho
  isplitl [H0]
  · iapply (held_owns c (hw0 t) _); iexact H0
  isplitl [H1]
  · iapply (held_owns c (hw1 t) _); iexact H1
  isplitl [H2]
  · iapply (held_owns c (hw2 t) _); iexact H2
  isplitl [H3]
  · iapply (held_owns c (hw3 t) _); iexact H3
  isplitl [H4]
  · iapply (held_owns c (hw4 t) _); iexact H4
  isplitl [H5]
  · iapply (held_owns c (hw5 t) _); iexact H5
  isplitl [H6]
  · iapply (held_owns c (hw6 t) _); iexact H6
  isplitl [H7]
  · iapply (held_owns c (hw7 t) _); iexact H7
  isplitl [H8]
  · iapply (held_owns c (hw8 t) _); iexact H8
  isplitl [H9]
  · iapply (held_owns c (hw9 t) _); iexact H9
  isplitl [H10]
  · iapply (held_owns c (hw10 t) _); iexact H10
  isplitl [H11]
  · iapply (held_owns c (hw11 t) _); iexact H11
  iapply (held_owns c (hw12 t) _); iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0 (by omega)
  · by_cases h1 : t.val = 15
    · exact sound_last m c t h0 h1
    · exact sound_mid m c t h0 h1

theorem row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, row]
  exact triple_restated (sound_body m c t) rfl .rfl fun _ => .rfl

theorem enter (c : Dev nD) : Pipeline.ΦA spec0 c ⊢ (data m 0 c).Φ 0 := by
  rw [show (data m 0 c).Φ 0 = inv m c 0 (Nat.zero_le _) from rfl, inv_zero m c 0 _ rfl]

theorem leave (c : Dev nD) : (data m 0 c).Φ (Fin.last cfg0.N) ⊢ Pipeline.ΦA spec0 c := by
  rw [show (data m 0 c).Φ (Fin.last cfg0.N) = inv m c cfg0.N le_rfl from rfl, inv_pos m c _ _ (by rw [points]; decide), handed_eq]
  iintro ⟨⟨S0, Hr⟩, Hg⟩
  isplitl [S0 Hr]
  · isplitl [S0]
    · iexists _; iexact S0
    iexact Hr
  iexact Hg

set_option backward.isDefEq.respectTransparency.types false in
set_option maxHeartbeats 800000 in
/-- Every execution of the program ends; the arrays end as the points leave them, every other buffer as the lines after the
    region leave it, and every semaphore at zero. -/
theorem run_quiet : θ_run defs (onTc (τ := τ) (main (F := F))) (s₀ m ρ)
    (fun r => (Pipeline.FramePost cfgs (data m) 0 (Pipeline.afterTail₀ cfgs (data m) 0 (V0 m) [hostOps1])) r ∧ r.2.sem = fun _ => 0) :=
  Pipeline.θ_run_frame_around_track (Q' := _) cfgs (data m) (0 : Fin 1) launch0 defs₀ Variants.none m ρ main
    (hbody := fun c => (obligation m c).loose) (hshare := fun c => (data m 0 c).share_full fun _ => rfl)
    (howed := fun _ _ => rfl) (V₀ := V0 m) (opss := [hostOps1]) (hsub := sfx_sub) (hfresh := sfx_fresh) (hkeep := sfx_keeps)
    (hmain := hmain m Variants.none) (hA := data_A m) (hin := enter m) (hout := leave m)

/-- The same without the semaphores. -/
theorem run_main : θ_run defs (onTc (τ := τ) (main (F := F))) (s₀ m ρ) (Pipeline.FramePost cfgs (data m) 0 (Pipeline.afterTail₀ cfgs (data m) 0 (V0 m) [hostOps1])) :=
  (θ_run defs _ _).mono (fun _ h => h.1) (run_quiet m ρ)

/-- The program leaves its arguments as they were, at any values, and every semaphore at zero. -/
theorem framed : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (data m) (data_A m) (run_main m ρ)) ((θ_run defs _ _).mono (fun _ h => h.2) (run_quiet m ρ))

end Cert.MixBwd

end
-- ==== Proof.Twin.lean ====
module
public import proofs.«01_k».proof.Defs
public import proofs.«01_k».proof.Proof.Gen.Kernel
public import proofs.«01_k».proof.Proof.Gen.KernelIdeal
@[expose] public section
set_option maxRecDepth 16384
set_option maxHeartbeats 4000000
noncomputable section
namespace Cert.MixBwd
open Idealize.ShloMosaic Idealize.SL.Sem
/-- The two printed texts of the kernel's body are the same program. -/
theorem body_eq : Cert.Kernel.cc0_mix_out_bwd (F := Bits) = Cert.KernelIdeal.cc0_mix_out_bwd (F := Bits) := rfl

/-- So are their tables of bodies: the one label runs the same body in both. -/
theorem table_eq : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) ?_
  funext l x
  match l, x with
  | 0, (t, s) =>
    show Cert.Kernel.cc0_mix_out_bwd (F := Bits) _ _ _ _ _ _ _ _ _ _ _ _ _ _ _ _ _ _ _ _ _ _ _ _ _ _ _ _ _ _ _ _ _ _ _ _ _ _ _ _ _ _ _ = _
    rw [body_eq]
    rfl
  | ⟨_ + 1, h⟩, _ => exact absurd h (Nat.not_lt.2 (Nat.le_add_left _ _))

/-- So are their tables of procedures, pipelines included. -/
theorem defs_eq : Cert.Kernel.defs (F := Bits) = Cert.KernelIdeal.defs (F := Bits) := by
  have h : Cert.Kernel.defs (F := Bits) = Pipeline.defs Cert.KernelIdeal.pcfgs Cert.Kernel.defs₀ := rfl
  rw [h, table_eq]
  rfl
end Cert.MixBwd
end
-- ==== Proof.Spec.lean ====
module

public import proofs.«01_k».proof.Proof.Point
public import Idealize.ShloMosaic.Lib.Pointwise
public import Idealize.ShloMosaic.Lib.IdealHost

@[expose] public section

set_option maxRecDepth 16384

noncomputable section

namespace Cert.MixBwd

open Idealize.ShloMosaic Idealize.ShloMosaic.Pointwise
open scoped BigOperators

/-! ## The gradient as real numbers -/

/-- The logistic function. -/
def sig (x : ℝ) : ℝ := 1 / (1 + Real.exp (-x))
/-- The sigmoid-weighted unit and its derivative. -/
def silu (x : ℝ) : ℝ := x * sig x
def dsilu (x : ℝ) : ℝ := sig x * (1 + x * (1 - sig x))
/-- The constant the mean square is shifted by, `1e-6` rounded. -/
def eps : ℝ := (Ideal.ofBits .f32 0x358637BD#32).toReal

/-- The arguments as reals: cotangent, fused projection, attention output, gate, output weights, spatial weights, biases. -/
structure Args where
  X : ℕ → ℕ → ℝ
  P : ℕ → ℕ → ℝ
  O : ℕ → ℕ → ℝ
  G : ℕ → ℝ
  W : ℕ → ℕ → ℝ
  S : ℕ → ℕ → ℕ → ℝ
  B : ℕ → ℕ → ℝ

variable (a : Args)

/-- The cotangent of the mixed channels. -/
def dyR (r k : ℕ) : ℝ := ∑ c : Fin 1024, a.X r c * a.G c * a.W k c
/-- The reciprocal root mean square of a row's group. -/
def scaleR (r g : ℕ) : ℝ := (Real.sqrt ((∑ d : Fin 64, a.P r (1024 + (g * 64 + d)) * a.P r (1024 + (g * 64 + d))) * (1 / 64) + eps))⁻¹
/-- The normalised values. -/
def vnR (r q : ℕ) : ℝ := a.P r (1024 + q) * scaleR a r (q / 64)
/-- The spatial gate. -/
def svR (r q : ℕ) : ℝ := (∑ s : Fin 128, a.S (q / 64) (r % 128) s * vnR a (r / 128 * 128 + s) q) + a.B (q / 64) (r % 128)
/-- The mixed channels. -/
def yR (r k : ℕ) : ℝ :=
  if k < 512 then a.O r k * silu (a.P r k) else a.P r (512 + (k - 512)) * svR a r (k - 512) * silu (a.P r (1536 + (k - 512)))
/-- The cotangents of the gated product and of the spatial gate. -/
def dmR (r q : ℕ) : ℝ := dyR a r (512 + q) * silu (a.P r (1536 + q))
def dsR (r q : ℕ) : ℝ := dmR a r q * a.P r (512 + q)
/-- The cotangent of the normalised values. -/
def dvnR (r q : ℕ) : ℝ := ∑ t : Fin 128, a.S (q / 64) t (r % 128) * dsR a (r / 128 * 128 + t) q
/-- The cotangents of the four column ranges of the fused projection. -/
def daR (r q : ℕ) : ℝ := dyR a r q * a.O r q * dsilu (a.P r q)
def duR (r q : ℕ) : ℝ := dmR a r q * svR a r q
def dvR (r q : ℕ) : ℝ :=
  scaleR a r (q / 64) * (dvnR a r q - vnR a r q * ((∑ d : Fin 64, vnR a r (q / 64 * 64 + d) * dvnR a r (q / 64 * 64 + d)) * (1 / 64)))
def dgR (r q : ℕ) : ℝ := dyR a r (512 + q) * (a.P r (512 + q) * svR a r q) * dsilu (a.P r (1536 + q))
def dpbR (r q : ℕ) : ℝ :=
  if q < 512 then daR a r q else if q < 1024 then duR a r (q - 512) else if q < 1536 then dvR a r (q - 1024) else dgR a r (q - 1536)
/-- The attention output's gradient. -/
def doR (r q : ℕ) : ℝ := dyR a r q * silu (a.P r q)
/-- The unscaled output weights' gradient. -/
def gR (k c : ℕ) : ℝ := ∑ r : Fin 8192, yR a r k * a.X r c
def dwoR (k c : ℕ) : ℝ := gR a k c * a.G c
def dgateR (c : ℕ) : ℝ := ∑ k : Fin 1024, gR a k c * a.W k c
/-- The spatial weights' and biases' gradients. -/
def dwsR (g t s : ℕ) : ℝ := ∑ n : Fin 64, ∑ d : Fin 64, dsR a (n * 128 + t) (g * 64 + d) * vnR a (n * 128 + s) (g * 64 + d)
def dbsR (g t : ℕ) : ℝ := ∑ n : Fin 64, ∑ d : Fin 64, dsR a (n * 128 + t) (g * 64 + d)

/-! ## Arrays that hold reals -/

/-- The array holds the reals `f`. -/
def Is2 {n m : ℕ} (v : (⟨2, ![n, m]⟩ : Shape).Idx → EReal) (f : ℕ → ℕ → ℝ) : Prop :=
  ∀ (r : Fin n) (q : Fin m), v (ix2 r q) = ((f r q : ℝ) : EReal)
def Is3 {n m k : ℕ} (v : (⟨3, ![n, m, k]⟩ : Shape).Idx → EReal) (f : ℕ → ℕ → ℕ → ℝ) : Prop :=
  ∀ (p : Fin n) (r : Fin m) (q : Fin k), v (ix3 p r q) = ((f p r q : ℝ) : EReal)

theorem sum_coe {ι : Type} (s : Finset ι) (f : ι → ℝ) : (∑ i ∈ s, ((f i : ℝ) : EReal)) = ((∑ i ∈ s, f i : ℝ) : EReal) := by
  classical
  induction s using Finset.induction_on with
  | empty => simp
  | insert i s h ih => rw [Finset.sum_insert h, Finset.sum_insert h, ih, EReal.coe_add]

theorem one_coe : (1 : EReal) = ((1 : ℝ) : EReal) := rfl
theorem div_coe (x y : ℝ) (h : y ≠ 0) : Ideal.div (x : EReal) (y : EReal) = ((x / y : ℝ) : EReal) := by
  unfold Ideal.div
  rw [if_neg (fun e => h (EReal.coe_eq_zero.mp e)), ← EReal.coe_inv, ← EReal.coe_mul, div_eq_mul_inv]
theorem sig_coe (x : ℝ) : Ideal.div ((1 : ℝ) : EReal) (((1 + Real.exp (-x) : ℝ)) : EReal) = ((sig x : ℝ) : EReal) :=
  div_coe _ _ (by positivity)
theorem eps_coe : Ideal.ofBits .f32 0x358637BD#32 = ((eps : ℝ) : EReal) := by
  unfold eps; simp [Ideal.ofBits, Ideal.ieee, -EReal.coe_mul]
theorem eps_pos : 0 < eps := by
  unfold eps; simp [Ideal.ofBits, Ideal.ieee, -EReal.coe_mul]; try norm_num
theorem c64_coe : Ideal.ofBits .f32 0x3C800000#32 = ((1 / 64 : ℝ) : EReal) := by
  simp [Ideal.ofBits, Ideal.ieee, -EReal.coe_mul]; norm_num
theorem n64_coe : Ideal.ofBits .f32 0x42800000#32 = ((64 : ℝ) : EReal) := by
  simp [Ideal.ofBits, Ideal.ieee, -EReal.coe_mul]; norm_num
theorem half_coe : Ideal.ofBits .f32 0xBF000000#32 = ((-(1 / 2) : ℝ) : EReal) := by
  simp [Ideal.ofBits, Ideal.ieee, -EReal.coe_mul, -EReal.coe_neg]; norm_num
theorem rsqrt_pos (x : ℝ) (h : 0 < x) : Ideal.rsqrt (x : EReal) = (((Real.sqrt x)⁻¹ : ℝ) : EReal) := by
  rw [Ideal.rsqrt_coe, if_neg (not_lt.2 h.le), if_neg h.ne']

/-- A sum over `m·n` indices, block by block. -/
theorem sum_blocks {M : Type} [AddCommMonoid M] (m n : ℕ) (f : ℕ → M) : ∑ k : Fin (m * n), f k = ∑ i : Fin m, ∑ j : Fin n, f (i * n + j) := by
  rw [← finProdFinEquiv.sum_comp, Fintype.sum_prod_type]
  refine Finset.sum_congr rfl fun i _ => Finset.sum_congr rfl fun j _ => congrArg f ?_
  show j.val + n * i.val = i.val * n + j.val
  rw [Nat.mul_comm, Nat.add_comm]

/-- A sum over 256 columns that keeps one group of 64. -/
theorem sum_group (f : ℕ → ℝ) (q : Fin 256) :
    ∑ k : Fin 256, f k * (if k.val / 64 = q.val / 64 then 1 else 0) = ∑ d : Fin 64, f (q / 64 * 64 + d) := by
  have hq := q.isLt
  rw [show (∑ k : Fin 256, f k * (if k.val / 64 = q.val / 64 then (1 : ℝ) else 0)) = ∑ i : Fin 4, ∑ j : Fin 64, f (i * 64 + j) * (if (i.val * 64 + j.val) / 64 = q.val / 64 then 1 else 0) from
    sum_blocks 4 64 (fun k => f k * (if k / 64 = q.val / 64 then 1 else 0))]
  rw [Finset.sum_eq_single (⟨q.val / 64, by omega⟩ : Fin 4)]
  · refine Finset.sum_congr rfl fun j _ => ?_
    have := j.isLt
    rw [if_pos (by show (q.val / 64 * 64 + j.val) / 64 = q.val / 64; omega), mul_one]
  · intro i _ hi
    refine Finset.sum_eq_zero fun j _ => ?_
    have := j.isLt
    rw [if_neg (by intro h; apply hi; ext; show i.val = q.val / 64; omega), mul_zero]
  · intro h; exact absurd (Finset.mem_univ _) h

end Cert.MixBwd

end
-- ==== Proof.Ref1.lean ====
module

public import proofs.«01_k».proof.Proof.Spec
public import proofs.«01_k».proof.Proof.Gen.ReferenceIdeal
public import Idealize.ShloMosaic.Lib.WordCmp

@[expose] public section

set_option maxRecDepth 16384

noncomputable section

namespace Cert.MixBwd

open Idealize.ShloMosaic Idealize.ShloMosaic.Pointwise
open Cert.ReferenceIdeal Cert.ReferenceIdeal.Gen
open scoped BigOperators

/-! ## The reference's host operations on arrays of reals -/

/-- The array of four axes holds the reals `f`. -/
def Is4 {n m k l : ℕ} (v : (⟨4, ![n, m, k, l]⟩ : Shape).Idx → EReal) (f : ℕ → ℕ → ℕ → ℕ → ℝ) : Prop :=
  ∀ (p : Fin n) (r : Fin m) (s : Fin k) (q : Fin l), v (ix4 p r s q) = ((f p r s q : ℝ) : EReal)

/-- Rows into blocks of 128, columns into groups of 64. -/
def hSplit (v : FVec Ideal S8192x512 .f32) : FVec Ideal S64x128x8x64 .f32 := shapeCast S64x128x8x64 v shapeCasts_S8192x512_S64x128x8x64
def hJoin (v : FVec Ideal S64x128x8x64 .f32) : FVec Ideal S8192x512 .f32 := shapeCast S8192x512 v shapeCasts_S64x128x8x64_S8192x512

theorem hSplit_is (v : FVec Ideal S8192x512 .f32) (f : ℕ → ℕ → ℝ) (h : Is2 v f) :
    Is4 (hSplit v) (fun n t g d => f (n * 128 + t) (g * 64 + d)) := by
  intro n t g d
  pointwise [hSplit]
  rw [h _ _]
theorem hJoin_is (v : FVec Ideal S64x128x8x64 .f32) (f : ℕ → ℕ → ℕ → ℕ → ℝ) (h : Is4 v f) :
    Is2 (hJoin v) (fun r q => f (r / 128) (r % 128) (q / 64) (q % 64)) := by
  intro r q
  pointwise [hJoin]
  rw [h _ _ _ _]

/-- The mean square of a row's group, shifted. -/
def hMs (v : FVec Ideal S64x128x8x64 .f32) : FVec Ideal S64x128x8x1 .f32 :=
  addf (Host.divf (broadcastInDim S64x128x8x1 ![0, 1, 2] bcast_S64x128x8_S64x128x8x1_0_1_2 (Host.reduceAdd (mulf v v) (constant S_ .f32 0x00000000#32) reducesTo_S64x128x8x64_S64x128x8_d3 h_S_)) (broadcastInDim S64x128x8x1 ![] bcast_S_S64x128x8x1 (constant S_ .f32 0x42800000#32)))
    (broadcastInDim S64x128x8x1 ![] bcast_S_S64x128x8x1 (constant S_ .f32 0x358637BD#32))

theorem hMs_is (v : FVec Ideal S64x128x8x64 .f32) (f : ℕ → ℕ → ℕ → ℕ → ℝ) (h : Is4 v f) :
    Is4 (hMs v) (fun n t g _ => (∑ d : Fin 64, f n t g d * f n t g d) * (1 / 64) + eps) := by
  intro n t g d
  pointwise [hMs, hlo_ix]
  simp only [h _ _ _ _, ← EReal.coe_mul, sum_coe, n64_coe, eps_coe, zero_add, add_zero]
  rw [div_coe _ _ (by norm_num), ← EReal.coe_add, div_eq_mul_one_div]

def hDotS (v : FVec Ideal S64x128x8x64 .f32) (w : FVec Ideal S8x128x128 .f32) : FVec Ideal S64x128x8x64 .f32 :=
  transpose S64x128x8x64 [1, 3, 0, 2] (Host.dotGeneral dot_S64x128x8x64_S8x128x128_S8x64x64x128_1_2_03_1_2_0 none v w) transposes_S8x64x64x128_S64x128x8x64_1_3_0_2
theorem hDotS_is (v : FVec Ideal S64x128x8x64 .f32) (w : FVec Ideal S8x128x128 .f32) (f : ℕ → ℕ → ℕ → ℕ → ℝ) (g : ℕ → ℕ → ℕ → ℝ) (h : Is4 v f) (hw : Is3 w g) :
    Is4 (hDotS v w) (fun n t p d => ∑ s : Fin 128, f n s p d * g p t s) := by
  intro n t p d
  pointwise [hDotS, hlo_ix]
  simp only [h _ _ _ _, hw _ _ _, ← EReal.coe_mul, sum_coe, zero_add, add_zero]

/-- The transposed product: the cotangent of the normalised values. -/
def hFlip (v : FVec Ideal S64x128x8x64 .f32) : FVec Ideal S8x64x64x128 .f32 := transpose S8x64x64x128 [2, 0, 3, 1] v transposes_S64x128x8x64_S8x64x64x128_2_0_3_1
def hDotT (v : FVec Ideal S64x128x8x64 .f32) (w : FVec Ideal S8x128x128 .f32) : FVec Ideal S64x128x8x64 .f32 :=
  transpose S64x128x8x64 [1, 3, 0, 2] (Host.dotGeneral dot_S8x64x64x128_S8x128x128_S8x64x64x128_3_1_12_2_0_0 none (hFlip v) w) transposes_S8x64x64x128_S64x128x8x64_1_3_0_2
theorem hDotT_is (v : FVec Ideal S64x128x8x64 .f32) (w : FVec Ideal S8x128x128 .f32) (f : ℕ → ℕ → ℕ → ℕ → ℝ) (g : ℕ → ℕ → ℕ → ℝ) (h : Is4 v f) (hw : Is3 w g) :
    Is4 (hDotT v w) (fun n s p d => ∑ t : Fin 128, f n t p d * g p t s) := by
  intro n t p d
  pointwise [hDotT, hFlip, hlo_ix]
  simp only [h _ _ _ _, hw _ _ _, ← EReal.coe_mul, sum_coe, zero_add, add_zero]

/-- The spatial weights' gradient. -/
def hDotW (v w : FVec Ideal S64x128x8x64 .f32) : FVec Ideal S8x128x128 .f32 :=
  Host.dotGeneral dot_S8x64x64x128_S64x128x8x64_S8x128x128_12_03_3_1_0_2 none (hFlip v) w
theorem hDotW_is (v w : FVec Ideal S64x128x8x64 .f32) (f g : ℕ → ℕ → ℕ → ℕ → ℝ) (h : Is4 v f) (hw : Is4 w g) :
    Is3 (hDotW v w) (fun p t s => ∑ n : Fin 64, ∑ d : Fin 64, f n t p d * g n s p d) := by
  intro p t s
  pointwise [hDotW, hFlip, hlo_ix]
  simp only [h _ _ _ _, hw _ _ _ _, ← EReal.coe_mul, sum_coe, zero_add, add_zero]

/-- A host sum over the first and last of four axes. -/
theorem sum03 {n0 n1 n2 n3 : ℕ} (h : (⟨4, ![n0, n1, n2, n3]⟩ : Shape).ReducesTo [0, 3] (⟨2, ![n1, n2]⟩ : Shape))
    (v : (⟨4, ![n0, n1, n2, n3]⟩ : Shape).Idx → EReal) (init : EReal) (i : Fin n1) (j : Fin n2) :
    Ideal.hostReduceAdd h v init (ix2 i j) = init + ∑ k : Fin n0, ∑ l : Fin n3, v (ix4 k i j l) := by
  unfold Ideal.hostReduceAdd
  congr 1
  have hf : ∀ x : (⟨4, ![n0, n1, n2, n3]⟩ : Shape).Idx, h.drop x = ix2 i j ↔ ∃ k : Fin n0 × Fin n3, ix4 k.1 i j k.2 = x := by
    intro x
    constructor
    · intro e
      refine ⟨(x 0, x 3), ?_⟩
      funext c; apply Fin.ext
      match c with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext b; apply Fin.ext
      match b with
      | ⟨0, _⟩ => rfl
      | ⟨1, _⟩ => rfl
  refine (Finset.sum_filter_eq_sum_of_fiber _ (fun k : Fin n0 × Fin n3 => ix4 k.1 i j k.2) (fun _ _ e => Prod.ext (congrFun e 0) (congrFun e 3)) hf v).trans ?_
  simp only [Fintype.sum_prod_type]

/-- The sums over one block index and one column of a group. -/
def hSum03 (v : FVec Ideal S64x128x8x64 .f32) : FVec Ideal S8x128 .f32 :=
  transpose S8x128 [1, 0] (Host.reduceAdd (shapeCast S1x128x8x1 (Host.reduceAdd v (constant S_ .f32 0x00000000#32) reducesTo_S64x128x8x64_S128x8_d0_3 h_S_) shapeCasts_S128x8_S1x128x8x1) (constant S_ .f32 0x00000000#32) reducesTo_S1x128x8x1_S128x8_d0_3 h_S_) transposes_S128x8_S8x128_1_0
theorem hSum03_is (v : FVec Ideal S64x128x8x64 .f32) (f : ℕ → ℕ → ℕ → ℕ → ℝ) (h : Is4 v f) :
    Is2 (hSum03 v) (fun p t => ∑ n : Fin 64, ∑ d : Fin 64, f n t p d) := by
  intro p t
  pointwise [hSum03, hlo_ix]
  rw [sum03]
  pointwise [hlo_ix]
  simp only [sum03]
  simp only [h _ _ _ _, sum_coe, zero_add, add_zero, Finset.univ_unique, Finset.sum_singleton]

end Cert.MixBwd

end
-- ==== Proof.Ref2.lean ====
module

public import proofs.«01_k».proof.Proof.Ref1

@[expose] public section

set_option maxRecDepth 16384

noncomputable section

namespace Cert.MixBwd

open Idealize.ShloMosaic Idealize.ShloMosaic.Pointwise
open Cert.ReferenceIdeal Cert.ReferenceIdeal.Gen
open scoped BigOperators

/-! ## The reference's intermediate arrays and the reals they hold -/

section Defs
variable (A0 : FVec Ideal S8192x1024 .f32) (A1 : FVec Ideal S8192x2048 .f32) (A2 : FVec Ideal S8192x512 .f32) (A3 : FVec Ideal S1x1024 .f32)
  (A4 : FVec Ideal S1024x1024 .f32) (A5 : FVec Ideal S8x128x128 .f32) (A6 : FVec Ideal S8x128 .f32)

/-- The logistic function, the unit weighted by it, and the cotangent it passes back. -/
def hOne : FVec Ideal S8192x512 .f32 := broadcastInDim S8192x512 ![] bcast_S_S8192x512 (constant S_ .f32 0x3F800000#32)
def hSig (x : FVec Ideal S8192x512 .f32) : FVec Ideal S8192x512 .f32 := Host.divf hOne (addf hOne (Host.exp (Host.negf x)))
def hSilu (x : FVec Ideal S8192x512 .f32) : FVec Ideal S8192x512 .f32 := mulf x (hSig x)
def hDsilu (x y : FVec Ideal S8192x512 .f32) : FVec Ideal S8192x512 .f32 := addf (mulf y (hSig x)) (mulf (mulf x y) (mulf (hSig x) (subf hOne (hSig x))))

/-- The four column ranges of the fused projection. -/
def rA : FVec Ideal S8192x512 .f32 := extractStridedSlice S8192x512 ![0, 0] A1 slices_S8192x2048_S8192x512_0_0
def rU : FVec Ideal S8192x512 .f32 := extractStridedSlice S8192x512 ![0, 512] A1 slices_S8192x2048_S8192x512_0_512
def rV : FVec Ideal S8192x512 .f32 := extractStridedSlice S8192x512 ![0, 1024] A1 slices_S8192x2048_S8192x512_0_1024
def rG : FVec Ideal S8192x512 .f32 := extractStridedSlice S8192x512 ![0, 1536] A1 slices_S8192x2048_S8192x512_0_1536
/-- The normalised values and the spatial gate. -/
def rR : FVec Ideal S64x128x8x1 .f32 := Host.rsqrt (hMs (hSplit (rV A1)))
def hWide (v : FVec Ideal S64x128x8x1 .f32) : FVec Ideal S64x128x8x64 .f32 := broadcastInDim S64x128x8x64 ![0, 1, 2, 3] bcast_S64x128x8x1_S64x128x8x64_0_1_2_3 v
def rVn : FVec Ideal S64x128x8x64 .f32 := mulf (hSplit (rV A1)) (hWide (rR A1))
def hBias : FVec Ideal S64x128x8x64 .f32 :=
  broadcastInDim S64x128x8x64 ![0, 1, 2, 3] bcast_S1x128x8x1_S64x128x8x64_0_1_2_3 (broadcastInDim S1x128x8x1 ![1, 2] bcast_S128x8_S1x128x8x1_1_2 (transpose S128x8 [1, 0] A6 transposes_S8x128_S128x8_1_0))
def rSv : FVec Ideal S8192x512 .f32 := hJoin (addf (hDotS (rVn A1) A5) (hBias A6))
/-- The mixed channels. -/
def rM : FVec Ideal S8192x512 .f32 := mulf (rU A1) (rSv A1 A5 A6)
def rY : FVec Ideal S8192x1024 .f32 :=
  concatenate S8192x1024 1 [⟨S8192x512, mulf A2 (hSilu (rA A1))⟩, ⟨S8192x512, mulf (rM A1 A5 A6) (hSilu (rG A1))⟩] concatenates_S8192x512_S8192x512_S8192x1024_d1
/-- The gated cotangent and its product with the output weights, both halves. -/
def rGX : FVec Ideal S8192x1024 .f32 := mulf (broadcastInDim S8192x1024 ![0, 1] bcast_S1x1024_S8192x1024_0_1 A3) A0
def rDy : FVec Ideal S8192x1024 .f32 := Host.dotGeneral (F := Ideal) dot_S8192x1024_S1024x1024_S8192x1024_1_1_0_0_n_n none (rGX A0 A3) A4
def rDyl : FVec Ideal S8192x512 .f32 := extractStridedSlice S8192x512 ![0, 0] (rDy A0 A3 A4) slices_S8192x1024_S8192x512_0_0
def rDyh : FVec Ideal S8192x512 .f32 := extractStridedSlice S8192x512 ![0, 512] (rDy A0 A3 A4) slices_S8192x1024_S8192x512_0_512
/-- The gate's, the output weights' and the attention output's gradients. -/
def rDgate : FVec Ideal S1024 .f32 :=
  shapeCast S1024 (shapeCast S1x1024 (Host.reduceAdd (mulf A0 (Host.dotGeneral (F := Ideal) dot_S8192x1024_S1024x1024_S8192x1024_1_0_0_1_n_n none (rY A1 A2 A5 A6) A4)) (constant S_ .f32 0x00000000#32) reducesTo_S8192x1024_S1024_d0 h_S_) shapeCasts_S1024_S1x1024) shapeCasts_S1x1024_S1024
def rDwo : FVec Ideal S1024x1024 .bf16 :=
  truncf .bf16 (transpose S1024x1024 [1, 0] (Host.dotGeneral (F := Ideal) dot_S8192x1024_S8192x1024_S1024x1024_0_0_1_1_n_n none (rGX A0 A3) (rY A1 A2 A5 A6)) transposes_S1024x1024_S1024x1024_1_0) bitsLt_bf16_f32
def rDo : FVec Ideal S8192x512 .f32 := mulf (rDyl A0 A3 A4) (hSilu (rA A1))
/-- The cotangents of the gated product, of the spatial gate and of the normalised values. -/
def rDm : FVec Ideal S8192x512 .f32 := mulf (rDyh A0 A3 A4) (hSilu (rG A1))
def rDs : FVec Ideal S64x128x8x64 .f32 := hSplit (mulf (rU A1) (rDm A0 A1 A3 A4))
def rDvn : FVec Ideal S64x128x8x64 .f32 := hDotT (rDs A0 A1 A3 A4) A5
/-- The mean square's part of the values' cotangent. -/
def hCorr (x y : FVec Ideal S64x128x8x64 .f32) (r s : FVec Ideal S64x128x8x1 .f32) : FVec Ideal S64x128x8x64 .f32 :=
  broadcastInDim S64x128x8x64 ![0, 1, 2] bcast_S64x128x8_S64x128x8x64_0_1_2 (Host.reduceAdd (Host.divf (mulf (shapeCast S64x128x8x1 (Host.reduceAdd (mulf x y) (constant S_ .f32 0x00000000#32) reducesTo_S64x128x8x64_S64x128x8_d3 h_S_) shapeCasts_S64x128x8_S64x128x8x1)
    (mulf (broadcastInDim S64x128x8x1 ![] bcast_S_S64x128x8x1 (constant S_ .f32 0xBF000000#32)) (Host.divf r s))) (broadcastInDim S64x128x8x1 ![] bcast_S_S64x128x8x1 (constant S_ .f32 0x42800000#32))) (constant S_ .f32 0x00000000#32) reducesTo_S64x128x8x1_S64x128x8_d3 h_S_)
def rC : FVec Ideal S64x128x8x64 .f32 := hCorr (hSplit (rV A1)) (rDvn A0 A1 A3 A4 A5) (rR A1) (hMs (hSplit (rV A1)))
def rDv : FVec Ideal S8192x512 .f32 :=
  hJoin (addf (addf (mulf (rDvn A0 A1 A3 A4 A5) (hWide (rR A1))) (mulf (hSplit (rV A1)) (rC A0 A1 A3 A4 A5))) (mulf (rC A0 A1 A3 A4 A5) (hSplit (rV A1))))
/-- The fused projection's gradient. -/
def hCat (x y z w : FVec Ideal S8192x512 .f32) : FVec Ideal S8192x2048 .f32 :=
  concatenate S8192x2048 1 [⟨S8192x512, x⟩, ⟨S8192x512, y⟩, ⟨S8192x512, z⟩, ⟨S8192x512, w⟩] concatenates_S8192x512_S8192x512_S8192x512_S8192x512_S8192x2048_d1
def rDpb : FVec Ideal S8192x2048 .bf16 :=
  truncf .bf16 (hCat (hDsilu (rA A1) (mulf A2 (rDyl A0 A3 A4))) (mulf (rDm A0 A1 A3 A4) (rSv A1 A5 A6)) (rDv A0 A1 A3 A4 A5) (hDsilu (rG A1) (mulf (rM A1 A5 A6) (rDyh A0 A3 A4)))) bitsLt_bf16_f32
end Defs

/-! ### Operation by operation -/

theorem hSig_is (x : FVec Ideal S8192x512 .f32) (f : ℕ → ℕ → ℝ) (h : Is2 x f) : Is2 (hSig x) (fun r q => sig (f r q)) := by
  intro r q
  pointwise [hSig, hOne, hlo_ix]
  simp only [h _ _, one_coe, zero_sub, ← EReal.coe_neg, Ideal.exp_coe, ← EReal.coe_add, sig_coe]
theorem hMul_is (x y : FVec Ideal S8192x512 .f32) (f g : ℕ → ℕ → ℝ) (h : Is2 x f) (k : Is2 y g) : Is2 (mulf x y) (fun r q => f r q * g r q) := by
  intro r q
  pointwise [hlo_ix]
  simp only [h _ _, k _ _, ← EReal.coe_mul]
theorem hSilu_is (x : FVec Ideal S8192x512 .f32) (f : ℕ → ℕ → ℝ) (h : Is2 x f) : Is2 (hSilu x) (fun r q => silu (f r q)) :=
  hMul_is _ _ _ _ h (hSig_is _ _ h)
theorem hDsilu_is (x y : FVec Ideal S8192x512 .f32) (f g : ℕ → ℕ → ℝ) (h : Is2 x f) (k : Is2 y g) : Is2 (hDsilu x y) (fun r q => g r q * dsilu (f r q)) := by
  intro r q
  have hs := hSig_is x f h
  pointwise [hDsilu, hOne, hlo_ix]
  simp only [h _ _, k _ _, hs _ _, one_coe, ← EReal.coe_mul, ← EReal.coe_sub, ← EReal.coe_add]
  show _ = ((g r q * dsilu (f r q) : ℝ) : EReal)
  unfold dsilu
  congr 1; ring
theorem hCat_is (x y z w : FVec Ideal S8192x512 .f32) (f g h k : ℕ → ℕ → ℝ) (hx : Is2 x f) (hy : Is2 y g) (hz : Is2 z h) (hw : Is2 w k) :
    Is2 (hCat x y z w) (fun r q => if q < 512 then f r q else if q < 1024 then g r (q - 512) else if q < 1536 then h r (q - 1024) else k r (q - 1536)) := by
  intro r q
  have hq := q.isLt
  pointwise [hCat, hlo_ix]
  simp only [hx _ _, hy _ _, hz _ _, hw _ _]
  split_ifs <;> first | rfl | omega

variable (a : Args)

theorem rA_is (A1 : FVec Ideal S8192x2048 .f32) (P : Is2 A1 a.P) : Is2 (rA A1) (fun r q => a.P r q) := by
  intro r q; pointwise [rA, hlo_ix]; simp only [P _ _]
theorem rU_is (A1 : FVec Ideal S8192x2048 .f32) (P : Is2 A1 a.P) : Is2 (rU A1) (fun r q => a.P r (512 + q)) := by
  intro r q; pointwise [rU, hlo_ix]; simp only [P _ _]
theorem rV_is (A1 : FVec Ideal S8192x2048 .f32) (P : Is2 A1 a.P) : Is2 (rV A1) (fun r q => a.P r (1024 + q)) := by
  intro r q; pointwise [rV, hlo_ix]; simp only [P _ _]
theorem rG_is (A1 : FVec Ideal S8192x2048 .f32) (P : Is2 A1 a.P) : Is2 (rG A1) (fun r q => a.P r (1536 + q)) := by
  intro r q; pointwise [rG, hlo_ix]; simp only [P _ _]

/-- The shifted mean square of a row's group. -/
def msR (r g : ℕ) : ℝ := (∑ d : Fin 64, a.P r (1024 + (g * 64 + d)) * a.P r (1024 + (g * 64 + d))) * (1 / 64) + eps
theorem msR_pos (r g : ℕ) : 0 < msR a r g :=
  add_pos_of_nonneg_of_pos (mul_nonneg (Finset.sum_nonneg fun d _ => mul_self_nonneg _) (by norm_num)) eps_pos

theorem rMs_is (A1 : FVec Ideal S8192x2048 .f32) (P : Is2 A1 a.P) : Is4 (hMs (hSplit (rV A1))) (fun n t g _ => msR a (n * 128 + t) g) :=
  hMs_is _ _ (hSplit_is _ _ (rV_is a A1 P))
theorem rR_is (A1 : FVec Ideal S8192x2048 .f32) (P : Is2 A1 a.P) : Is4 (rR A1) (fun n t g _ => scaleR a (n * 128 + t) g) := by
  intro n t g d
  have hm := rMs_is a A1 P
  pointwise [rR, hlo_ix]
  rw [hm _ _ _ _]
  exact rsqrt_pos _ (msR_pos a _ _)
theorem hWide_is (v : FVec Ideal S64x128x8x1 .f32) (f : ℕ → ℕ → ℕ → ℝ) (h : Is4 v (fun n t g _ => f n t g)) : Is4 (hWide v) (fun n t g _ => f n t g) := by
  intro n t g d
  pointwise [hWide, hlo_ix]
  simp only [h _ _ _ _]
theorem rVn_is (A1 : FVec Ideal S8192x2048 .f32) (P : Is2 A1 a.P) : Is4 (rVn A1) (fun n t g d => a.P (n * 128 + t) (1024 + (g * 64 + d)) * scaleR a (n * 128 + t) g) := by
  intro n t g d
  have hv := hSplit_is _ _ (rV_is a A1 P)
  have hr := hWide_is _ _ (rR_is a A1 P)
  pointwise [rVn, hlo_ix]
  simp only [hv _ _ _ _, hr _ _ _ _, ← EReal.coe_mul]
theorem hBias_is (A6 : FVec Ideal S8x128 .f32) (B : Is2 A6 a.B) : Is4 (hBias A6) (fun n t g d => a.B g t) := by
  intro n t g d
  pointwise [hBias, hlo_ix]
  simp only [B _ _]
theorem rSv_is (A1 : FVec Ideal S8192x2048 .f32) (A5 : FVec Ideal S8x128x128 .f32) (A6 : FVec Ideal S8x128 .f32) (P : Is2 A1 a.P) (S : Is3 A5 a.S) (B : Is2 A6 a.B) :
    Is2 (rSv A1 A5 A6) (svR a) := by
  have h4 : Is4 (addf (hDotS (rVn A1) A5) (hBias A6)) (fun n t g d => (∑ s : Fin 128, a.P (n * 128 + s) (1024 + (g * 64 + d)) * scaleR a (n * 128 + s) g * a.S g t s) + a.B g t) := by
    intro n t g d
    have hd := hDotS_is _ _ _ _ (rVn_is a A1 P) S
    have hb := hBias_is a A6 B
    pointwise [hlo_ix]
    simp only [hd _ _ _ _, hb _ _ _ _, ← EReal.coe_add]
  intro r q
  refine (hJoin_is _ _ h4 r q).trans ?_
  show (((_ : ℝ)) : EReal) = ((svR a r q : ℝ) : EReal)
  unfold svR vnR
  have e : q.val / 64 * 64 + q.val % 64 = q.val := Nat.div_add_mod' _ _
  simp only [e]
  congr 2
  refine Finset.sum_congr rfl fun s _ => ?_
  ring

end Cert.MixBwd

end
-- ==== Proof.Val1.lean ====
module

public import proofs.«01_k».proof.Proof.Spec

@[expose] public section

set_option maxRecDepth 16384

noncomputable section

namespace Cert.MixBwd

open Idealize.ShloMosaic Idealize.ShloMosaic.Pointwise Idealize.ShloMosaic.VecWindow
open Cert.KernelIdeal Cert.KernelIdeal.Gen
open scoped BigOperators

/-! ## The body's operations on arrays of reals -/

theorem pay23_is (v : Vec Ideal S512x512 .f32) (f : ℕ → ℕ → ℝ) (h : Is2 v f) : Is2 (k0_pay23 v) (fun r q => sig (f r q)) := by
  intro r q
  pointwise [k0_pay23]
  have h' := h r q
  simp only [h', one_coe, zero_sub, ← EReal.coe_neg, Ideal.exp_coe, ← EReal.coe_add, sig_coe]

theorem pay28_is (v : Vec Ideal S512x256 .f32) (w : Vec Ideal S256x256 .bf16) (f : ℕ → ℕ → ℝ) (h : Is2 v f)
    (hw : Is2 w (fun k q => if k / 64 = q / 64 then 1 else 0)) :
    Is2 (k0_pay28 w v) (fun r q => (Real.sqrt ((∑ d : Fin 64, f r (q / 64 * 64 + d) * f r (q / 64 * 64 + d)) * (1 / 64) + eps))⁻¹) := by
  intro r q
  pointwise [k0_pay28]
  simp only [h _ _, hw _ _, ← EReal.coe_mul, ← EReal.coe_sub, sub_self, zero_mul, sum_coe, Finset.sum_const_zero, EReal.coe_zero, add_zero, c64_coe, eps_coe, ← EReal.coe_add]
  rw [sum_group (fun k => f r k * f r k) q]
  refine rsqrt_pos _ (add_pos_of_nonneg_of_pos (mul_nonneg (Finset.sum_nonneg fun d _ => mul_self_nonneg _) (by norm_num)) eps_pos)

theorem shr6 (k : ℕ) (h : k < 256) : (IntOp.shrsi ArithUnit.vector (BitVec.ofNat 32 k) 6#32) = BitVec.ofNat 32 (k / 64) := by
  interval_cases k <;> decide

theorem cmp_self (x : BitVec 32) : IntOp.cmpi CmpIPredicate.eq x x = 1#1 := by
  simp [IntOp.cmpi]
theorem cmp_ne {x y : BitVec 32} (h : x ≠ y) : IntOp.cmpi CmpIPredicate.eq x y = 0#1 := by
  show BitVec.ofBool (x == y) = _
  rw [beq_false_of_ne h]; rfl

/-- The group mask: one where two columns lie in the same group of 64. -/
theorem pay20_is : Is2 (k0_pay20 (F := Ideal)) (fun k q => if k / 64 = q / 64 then 1 else 0) := by
  intro k q
  pointwise [k0_pay20]
  rw [shr6 k k.isLt, shr6 q q.isLt]
  have hk := k.isLt
  have hq := q.isLt
  by_cases h : k.val / 64 = q.val / 64
  · rw [h, if_pos rfl]; rw [cmp_self]; rfl
  · rw [if_neg h]
    have hne : BitVec.ofNat 32 (k.val / 64) ≠ BitVec.ofNat 32 (q.val / 64) := fun e => by
      have e' := congrArg BitVec.toNat e
      simp only [BitVec.toNat_ofNat] at e'
      omega
    rw [cmp_ne hne]; rfl

/-- The column mask: the lower half of 128 columns. -/
theorem pay21_is : ∀ (k q : Fin 128), k0_pay21 (ix2 k q) = if q.val < 64 then 1#1 else 0#1 := by
  intro k q
  pointwise [k0_pay21]
  revert q
  decide

theorem pay22_is {x : Vec Ideal S512x1024 .f32} {g : Vec Ideal S1x1024 .f32} {w : Vec Ideal S1024x1024 .bf16} {fx : ℕ → ℕ → ℝ} {fg : ℕ → ℝ} {fw : ℕ → ℕ → ℝ}
    (hx : Is2 x fx) (hg : Is2 g (fun _ c => fg c)) (hw : Is2 w fw) : Is2 (k0_pay22 x g w) (fun r k => ∑ c : Fin 1024, fx r c * fg c * fw k c) := by
  intro r q
  pointwise [k0_pay22]
  simp only [hx _ _, hg _ _, hw _ _, ← EReal.coe_mul, sum_coe]

theorem pay25_is {v : Vec Ideal S512x512 .f32} {s : Vec Ideal S512x512 .f32} {o : Vec Ideal S512x512 .f32} {f : ℕ → ℕ → ℝ} {g : ℕ → ℕ → ℝ} (hv : Is2 v f) (hs : Is2 s (fun r q => sig (f r q))) (ho : Is2 o g) :
    Is2 (k0_pay25 (F := Ideal) v s o) (fun r q => g r q * (f r q * sig (f r q))) := by
  intro r q
  pointwise [k0_pay25, k0_pay24]
  simp only [hv _ _, hs _ _, ho _ _, one_coe, zero_sub, ← EReal.coe_neg, Ideal.exp_coe, sig_coe, ← EReal.coe_mul, ← EReal.coe_sub, ← EReal.coe_add, sub_self, zero_mul, sum_coe, Finset.sum_const_zero, EReal.coe_zero, add_zero, c64_coe, eps_coe]

theorem pay26_is {v : Vec Ideal S512x512 .f32} {s : Vec Ideal S512x512 .f32} {o : Vec Ideal S512x512 .f32} {f : ℕ → ℕ → ℝ} {g : ℕ → ℕ → ℝ} (hv : Is2 v f) (hs : Is2 s (fun r q => sig (f r q))) (ho : Is2 o g) :
    Is2 (k0_pay26 (F := Ideal) v s o) (fun r q => g r q * (f r q * sig (f r q))) := by
  intro r q
  pointwise [k0_pay26, k0_pay24]
  simp only [hv _ _, hs _ _, ho _ _, one_coe, zero_sub, ← EReal.coe_neg, Ideal.exp_coe, sig_coe, ← EReal.coe_mul, ← EReal.coe_sub, ← EReal.coe_add, sub_self, zero_mul, sum_coe, Finset.sum_const_zero, EReal.coe_zero, add_zero, c64_coe, eps_coe]

theorem pay27_is {v : Vec Ideal S512x512 .f32} {s : Vec Ideal S512x512 .f32} {o : Vec Ideal S512x512 .f32} {d : Vec Ideal S512x512 .f32} {f : ℕ → ℕ → ℝ} {g : ℕ → ℕ → ℝ} {e : ℕ → ℕ → ℝ} (hv : Is2 v f) (hs : Is2 s (fun r q => sig (f r q))) (ho : Is2 o g) (hd : Is2 d e) :
    Is2 (k0_pay27 (F := Ideal) v s o d) (fun r q => e r q * g r q * (sig (f r q) * (1 + f r q * (1 - sig (f r q))))) := by
  intro r q
  pointwise [k0_pay27, k0_pay24]
  simp only [hv _ _, hs _ _, ho _ _, hd _ _, one_coe, zero_sub, ← EReal.coe_neg, Ideal.exp_coe, sig_coe, ← EReal.coe_mul, ← EReal.coe_sub, ← EReal.coe_add, sub_self, zero_mul, sum_coe, Finset.sum_const_zero, EReal.coe_zero, add_zero, c64_coe, eps_coe]

theorem pay9_is {a : Vec Ideal S128x512 .f32} {u : Vec Ideal S128x512 .f32} {g : Vec Ideal S128x512 .f32} {fa : ℕ → ℕ → ℝ} {fu : ℕ → ℕ → ℝ} {fg : ℕ → ℕ → ℝ} (ha : Is2 a fa) (hu : Is2 u fu) (hg : Is2 g fg) :
    Is2 (k0_pay9 (F := Ideal) a u g) (fun r q => fu r q * fa r q * (fg r q * sig (fg r q))) := by
  intro r q
  pointwise [k0_pay9, k0_pay8, k0_pay7, k0_pay6, k0_pay5]
  simp only [ha _ _, hu _ _, hg _ _, one_coe, zero_sub, ← EReal.coe_neg, Ideal.exp_coe, sig_coe, ← EReal.coe_mul, ← EReal.coe_sub, ← EReal.coe_add, sub_self, zero_mul, sum_coe, Finset.sum_const_zero, EReal.coe_zero, add_zero, c64_coe, eps_coe]

theorem pay11_is {a : Vec Ideal S128x512 .f32} {u : Vec Ideal S128x512 .f32} {g : Vec Ideal S128x512 .f32} {d : Vec Ideal S128x512 .f32} {fa : ℕ → ℕ → ℝ} {fu : ℕ → ℕ → ℝ} {fg : ℕ → ℕ → ℝ} {fd : ℕ → ℕ → ℝ} (ha : Is2 a fa) (hu : Is2 u fu) (hg : Is2 g fg) (hd : Is2 d fd) :
    Is2 (k0_pay11 (F := Ideal) a u g d) (fun r q => fd r q * (fu r q * fa r q) * (sig (fg r q) * (1 + fg r q * (1 - sig (fg r q))))) := by
  intro r q
  pointwise [k0_pay11, k0_pay10, k0_pay8, k0_pay7, k0_pay6, k0_pay5]
  simp only [ha _ _, hu _ _, hg _ _, hd _ _, one_coe, zero_sub, ← EReal.coe_neg, Ideal.exp_coe, sig_coe, ← EReal.coe_mul, ← EReal.coe_sub, ← EReal.coe_add, sub_self, zero_mul, sum_coe, Finset.sum_const_zero, EReal.coe_zero, add_zero, c64_coe, eps_coe]

theorem pay12_is {a : Vec Ideal S128x512 .f32} {g : Vec Ideal S128x512 .f32} {d : Vec Ideal S128x512 .f32} {fa : ℕ → ℕ → ℝ} {fg : ℕ → ℕ → ℝ} {fd : ℕ → ℕ → ℝ} (ha : Is2 a fa) (hg : Is2 g fg) (hd : Is2 d fd) :
    Is2 (k0_pay12 (F := Ideal) a g d) (fun r q => fd r q * (fg r q * sig (fg r q)) * fa r q) := by
  intro r q
  pointwise [k0_pay12, k0_pay10, k0_pay8, k0_pay7, k0_pay6, k0_pay5]
  simp only [ha _ _, hg _ _, hd _ _, one_coe, zero_sub, ← EReal.coe_neg, Ideal.exp_coe, sig_coe, ← EReal.coe_mul, ← EReal.coe_sub, ← EReal.coe_add, sub_self, zero_mul, sum_coe, Finset.sum_const_zero, EReal.coe_zero, add_zero, c64_coe, eps_coe]

theorem pay13_is {u : Vec Ideal S128x512 .f32} {g : Vec Ideal S128x512 .f32} {d : Vec Ideal S128x512 .f32} {fu : ℕ → ℕ → ℝ} {fg : ℕ → ℕ → ℝ} {fd : ℕ → ℕ → ℝ} (hu : Is2 u fu) (hg : Is2 g fg) (hd : Is2 d fd) :
    Is2 (k0_pay13 (F := Ideal) u g d) (fun r q => fd r q * (fg r q * sig (fg r q)) * fu r q) := by
  intro r q
  pointwise [k0_pay13, k0_pay10, k0_pay8, k0_pay7, k0_pay6, k0_pay5]
  simp only [hu _ _, hg _ _, hd _ _, one_coe, zero_sub, ← EReal.coe_neg, Ideal.exp_coe, sig_coe, ← EReal.coe_mul, ← EReal.coe_sub, ← EReal.coe_add, sub_self, zero_mul, sum_coe, Finset.sum_const_zero, EReal.coe_zero, add_zero, c64_coe, eps_coe]

theorem pay38_is {u : Vec Ideal S128x512 .f32} {fu : ℕ → ℕ → ℝ} (hu : Is2 u fu) :
    Is2 (k0_pay38 (F := Ideal) u) (fun r q => fu r q) := by
  intro r q
  pointwise [k0_pay38]
  simp only [hu _ _, one_coe, zero_sub, ← EReal.coe_neg, Ideal.exp_coe, sig_coe, ← EReal.coe_mul, ← EReal.coe_sub, ← EReal.coe_add, sub_self, zero_mul, sum_coe, Finset.sum_const_zero, EReal.coe_zero, add_zero, c64_coe, eps_coe]

theorem pay39_is {u : Vec Ideal S128x512 .f32} {x : Vec Ideal S128x512 .f32} {fu : ℕ → ℕ → ℝ} {fx : ℕ → ℕ → ℝ} (hu : Is2 u fu) (hx : Is2 x fx) :
    Is2 (k0_pay39 (F := Ideal) u x) (fun r q => fx r q + fu r q) := by
  intro r q
  pointwise [k0_pay39]
  simp only [hu _ _, hx _ _, one_coe, zero_sub, ← EReal.coe_neg, Ideal.exp_coe, sig_coe, ← EReal.coe_mul, ← EReal.coe_sub, ← EReal.coe_add, sub_self, zero_mul, sum_coe, Finset.sum_const_zero, EReal.coe_zero, add_zero, c64_coe, eps_coe]

theorem pay60_is {w : Vec Ideal S256x256 .bf16} {d v s : Vec Ideal S512x256 .f32} {fd fv fs : ℕ → ℕ → ℝ} (hw : Is2 w (fun k q => if k / 64 = q / 64 then 1 else 0)) (hd : Is2 d fd) (hv : Is2 v fv) (hs : Is2 s fs) :
    Is2 (k0_pay60 w d v s) (fun r q => fs r q * (fd r q - fv r q * ((∑ e : Fin 64, fv r (q / 64 * 64 + e) * fd r (q / 64 * 64 + e)) * (1 / 64)))) := by
  intro r q
  pointwise [k0_pay60]
  simp only [hw _ _, hd _ _, hv _ _, hs _ _, one_coe, zero_sub, ← EReal.coe_neg, Ideal.exp_coe, sig_coe, ← EReal.coe_mul, ← EReal.coe_sub, ← EReal.coe_add, sub_self, zero_mul, sum_coe, Finset.sum_const_zero, EReal.coe_zero, add_zero, c64_coe, eps_coe]
  rw [sum_group (fun k => fv r k * fd r k) q]

theorem pay1_eq (w : Vec Ideal S256x256 .bf16) (d v s : Vec Ideal S512x256 .f32) : k0_pay1 w d v s = k0_pay60 w d v s := rfl
theorem pay33_eq (w : Vec Ideal S256x256 .bf16) (v : Vec Ideal S512x256 .f32) : k0_pay33 w v = k0_pay28 w v := rfl

/-- The normalised values of one half, and their scales. -/
theorem pay30_is {v : Vec Ideal S512x256 .f32} {w : Vec Ideal S256x256 .bf16} {f : ℕ → ℕ → ℝ} (h : Is2 v f) (hw : Is2 w (fun k q => if k / 64 = q / 64 then 1 else 0)) :
    Is2 (k0_pay30 (k0_pay29 w v)) (fun r q => f r q * (Real.sqrt ((∑ d : Fin 64, f r (q / 64 * 64 + d) * f r (q / 64 * 64 + d)) * (1 / 64) + eps))⁻¹) := by
  intro r q
  have h28 := pay28_is v w f h hw
  pointwise [k0_pay30, k0_pay29]
  simp only [h _ _, h28 _ _, ← EReal.coe_mul]
theorem pay31_eq (w : Vec Ideal S256x256 .bf16) (v : Vec Ideal S512x256 .f32) : k0_pay31 (k0_pay28 w v) = k0_pay28 w v := by
  funext y; pointwise [k0_pay31]
theorem pay32_is {v : Vec Ideal S512x256 .f32} {w : Vec Ideal S256x256 .bf16} {f : ℕ → ℕ → ℝ} (h : Is2 v f) (hw : Is2 w (fun k q => if k / 64 = q / 64 then 1 else 0)) :
    Is2 (k0_pay32 (k0_pay29 w v)) (fun r q => f r q * (Real.sqrt ((∑ d : Fin 64, f r (q / 64 * 64 + d) * f r (q / 64 * 64 + d)) * (1 / 64) + eps))⁻¹) := by
  intro r q
  have h28 := pay28_is v w f h hw
  pointwise [k0_pay32, k0_pay29]
  simp only [h _ _, h28 _ _, ← EReal.coe_mul]
theorem pay35_is {v : Vec Ideal S512x256 .f32} {w : Vec Ideal S256x256 .bf16} {f : ℕ → ℕ → ℝ} (h : Is2 v f) (hw : Is2 w (fun k q => if k / 64 = q / 64 then 1 else 0)) :
    Is2 (k0_pay35 w v) (fun r q => f r q * (Real.sqrt ((∑ d : Fin 64, f r (q / 64 * 64 + d) * f r (q / 64 * 64 + d)) * (1 / 64) + eps))⁻¹) := by
  intro r q
  have h28 := pay28_is v w f h hw
  pointwise [k0_pay35, k0_pay34]
  simp only [h _ _, pay33_eq, h28 _ _, ← EReal.coe_mul]
theorem pay36_eq (w : Vec Ideal S256x256 .bf16) (v : Vec Ideal S512x256 .f32) : k0_pay36 w v = k0_pay28 w v := by
  funext y; pointwise [k0_pay36, k0_pay33, k0_pay28]
theorem pay37_is {v : Vec Ideal S512x256 .f32} {w : Vec Ideal S256x256 .bf16} {f : ℕ → ℕ → ℝ} (h : Is2 v f) (hw : Is2 w (fun k q => if k / 64 = q / 64 then 1 else 0)) :
    Is2 (k0_pay37 w v) (fun r q => f r q * (Real.sqrt ((∑ d : Fin 64, f r (q / 64 * 64 + d) * f r (q / 64 * 64 + d)) * (1 / 64) + eps))⁻¹) := by
  intro r q
  have h28 := pay28_is v w f h hw
  pointwise [k0_pay37, k0_pay34]
  simp only [h _ _, pay33_eq, h28 _ _, ← EReal.coe_mul]

theorem sel_is (q : ℕ) (a b : EReal) : Scalar.select (if q < 64 then 1#1 else 0#1) a b = if q < 64 then a else b := by
  by_cases h : q < 64
  · rw [if_pos h, if_pos h]; rfl
  · rw [if_neg h, if_neg h]; rfl

theorem ite_coe (p : Prop) [Decidable p] (a b : ℝ) : (if p then (a : EReal) else (b : EReal)) = ((if p then a else b : ℝ) : EReal) := by
  split <;> rfl

theorem sum_pick (p : Prop) [Decidable p] (a b : Fin 128 → ℝ) (c : Fin 128 → ℝ) :
    (if p then ∑ t, a t * c t else ∑ t, b t * c t) = ∑ t, (if p then a t else b t) * c t := by
  split <;> rfl

theorem pay14_is {a : Vec Ideal S128x128 .bf16} {w0 w1 : Vec Ideal S1x128x128 .bf16} {fa : ℕ → ℕ → ℝ} {fw0 fw1 : ℕ → ℕ → ℕ → ℝ}
    (ha : Is2 a fa) (h0 : Is3 w0 fw0) (h1 : Is3 w1 fw1) :
    Is2 (k0_pay14 k0_pay21 a w0 w1) (fun r q => ∑ t : Fin 128, (if q < 64 then fw0 0 r t else fw1 0 r t) * fa t q) := by
  intro r q
  pointwise [k0_pay14]
  simp only [pay21_is, sel_is, ha _ _, h0 _ _ _, h1 _ _ _, ← EReal.coe_mul, sum_coe, ite_coe]
  exact congrArg _ (sum_pick _ _ _ _)

theorem pay15_is {a : Vec Ideal S128x128 .bf16} {w0 w1 : Vec Ideal S1x128x128 .bf16} {fa : ℕ → ℕ → ℝ} {fw0 fw1 : ℕ → ℕ → ℕ → ℝ}
    (ha : Is2 a fa) (h0 : Is3 w0 fw0) (h1 : Is3 w1 fw1) :
    Is2 (k0_pay15 k0_pay21 a w0 w1) (fun r q => ∑ t : Fin 128, (if q < 64 then fw0 0 r t else fw1 0 r t) * fa t q) := by
  intro r q
  pointwise [k0_pay15]
  simp only [pay21_is, sel_is, ha _ _, h0 _ _ _, h1 _ _ _, ← EReal.coe_mul, sum_coe, ite_coe]
  exact congrArg _ (sum_pick _ _ _ _)

theorem pay40_is {a : Vec Ideal S128x128 .bf16} {w0 w1 : Vec Ideal S1x128x128 .bf16} {fa : ℕ → ℕ → ℝ} {fw0 fw1 : ℕ → ℕ → ℕ → ℝ}
    (ha : Is2 a fa) (h0 : Is3 w0 fw0) (h1 : Is3 w1 fw1) :
    Is2 (k0_pay40 k0_pay21 a (k0_pay16 w0) w1) (fun r q => ∑ t : Fin 128, (if q < 64 then fw0 0 r t else fw1 0 r t) * fa t q) := by
  intro r q
  pointwise [k0_pay40, k0_pay16]
  simp only [pay21_is, sel_is, ha _ _, h0 _ _ _, h1 _ _ _, ← EReal.coe_mul, sum_coe, ite_coe]
  exact congrArg _ (sum_pick _ _ _ _)

theorem pay41_is {a : Vec Ideal S128x128 .bf16} {w0 w1 : Vec Ideal S1x128x128 .bf16} {fa : ℕ → ℕ → ℝ} {fw0 fw1 : ℕ → ℕ → ℕ → ℝ}
    (ha : Is2 a fa) (h0 : Is3 w0 fw0) (h1 : Is3 w1 fw1) :
    Is2 (k0_pay41 k0_pay21 a w0 w1) (fun r q => ∑ t : Fin 128, (if q < 64 then fw0 0 r t else fw1 0 r t) * fa t q) := by
  intro r q
  pointwise [k0_pay41]
  simp only [pay21_is, sel_is, ha _ _, h0 _ _ _, h1 _ _ _, ← EReal.coe_mul, sum_coe, ite_coe]
  exact congrArg _ (sum_pick _ _ _ _)

theorem pay2_is {x : Vec Ideal S512x1024 .f32} {g : Vec Ideal S1024x1024 .f32} {y : Vec Ideal S512x1024 .bf16} {fx fg fy : ℕ → ℕ → ℝ} (hx : Is2 x fx) (hg : Is2 g fg) (hy : Is2 y fy) :
    Is2 (k0_pay2 x g y) (fun k c => fg k c + ∑ r : Fin 512, fy r k * fx r c) := by
  intro r q
  pointwise [k0_pay2]
  simp only [hx _ _, hg _ _, hy _ _, ← EReal.coe_mul, sum_coe, ← EReal.coe_add]
theorem pay3_is {g : Vec Ideal S1024x1024 .f32} {w : Vec Ideal S1x1024 .f32} {fg : ℕ → ℕ → ℝ} {fw : ℕ → ℝ} (hg : Is2 g fg) (hw : Is2 w (fun _ c => fw c)) :
    Is2 (k0_pay3 g w) (fun k c => fg k c * fw c) := by
  intro r q
  pointwise [k0_pay3]
  simp only [hg _ _, hw _ _, ← EReal.coe_mul]
theorem pay4_is {g : Vec Ideal S1024x1024 .f32} {w : Vec Ideal S1024x1024 .bf16} {fg fw : ℕ → ℕ → ℝ} (hg : Is2 g fg) (hw : Is2 w fw) :
    Is2 (k0_pay4 g w) (fun r c => ∑ n : Fin 128, fg (n * 8 + r) c * fw (n * 8 + r) c) := by
  intro r q
  pointwise [k0_pay4]
  simp only [hg _ _, hw _ _, ← EReal.coe_mul, sum_coe]
theorem pay17_is : Is2 (k0_pay17 (F := Ideal)) (fun _ _ => 0) := by
  intro r q
  pointwise [k0_pay17]
  first | rfl | simp
theorem pay18_is : Is3 (k0_pay18 (F := Ideal)) (fun _ _ _ => 0) := by
  intro p r q
  pointwise [k0_pay18]
  first | rfl | simp
theorem pay19_is : Is2 (k0_pay19 (F := Ideal)) (fun _ _ => 0) := by
  intro r q
  pointwise [k0_pay19]
  first | rfl | simp
end Cert.MixBwd

end
-- ==== Proof.Val2.lean ====
module

public import proofs.«01_k».proof.Proof.Val1

@[expose] public section

set_option maxRecDepth 16384

noncomputable section

namespace Cert.MixBwd

open Idealize.ShloMosaic Idealize.ShloMosaic.Pointwise
open Cert.KernelIdeal Cert.KernelIdeal.Gen
open scoped BigOperators

/-! ## The spatial weights' slabs -/

/-- One point's addition to an even group's slab: the lower half of a group pair's columns. -/
def slabLo (D V : ℕ → ℕ → ℝ) (t s : ℕ) : ℝ := ∑ i : Fin 4, ∑ e : Fin 64, D (128 * i + t) e * V (128 * i + s) e
/-- One point's addition to an odd group's slab: the upper half. -/
def slabHi (D V : ℕ → ℕ → ℝ) (t s : ℕ) : ℝ := ∑ i : Fin 4, ∑ e : Fin 64, D (128 * i + t) (64 + e) * V (128 * i + s) (64 + e)

theorem half_split (f : ℕ → ℝ) : ∑ x : Fin 128, f x = ∑ e : Fin 64, f e + ∑ e : Fin 64, f (64 + e) := by
  exact Fin.sum_univ_add (M := ℝ) (a := 64) (b := 64) (fun x : Fin (64 + 64) => f x.val)

theorem slabLo_eq (D V : ℕ → ℕ → ℝ) (t s : ℕ) :
    ∑ x : Fin 512, (if (x : ℕ) % 128 < 64 then D (128 * (x / 128) + t) (x % 128) else 0) * V (128 * (x / 128) + s) (x % 128) = slabLo D V t s := by
  rw [sum_blocks 4 128 (fun x => (if x % 128 < 64 then D (128 * (x / 128) + t) (x % 128) else 0) * V (128 * (x / 128) + s) (x % 128))]
  refine Finset.sum_congr rfl fun i _ => ?_
  rw [half_split (fun x => (if (i * 128 + x) % 128 < 64 then D (128 * ((i * 128 + x) / 128) + t) ((i * 128 + x) % 128) else 0) * V (128 * ((i * 128 + x) / 128) + s) ((i * 128 + x) % 128))]
  refine (congrArg₂ (· + ·) (Finset.sum_congr rfl fun e _ => ?_) (Finset.sum_eq_zero fun e _ => ?_)).trans (add_zero _)
  · have he := e.isLt
    rw [if_pos (by omega), show (i.val * 128 + e.val) / 128 = i.val by omega, show (i.val * 128 + e.val) % 128 = e.val by omega]
  · have he := e.isLt
    rw [if_neg (by omega), zero_mul]

theorem slabHi_eq (D V : ℕ → ℕ → ℝ) (t s : ℕ) :
    ∑ x : Fin 512, (if (x : ℕ) % 128 < 64 then 0 else D (128 * (x / 128) + t) (x % 128)) * V (128 * (x / 128) + s) (x % 128) = slabHi D V t s := by
  rw [sum_blocks 4 128 (fun x => (if x % 128 < 64 then 0 else D (128 * (x / 128) + t) (x % 128)) * V (128 * (x / 128) + s) (x % 128))]
  refine Finset.sum_congr rfl fun i _ => ?_
  rw [half_split (fun x => (if (i * 128 + x) % 128 < 64 then 0 else D (128 * ((i * 128 + x) / 128) + t) ((i * 128 + x) % 128)) * V (128 * ((i * 128 + x) / 128) + s) ((i * 128 + x) % 128))]
  refine (congrArg₂ (· + ·) (Finset.sum_eq_zero fun e _ => ?_) (Finset.sum_congr rfl fun e _ => ?_)).trans (zero_add _)
  swap
  · have he := e.isLt
    rw [if_neg (by omega), show (i.val * 128 + (64 + e.val)) / 128 = i.val by omega, show (i.val * 128 + (64 + e.val)) % 128 = 64 + e.val by omega]
  · have he := e.isLt
    rw [if_pos (by omega), zero_mul]

theorem pay42_at (r q : Fin 128) : k0_pay42 (F := Ideal) (ix2 r q) = ((0 : ℝ) : EReal) := by
  pointwise [k0_pay42]
  first | rfl | simp

theorem pay44_is {d0 d1 d2 d3 v0 v1 v2 v3 : Vec Ideal S128x128 .bf16} {x : Vec Ideal S1x128x128 .f32} {D V : ℕ → ℕ → ℝ} {X : ℕ → ℕ → ℕ → ℝ}
    (h0 : Is2 d0 (fun r q => D (128 * 0 + r) q)) (h1 : Is2 d1 (fun r q => D (128 * 1 + r) q)) (h2 : Is2 d2 (fun r q => D (128 * 2 + r) q)) (h3 : Is2 d3 (fun r q => D (128 * 3 + r) q))
    (g0 : Is2 v0 (fun r q => V (128 * 0 + r) q)) (g1 : Is2 v1 (fun r q => V (128 * 1 + r) q)) (g2 : Is2 v2 (fun r q => V (128 * 2 + r) q)) (g3 : Is2 v3 (fun r q => V (128 * 3 + r) q))
    (hx : Is3 x X) :
    Is3 (k0_pay44 k0_pay21 d0 d1 d2 d3 v0 v1 v2 v3 x) (fun p t s => X p t s + slabLo D V t s) := by
  intro p t s
  obtain rfl : p = 0 := Subsingleton.elim _ _
  pointwise [k0_pay44, k0_pay43]
  rw [hx 0 t s, Finset.sum_congr rfl (fun x _ => ?_), sum_coe, slabLo_eq D V t s, ← EReal.coe_add]
  · rfl
  rw [EReal.coe_mul]
  simp only [pay21_is, sel_is, pay42_at, h0 _ _, h1 _ _, h2 _ _, h3 _ _, g0 _ _, g1 _ _, g2 _ _, g3 _ _, ite_coe]
  have hlt := x.isLt
  by_cases c0 : x.val < 128
  · simp only [dif_pos c0]
    rw [show x.val / 128 = 0 by omega, show x.val % 128 = x.val by omega]
  by_cases c1 : x.val - 128 < 128
  · simp only [dif_neg c0, dif_pos c1]
    rw [show x.val / 128 = 1 by omega, show x.val % 128 = x.val - 128 by omega]
  by_cases c2 : x.val - 128 - 128 < 128
  · simp only [dif_neg c0, dif_neg c1, dif_pos c2]
    rw [show x.val / 128 = 2 by omega, show x.val % 128 = x.val - 128 - 128 by omega]
  · simp only [dif_neg c0, dif_neg c1, dif_neg c2]
    rw [show x.val / 128 = 3 by omega, show x.val % 128 = x.val - 128 - 128 - 128 by omega]

theorem pay47_is {d0 d1 d2 d3 v0 v1 v2 v3 : Vec Ideal S128x128 .bf16} {x : Vec Ideal S1x128x128 .f32} {D V : ℕ → ℕ → ℝ} {X : ℕ → ℕ → ℕ → ℝ}
    (h0 : Is2 d0 (fun r q => D (128 * 0 + r) q)) (h1 : Is2 d1 (fun r q => D (128 * 1 + r) q)) (h2 : Is2 d2 (fun r q => D (128 * 2 + r) q)) (h3 : Is2 d3 (fun r q => D (128 * 3 + r) q))
    (g0 : Is2 v0 (fun r q => V (128 * 0 + r) q)) (g1 : Is2 v1 (fun r q => V (128 * 1 + r) q)) (g2 : Is2 v2 (fun r q => V (128 * 2 + r) q)) (g3 : Is2 v3 (fun r q => V (128 * 3 + r) q))
    (hx : Is3 x X) :
    Is3 (k0_pay47 k0_pay21 (k0_pay42 (F := Ideal)) d1 d2 d3 (k0_pay43 v0 v1 v2 v3) (k0_pay45 x) (k0_pay46 k0_pay21 d0)) (fun p t s => X p t s + slabHi D V t s) := by
  intro p t s
  obtain rfl : p = 0 := Subsingleton.elim _ _
  pointwise [k0_pay47, k0_pay43, k0_pay45, k0_pay46]
  rw [hx 0 t s, Finset.sum_congr rfl (fun x _ => ?_), sum_coe, slabHi_eq D V t s, ← EReal.coe_add]
  · rfl
  rw [EReal.coe_mul]
  simp only [pay21_is, sel_is, pay42_at, h0 _ _, h1 _ _, h2 _ _, h3 _ _, g0 _ _, g1 _ _, g2 _ _, g3 _ _, ite_coe]
  have hlt := x.isLt
  by_cases c0 : x.val < 128
  · simp only [dif_pos c0]
    rw [show x.val / 128 = 0 by omega, show x.val % 128 = x.val by omega]
  by_cases c1 : x.val - 128 < 128
  · simp only [dif_neg c0, dif_pos c1]
    rw [show x.val / 128 = 1 by omega, show x.val % 128 = x.val - 128 by omega]
  by_cases c2 : x.val - 128 - 128 < 128
  · simp only [dif_neg c0, dif_neg c1, dif_pos c2]
    rw [show x.val / 128 = 2 by omega, show x.val % 128 = x.val - 128 - 128 by omega]
  · simp only [dif_neg c0, dif_neg c1, dif_neg c2]
    rw [show x.val / 128 = 3 by omega, show x.val % 128 = x.val - 128 - 128 - 128 by omega]

theorem pay49_is {d0 d1 d2 d3 v0 v1 v2 v3 : Vec Ideal S128x128 .bf16} {x : Vec Ideal S1x128x128 .f32} {D V : ℕ → ℕ → ℝ} {X : ℕ → ℕ → ℕ → ℝ}
    (h0 : Is2 d0 (fun r q => D (128 * 0 + r) q)) (h1 : Is2 d1 (fun r q => D (128 * 1 + r) q)) (h2 : Is2 d2 (fun r q => D (128 * 2 + r) q)) (h3 : Is2 d3 (fun r q => D (128 * 3 + r) q))
    (g0 : Is2 v0 (fun r q => V (128 * 0 + r) q)) (g1 : Is2 v1 (fun r q => V (128 * 1 + r) q)) (g2 : Is2 v2 (fun r q => V (128 * 2 + r) q)) (g3 : Is2 v3 (fun r q => V (128 * 3 + r) q))
    (hx : Is3 x X) :
    Is3 (k0_pay49 k0_pay21 (k0_pay42 (F := Ideal)) d0 d1 d2 d3 v0 v1 v2 v3 x) (fun p t s => X p t s + slabLo D V t s) := by
  intro p t s
  obtain rfl : p = 0 := Subsingleton.elim _ _
  pointwise [k0_pay49, k0_pay48]
  rw [hx 0 t s, Finset.sum_congr rfl (fun x _ => ?_), sum_coe, slabLo_eq D V t s, ← EReal.coe_add]
  · rfl
  rw [EReal.coe_mul]
  simp only [pay21_is, sel_is, pay42_at, h0 _ _, h1 _ _, h2 _ _, h3 _ _, g0 _ _, g1 _ _, g2 _ _, g3 _ _, ite_coe]
  have hlt := x.isLt
  by_cases c0 : x.val < 128
  · simp only [dif_pos c0]
    rw [show x.val / 128 = 0 by omega, show x.val % 128 = x.val by omega]
  by_cases c1 : x.val - 128 < 128
  · simp only [dif_neg c0, dif_pos c1]
    rw [show x.val / 128 = 1 by omega, show x.val % 128 = x.val - 128 by omega]
  by_cases c2 : x.val - 128 - 128 < 128
  · simp only [dif_neg c0, dif_neg c1, dif_pos c2]
    rw [show x.val / 128 = 2 by omega, show x.val % 128 = x.val - 128 - 128 by omega]
  · simp only [dif_neg c0, dif_neg c1, dif_neg c2]
    rw [show x.val / 128 = 3 by omega, show x.val % 128 = x.val - 128 - 128 - 128 by omega]

theorem pay50_is {d0 d1 d2 d3 v0 v1 v2 v3 : Vec Ideal S128x128 .bf16} {x : Vec Ideal S1x128x128 .f32} {D V : ℕ → ℕ → ℝ} {X : ℕ → ℕ → ℕ → ℝ}
    (h0 : Is2 d0 (fun r q => D (128 * 0 + r) q)) (h1 : Is2 d1 (fun r q => D (128 * 1 + r) q)) (h2 : Is2 d2 (fun r q => D (128 * 2 + r) q)) (h3 : Is2 d3 (fun r q => D (128 * 3 + r) q))
    (g0 : Is2 v0 (fun r q => V (128 * 0 + r) q)) (g1 : Is2 v1 (fun r q => V (128 * 1 + r) q)) (g2 : Is2 v2 (fun r q => V (128 * 2 + r) q)) (g3 : Is2 v3 (fun r q => V (128 * 3 + r) q))
    (hx : Is3 x X) :
    Is3 (k0_pay50 k0_pay21 (k0_pay42 (F := Ideal)) d0 d1 d2 d3 (k0_pay48 v0 v1 v2 v3) x) (fun p t s => X p t s + slabHi D V t s) := by
  intro p t s
  obtain rfl : p = 0 := Subsingleton.elim _ _
  pointwise [k0_pay50, k0_pay48]
  rw [hx 0 t s, Finset.sum_congr rfl (fun x _ => ?_), sum_coe, slabHi_eq D V t s, ← EReal.coe_add]
  · rfl
  rw [EReal.coe_mul]
  simp only [pay21_is, sel_is, pay42_at, h0 _ _, h1 _ _, h2 _ _, h3 _ _, g0 _ _, g1 _ _, g2 _ _, g3 _ _, ite_coe]
  have hlt := x.isLt
  by_cases c0 : x.val < 128
  · simp only [dif_pos c0]
    rw [show x.val / 128 = 0 by omega, show x.val % 128 = x.val by omega]
  by_cases c1 : x.val - 128 < 128
  · simp only [dif_neg c0, dif_pos c1]
    rw [show x.val / 128 = 1 by omega, show x.val % 128 = x.val - 128 by omega]
  by_cases c2 : x.val - 128 - 128 < 128
  · simp only [dif_neg c0, dif_neg c1, dif_pos c2]
    rw [show x.val / 128 = 2 by omega, show x.val % 128 = x.val - 128 - 128 by omega]
  · simp only [dif_neg c0, dif_neg c1, dif_neg c2]
    rw [show x.val / 128 = 3 by omega, show x.val % 128 = x.val - 128 - 128 - 128 by omega]

theorem pay53_is {d0 d1 d2 d3 v0 v1 v2 v3 : Vec Ideal S128x128 .bf16} {x : Vec Ideal S1x128x128 .f32} {D V : ℕ → ℕ → ℝ} {X : ℕ → ℕ → ℕ → ℝ}
    (h0 : Is2 d0 (fun r q => D (128 * 0 + r) q)) (h1 : Is2 d1 (fun r q => D (128 * 1 + r) q)) (h2 : Is2 d2 (fun r q => D (128 * 2 + r) q)) (h3 : Is2 d3 (fun r q => D (128 * 3 + r) q))
    (g0 : Is2 v0 (fun r q => V (128 * 0 + r) q)) (g1 : Is2 v1 (fun r q => V (128 * 1 + r) q)) (g2 : Is2 v2 (fun r q => V (128 * 2 + r) q)) (g3 : Is2 v3 (fun r q => V (128 * 3 + r) q))
    (hx : Is3 x X) :
    Is3 (k0_pay53 (k0_pay52 k0_pay21 (k0_pay42 (F := Ideal)) d0 d1 d2 d3 v0 v1 v2 v3 x)) (fun p t s => X p t s + slabLo D V t s) := by
  intro p t s
  obtain rfl : p = 0 := Subsingleton.elim _ _
  pointwise [k0_pay53, k0_pay52, k0_pay51]
  rw [hx 0 t s, Finset.sum_congr rfl (fun x _ => ?_), sum_coe, slabLo_eq D V t s, ← EReal.coe_add]
  · rfl
  rw [EReal.coe_mul]
  simp only [pay21_is, sel_is, pay42_at, h0 _ _, h1 _ _, h2 _ _, h3 _ _, g0 _ _, g1 _ _, g2 _ _, g3 _ _, ite_coe]
  have hlt := x.isLt
  by_cases c0 : x.val < 128
  · simp only [dif_pos c0]
    rw [show x.val / 128 = 0 by omega, show x.val % 128 = x.val by omega]
  by_cases c1 : x.val - 128 < 128
  · simp only [dif_neg c0, dif_pos c1]
    rw [show x.val / 128 = 1 by omega, show x.val % 128 = x.val - 128 by omega]
  by_cases c2 : x.val - 128 - 128 < 128
  · simp only [dif_neg c0, dif_neg c1, dif_pos c2]
    rw [show x.val / 128 = 2 by omega, show x.val % 128 = x.val - 128 - 128 by omega]
  · simp only [dif_neg c0, dif_neg c1, dif_neg c2]
    rw [show x.val / 128 = 3 by omega, show x.val % 128 = x.val - 128 - 128 - 128 by omega]

theorem pay54_is {d0 d1 d2 d3 v0 v1 v2 v3 : Vec Ideal S128x128 .bf16} {x : Vec Ideal S1x128x128 .f32} {D V : ℕ → ℕ → ℝ} {X : ℕ → ℕ → ℕ → ℝ}
    (h0 : Is2 d0 (fun r q => D (128 * 0 + r) q)) (h1 : Is2 d1 (fun r q => D (128 * 1 + r) q)) (h2 : Is2 d2 (fun r q => D (128 * 2 + r) q)) (h3 : Is2 d3 (fun r q => D (128 * 3 + r) q))
    (g0 : Is2 v0 (fun r q => V (128 * 0 + r) q)) (g1 : Is2 v1 (fun r q => V (128 * 1 + r) q)) (g2 : Is2 v2 (fun r q => V (128 * 2 + r) q)) (g3 : Is2 v3 (fun r q => V (128 * 3 + r) q))
    (hx : Is3 x X) :
    Is3 (k0_pay54 k0_pay21 (k0_pay42 (F := Ideal)) d0 d1 d2 d3 (k0_pay51 v0 v1 v2 v3) x) (fun p t s => X p t s + slabHi D V t s) := by
  intro p t s
  obtain rfl : p = 0 := Subsingleton.elim _ _
  pointwise [k0_pay54, k0_pay51]
  rw [hx 0 t s, Finset.sum_congr rfl (fun x _ => ?_), sum_coe, slabHi_eq D V t s, ← EReal.coe_add]
  · rfl
  rw [EReal.coe_mul]
  simp only [pay21_is, sel_is, pay42_at, h0 _ _, h1 _ _, h2 _ _, h3 _ _, g0 _ _, g1 _ _, g2 _ _, g3 _ _, ite_coe]
  have hlt := x.isLt
  by_cases c0 : x.val < 128
  · simp only [dif_pos c0]
    rw [show x.val / 128 = 0 by omega, show x.val % 128 = x.val by omega]
  by_cases c1 : x.val - 128 < 128
  · simp only [dif_neg c0, dif_pos c1]
    rw [show x.val / 128 = 1 by omega, show x.val % 128 = x.val - 128 by omega]
  by_cases c2 : x.val - 128 - 128 < 128
  · simp only [dif_neg c0, dif_neg c1, dif_pos c2]
    rw [show x.val / 128 = 2 by omega, show x.val % 128 = x.val - 128 - 128 by omega]
  · simp only [dif_neg c0, dif_neg c1, dif_neg c2]
    rw [show x.val / 128 = 3 by omega, show x.val % 128 = x.val - 128 - 128 - 128 by omega]

theorem pay58_is {d0 d1 d2 d3 v0 v1 v2 v3 : Vec Ideal S128x128 .bf16} {x : Vec Ideal S1x128x128 .f32} {D V : ℕ → ℕ → ℝ} {X : ℕ → ℕ → ℕ → ℝ}
    (h0 : Is2 d0 (fun r q => D (128 * 0 + r) q)) (h1 : Is2 d1 (fun r q => D (128 * 1 + r) q)) (h2 : Is2 d2 (fun r q => D (128 * 2 + r) q)) (h3 : Is2 d3 (fun r q => D (128 * 3 + r) q))
    (g0 : Is2 v0 (fun r q => V (128 * 0 + r) q)) (g1 : Is2 v1 (fun r q => V (128 * 1 + r) q)) (g2 : Is2 v2 (fun r q => V (128 * 2 + r) q)) (g3 : Is2 v3 (fun r q => V (128 * 3 + r) q))
    (hx : Is3 x X) :
    Is3 (k0_pay58 (k0_pay55 v0 v1 v2 v3) (k0_pay56 x) (k0_pay57 k0_pay21 (k0_pay42 (F := Ideal)) d0 d1 d2 d3) (constant S128x128 .f32 0x00000000#32)) (fun p t s => X p t s + slabLo D V t s) := by
  intro p t s
  obtain rfl : p = 0 := Subsingleton.elim _ _
  pointwise [k0_pay58, k0_pay55, k0_pay56, k0_pay57]
  rw [hx 0 t s, Finset.sum_congr rfl (fun x _ => ?_), sum_coe, slabLo_eq D V t s, ← EReal.coe_add]
  · rfl
  rw [EReal.coe_mul]
  simp only [pay21_is, sel_is, pay42_at, h0 _ _, h1 _ _, h2 _ _, h3 _ _, g0 _ _, g1 _ _, g2 _ _, g3 _ _, ite_coe]
  have hlt := x.isLt
  by_cases c0 : x.val < 128
  · simp only [dif_pos c0]
    rw [show x.val / 128 = 0 by omega, show x.val % 128 = x.val by omega]
  by_cases c1 : x.val - 128 < 128
  · simp only [dif_neg c0, dif_pos c1]
    rw [show x.val / 128 = 1 by omega, show x.val % 128 = x.val - 128 by omega]
  by_cases c2 : x.val - 128 - 128 < 128
  · simp only [dif_neg c0, dif_neg c1, dif_pos c2]
    rw [show x.val / 128 = 2 by omega, show x.val % 128 = x.val - 128 - 128 by omega]
  · simp only [dif_neg c0, dif_neg c1, dif_neg c2]
    rw [show x.val / 128 = 3 by omega, show x.val % 128 = x.val - 128 - 128 - 128 by omega]

theorem pay59_is {d0 d1 d2 d3 v0 v1 v2 v3 : Vec Ideal S128x128 .bf16} {x : Vec Ideal S1x128x128 .f32} {D V : ℕ → ℕ → ℝ} {X : ℕ → ℕ → ℕ → ℝ}
    (h0 : Is2 d0 (fun r q => D (128 * 0 + r) q)) (h1 : Is2 d1 (fun r q => D (128 * 1 + r) q)) (h2 : Is2 d2 (fun r q => D (128 * 2 + r) q)) (h3 : Is2 d3 (fun r q => D (128 * 3 + r) q))
    (g0 : Is2 v0 (fun r q => V (128 * 0 + r) q)) (g1 : Is2 v1 (fun r q => V (128 * 1 + r) q)) (g2 : Is2 v2 (fun r q => V (128 * 2 + r) q)) (g3 : Is2 v3 (fun r q => V (128 * 3 + r) q))
    (hx : Is3 x X) :
    Is3 (k0_pay59 k0_pay21 (k0_pay42 (F := Ideal)) d0 d1 d2 d3 (k0_pay55 v0 v1 v2 v3) x) (fun p t s => X p t s + slabHi D V t s) := by
  intro p t s
  obtain rfl : p = 0 := Subsingleton.elim _ _
  pointwise [k0_pay59, k0_pay55]
  rw [hx 0 t s, Finset.sum_congr rfl (fun x _ => ?_), sum_coe, slabHi_eq D V t s, ← EReal.coe_add]
  · rfl
  rw [EReal.coe_mul]
  simp only [pay21_is, sel_is, pay42_at, h0 _ _, h1 _ _, h2 _ _, h3 _ _, g0 _ _, g1 _ _, g2 _ _, g3 _ _, ite_coe]
  have hlt := x.isLt
  by_cases c0 : x.val < 128
  · simp only [dif_pos c0]
    rw [show x.val / 128 = 0 by omega, show x.val % 128 = x.val by omega]
  by_cases c1 : x.val - 128 < 128
  · simp only [dif_neg c0, dif_pos c1]
    rw [show x.val / 128 = 1 by omega, show x.val % 128 = x.val - 128 by omega]
  by_cases c2 : x.val - 128 - 128 < 128
  · simp only [dif_neg c0, dif_neg c1, dif_pos c2]
    rw [show x.val / 128 = 2 by omega, show x.val % 128 = x.val - 128 - 128 by omega]
  · simp only [dif_neg c0, dif_neg c1, dif_neg c2]
    rw [show x.val / 128 = 3 by omega, show x.val % 128 = x.val - 128 - 128 - 128 by omega]

end Cert.MixBwd

end
-- ==== Proof.Val3.lean ====
module

public import proofs.«01_k».proof.Proof.Val2

@[expose] public section

set_option maxRecDepth 16384

noncomputable section

namespace Cert.MixBwd

open Idealize.ShloMosaic Idealize.ShloMosaic.Pointwise Idealize.ShloMosaic.VecWindow
open Cert.KernelIdeal Cert.KernelIdeal.Gen
open scoped BigOperators

/-! ## Windows and puts of arrays that hold reals -/

theorem Is2.congr {n m : ℕ} {v : (⟨2, ![n, m]⟩ : Shape).Idx → EReal} {f g : ℕ → ℕ → ℝ} (h : Is2 v f) (e : ∀ r < n, ∀ q < m, f r q = g r q) : Is2 v g :=
  fun r q => (h r q).trans (congrArg _ (e r r.isLt q q.isLt))
theorem Is3.congr {n m k : ℕ} {v : (⟨3, ![n, m, k]⟩ : Shape).Idx → EReal} {f g : ℕ → ℕ → ℕ → ℝ} (h : Is3 v f) (e : ∀ p < n, ∀ r < m, ∀ q < k, f p r q = g p r q) : Is3 v g :=
  fun p r q => (h p r q).trans (congrArg _ (e p p.isLt r r.isLt q q.isLt))

theorem window_is {n0 n1 s0 s1 o0 o1 : ℕ} {x : (⟨2, ![n0, n1]⟩ : Shape).Idx → EReal} {f : ℕ → ℕ → ℝ} (h : Is2 x f)
    {off : Fin 2 → ℕ} (ho : off = ![o0, o1]) (inb : ∀ a, off a + (![s0, s1] : Fin 2 → ℕ) a ≤ (⟨2, ![n0, n1]⟩ : Shape).size a) :
    Is2 (n := s0) (m := s1) (window (s := ⟨2, ![n0, n1]⟩) x off ![s0, s1] inb) (fun r q => f (o0 + r) (o1 + q)) := by
  subst ho
  intro r q
  have i0 : o0 + s0 ≤ n0 := inb 0
  have i1 : o1 + s1 ≤ n1 := inb 1
  have e : (Rect.unit (s := ⟨2, ![n0, n1]⟩) ![o0, o1] ![s0, s1] inb).emb (ix2 r q) = ix2 ⟨o0 + r.val, by omega⟩ ⟨o1 + q.val, by omega⟩ := by
    funext i
    apply Fin.ext
    match i with
    | 0 => show o0 + 1 * r.val = o0 + r.val; omega
    | 1 => show o1 + 1 * q.val = o1 + q.val; omega
  show x _ = _
  rw [e]
  exact h _ _

theorem window_is3 {n0 n1 n2 s0 s1 s2 o0 o1 o2 : ℕ} {x : (⟨3, ![n0, n1, n2]⟩ : Shape).Idx → EReal} {f : ℕ → ℕ → ℕ → ℝ} (h : Is3 x f)
    (inb : ∀ a, (![o0, o1, o2] : Fin 3 → ℕ) a + (![s0, s1, s2] : Fin 3 → ℕ) a ≤ (⟨3, ![n0, n1, n2]⟩ : Shape).size a) :
    Is3 (n := s0) (m := s1) (k := s2) (window (s := ⟨3, ![n0, n1, n2]⟩) x ![o0, o1, o2] ![s0, s1, s2] inb) (fun p r q => f (o0 + p) (o1 + r) (o2 + q)) := by
  intro p r q
  have i0 : o0 + s0 ≤ n0 := inb 0
  have i1 : o1 + s1 ≤ n1 := inb 1
  have i2 : o2 + s2 ≤ n2 := inb 2
  have e : (Rect.unit (s := ⟨3, ![n0, n1, n2]⟩) ![o0, o1, o2] ![s0, s1, s2] inb).emb (ix3 p r q) = ix3 ⟨o0 + p.val, by omega⟩ ⟨o1 + r.val, by omega⟩ ⟨o2 + q.val, by omega⟩ := by
    funext i
    apply Fin.ext
    match i with
    | 0 => show o0 + 1 * p.val = o0 + p.val; omega
    | 1 => show o1 + 1 * r.val = o1 + r.val; omega
    | 2 => show o2 + 1 * q.val = o2 + q.val; omega
  show x _ = _
  rw [e]
  exact h _ _ _

theorem put_is3 {n0 n1 n2 k : ℕ} {x : (⟨3, ![n0, n1, n2]⟩ : Shape).Idx → EReal} {w : (⟨3, ![1, n1, n2]⟩ : Shape).Idx → EReal} {f g : ℕ → ℕ → ℕ → ℝ}
    (h : Is3 x f) (hw : Is3 w (fun _ r q => g k r q)) :
    Is3 (put (s := ⟨3, ![n0, n1, n2]⟩) x ![k, 0, 0] ![1, n1, n2] w) (fun p r q => if p = k then g p r q else f p r q) := by
  intro p r q
  show _ = (((if p.val = k then g p r q else f p r q : ℝ)) : EReal)
  by_cases hp : p.val = k
  · rw [if_pos hp]
    refine (put_in (s := ⟨3, ![n0, n1, n2]⟩) x ![k, 0, 0] ![1, n1, n2] w (ix3 p r q) (ix3 (n0 := 1) 0 r q) (fun i => ?_)).trans ?_
    · match i with
      | 0 => show p.val = k + 0; omega
      | 1 => show r.val = 0 + r.val; omega
      | 2 => show q.val = 0 + q.val; omega
    · rw [hw 0 r q, hp]
  · rw [if_neg hp]
    refine (put_out (s := ⟨3, ![n0, n1, n2]⟩) x ![k, 0, 0] ![1, n1, n2] w (ix3 p r q) 0 ?_).trans (h p r q)
    show p.val < k ∨ k + 1 ≤ p.val
    omega

theorem two_is {a b : S512x256.Idx → EReal} {f : ℕ → ℕ → ℝ} (ha : Is2 (n := 512) (m := 256) a (fun r q => f r q)) (hb : Is2 (n := 512) (m := 256) b (fun r q => f r (256 + q))) :
    Is2 (n := 512) (m := 512) (two a b) f := by
  intro r q
  have hq := q.isLt
  show (if h : q.val < 256 then a (ix2 r ⟨q.val, h⟩) else b (ix2 r ⟨q.val - 256, by omega⟩)) = _
  by_cases h : q.val < 256
  · rw [dif_pos h]; exact ha _ _
  · rw [dif_neg h, hb _ _]
    show ((f r (256 + (q.val - 256)) : ℝ) : EReal) = _
    rw [show 256 + (q.val - 256) = q.val by omega]

/-! ## One grid point, whose first row is `T` -/

section PointVal

variable (a : Args) (T : ℕ) (hT : T % 512 = 0)
variable {x1 : Vec Ideal S512x2048 .f32} {x2 x3 : Vec Ideal S512x512 .f32} {dy : Vec Ideal S512x1024 .f32} {x6 : Vec Ideal S8x128x128 .bf16} {ds vn : Vec Ideal S512x512 .bf16} {dvn : Vec Ideal S512x512 .f32}
variable (h1 : Is2 x1 (fun r q => a.P (T + r) q)) (h2 : Is2 x2 (fun r q => a.O (T + r) q)) (h3 : Is2 x3 (fun r q => svR a (T + r) q))
variable (hy : Is2 dy (fun r q => dyR a (T + r) q)) (h6 : Is3 x6 (fun g r t => a.S g t r))
variable (hds : Is2 ds (fun r q => dsR a (T + r) q)) (hvn : Is2 vn (fun r q => vnR a (T + r) q)) (hdvn : Is2 dvn (fun r q => dvnR a (T + r) q))

theorem row_eq (r : Fin 512) : 128 * (blk1 r).val + (rowIn r).val = r.val := by
  show 128 * (r.val / 128) + r.val % 128 = r.val
  omega
theorem row_eq2 (r : Fin 512) : 128 * (blk2 r).val + (rowIn r).val = r.val := by
  show 128 * (r.val / 128) + r.val % 128 = r.val
  omega

include h1 in
theorem gaV_is : Is2 (gaV x1) (fun r q => a.P (T + r) q) :=
  (window_is h1 rfl _).congr fun r _ q _ => by simp only [Nat.zero_add]

include h1 h2 h3 in
/-- The mixed channels. -/
theorem yV_is : Is2 (yV x1 x2 x3) (fun r k => yR a (T + r) k) := by
  intro r q
  have hq := q.isLt
  show _ = ((yR a (T + r) q : ℝ) : EReal)
  unfold yV
  by_cases h : q.val < 512
  · rw [yOver_lo _ _ _ _ _ _ h, pay25_is (gaV_is a T h1) (pay23_is _ _ (gaV_is a T h1)) h2 _ _]
    unfold yR
    rw [if_pos h]; rfl
  · rw [yOver_hi _ _ _ _ _ _ ⟨q.val - 512, by omega⟩ (by show q.val = 512 + (q.val - 512); omega),
      pay9_is (window_is h3 (k0_off1_eq _) _) (window_is h1 (k0_off2_eq _) _) (window_is h1 (k0_off3_eq _) _) _ _]
    unfold yR
    rw [if_neg h]
    simp only [row_eq, Nat.zero_add]
    rfl

include h1 hy in
/-- The attention output's gradient. -/
theorem doV_is : Is2 (doV x1 dy) (fun r q => doR a (T + r) q) := by
  have hd : Is2 (dyA dy) (fun r q => dyR a (T + r) q) := (window_is hy rfl _).congr fun r _ q _ => by simp only [Nat.zero_add]
  exact (pay26_is (gaV_is a T h1) (pay23_is _ _ (gaV_is a T h1)) hd).congr fun r _ q _ => rfl

include h1 hy in
/-- The rows of the cotangent of the spatial gate that one trip computes. -/
theorem dsvBlk_is (k : Fin k0_t1_loop.trips) : Is2 (dsvBlk x1 dy k) (fun r q => dsR a (T + (128 * k.val + r)) q) :=
  (pay13_is (window_is h1 (k0_off2_eq _) _) (window_is h1 (k0_off3_eq _) _) (window_is hy (k0_off4_eq _) _)).congr fun r _ q _ => rfl

include h1 hy in
/-- The cotangent of the spatial gate. -/
theorem dsV_is : Is2 (dsV x1 dy) (fun r q => dsR a (T + r) q) := by
  intro r q
  unfold dsV
  rw [dsOver_at, pay38_is (dsvBlk_is a T h1 hy _) _ _]
  simp only [row_eq]

include h1 hy in
/-- The biases' gradient, one point more. -/
theorem dbsV_is {d : Vec Ideal S128x512 .f32} {f : ℕ → ℕ → ℝ} (hd : Is2 d f) :
    Is2 (dbsV x1 dy d) (fun r q => f r q + ∑ i : Fin 4, dsR a (T + (128 * i + r)) q) := by
  have key : ∀ n ≤ 4, Is2 (trips k0_t1_loop.trips (step13 x1 dy) d n) (fun r q => f r q + ∑ i ∈ Finset.range n, dsR a (T + (128 * i + r)) q) := by
    intro n
    induction n with
    | zero => intro _; exact hd.congr fun r _ q _ => by simp
    | succ n ih =>
      intro hn
      have e := trips_succ (step13 x1 dy) d ⟨n, by rw [trips1]; omega⟩
      rw [show trips k0_t1_loop.trips (step13 x1 dy) d (n + 1) = _ from e]
      refine (pay39_is (dsvBlk_is a T h1 hy _) (ih (by omega))).congr fun r _ q _ => ?_
      rw [Finset.sum_range_succ, add_assoc]
  unfold dbsV
  have := key k0_t1_loop.trips (by rw [trips1])
  refine this.congr fun r _ q _ => ?_
  rw [trips1, Finset.sum_range]

include hT hds h6 in
/-- The cotangent of the normalised values. -/
theorem dvnV_is : Is2 (dvnV x6 ds) (fun r q => dvnR a (T + r) q) := by
  intro r q
  have hq := q.isLt
  have hr := r.isLt
  have e1 : (T + r.val) % 128 = (rowIn r).val := by show _ = r.val % 128; omega
  have e2 : ∀ t, T + (128 * (blk2 r).val + t) = (T + r.val) / 128 * 128 + t := fun t => by
    show T + (128 * (r.val / 128) + t) = _
    omega
  have fin : ∀ (j b : ℕ), b < 128 → q.val = 128 * j + b →
      (∑ t : Fin 128, (if b < 64 then a.S (2 * j + 0) t (0 + (rowIn r).val) else a.S (2 * j + 1 + 0) t (0 + (rowIn r).val)) * dsR a (T + (128 * (blk2 r).val + t)) (128 * j + b)) = dvnR a (T + r) q := by
    intro j b hb hj
    unfold dvnR
    refine Finset.sum_congr rfl fun t _ => ?_
    rw [e1, e2, ← hj]
    split
    · rw [show q.val / 64 = 2 * j + 0 by omega, Nat.zero_add]
    · rw [show q.val / 64 = 2 * j + 1 + 0 by omega, Nat.zero_add]
  unfold dvnV
  rcases (by omega : q.val / 128 = 0 ∨ q.val / 128 = 1 ∨ q.val / 128 = 2 ∨ q.val / 128 = 3) with h | h | h | h
  · rw [dvnOver_at0 _ _ _ _ _ ⟨q.val - 0, by omega⟩ (by show q.val = 0 + (q.val - 0); omega), pay14_is (window_is hds (k0_off5_eq _) _) (window_is3 h6 _) (window_is3 h6 _) _ _]
    refine congrArg _ (Eq.trans ?_ (fin 0 (q.val - 0) (by omega) (by omega)))
    simp only [Nat.zero_add, Nat.add_zero, Nat.mul_zero]
  · rw [dvnOver_at1 _ _ _ _ _ ⟨q.val - 128, by omega⟩ (by show q.val = 128 + (q.val - 128); omega), pay15_is (window_is hds (k0_off6_eq _) _) (window_is3 h6 _) (window_is3 h6 _) _ _]
    refine congrArg _ (Eq.trans ?_ (fin 1 (q.val - 128) (by omega) (by omega)))
    simp only [Nat.zero_add, Nat.add_zero]
  · rw [dvnOver_at2 _ _ _ _ _ ⟨q.val - 256, by omega⟩ (by show q.val = 256 + (q.val - 256); omega), pay40_is (window_is hds (k0_off7_eq _) _) (window_is3 h6 _) (window_is3 h6 _) _ _]
    refine congrArg _ (Eq.trans ?_ (fin 2 (q.val - 256) (by omega) (by omega)))
    simp only [Nat.zero_add, Nat.add_zero]
  · rw [dvnOver_at3 _ _ _ _ _ ⟨q.val - 384, by omega⟩ (by show q.val = 384 + (q.val - 384); omega), pay41_is (window_is hds (k0_off8_eq _) _) (window_is3 h6 _) (window_is3 h6 _) _ _]
    refine congrArg _ (Eq.trans ?_ (fin 3 (q.val - 384) (by omega) (by omega)))
    simp only [Nat.zero_add, Nat.add_zero]

include h1 in
theorem vLo_is : Is2 (vLo x1) (fun r q => a.P (T + r) (1024 + q)) :=
  (window_is h1 rfl _).congr fun r _ q _ => by simp only [Nat.zero_add]
include h1 in
theorem vHi_is : Is2 (vHi x1) (fun r q => a.P (T + r) (1280 + q)) :=
  (window_is h1 rfl _).congr fun r _ q _ => by simp only [Nat.zero_add]

theorem scale_hi (r q : ℕ) : (Real.sqrt ((∑ d : Fin 64, a.P (T + r) (1280 + (q / 64 * 64 + d)) * a.P (T + r) (1280 + (q / 64 * 64 + d))) * (1 / 64) + eps))⁻¹ = scaleR a (T + r) ((256 + q) / 64) := by
  unfold scaleR
  rw [Finset.sum_congr rfl fun (d : Fin 64) _ => ?_]
  rw [show 1280 + (q / 64 * 64 + d.val) = 1024 + ((256 + q) / 64 * 64 + d.val) by omega]

include h1 in
/-- The normalised values, their scales, and the normalised values rounded. -/
theorem vnV_is : Is2 (vnV x1) (fun r q => vnR a (T + r) q) := by
  refine two_is ((pay30_is (vLo_is a T h1) pay20_is).congr fun r _ q _ => rfl) ((pay35_is (vHi_is a T h1) pay20_is).congr fun r _ q _ => ?_)
  rw [scale_hi]; unfold vnR; rw [show 1024 + (256 + q) = 1280 + q by omega]
include h1 in
theorem rvV_is : Is2 (rvV x1) (fun r q => scaleR a (T + r) (q / 64)) := by
  unfold rvV
  rw [pay31_eq, pay36_eq]
  refine two_is ((pay28_is _ _ _ (vLo_is a T h1) pay20_is).congr fun r _ q _ => rfl) ((pay28_is _ _ _ (vHi_is a T h1) pay20_is).congr fun r _ q _ => ?_)
  rw [scale_hi]
include h1 in
theorem vnbV_is : Is2 (vnbV x1) (fun r q => vnR a (T + r) q) := by
  refine two_is ((pay32_is (vLo_is a T h1) pay20_is).congr fun r _ q _ => rfl) ((pay37_is (vHi_is a T h1) pay20_is).congr fun r _ q _ => ?_)
  rw [scale_hi]; unfold vnR; rw [show 1024 + (256 + q) = 1280 + q by omega]

include h1 h2 h3 hy hdvn in
/-- The rows of the fused projection's gradient. -/
theorem dpbV_is : Is2 (dpbV x1 x2 x3 dy dvn) (fun r q => dpbR a (T + r) q) := by
  intro r q
  have hq := q.isLt
  have hd : Is2 (dyA dy) (fun r q => dyR a (T + r) q) := (window_is hy rfl _).congr fun r _ q _ => by simp only [Nat.zero_add]
  show _ = ((dpbR a (T + r) q : ℝ) : EReal)
  unfold dpbV dpbR
  by_cases c0 : q.val < 512
  · rw [dpbOver_a _ _ _ _ _ _ _ _ c0, pay27_is (gaV_is a T h1) (pay23_is _ _ (gaV_is a T h1)) h2 hd _ _, if_pos c0]; rfl
  by_cases c1 : q.val < 1024
  · rw [dpbOver_u _ _ _ _ _ _ _ _ ⟨q.val - 512, by omega⟩ (by show q.val = 512 + (q.val - 512); omega),
      pay12_is (window_is h3 (k0_off1_eq _) _) (window_is h1 (k0_off3_eq _) _) (window_is hy (k0_off4_eq _) _) _ _, if_neg c0, if_pos c1]
    simp only [row_eq, Nat.zero_add]; rfl
  by_cases c2 : q.val < 1536
  · rw [if_neg c0, if_neg c1, if_pos c2]
    unfold dvR
    by_cases c3 : q.val < 1280
    · rw [dpbOver_v _ _ _ _ _ _ _ _ ⟨q.val - 1024, by omega⟩ (by show q.val = 1024 + (q.val - 1024); omega),
        pay60_is pay20_is (window_is hdvn rfl _) (window_is (vnV_is a T h1) rfl _) (window_is (rvV_is a T h1) rfl _) _ _]
      simp only [Nat.zero_add]
    · rw [dpbOver_w _ _ _ _ _ _ _ _ ⟨q.val - 1280, by omega⟩ (by show q.val = 1280 + (q.val - 1280); omega), pay1_eq,
        pay60_is pay20_is (window_is hdvn rfl _) (window_is (vnV_is a T h1) rfl _) (window_is (rvV_is a T h1) rfl _) _ _]
      simp only [Nat.zero_add]
      rw [show 256 + (q.val - 1280) = q.val - 1024 by omega]
      refine congrArg _ ?_
      rw [Finset.sum_congr rfl fun (d : Fin 64) _ => ?_]
      rw [show 256 + ((q.val - 1280) / 64 * 64 + d.val) = (q.val - 1024) / 64 * 64 + d.val by omega]
  · rw [dpbOver_g _ _ _ _ _ _ _ _ ⟨q.val - 1536, by omega⟩ (by show q.val = 1536 + (q.val - 1536); omega),
      pay11_is (window_is h3 (k0_off1_eq _) _) (window_is h1 (k0_off2_eq _) _) (window_is h1 (k0_off3_eq _) _) (window_is hy (k0_off4_eq _) _) _ _, if_neg c0, if_neg c1, if_neg c2]
    simp only [row_eq, Nat.zero_add]; rfl

end PointVal

end Cert.MixBwd

end
-- ==== Proof.Val4.lean ====
module

public import proofs.«01_k».proof.Proof.Val3

@[expose] public section

set_option maxRecDepth 16384

noncomputable section

namespace Cert.MixBwd

open Idealize.ShloMosaic Idealize.ShloMosaic.Pointwise Idealize.ShloMosaic.VecWindow
open Cert.KernelIdeal Cert.KernelIdeal.Gen
open scoped BigOperators

/-! ## The spatial weights' gradient, one point more -/

/-- What one point adds to group `p`'s slab. -/
def slabR (D V : ℕ → ℕ → ℝ) (p t s : ℕ) : ℝ := ∑ i : Fin 4, ∑ e : Fin 64, D (128 * i + t) (64 * p + e) * V (128 * i + s) (64 * p + e)

theorem slabLo_pair (D V : ℕ → ℕ → ℝ) (j p t s : ℕ) (hp : p = 2 * j) : slabLo (fun r q => D r (128 * j + q)) (fun r q => V r (128 * j + q)) t s = slabR D V p t s := by
  refine Finset.sum_congr rfl fun i _ => Finset.sum_congr rfl fun e _ => ?_
  show D _ (128 * j + e.val) * V _ (128 * j + e.val) = _
  rw [show 128 * j + e.val = 64 * p + e.val by omega]
theorem slabHi_pair (D V : ℕ → ℕ → ℝ) (j p t s : ℕ) (hp : p = 2 * j + 1) : slabHi (fun r q => D r (128 * j + q)) (fun r q => V r (128 * j + q)) t s = slabR D V p t s := by
  refine Finset.sum_congr rfl fun i _ => Finset.sum_congr rfl fun e _ => ?_
  show D _ (128 * j + (64 + e.val)) * V _ (128 * j + (64 + e.val)) = _
  rw [show 128 * j + (64 + e.val) = 64 * p + e.val by omega]

/-- The slabs after the first `k` groups. -/
def ups (F : ℕ → ℕ → ℕ → ℝ) (D V : ℕ → ℕ → ℝ) (k p t s : ℕ) : ℝ := if p < k then F p t s + slabR D V p t s else F p t s

variable {x y : Vec Ideal S8x128x128 .f32} {ds vn : Vec Ideal S512x512 .bf16} {F : ℕ → ℕ → ℕ → ℝ} {D V : ℕ → ℕ → ℝ}

theorem ups_step {k : ℕ} {w : Vec Ideal S1x128x128 .f32} (hx : Is3 x (ups F D V k)) (hw : Is3 w (fun _ t s => F k t s + slabR D V k t s)) :
    Is3 (put (s := ⟨3, ![8, 128, 128]⟩) x ![k, 0, 0] ![1, 128, 128] w) (ups F D V (k + 1)) := by
  refine (put_is3 (g := fun p t s => F p t s + slabR D V p t s) hx hw).congr fun p _ t _ s _ => ?_
  unfold ups
  by_cases h : p = k
  · rw [if_pos h, if_pos (by omega)]
  · rw [if_neg h]
    by_cases h' : p < k
    · rw [if_pos h', if_pos (by omega)]
    · rw [if_neg h', if_neg (by omega)]

theorem slab_norm {j k : ℕ} (hjk : j ≤ k) {w : Vec Ideal S1x128x128 .f32} {S : ℕ → ℕ → ℝ} (hw : Is3 w (fun p t s => ups F D V j (k + p) (0 + t) (0 + s) + S t s)) (hS : ∀ t s, S t s = slabR D V k t s) :
    Is3 w (fun _ t s => F k t s + slabR D V k t s) := by
  refine hw.congr fun p hp t _ s _ => ?_
  obtain rfl : p = 0 := by omega
  rw [hS, Nat.zero_add, Nat.zero_add, Nat.add_zero]
  unfold ups
  rw [if_neg (by omega)]

theorem win_is {z : Vec Ideal S512x512 .bf16} {f : ℕ → ℕ → ℝ} (h : Is2 z f) (i j : ℕ) {off : Fin 2 → ℕ} (ho : off = ![128 * i, 128 * j])
    (inb : ∀ a, off a + (![128, 128] : Fin 2 → ℕ) a ≤ (⟨2, ![512, 512]⟩ : Shape).size a) :
    Is2 (n := 128) (m := 128) (window (s := ⟨2, ![512, 512]⟩) z off ![128, 128] inb) (fun r q => (fun r q => f r (128 * j + q)) (128 * i + r) q) := window_is h ho inb

theorem ups_zero (hx : Is3 x F) : Is3 x (ups F D V 0) := hx.congr fun p _ t _ s _ => by
  unfold ups; rw [if_neg (by omega)]

variable (hd : Is2 ds D) (hv : Is2 vn V)

include hd hv in
theorem dws6_is (hx : Is3 x (ups F D V 0)) : Is3 (dws6 ds vn x) (ups F D V 1) :=
  ups_step hx (slab_norm (by omega) (pay44_is (win_is hd 0 0 rfl _) (win_is hd 1 0 rfl _) (win_is hd 2 0 rfl _) (win_is hd 3 0 rfl _) (win_is hv 0 0 rfl _) (win_is hv 1 0 rfl _) (win_is hv 2 0 rfl _) (win_is hv 3 0 rfl _) (window_is3 hx _)) (fun t s => slabLo_pair D V 0 0 t s rfl))
include hd hv in
theorem dws7_is (hx : Is3 x (ups F D V 0)) (hy : Is3 y (ups F D V 1)) : Is3 (dws7 ds vn x y) (ups F D V 3) :=
  ups_step (ups_step hy (slab_norm (by omega) (pay47_is (win_is hd 0 0 rfl _) (win_is hd 1 0 rfl _) (win_is hd 2 0 rfl _) (win_is hd 3 0 rfl _) (win_is hv 0 0 rfl _) (win_is hv 1 0 rfl _) (win_is hv 2 0 rfl _) (win_is hv 3 0 rfl _) (window_is3 hx _)) (fun t s => slabHi_pair D V 0 1 t s rfl))) (slab_norm (by omega) (pay49_is (win_is hd 0 1 rfl _) (win_is hd 1 1 rfl _) (win_is hd 2 1 rfl _) (win_is hd 3 1 rfl _) (win_is hv 0 1 rfl _) (win_is hv 1 1 rfl _) (win_is hv 2 1 rfl _) (win_is hv 3 1 rfl _) (window_is3 hy _)) (fun t s => slabLo_pair D V 1 2 t s rfl))
include hd hv in
theorem dws8_is (hx : Is3 x (ups F D V 3)) : Is3 (dws8 ds vn x) (ups F D V 4) :=
  ups_step hx (slab_norm (by omega) (pay50_is (win_is hd 0 1 rfl _) (win_is hd 1 1 rfl _) (win_is hd 2 1 rfl _) (win_is hd 3 1 rfl _) (win_is hv 0 1 rfl _) (win_is hv 1 1 rfl _) (win_is hv 2 1 rfl _) (win_is hv 3 1 rfl _) (window_is3 hx _)) (fun t s => slabHi_pair D V 1 3 t s rfl))
include hd hv in
theorem dws9_is (hx : Is3 x (ups F D V 3)) (hy : Is3 y (ups F D V 4)) : Is3 (dws9 ds vn x y) (ups F D V 6) :=
  ups_step (ups_step hy (slab_norm (by omega) (pay53_is (win_is hd 0 2 rfl _) (win_is hd 1 2 rfl _) (win_is hd 2 2 rfl _) (win_is hd 3 2 rfl _) (win_is hv 0 2 rfl _) (win_is hv 1 2 rfl _) (win_is hv 2 2 rfl _) (win_is hv 3 2 rfl _) (window_is3 hx _)) (fun t s => slabLo_pair D V 2 4 t s rfl))) (slab_norm (by omega) (pay54_is (win_is hd 0 2 rfl _) (win_is hd 1 2 rfl _) (win_is hd 2 2 rfl _) (win_is hd 3 2 rfl _) (win_is hv 0 2 rfl _) (win_is hv 1 2 rfl _) (win_is hv 2 2 rfl _) (win_is hv 3 2 rfl _) (window_is3 hy _)) (fun t s => slabHi_pair D V 2 5 t s rfl))
include hd hv in
theorem dws10_is (hx : Is3 x (ups F D V 4)) (hy : Is3 y (ups F D V 6)) : Is3 (dws10 ds vn x y) (ups F D V 8) :=
  ups_step (ups_step hy (slab_norm (by omega) (pay58_is (win_is hd 0 3 rfl _) (win_is hd 1 3 rfl _) (win_is hd 2 3 rfl _) (win_is hd 3 3 rfl _) (win_is hv 0 3 rfl _) (win_is hv 1 3 rfl _) (win_is hv 2 3 rfl _) (win_is hv 3 3 rfl _) (window_is3 hx _)) (fun t s => slabLo_pair D V 3 6 t s rfl))) (slab_norm (by omega) (pay59_is (win_is hd 0 3 rfl _) (win_is hd 1 3 rfl _) (win_is hd 2 3 rfl _) (win_is hd 3 3 rfl _) (win_is hv 0 3 rfl _) (win_is hv 1 3 rfl _) (win_is hv 2 3 rfl _) (win_is hv 3 3 rfl _) (window_is3 hy _)) (fun t s => slabHi_pair D V 3 7 t s rfl))
include hd hv in
/-- One point adds its rows' products to every group's slab. -/
theorem dwsV_is (hx : Is3 x F) : Is3 (dwsV ds vn x) (fun p t s => F p t s + slabR D V p t s) := by
  have h6 := dws6_is hd hv (ups_zero (D := D) (V := V) hx)
  have h7 := dws7_is hd hv (ups_zero (D := D) (V := V) hx) h6
  have h8 := dws8_is hd hv h7
  have h9 := dws9_is hd hv h7 h8
  refine (dws10_is hd hv h8 h9).congr fun p hp t _ s _ => ?_
  unfold ups
  rw [if_pos hp]

end Cert.MixBwd

end
-- ==== Proof.Val5.lean ====
module

public import proofs.«01_k».proof.Proof.Val4
public import proofs.«01_k».proof.Proof.Run
public import Idealize.ShloMosaic.Lib.Claim
public import Idealize.ShloMosaic.Lib.Pipeline.ValueKit

@[expose] public section

set_option maxRecDepth 16384

noncomputable section

namespace Cert.MixBwd

open Idealize.ShloMosaic Idealize.ShloMosaic.Tactic Idealize.ShloMosaic.TcCoe Idealize.ShloMosaic.Pointwise Idealize.ShloMosaic.VecWindow
open Cert.KernelIdeal Cert.KernelIdeal.Gen
open scoped BigOperators

/-- The seven argument arrays hold the reals `a`. -/
structure Holds (a : Args) (A0 : Vec Ideal S8192x1024 .f32) (A1 : Vec Ideal S8192x2048 .f32) (A2 : Vec Ideal S8192x512 .f32) (A3 : Vec Ideal S1x1024 .f32)
    (A4 : Vec Ideal S1024x1024 .f32) (A5 : Vec Ideal S8x128x128 .f32) (A6 : Vec Ideal S8x128 .f32) : Prop where
  X : Is2 A0 a.X
  P : Is2 A1 a.P
  O : Is2 A2 a.O
  G : Is2 A3 (fun _ q => a.G q)
  W : Is2 A4 a.W
  S : Is3 A5 a.S
  B : Is2 A6 a.B

variable (m : (ℓ : Loc nD τ Cert.KernelIdeal.sig) → Buf (Elt Ideal) ℓ) (c : Dev nD) {a : Args}

/-- The kernel's arguments hold the reals `a`. -/
abbrev HoldsK (a : Args) : Prop := Holds a (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

/-! ## The blocks at a point -/

theorem V_v21 : (V m c main_v21 : Vec Ideal S1024x1024 .bf16) = fun y => (show Vec Ideal S1024x1024 .f32 from m ((c : Thread nD τ).loc main_arg4)) y := by
  show StableHlo.after (List.flatten [hostOps0]) (fun b => m (c, b)) (Proc.devRef .tc main_v21) = _
  simp only [hostOps0, List.flatten_cons, List.flatten_nil, List.append_nil, List.cons_append, List.nil_append]
  after_results_simp
  rfl
theorem V_v20 : (V m c main_v20 : Vec Ideal S8x128x128 .bf16) = fun y => (transpose S8x128x128 [0, 2, 1] (show Vec Ideal S8x128x128 .f32 from m ((c : Thread nD τ).loc main_arg5)) transposes_S8x128x128_S8x128x128_0_2_1 : Vec Ideal S8x128x128 .f32) y := by
  show StableHlo.after (List.flatten [hostOps0]) (fun b => m (c, b)) (Proc.devRef .tc main_v20) = _
  simp only [hostOps0, List.flatten_cons, List.flatten_nil, List.append_nil, List.cons_append, List.nil_append]
  after_results_simp
  rfl

theorem at0 : ∀ t : Fin cfg0.N, win0_0.index t 0 = t.val ∧ win0_0.index t 1 = 0 := (by decide +kernel : ∀ t : Fin grid0.N, _)
theorem at1 : ∀ t : Fin cfg0.N, win0_1.index t 0 = t.val ∧ win0_1.index t 1 = 0 := (by decide +kernel : ∀ t : Fin grid0.N, _)
theorem at2 : ∀ t : Fin cfg0.N, win0_2.index t 0 = t.val ∧ win0_2.index t 1 = 0 := (by decide +kernel : ∀ t : Fin grid0.N, _)
theorem at3 : ∀ t : Fin cfg0.N, win0_3.index t 0 = t.val ∧ win0_3.index t 1 = 0 := (by decide +kernel : ∀ t : Fin grid0.N, _)
theorem at4 : ∀ t : Fin cfg0.N, win0_4.index t 0 = 0 ∧ win0_4.index t 1 = 0 := (by decide +kernel : ∀ t : Fin grid0.N, _)
theorem at5 : ∀ t : Fin cfg0.N, win0_5.index t 0 = 0 ∧ win0_5.index t 1 = 0 := (by decide +kernel : ∀ t : Fin grid0.N, _)
theorem at6 : ∀ t : Fin cfg0.N, win0_6.index t 0 = 0 ∧ win0_6.index t 1 = 0 ∧ win0_6.index t 2 = 0 := (by decide +kernel : ∀ t : Fin grid0.N, _)
theorem at7 : ∀ t : Fin cfg0.N, win0_7.index t 0 = t.val ∧ win0_7.index t 1 = 0 := (by decide +kernel : ∀ t : Fin grid0.N, _)
theorem at8 : ∀ t : Fin cfg0.N, win0_8.index t 0 = t.val ∧ win0_8.index t 1 = 0 := (by decide +kernel : ∀ t : Fin grid0.N, _)

theorem t_lt (t : Fin cfg0.N) : t.val < 16 := lt_of_lt_of_eq t.isLt points

/-- An array that holds reals, at an index given by its coordinates. -/
theorem Is2.idx {n k : ℕ} {v : (⟨2, ![n, k]⟩ : Shape).Idx → EReal} {f : ℕ → ℕ → ℝ} (h : Is2 v f) (y : (⟨2, ![n, k]⟩ : Shape).Idx) {r q : ℕ} (h0 : (y 0).val = r) (h1 : (y 1).val = q) :
    v y = ((f r q : ℝ) : EReal) := by
  subst h0 h1
  exact (congrArg v (eq_ix2 y)).trans (h (y 0) (y 1))
theorem Is3.idx {n k l : ℕ} {v : (⟨3, ![n, k, l]⟩ : Shape).Idx → EReal} {f : ℕ → ℕ → ℕ → ℝ} (h : Is3 v f) (y : (⟨3, ![n, k, l]⟩ : Shape).Idx) {p r q : ℕ} (h0 : (y 0).val = p) (h1 : (y 1).val = r) (h2 : (y 2).val = q) :
    v y = ((f p r q : ℝ) : EReal) := by
  subst h0 h1 h2
  exact (congrArg v (eq_ix3 y)).trans (h (y 0) (y 1) (y 2))

variable (H : HoldsK m c a)

include H in
theorem b0_is (t : Fin cfg0.N) : Is2 (b0 m c t) (fun r q => a.X (512 * t.val + r) q) := by
  intro r q
  obtain ⟨e0, e1⟩ := at0 t
  blk_simp [iblk]
  rw [V_main_arg0]
  refine H.X.idx _ ?_ ?_
  · blk_simp; omega
  · blk_simp; omega
include H in
theorem b1_is (t : Fin cfg0.N) : Is2 (b1 m c t) (fun r q => a.P (512 * t.val + r) q) := by
  intro r q
  obtain ⟨e0, e1⟩ := at1 t
  blk_simp [iblk]
  rw [V_main_arg1]
  refine H.P.idx _ ?_ ?_
  · blk_simp; omega
  · blk_simp; omega
include H in
theorem b2_is (t : Fin cfg0.N) : Is2 (b2 m c t) (fun r q => a.O (512 * t.val + r) q) := by
  intro r q
  obtain ⟨e0, e1⟩ := at2 t
  blk_simp [iblk]
  rw [V_main_arg2]
  refine H.O.idx _ ?_ ?_
  · blk_simp; omega
  · blk_simp; omega
theorem b3_is (hs : Is2 (V m c main_v18 : Vec Ideal S8192x512 .f32) (svR a)) (t : Fin cfg0.N) : Is2 (b3 m c t) (fun r q => svR a (512 * t.val + r) q) := by
  intro r q
  obtain ⟨e0, e1⟩ := at3 t
  blk_simp [iblk]
  refine hs.idx _ ?_ ?_
  · blk_simp; omega
  · blk_simp; omega
include H in
theorem b4_is (t : Fin cfg0.N) : Is2 (b4 m c t) (fun _ q => a.G q) := by
  intro r q
  obtain ⟨e0, e1⟩ := at4 t
  blk_simp [iblk]
  rw [V_main_arg3]
  refine H.G.idx _ rfl ?_
  · blk_simp; omega
include H in
theorem b5_is (t : Fin cfg0.N) : Is2 (b5 m c t) a.W := by
  intro r q
  obtain ⟨e0, e1⟩ := at5 t
  blk_simp [iblk]
  rw [V_v21]
  refine H.W.idx _ ?_ ?_
  · blk_simp; omega
  · blk_simp; omega
include H in
theorem b6_is (t : Fin cfg0.N) : Is3 (b6 m c t) (fun g r t => a.S g t r) := by
  have hT : Is3 (transpose S8x128x128 [0, 2, 1] (show Vec Ideal S8x128x128 .f32 from m ((c : Thread nD τ).loc main_arg5)) transposes_S8x128x128_S8x128x128_0_2_1 : Vec Ideal S8x128x128 .f32) (fun g r t => a.S g t r) := by
    intro p r q
    pointwise []
    exact H.S _ _ _
  intro p r q
  obtain ⟨e0, e1, e2⟩ := at6 t
  blk_simp [iblk]
  rw [V_v20]
  refine hT.idx _ ?_ ?_ ?_
  · blk_simp; omega
  · blk_simp; omega
  · blk_simp; omega

/-! ## What a point computes -/

include H in
theorem dyAt_is (t : Fin cfg0.N) : Is2 (dyAt m c t) (fun r k => dyR a (512 * t.val + r) k) :=
  pay22_is (b0_is m c H t) (b4_is m c H t) (b5_is m c H t)
include H in
theorem dsAt_is (t : Fin cfg0.N) : Is2 (dsAt m c t) (fun r q => dsR a (512 * t.val + r) q) :=
  dsV_is a _ (b1_is m c H t) (dyAt_is m c H t)
include H in
theorem doAt_is (t : Fin cfg0.N) : Is2 (doAt m c t) (fun r q => doR a (512 * t.val + r) q) :=
  doV_is a _ (b1_is m c H t) (dyAt_is m c H t)

variable (hs : Is2 (V m c main_v18 : Vec Ideal S8192x512 .f32) (svR a))

include H hs in
theorem dpbAt_is (t : Fin cfg0.N) : Is2 (dpbAt m c t) (fun r q => dpbR a (512 * t.val + r) q) :=
  dpbV_is a _ (b1_is m c H t) (b2_is m c H t) (b3_is m c hs t) (dyAt_is m c H t) (dvnV_is a _ (by omega) (b6_is m c H t) (dsAt_is m c H t))

include H hs in
theorem gAt_is : ∀ (n : ℕ) (h : n ≤ cfg0.N), Is2 (gAt m c n h) (fun k q => ∑ r ∈ Finset.range (512 * n), yR a r k * a.X r q) := by
  intro n
  induction n with
  | zero => intro h; rw [gAt_zero m c 0 h rfl]; exact pay17_is.congr fun _ _ _ _ => by simp
  | succ n ih =>
    intro h
    rw [show gAt m c (n + 1) h = _ from gAt_succ m c ⟨n, h⟩]
    refine (pay2_is (b0_is m c H ⟨n, h⟩) (ih _) (yV_is a (512 * n) (b1_is m c H ⟨n, h⟩) (b2_is m c H ⟨n, h⟩) (b3_is m c hs ⟨n, h⟩))).congr fun k _ q _ => ?_
    rw [Nat.mul_succ, Finset.sum_range_add, Finset.sum_range (n := 512)]

include H in
theorem dbsAt_is : ∀ (n : ℕ) (h : n ≤ cfg0.N), Is2 (dbsAt m c n h) (fun t q => ∑ i ∈ Finset.range (4 * n), dsR a (i * 128 + t) q) := by
  intro n
  induction n with
  | zero => intro h; rw [dbsAt_zero m c 0 h rfl]; exact pay19_is.congr fun _ _ _ _ => by simp
  | succ n ih =>
    intro h
    rw [show dbsAt m c (n + 1) h = _ from dbsAt_succ m c ⟨n, h⟩]
    refine (dbsV_is a (512 * n) (b1_is m c H ⟨n, h⟩) (dyAt_is m c H ⟨n, h⟩) (ih _)).congr fun t _ q _ => ?_
    rw [show 4 * (n + 1) = 4 * n + 4 from rfl, Finset.sum_range_add, Finset.sum_range (n := 4)]
    refine congrArg _ (Finset.sum_congr rfl fun i _ => ?_)
    rw [show 512 * n + (128 * i.val + t) = (4 * n + i.val) * 128 + t by omega]

include H in
theorem dwsAt_is : ∀ (n : ℕ) (h : n ≤ cfg0.N), Is3 (dwsAt m c n h) (fun g t s => ∑ i ∈ Finset.range (4 * n), ∑ d : Fin 64, dsR a (i * 128 + t) (g * 64 + d) * vnR a (i * 128 + s) (g * 64 + d)) := by
  intro n
  induction n with
  | zero => intro h; rw [dwsAt_zero m c 0 h rfl]; exact pay18_is.congr fun _ _ _ _ _ _ => by simp
  | succ n ih =>
    intro h
    rw [show dwsAt m c (n + 1) h = _ from dwsAt_succ m c ⟨n, h⟩]
    refine (dwsV_is (dsAt_is m c H ⟨n, h⟩) (vnbV_is a (512 * n) (b1_is m c H ⟨n, h⟩)) (ih _)).congr fun g _ t _ s _ => ?_
    rw [show 4 * (n + 1) = 4 * n + 4 from rfl, Finset.sum_range_add, Finset.sum_range (n := 4)]
    refine congrArg _ (Finset.sum_congr rfl fun i _ => Finset.sum_congr rfl fun d _ => ?_)
    show dsR a (512 * n + (128 * i.val + t)) (64 * g + d.val) * vnR a (512 * n + (128 * i.val + s)) (64 * g + d.val) = _
    rw [show 512 * n + (128 * i.val + t) = (4 * n + i.val) * 128 + t by omega, show 512 * n + (128 * i.val + s) = (4 * n + i.val) * 128 + s by omega, show 64 * g = g * 64 by omega]

/-! ## The arrays after the run -/

include H hs in
theorem arr7_is : Is2 ((data m 0 c).arrAt 7 cfg0.N : Vec Ideal S8192x2048 .bf16) (dpbR a) := by
  have e : (data m 0 c).arrAt 7 cfg0.N = (fun y => ((dpbR a (y 0).val (y 1).val : ℝ) : EReal) : Vec Ideal S8192x2048 .bf16) := by
    refine (data m 0 c).arrAt_eq_of_covers 7 _ (by decide +kernel) fun t hf y => ?_
    obtain ⟨e0, e1⟩ := at7 t
    blk_simp
    refine ((dpbAt_is m c H hs t).idx _ rfl rfl).trans ?_
    rw [e0, e1, Nat.zero_mul, Nat.zero_add, Nat.mul_comm]
  intro r q
  rw [e]; rfl
include H in
theorem arr8_is : Is2 ((data m 0 c).arrAt 8 cfg0.N : Vec Ideal S8192x512 .f32) (doR a) := by
  have e : (data m 0 c).arrAt 8 cfg0.N = (fun y => ((doR a (y 0).val (y 1).val : ℝ) : EReal) : Vec Ideal S8192x512 .f32) := by
    refine (data m 0 c).arrAt_eq_of_covers 8 _ (by decide +kernel) fun t hf y => ?_
    obtain ⟨e0, e1⟩ := at8 t
    blk_simp
    refine ((doAt_is m c H t).idx _ rfl rfl).trans ?_
    rw [e0, e1, Nat.zero_mul, Nat.zero_add, Nat.mul_comm]
  intro r q
  rw [e]; rfl

/-- The last point. -/
def lastPt : Fin cfg0.N := ⟨15, by rw [points]; omega⟩

theorem sum_all (f : ℕ → ℝ) (h : 512 * (lastPt.val + 1) = 8192) : ∑ r ∈ Finset.range (512 * (lastPt.val + 1)), f r = ∑ r : Fin 8192, f r := by
  rw [h, Finset.sum_range]
theorem sum_chunks (f : ℕ → ℝ) (h : 4 * (lastPt.val + 1) = 64) : ∑ r ∈ Finset.range (4 * (lastPt.val + 1)), f r = ∑ r : Fin 64, f r := by
  rw [h, Finset.sum_range]

include H hs in
theorem gLast_is : Is2 (gAt m c (lastPt.val + 1) lastPt.isLt) (gR a) :=
  (gAt_is m c H hs _ _).congr fun k _ q _ => sum_all (fun r => yR a r k * a.X r q) rfl

include H hs in
theorem arr9_is : Is2 ((data m 0 c).arrAt 9 cfg0.N : Vec Ideal S1024x1024 .bf16) (dwoR a) := by
  have e : (data m 0 c).arrAt 9 cfg0.N = (fun y => (((dwoR a) (y 0).val (y 1).val : ℝ) : EReal) : Vec Ideal S1024x1024 .bf16) := by
    refine (data m 0 c).arrAt_eq_of_after_last 9 lastPt (by decide +kernel) _ fun y => ?_
    exact Is2.idx (f := dwoR a) (pay3_is (gLast_is m c H hs) (b4_is m c H lastPt)) _ rfl rfl
  intro r q
  rw [e]; rfl
include H hs in
theorem arr10_is : Is2 ((data m 0 c).arrAt 10 cfg0.N : Vec Ideal S8x1024 .f32) (fun r q => ∑ n : Fin 128, gR a (n * 8 + r) q * a.W (n * 8 + r) q) := by
  have e : (data m 0 c).arrAt 10 cfg0.N = (fun y => (((fun r q => ∑ n : Fin 128, gR a (n * 8 + r) q * a.W (n * 8 + r) q) (y 0).val (y 1).val : ℝ) : EReal) : Vec Ideal S8x1024 .f32) := by
    refine (data m 0 c).arrAt_eq_of_after_last 10 lastPt (by decide +kernel) _ fun y => ?_
    exact Is2.idx (f := fun r q => ∑ n : Fin 128, gR a (n * 8 + r) q * a.W (n * 8 + r) q) (pay4_is (gLast_is m c H hs) (b5_is m c H lastPt)) _ rfl rfl
  intro r q
  rw [e]; rfl
include H in
theorem arr11_is : Is3 ((data m 0 c).arrAt 11 cfg0.N : Vec Ideal S8x128x128 .f32) (dwsR a) := by
  have e : (data m 0 c).arrAt 11 cfg0.N = (fun y => (((dwsR a) (y 0).val (y 1).val (y 2).val : ℝ) : EReal) : Vec Ideal S8x128x128 .f32) := by
    refine (data m 0 c).arrAt_eq_of_after_last 11 lastPt (by decide +kernel) _ fun y => ?_
    exact Is3.idx (f := dwsR a) ((dwsAt_is m c H (lastPt.val + 1) lastPt.isLt).congr fun g _ t _ s _ => sum_chunks (fun i => ∑ d : Fin 64, dsR a (i * 128 + t) (g * 64 + d) * vnR a (i * 128 + s) (g * 64 + d)) rfl) _ rfl rfl rfl
  intro p r q
  rw [e]; rfl
include H in
theorem arr12_is : Is2 ((data m 0 c).arrAt 12 cfg0.N : Vec Ideal S128x512 .f32) (fun t q => ∑ n : Fin 64, dsR a (n * 128 + t) q) := by
  have e : (data m 0 c).arrAt 12 cfg0.N = (fun y => (((fun t q => ∑ n : Fin 64, dsR a (n * 128 + t) q) (y 0).val (y 1).val : ℝ) : EReal) : Vec Ideal S128x512 .f32) := by
    refine (data m 0 c).arrAt_eq_of_after_last 12 lastPt (by decide +kernel) _ fun y => ?_
    exact Is2.idx (f := fun t q => ∑ n : Fin 64, dsR a (n * 128 + t) q) ((dbsAt_is m c H (lastPt.val + 1) lastPt.isLt).congr fun t _ q _ => sum_chunks (fun i => dsR a (i * 128 + t) q) rfl) _ rfl rfl
  intro r q
  rw [e]; rfl

end Cert.MixBwd

end
-- ==== Proof.Ref3.lean ====
module

public import proofs.«01_k».proof.Proof.Ref2
public import proofs.«01_k».proof.Proof.Val5

@[expose] public section

set_option maxRecDepth 16384

noncomputable section

namespace Cert.MixBwd

open Idealize.ShloMosaic Idealize.ShloMosaic.Pointwise
open Cert.ReferenceIdeal Cert.ReferenceIdeal.Gen
open scoped BigOperators

/-! ## The reference's results hold the gradient's reals -/

section
variable (a : Args) (A0 : FVec Ideal S8192x1024 .f32) (A1 : FVec Ideal S8192x2048 .f32) (A2 : FVec Ideal S8192x512 .f32) (A3 : FVec Ideal S1x1024 .f32)
  (A4 : FVec Ideal S1024x1024 .f32) (A5 : FVec Ideal S8x128x128 .f32) (A6 : FVec Ideal S8x128 .f32) (H : Holds a A0 A1 A2 A3 A4 A5 A6)
include H

theorem rGX_is : Is2 (rGX A0 A3) (fun r q => a.G q * a.X r q) := by
  intro r q
  have g := H.G
  have x := H.X
  pointwise [rGX, hlo_ix]
  simp only [x _ _, ← EReal.coe_mul]
  have := g 0 q
  simp only [this, ← EReal.coe_mul]
theorem rDy_is : Is2 (rDy A0 A3 A4) (dyR a) := by
  have hx := rGX_is a A0 A1 A2 A3 A4 A5 A6 H
  have w := H.W
  refine Is2.congr (f := fun r k => ∑ c : Fin 1024, a.G c * a.X r c * a.W k c) ?_ (fun r _ q _ => Finset.sum_congr rfl fun c _ => congrArg (· * _) (mul_comm _ _))
  intro r q
  pointwise [rDy, hlo_ix]
  simp only [hx _ _, w _ _, ← EReal.coe_mul, sum_coe]
theorem rDyl_is : Is2 (rDyl A0 A3 A4) (fun r q => dyR a r q) := by
  have h := rDy_is a A0 A1 A2 A3 A4 A5 A6 H
  intro r q; pointwise [rDyl, hlo_ix]; simp only [h _ _]
theorem rDyh_is : Is2 (rDyh A0 A3 A4) (fun r q => dyR a r (512 + q)) := by
  have h := rDy_is a A0 A1 A2 A3 A4 A5 A6 H
  intro r q; pointwise [rDyh, hlo_ix]; simp only [h _ _]
theorem rDo_is : Is2 (rDo A0 A1 A3 A4) (doR a) :=
  hMul_is _ _ _ _ (rDyl_is a A0 A1 A2 A3 A4 A5 A6 H) (hSilu_is _ _ (rA_is a A1 H.P))
theorem rM_is : Is2 (rM A1 A5 A6) (fun r q => a.P r (512 + q) * svR a r q) :=
  hMul_is _ _ _ _ (rU_is a A1 H.P) (rSv_is a A1 A5 A6 H.P H.S H.B)
theorem rY_is : Is2 (rY A1 A2 A5 A6) (yR a) := by
  have h1 := hMul_is _ _ _ _ H.O (hSilu_is _ _ (rA_is a A1 H.P))
  have h2 := hMul_is _ _ _ _ (rM_is a A0 A1 A2 A3 A4 A5 A6 H) (hSilu_is _ _ (rG_is a A1 H.P))
  have key : ∀ x y : FVec Ideal S8192x512 .f32, Is2 x (fun r q => a.O r q * silu (a.P r q)) → Is2 y (fun r q => a.P r (512 + q) * svR a r q * silu (a.P r (1536 + q))) →
      Is2 (concatenate S8192x1024 1 [⟨S8192x512, x⟩, ⟨S8192x512, y⟩] concatenates_S8192x512_S8192x512_S8192x1024_d1) (yR a) := by
    intro x y hx hy r q
    have hq := q.isLt
    pointwise [hlo_ix]
    simp only [hx _ _, hy _ _]
    unfold yR
    split_ifs <;> rfl
  exact key _ _ h1 h2
theorem rDm_is : Is2 (rDm A0 A1 A3 A4) (dmR a) :=
  hMul_is _ _ _ _ (rDyh_is a A0 A1 A2 A3 A4 A5 A6 H) (hSilu_is _ _ (rG_is a A1 H.P))
theorem rDs_is : Is4 (rDs A0 A1 A3 A4) (fun n t g d => dsR a (n * 128 + t) (g * 64 + d)) := by
  have h2 : Is2 (mulf (rU A1) (rDm A0 A1 A3 A4)) (dsR a) :=
    (hMul_is _ _ _ _ (rU_is a A1 H.P) (rDm_is a A0 A1 A2 A3 A4 A5 A6 H)).congr fun r _ q _ => mul_comm _ _
  exact hSplit_is _ _ h2
theorem rDbs_is : Is2 (hSum03 (rDs A0 A1 A3 A4)) (dbsR a) := hSum03_is _ _ (rDs_is a A0 A1 A2 A3 A4 A5 A6 H)
theorem rDws_is : Is3 (hDotW (rDs A0 A1 A3 A4) (rVn A1)) (dwsR a) := by
  intro g t s
  refine (hDotW_is _ _ _ _ (rDs_is a A0 A1 A2 A3 A4 A5 A6 H) (rVn_is a A1 H.P) g t s).trans ?_
  show (((_ : ℝ)) : EReal) = ((dwsR a g t s : ℝ) : EReal)
  unfold dwsR vnR
  congr 1
  refine Finset.sum_congr rfl fun n _ => Finset.sum_congr rfl fun d _ => ?_
  have hd := d.isLt
  rw [show (g.val * 64 + d.val) / 64 = g.val by omega]
theorem rDgate_is (q : Fin 1024) : rDgate A0 A1 A2 A4 A5 A6 (ix1 q) = ((dgateR a q : ℝ) : EReal) := by
  have hy := rY_is a A0 A1 A2 A3 A4 A5 A6 H
  have hx := H.X
  have hw := H.W
  pointwise [rDgate, hlo_ix]
  simp only [hx _ _, hy _ _, hw _ _, ← EReal.coe_mul, sum_coe, zero_add]
  unfold dgateR gR
  congr 1
  simp only [Finset.mul_sum, Finset.sum_mul]
  rw [Finset.sum_comm]
  refine Finset.sum_congr rfl fun n _ => Finset.sum_congr rfl fun d _ => ?_
  ring
theorem rDwo_is : Is2 (rDwo A0 A1 A2 A3 A5 A6) (dwoR a) := by
  have hy := rY_is a A0 A1 A2 A3 A4 A5 A6 H
  have hx := rGX_is a A0 A1 A2 A3 A4 A5 A6 H
  intro k c
  pointwise [rDwo, hlo_ix]
  simp only [hx _ _, hy _ _, ← EReal.coe_mul, sum_coe, zero_add]
  show _ = ((dwoR a k c : ℝ) : EReal)
  unfold dwoR gR
  congr 1
  rw [Finset.sum_mul]
  exact Finset.sum_congr rfl fun d _ => by ring
theorem rDvn_is : Is4 (rDvn A0 A1 A3 A4 A5) (fun n s g d => dvnR a (n * 128 + s) (g * 64 + d)) := by
  intro n s g d
  refine (hDotT_is _ _ _ _ (rDs_is a A0 A1 A2 A3 A4 A5 A6 H) H.S n s g d).trans ?_
  show (((_ : ℝ)) : EReal) = ((dvnR a (n * 128 + s) (g * 64 + d) : ℝ) : EReal)
  unfold dvnR
  have hd := d.isLt
  have hs := s.isLt
  rw [show (g.val * 64 + d.val) / 64 = g.val by omega, show (n.val * 128 + s.val) / 128 * 128 = n.val * 128 by omega, show (n.val * 128 + s.val) % 128 = s.val by omega]
  congr 1
  exact Finset.sum_congr rfl fun t _ => mul_comm _ _
end

theorem hCorr_is (x y : FVec Ideal S64x128x8x64 .f32) (r s : FVec Ideal S64x128x8x1 .f32) (f g : ℕ → ℕ → ℕ → ℕ → ℝ) (p q : ℕ → ℕ → ℕ → ℝ)
    (hx : Is4 x f) (hy : Is4 y g) (hr : Is4 r (fun n t g _ => p n t g)) (hs : Is4 s (fun n t g _ => q n t g)) (hq : ∀ n t g, 0 < q n t g) :
    Is4 (hCorr x y r s) (fun n t k _ => (∑ d : Fin 64, f n t k d * g n t k d) * (-(1 / 2) * (p n t k / q n t k)) / 64) := by
  intro n t k d
  pointwise [hCorr, hlo_ix]
  simp only [hx _ _ _ _, hy _ _ _ _, hr _ _ _ _, hs _ _ _ _, div_coe _ _ (hq _ _ _).ne', half_coe, n64_coe, ← EReal.coe_mul, sum_coe, zero_add, Finset.univ_unique, Finset.sum_singleton]
  rw [div_coe _ _ (by norm_num)]

section
variable (a : Args) (A0 : FVec Ideal S8192x1024 .f32) (A1 : FVec Ideal S8192x2048 .f32) (A2 : FVec Ideal S8192x512 .f32) (A3 : FVec Ideal S1x1024 .f32)
  (A4 : FVec Ideal S1024x1024 .f32) (A5 : FVec Ideal S8x128x128 .f32) (A6 : FVec Ideal S8x128 .f32) (H : Holds a A0 A1 A2 A3 A4 A5 A6)

/-- The square of the reciprocal root is the reciprocal of the shifted mean square. -/
theorem scaleR_sq (r g : ℕ) : scaleR a r g * scaleR a r g = 1 / msR a r g := by
  have h := msR_pos a r g
  show (Real.sqrt (msR a r g))⁻¹ * (Real.sqrt (msR a r g))⁻¹ = _
  rw [← mul_inv, Real.mul_self_sqrt h.le, one_div]

include H
theorem rDv_is : Is2 (rDv A0 A1 A3 A4 A5) (dvR a) := by
  have hv := hSplit_is _ _ (rV_is a A1 H.P)
  have hn := rDvn_is a A0 A1 A2 A3 A4 A5 A6 H
  have hr := rR_is a A1 H.P
  have hc := hCorr_is _ _ _ _ _ _ _ _ hv hn hr (rMs_is a A1 H.P) (fun _ _ _ => msR_pos a _ _)
  have hw := hWide_is _ _ hr
  have key : ∀ v n w c : FVec Ideal S64x128x8x64 .f32, ∀ fv fn fw fc, Is4 v fv → Is4 n fn → Is4 w fw → Is4 c fc →
      Is4 (addf (addf (mulf n w) (mulf v c)) (mulf c v)) (fun i j k l => fn i j k l * fw i j k l + fv i j k l * fc i j k l + fc i j k l * fv i j k l) := by
    intro v n w c fv fn fw fc hv hn hw hc i j k l
    pointwise [hlo_ix]
    simp only [hv _ _ _ _, hn _ _ _ _, hw _ _ _ _, hc _ _ _ _, ← EReal.coe_mul, ← EReal.coe_add]
  have h4 := key _ _ _ _ _ _ _ _ hv hn hw hc
  intro r q
  refine (hJoin_is _ _ h4 r q).trans ?_
  show (((_ : ℝ)) : EReal) = ((dvR a r q : ℝ) : EReal)
  unfold dvR vnR
  have e : q.val / 64 * 64 + q.val % 64 = q.val := Nat.div_add_mod' _ _
  have e' : r.val / 128 * 128 + r.val % 128 = r.val := Nat.div_add_mod' _ _
  simp only [e, e']
  have es : (∑ d : Fin 64, a.P r (1024 + (q.val / 64 * 64 + d.val)) * scaleR a r ((q.val / 64 * 64 + d.val) / 64) * dvnR a r (q.val / 64 * 64 + d.val))
      = scaleR a r (q.val / 64) * ∑ d : Fin 64, a.P r (1024 + (q.val / 64 * 64 + d.val)) * dvnR a r (q.val / 64 * 64 + d.val) := by
    rw [Finset.mul_sum]
    refine Finset.sum_congr rfl fun d _ => ?_
    have hd := d.isLt
    rw [show (q.val / 64 * 64 + d.val) / 64 = q.val / 64 by omega]
    ring
  rw [es]
  congr 1
  generalize (∑ d : Fin 64, a.P r (1024 + (q.val / 64 * 64 + d.val)) * dvnR a r (q.val / 64 * 64 + d.val)) = Z
  have hsq := scaleR_sq a r (q.val / 64)
  rw [div_eq_mul_one_div (scaleR a r (q.val / 64)), ← hsq]
  ring
theorem rDpb_is : Is2 (rDpb A0 A1 A2 A3 A4 A5 A6) (dpbR a) := by
  have hm := rM_is a A0 A1 A2 A3 A4 A5 A6 H
  have h1 := hDsilu_is _ _ _ _ (rA_is a A1 H.P) (hMul_is _ _ _ _ H.O (rDyl_is a A0 A1 A2 A3 A4 A5 A6 H))
  have h2 := hMul_is _ _ _ _ (rDm_is a A0 A1 A2 A3 A4 A5 A6 H) (rSv_is a A1 A5 A6 H.P H.S H.B)
  have h4 := hDsilu_is _ _ _ _ (rG_is a A1 H.P) (hMul_is _ _ _ _ hm (rDyh_is a A0 A1 A2 A3 A4 A5 A6 H))
  have hc := hCat_is _ _ _ _ _ _ _ _ h1 h2 (rDv_is a A0 A1 A2 A3 A4 A5 A6 H) h4
  have ht : ∀ v : FVec Ideal S8192x2048 .f32, ∀ f, Is2 v f → Is2 (truncf .bf16 v bitsLt_bf16_f32 : FVec Ideal S8192x2048 .bf16) f := by
    intro v f h r q
    pointwise [hlo_ix]
    simp only [h _ _]
  refine (ht _ _ hc).congr fun r _ q _ => ?_
  unfold dpbR daR duR dgR
  split_ifs
  · ring
  · rfl
  · rfl
  · ring
end

end Cert.MixBwd

end
-- ==== Proof.Val6.lean ====
module

public import proofs.«01_k».proof.Proof.Ref3
public import Idealize.ShloMosaic.Lib.Claim

@[expose] public section

set_option maxRecDepth 16384

noncomputable section

namespace Cert.MixBwd

open Idealize.ShloMosaic Idealize.ShloMosaic.TcCoe Idealize.ShloMosaic.Tactic Idealize.ShloMosaic.Pointwise
open Cert.KernelIdeal Cert.KernelIdeal.Gen
open scoped BigOperators

/-! ## The host operations around the launch -/

variable (m : (ℓ : Loc nD τ Cert.KernelIdeal.sig) → Buf (Elt Ideal) ℓ) (c : Dev nD) {a : Args} (H : HoldsK m c a)

/-- The spatial gate the launch is handed is the reference's. -/
theorem V_v18 : (V m c main_v18 : Vec Ideal S8192x512 .f32) =
    rSv (m ((c : Thread nD τ).loc main_arg1)) (m ((c : Thread nD τ).loc main_arg5)) (m ((c : Thread nD τ).loc main_arg6)) := by
  show StableHlo.after (List.flatten [hostOps0]) (fun b => m (c, b)) (Proc.devRef .tc main_v18) = _
  simp only [hostOps0, List.flatten_cons, List.flatten_nil, List.append_nil, List.cons_append, List.nil_append]
  after_results_simp
  rfl

include H in
theorem sv_is : Is2 (V m c main_v18 : Vec Ideal S8192x512 .f32) (svR a) := by
  rw [V_v18 m c]
  exact rSv_is a _ _ _ H.P H.S H.B

/-- The sums over the eight rows of the gate's array, and over each group's columns of the bias array. -/
def tGate (v : Vec Ideal S8x1024 .f32) : Vec Ideal S1024 .f32 := Host.reduceAdd (F := Ideal) (φ := .f32) v (constant (F := Ideal) S_ .f32 0x00000000#32) reducesTo_S8x1024_S1024_d0 h_S_
def tBias (v : Vec Ideal S128x512 .f32) : Vec Ideal S8x128 .f32 :=
  transpose S8x128 [1, 0] (Host.reduceAdd (F := Ideal) (φ := .f32) (shapeCast S128x8x64 v shapeCasts_S128x512_S128x8x64) (constant (F := Ideal) S_ .f32 0x00000000#32) reducesTo_S128x8x64_S128x8_d2 h_S_) transposes_S128x8_S8x128_1_0

theorem spec0_inj : Function.Injective (Pipeline.arrRef spec0) := by decide

theorem tail_v23 : (Pipeline.afterTail₀ cfgs (data m) 0 (V0 m) [hostOps1] c main_v23 : Vec Ideal S1024 .f32) = tGate ((data m 0 c).arrAt 10 cfg0.N) := by
  unfold Pipeline.afterTail₀
  simp only [hostOps1, List.flatten_cons, List.flatten_nil, List.append_nil, List.cons_append, List.nil_append]
  after_results_simp
  exact congrArg tGate (Pipeline.withArrays_arr spec0 spec0_inj c (V0 m c) (fun w => (data m 0 c).arrAt w (cfgs 0).N) 10)

theorem tail_v26 : (Pipeline.afterTail₀ cfgs (data m) 0 (V0 m) [hostOps1] c main_v26 : Vec Ideal S8x128 .f32) = tBias ((data m 0 c).arrAt 12 cfg0.N) := by
  unfold Pipeline.afterTail₀
  simp only [hostOps1, List.flatten_cons, List.flatten_nil, List.append_nil, List.cons_append, List.nil_append]
  after_results_simp
  exact congrArg tBias (Pipeline.withArrays_arr spec0 spec0_inj c (V0 m c) (fun w => (data m 0 c).arrAt w (cfgs 0).N) 12)

theorem tGate_is (v : Vec Ideal S8x1024 .f32) (h : Is2 v (fun r q => ∑ n : Fin 128, gR a (n * 8 + r) q * a.W (n * 8 + r) q)) (q : Fin 1024) :
    tGate v (ix1 q) = ((dgateR a q : ℝ) : EReal) := by
  pointwise [tGate, hlo_ix]
  simp only [h _ _, sum_coe]
  have e : dgateR a q = ∑ n : Fin 128, ∑ r : Fin 8, gR a (n * 8 + r) q * a.W (n * 8 + r) q := sum_blocks 128 8 (fun k => gR a k q * a.W k q)
  have e' : (∑ i : Fin 8, ∑ n : Fin 128, gR a (n * 8 + i) q * a.W (n * 8 + i) q) = ∑ n : Fin 128, ∑ r : Fin 8, gR a (n * 8 + r) q * a.W (n * 8 + r) q := Finset.sum_comm
  rw [e, ← e']

theorem tBias_is (v : Vec Ideal S128x512 .f32) (h : Is2 v (fun t q => ∑ n : Fin 64, dsR a (n * 128 + t) q)) : Is2 (tBias v) (dbsR a) := by
  intro g t
  pointwise [tBias, hlo_ix]
  simp only [h _ _, sum_coe]
  show _ = ((dbsR a g t : ℝ) : EReal)
  have e' : dbsR a g t = ∑ d : Fin 64, ∑ n : Fin 64, dsR a (n * 128 + t) (g * 64 + d) := Finset.sum_comm
  rw [e']

end Cert.MixBwd

end
-- ==== Proof.Pre.lean ====
module

public import proofs.«01_k».proof.Proof.Val5
public import proofs.«01_k».proof.Pre_finite
public import Idealize.ShloMosaic.Lib.ReduceAll

@[expose] public section

set_option maxRecDepth 16384

noncomputable section

namespace Cert.MixBwd

open Idealize.ShloMosaic Idealize.ShloMosaic.Pointwise

/-! ## Finite arguments hold real numbers -/

/-- The shape facts the precondition's function states. -/
theorem pre_facts : Cert.Pre_finite.Facts := by constructor <;> decide

/-- A value whose magnitude is below infinity is a real number. -/
theorem real_of_lt (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  have hl : max x (-x) < ⊤ := by
    by_contra hn
    unfold Ideal.cmp at h
    simp [hn] at h
  rw [max_lt_iff] at hl
  refine (EReal.coe_toReal hl.1.ne ?_).symm
  intro hb
  rw [hb] at hl
  exact absurd hl.2 (by simp)

abbrev Sc : Shape := ⟨0, ![]⟩

/-- Where the conjunction of an array's comparisons is one, every element is a real number. -/
theorem real_all {s : Shape} {axes : List (Fin s.rank)} (hb : Sc.BroadcastsInDim s (![] : Fin 0 → Fin s.rank)) (hr : s.ReducesTo axes Sc) (hu : 0 < Sc.numel)
    (v : FVec Ideal s .f32) (j : Sc.Idx)
    (e : Host.reduce IntOp.andi (cmpf .olt (Host.absf v) (broadcastInDim s ![] hb (constant Sc .f32 0x7F800000#32))) (constantI Sc 1 1#1) hr hu j = 1#1) (i : s.Idx) :
    (v i : EReal) = (((v i : EReal).toReal : ℝ) : EReal) := by
  haveI : Subsingleton Sc.Idx := ⟨fun x y => funext fun k => k.elim0⟩
  exact real_of_lt _ (Host.reduce_andi_all _ _ hr hu j e i)

/-- The reals of an array, by index. -/
def real2 {n m : ℕ} (v : (⟨2, ![n, m]⟩ : Shape).Idx → EReal) (r q : ℕ) : ℝ := if h : r < n ∧ q < m then (v (ix2 ⟨r, h.1⟩ ⟨q, h.2⟩)).toReal else 0
def real3 {n m k : ℕ} (v : (⟨3, ![n, m, k]⟩ : Shape).Idx → EReal) (p r q : ℕ) : ℝ :=
  if h : p < n ∧ r < m ∧ q < k then (v (ix3 ⟨p, h.1⟩ ⟨r, h.2.1⟩ ⟨q, h.2.2⟩)).toReal else 0
theorem real2_is {n m : ℕ} (v : (⟨2, ![n, m]⟩ : Shape).Idx → EReal) (h : ∀ i, v i = (((v i).toReal : ℝ) : EReal)) : Is2 v (real2 v) := by
  intro r q
  unfold real2
  rw [dif_pos ⟨r.isLt, q.isLt⟩]
  exact h _
theorem real3_is {n m k : ℕ} (v : (⟨3, ![n, m, k]⟩ : Shape).Idx → EReal) (h : ∀ i, v i = (((v i).toReal : ℝ) : EReal)) : Is3 v (real3 v) := by
  intro p r q
  unfold real3
  rw [dif_pos ⟨p.isLt, r.isLt, q.isLt⟩]
  exact h _

section
variable [Cert.Pre_finite.Facts]
open Cert.Pre_finite

/-- Under the precondition the seven arguments hold real numbers. -/
theorem holds_of_finite (A0 : FVec Ideal S8192x1024 .f32) (A1 : FVec Ideal S8192x2048 .f32) (A2 : FVec Ideal S8192x512 .f32) (A3 : FVec Ideal S1x1024 .f32)
    (A4 : FVec Ideal S1024x1024 .f32) (A5 : FVec Ideal S8x128x128 .f32) (A6 : FVec Ideal S8x128 .f32)
    (h : Cert.Pre_finite.fn (F := Ideal) A0 A1 A2 A3 A4 A5 A6 = fun _ => 1#1) : ∃ a : Args, Holds a A0 A1 A2 A3 A4 A5 A6 := by
  have e := congrFun h (fun k => k.elim0)
  dsimp only [Cert.Pre_finite.fn, Cert.Pre_finite.fn_part1] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨⟨real2 A0, real2 A1, real2 A2, real2 A3 0, real2 A4, real3 A5, real2 A6⟩, ?_, ?_, ?_, ?_, ?_, ?_, ?_⟩
  · exact real2_is _ (real_all _ _ _ A0 _ e0)
  · exact real2_is _ (real_all _ _ _ A1 _ e1)
  · exact real2_is _ (real_all _ _ _ A2 _ e2)
  · intro r q
    have hr : r = 0 := Subsingleton.elim _ _
    subst hr
    exact real2_is _ (real_all _ _ _ A3 _ e3) 0 q
  · exact real2_is _ (real_all _ _ _ A4 _ e4)
  · exact real3_is _ (real_all _ _ _ A5 _ e5)
  · exact real2_is _ (real_all _ _ _ A6 _ e6)
end

end Cert.MixBwd

end
-- ==== Proof.Ref4.lean ====
module

public import proofs.«01_k».proof.Proof.Ref2
public import proofs.«01_k».proof.Proof.Gen.ReferenceIdeal.Run

@[expose] public section

set_option maxRecDepth 16384

noncomputable section

namespace Cert.MixBwd

open Idealize.ShloMosaic Idealize.ShloMosaic.TcCoe Idealize.SL.Sem
open Cert.ReferenceIdeal Cert.ReferenceIdeal.Gen

/-! ## The reference's run, in the arrays named above -/

section
variable (m : (ℓ : Loc nD τ Cert.ReferenceIdeal.sig) → Buf (Elt Ideal) ℓ) (c : Dev nD)
abbrev x0 : FVec Ideal S8192x1024 .f32 := m ((c.tc : Thread nD τ).loc main_arg0)
abbrev x1 : FVec Ideal S8192x2048 .f32 := m ((c.tc : Thread nD τ).loc main_arg1)
abbrev x2 : FVec Ideal S8192x512 .f32 := m ((c.tc : Thread nD τ).loc main_arg2)
abbrev x3 : FVec Ideal S1x1024 .f32 := m ((c.tc : Thread nD τ).loc main_arg3)
abbrev x4 : FVec Ideal S1024x1024 .f32 := m ((c.tc : Thread nD τ).loc main_arg4)
abbrev x5 : FVec Ideal S8x128x128 .f32 := m ((c.tc : Thread nD τ).loc main_arg5)
abbrev x6 : FVec Ideal S8x128 .f32 := m ((c.tc : Thread nD τ).loc main_arg6)

theorem res_dpb : Cert.ReferenceIdeal.Value.res_main_v77 m c = rDpb (x0 m c) (x1 m c) (x2 m c) (x3 m c) (x4 m c) (x5 m c) (x6 m c) := rfl
end

/-- The reference ends with each result at its named array of the arguments, and the arguments as they were. -/
theorem ref_run (m : (ℓ : Loc nD τ Cert.ReferenceIdeal.sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v77) = rDpb (x0 m c) (x1 m c) (x2 m c) (x3 m c) (x4 m c) (x5 m c) (x6 m c)
      ∧ r.2.mem ((c.tc : Thread nD τ).loc main_v48) = rDo (x0 m c) (x1 m c) (x3 m c) (x4 m c)
      ∧ r.2.mem ((c.tc : Thread nD τ).loc main_v78) = rDwo (x0 m c) (x1 m c) (x2 m c) (x3 m c) (x5 m c) (x6 m c)
      ∧ r.2.mem ((c.tc : Thread nD τ).loc main_v79) = rDgate (x0 m c) (x1 m c) (x2 m c) (x4 m c) (x5 m c) (x6 m c)
      ∧ r.2.mem ((c.tc : Thread nD τ).loc main_v58) = hDotW (rDs (x0 m c) (x1 m c) (x3 m c) (x4 m c)) (rVn (x1 m c))
      ∧ r.2.mem ((c.tc : Thread nD τ).loc main_v56) = hSum03 (rDs (x0 m c) (x1 m c) (x3 m c) (x4 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨h0, h1, h2, h3, h4, h5, h6⟩ := h c
    exact ⟨h0.trans (res_dpb m c), h1, h2, h3, h4, h5, h6⟩) (Cert.ReferenceIdeal.Value.run m ρ)

end Cert.MixBwd

end
-- ==== Proof.Alg.lean ====
module

public import proofs.«01_k».proof.Defs
public import proofs.«01_k».proof.Proof.Val6
public import proofs.«01_k».proof.Proof.Pre
public import proofs.«01_k».proof.Proof.Ref4

@[expose] public section

set_option maxRecDepth 16384

noncomputable section

namespace Cert.MixBwd

open Idealize.ShloMosaic Idealize.ShloMosaic.TcCoe Idealize.ShloMosaic.Pointwise

/-! ## The kernel's results are the reference's -/

theorem Is2.ext {n k : ℕ} {v w : (⟨2, ![n, k]⟩ : Shape).Idx → EReal} {f : ℕ → ℕ → ℝ} (hv : Is2 v f) (hw : Is2 w f) : v = w := by
  funext i
  have e : i = ix2 (i 0) (i 1) := by
    funext a; match a with
    | ⟨0, _⟩ => rfl
    | ⟨1, _⟩ => rfl
  rw [e]
  exact (hv _ _).trans (hw _ _).symm
theorem Is3.ext {n k l : ℕ} {v w : (⟨3, ![n, k, l]⟩ : Shape).Idx → EReal} {f : ℕ → ℕ → ℕ → ℝ} (hv : Is3 v f) (hw : Is3 w f) : v = w := by
  funext i
  have e : i = ix3 (i 0) (i 1) (i 2) := by
    funext a; match a with
    | ⟨0, _⟩ => rfl
    | ⟨1, _⟩ => rfl
    | ⟨2, _⟩ => rfl
  rw [e]
  exact (hv _ _ _).trans (hw _ _ _).symm
theorem ext1 {n : ℕ} {v w : (⟨1, ![n]⟩ : Shape).Idx → EReal} (h : ∀ q, v (ix1 q) = w (ix1 q)) : v = w := by
  funext i
  have e : i = ix1 (i 0) := by
    funext a; match a with
    | ⟨0, _⟩ => rfl
  rw [e]; exact h _

section
open Cert.KernelIdeal Cert.KernelIdeal.Gen Idealize.SL.Sem
/-- The kernel ends with its results at the launch's arrays, two of them summed by the host, and the arguments as they were. -/
theorem kernel_run (m : (ℓ : Loc nD τ Cert.KernelIdeal.sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22_0) = (data m 0 c).arrAt 7 cfg0.N
      ∧ r.2.mem ((c.tc : Thread nD τ).loc main_v22_1) = (data m 0 c).arrAt 8 cfg0.N
      ∧ r.2.mem ((c.tc : Thread nD τ).loc main_v22_2) = (data m 0 c).arrAt 9 cfg0.N
      ∧ r.2.mem ((c.tc : Thread nD τ).loc main_v23) = tGate ((data m 0 c).arrAt 10 cfg0.N)
      ∧ r.2.mem ((c.tc : Thread nD τ).loc main_v22_4) = (data m 0 c).arrAt 11 cfg0.N
      ∧ r.2.mem ((c.tc : Thread nD τ).loc main_v26) = tBias ((data m 0 c).arrAt 12 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  θ_run_mono (θ_run_and (run_main m ρ) (framed m ρ)) fun r h c => by
    have h1 := h.1 c
    exact ⟨h1.1 7, h1.1 8, h1.1 9, (h1.2 main_v23 (Pipeline.mem_restRefs_of main_v23 (by decide) (by decide))).trans (tail_v23 m c), h1.1 11,
      (h1.2 main_v26 (Pipeline.mem_restRefs_of main_v26 (by decide) (by decide))).trans (tail_v26 m c), h.2.1 c⟩
end

/-- On finite arguments the kernel and the reference end with the same six arrays, as extended reals. -/
theorem algebraic [hP : Cert.Pre_finite.Facts] : Cert.algebraic_KernelIdeal_ReferenceIdeal_pre_finite := by
  intro m g m' g' hpre hagree
  have HK : ∀ c, ∃ a : Args, HoldsK m c a := fun c => holds_of_finite _ _ _ _ _ _ _ (hpre c)
  have HR : ∀ c a, HoldsK m c a → Holds a (x0 m' c) (x1 m' c) (x2 m' c) (x3 m' c) (x4 m' c) (x5 m' c) (x6 m' c) := by
    intro c a h
    obtain ⟨e0, e1, e2, e3, e4, e5, e6⟩ := hagree c
    exact ⟨fun r q => (congrFun e0 _).trans (h.X r q), fun r q => (congrFun e1 _).trans (h.P r q), fun r q => (congrFun e2 _).trans (h.O r q), fun r q => (congrFun e3 _).trans (h.G r q),
      fun r q => (congrFun e4 _).trans (h.W r q), fun p r q => (congrFun e5 _).trans (h.S p r q), fun r q => (congrFun e6 _).trans (h.B r q)⟩
  refine ⟨fun c => rDpb (x0 m' c) (x1 m' c) (x2 m' c) (x3 m' c) (x4 m' c) (x5 m' c) (x6 m' c), fun c => rDo (x0 m' c) (x1 m' c) (x3 m' c) (x4 m' c),
    fun c => rDwo (x0 m' c) (x1 m' c) (x2 m' c) (x3 m' c) (x5 m' c) (x6 m' c), fun c => rDgate (x0 m' c) (x1 m' c) (x2 m' c) (x4 m' c) (x5 m' c) (x6 m' c),
    fun c => hDotW (rDs (x0 m' c) (x1 m' c) (x3 m' c) (x4 m' c)) (rVn (x1 m' c)), fun c => hSum03 (rDs (x0 m' c) (x1 m' c) (x3 m' c) (x4 m' c)),
    θ_run_mono (kernel_run m g) fun r h c => ?_, ref_run m' g'⟩
  obtain ⟨a, H⟩ := HK c
  have HR := HR c a H
  have hs := sv_is m c H
  obtain ⟨h0, h1, h2, h3, h4, h5, hargs⟩ := h c
  refine ⟨h0.trans ?_, h1.trans ?_, h2.trans ?_, h3.trans ?_, h4.trans ?_, h5.trans ?_, hargs⟩
  · exact (arr7_is m c H hs).ext (rDpb_is a _ _ _ _ _ _ _ HR)
  · exact (arr8_is m c H).ext (rDo_is a _ _ _ _ _ _ _ HR)
  · exact (arr9_is m c H hs).ext (rDwo_is a _ _ _ _ _ _ _ HR)
  · exact ext1 fun q => (tGate_is _ (arr10_is m c H hs) q).trans (rDgate_is a _ _ _ _ _ _ _ HR q).symm
  · exact (arr11_is m c H).ext (rDws_is a _ _ _ _ _ _ _ HR)
  · exact (tBias_is _ (arr12_is m c H)).ext (rDbs_is a _ _ _ _ _ _ _ HR)

end Cert.MixBwd

end
-- ==== Proof.NormCase.lean ====
module

public import proofs.«01_k».proof.Proof.Gen.Kernel2Ideal.Frame
public import Idealize.ShloMosaic.Lib.Pipeline.Value
public import Idealize.ShloMosaic.Lib.Tactic

@[expose] public section

set_option maxRecDepth 16384

noncomputable section

namespace Cert.NormBwd

open Idealize.ShloMosaic Idealize.ShloMosaic.TcCoe Idealize.SL.Sem
open Idealize.ShloMosaic.Pipeline (Dat)
open Cert.Kernel2Ideal Cert.Kernel2Ideal.Gen

variable {F : FTy → Type} [FloatOps F]

theorem origin : (![0, 0] : Fin 2 → Nat) = fun _ => 0 := funext fun a => by fin_cases a <;> rfl

/-- The three row ranges of the transposed weight. -/
abbrev rowsQ (x5 : Vec F S2816x1024 .bf16) : Vec F S512x1024 .bf16 := View.ld x5 (Rect.unit (s := S2816x1024) ![0, 0] S512x1024.size inb_S2816x1024_S512x1024_0_0)
abbrev rowsK (x5 : Vec F S2816x1024 .bf16) : Vec F S256x1024 .bf16 := View.ld x5 (Rect.unit (s := S2816x1024) ![512, 0] S256x1024.size inb_S2816x1024_S256x1024_512_0)
abbrev rowsP (x5 : Vec F S2816x1024 .bf16) : Vec F S2048x1024 .bf16 := View.ld x5 (Rect.unit (s := S2816x1024) ![768, 0] S2048x1024.size inb_S2816x1024_S2048x1024_768_0)

/-- The gradient of the modulated norm on one tile: the tile's three pieces of the projection's gradient, each against its rows of the weight. -/
abbrev dhTile (x2 : Vec F S512x512 .bf16) (x3 : Vec F S512x256 .bf16) (x4 : Vec F S512x2048 .bf16) (x5 : Vec F S2816x1024 .bf16) : FVec F S512x1024 .f32 :=
  k0_pay5 x2 (rowsQ x5) x3 (rowsK x5) x4 (rowsP x5)

/-! ## What one run of the body leaves in each output, at the first point and at a later one -/

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x512 .bf16) (harg3 : arg3.IsWhole) (arg4 : Memref sig .tc .vmem S512x256 .bf16) (harg4 : arg4.IsWhole) (arg5 : Memref sig .tc .vmem S512x2048 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S8x1024 .f32) (harg11 : arg11.IsWhole)
  (x0 : Vec F S512x1024 .f32) (x1 : Vec F S512x1024 .f32) (x2 : Vec F S512x512 .bf16) (x3 : Vec F S512x256 .bf16) (x4 : Vec F S512x2048 .bf16) (x5 : Vec F S2816x1024 .bf16) (x6 : Vec F S1x1024 .f32) (x7 : Vec F S1x1024 .f32)
  (xo9 : Vec F S8x1024 .f32) (xo10 : Vec F S8x1024 .f32)

/-- First point: the tile of the input's gradient. -/
theorem out_A_8 (hc0 : cond0_0 i) :
    out0_A_8 c i arg1 harg1 arg2 harg2 arg3 harg3 arg4 harg4 arg5 harg5 arg6 harg6 arg7 harg7 arg8 harg8 arg9 harg9 arg10 harg10 arg11 harg11 hc0 x0 x1 x2 x3 x4 x5 x6 x7 = k0_pay2 (dhTile x2 x3 x4 x5) (k0_pay6 x0) (k0_pay7 x0) x6 x7 x1 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_unit_zero origin]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x1024) origin, View.ld_unit_zero (S := S1x1024) origin, View.ld_unit_zero (S := S512x256) origin, View.ld_unit_zero (S := S512x512) origin, View.ld_unit_zero (S := S512x2048) origin, View.ld_unit_zero (S := S8x1024) origin]

/-- First point: the sum of the modulated norm's gradient over the tiles so far. -/
theorem out_A_9 (hc0 : cond0_0 i) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 x7 = k0_pay8 x2 (rowsQ x5) x3 (rowsK x5) x4 (rowsP x5) (k0_pay3 (F := F)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_cons_unit_zero (S := S8x1024) origin, View.readCov_unit_zero (S := S8x1024) _ origin]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x1024) origin, View.ld_unit_zero (S := S1x1024) origin, View.ld_unit_zero (S := S512x256) origin, View.ld_unit_zero (S := S512x512) origin, View.ld_unit_zero (S := S512x2048) origin, View.ld_unit_zero (S := S8x1024) origin]

/-- First point: the same sum, each term times the norm. -/
theorem out_A_10 (hc0 : cond0_0 i) :
    out0_A_10 c i arg1 harg1 arg2 harg2 arg3 harg3 arg4 harg4 arg5 harg5 arg6 harg6 arg7 harg7 arg8 harg8 arg9 harg9 arg10 harg10 arg11 harg11 hc0 x0 x1 x2 x3 x4 x5 x6 x7 = k0_pay1 (dhTile x2 x3 x4 x5) (k0_pay7 x0) (k0_pay4 (F := F)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_cons_unit_zero (S := S8x1024) origin, View.readCov_unit_zero (S := S8x1024) _ origin]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x1024) origin, View.ld_unit_zero (S := S1x1024) origin, View.ld_unit_zero (S := S512x256) origin, View.ld_unit_zero (S := S512x512) origin, View.ld_unit_zero (S := S512x2048) origin, View.ld_unit_zero (S := S8x1024) origin]

/-- A later point: the tile of the input's gradient. -/
theorem out_B_8 (hc0 : ¬cond0_0 i) :
    out0_B_8 c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10 = k0_pay2 (dhTile x2 x3 x4 x5) (k0_pay6 x0) (k0_pay7 x0) x6 x7 x1 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10)]
  unfold kernelRun0_B
  dsimp only
  sl_unfold_words
  rw [View.canon_unit_zero origin]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x1024) origin, View.ld_unit_zero (S := S1x1024) origin, View.ld_unit_zero (S := S512x256) origin, View.ld_unit_zero (S := S512x512) origin, View.ld_unit_zero (S := S512x2048) origin, View.ld_unit_zero (S := S8x1024) origin]

/-- A later point: the sum of the modulated norm's gradient over the tiles so far. -/
theorem out_B_9 (hc0 : ¬cond0_0 i) :
    out0_B_9 c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10 = k0_pay8 x2 (rowsQ x5) x3 (rowsK x5) x4 (rowsP x5) xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10)]
  unfold kernelRun0_B
  dsimp only
  sl_unfold_words
  rw [View.canon_unit_zero origin]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x1024) origin, View.ld_unit_zero (S := S1x1024) origin, View.ld_unit_zero (S := S512x256) origin, View.ld_unit_zero (S := S512x512) origin, View.ld_unit_zero (S := S512x2048) origin, View.ld_unit_zero (S := S8x1024) origin]

/-- A later point: the same sum, each term times the norm. -/
theorem out_B_10 (hc0 : ¬cond0_0 i) :
    out0_B_10 c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10 = k0_pay1 (dhTile x2 x3 x4 x5) (k0_pay7 x0) xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10)]
  unfold kernelRun0_B
  dsimp only
  sl_unfold_words
  rw [View.canon_unit_zero origin]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x1024) origin, View.ld_unit_zero (S := S1x1024) origin, View.ld_unit_zero (S := S512x256) origin, View.ld_unit_zero (S := S512x512) origin, View.ld_unit_zero (S := S512x2048) origin, View.ld_unit_zero (S := S8x1024) origin]
end

/-! ## What the outputs hold after each point -/

variable (m : (ℓ : Loc nD τ sig) → Buf (Elt F) ℓ) (c : Dev nD)

/-- The tile of the modulated norm's gradient, and of the input's, at a point. -/
abbrev dhAt (t : Fin cfg0.N) : FVec F S512x1024 .f32 := dhTile (iblk m c 2 t) (iblk m c 3 t) (iblk m c 4 t) (iblk m c 5 t)
abbrev dxAt (t : Fin cfg0.N) : FVec F S512x1024 .f32 := k0_pay2 (dhAt m c t) (k0_pay6 (iblk m c 0 t)) (k0_pay7 (iblk m c 0 t)) (iblk m c 6 t) (iblk m c 7 t) (iblk m c 1 t)

/-- The two sums after `n` points, in rows of eight. -/
def sumAt : (n : ℕ) → n ≤ cfg0.N → FVec F S8x1024 .f32
  | 0, _ => k0_pay3
  | n + 1, h => k0_pay8 (iblk m c 2 ⟨n, h⟩) (rowsQ (iblk m c 5 ⟨n, h⟩)) (iblk m c 3 ⟨n, h⟩) (rowsK (iblk m c 5 ⟨n, h⟩)) (iblk m c 4 ⟨n, h⟩) (rowsP (iblk m c 5 ⟨n, h⟩)) (sumAt n (Nat.le_of_succ_le h))
def sumNAt : (n : ℕ) → n ≤ cfg0.N → FVec F S8x1024 .f32
  | 0, _ => k0_pay4
  | n + 1, h => k0_pay1 (dhAt m c ⟨n, h⟩) (k0_pay7 (iblk m c 0 ⟨n, h⟩)) (sumNAt n (Nat.le_of_succ_le h))

/-- After each point the three outputs' buffers hold the point's tile of the input's gradient and the two sums so far. -/
theorem outs_eq : ∀ (n : ℕ) (h : n < cfg0.N), outsAt0 m c n h = (dxAt m c ⟨n, h⟩, sumAt m c (n + 1) h, sumNAt m c (n + 1) h)
  | 0, h => by
    rw [outsAt0_A m c ⟨0, h⟩ rfl, out_A_8, out_A_9, out_A_10]
    rfl
  | n + 1, h => by
    have hN : cfg0.N = 16 := N_0
    have hB : ¬(⟨n + 1, h⟩ : Fin cfg0.N).val % 16 = 0 := by dsimp only; omega
    rw [outsAt0_B m c ⟨n + 1, h⟩ hB, out_B_8, out_B_9, out_B_10]
    show (_, k0_pay8 _ _ _ _ _ _ (outsAt0 m c n _).2.1, k0_pay1 _ _ (outsAt0 m c n _).2.2) = _
    rw [outs_eq n]
    rfl

end Cert.NormBwd
-- ==== Proof.NormVal.lean ====
module

public import proofs.«01_k».proof.Proof.Alg
public import proofs.«01_k».proof.Proof.NormCase
public import Idealize.ShloMosaic.Lib.Pipeline.ValueKit

@[expose] public section

set_option maxRecDepth 16384

noncomputable section

namespace Cert.NormBwd

open Idealize.ShloMosaic Idealize.ShloMosaic.Tactic Idealize.ShloMosaic.TcCoe Idealize.ShloMosaic.Pointwise Idealize.ShloMosaic.VecWindow
open Cert.Kernel2Ideal Cert.Kernel2Ideal.Gen
open Cert.MixBwd (Is2 sum_coe one_coe div_coe eps eps_coe eps_pos rsqrt_pos sum_blocks)
open scoped BigOperators

/-! ## The norm's and the projection's gradient as real numbers -/

/-- The arguments as reals: layer input, the cotangent that bypasses the projection, the three pieces of the projection's gradient, the projection's weights, the norm's gain and the modulation's scale. -/
structure Args where
  X : ℕ → ℕ → ℝ
  D : ℕ → ℕ → ℝ
  Q : ℕ → ℕ → ℝ
  K : ℕ → ℕ → ℝ
  P : ℕ → ℕ → ℝ
  W : ℕ → ℕ → ℝ
  g : ℕ → ℝ
  s : ℕ → ℝ

variable (a : Args)

/-- The cotangent of the modulated norm. -/
def dhR (r k : ℕ) : ℝ := (∑ j : Fin 512, a.Q r j * a.W k j) + (∑ j : Fin 256, a.K r j * a.W k (512 + j)) + ∑ j : Fin 2048, a.P r j * a.W k (768 + j)
/-- A row's shifted mean square, its reciprocal root, and the normalised row. -/
def msR (r : ℕ) : ℝ := (∑ k : Fin 1024, a.X r k * a.X r k) / 1024 + eps
def rrR (r : ℕ) : ℝ := (Real.sqrt (msR a r))⁻¹
def xnR (r k : ℕ) : ℝ := a.X r k * rrR a r
/-- The cotangent of the normalised row. -/
def dnR (r k : ℕ) : ℝ := dhR a r k * (a.g k * (1 + a.s k))
/-- The input's gradient. -/
def dxR (r k : ℕ) : ℝ := a.D r k + rrR a r * (dnR a r k - xnR a r k * ((∑ j : Fin 1024, xnR a r j * dnR a r j) / 1024))
/-- The gradients of the shift, the scale and the gain. -/
def dshiftR (k : ℕ) : ℝ := ∑ r : Fin 8192, dhR a r k
def dmodR (k : ℕ) : ℝ := ∑ r : Fin 8192, dhR a r k * xnR a r k
def dscaleR (k : ℕ) : ℝ := a.g k * dmodR a k
def dgainR (k : ℕ) : ℝ := (1 + a.s k) * dmodR a k

theorem msR_pos (r : ℕ) : 0 < msR a r :=
  add_pos_of_nonneg_of_pos (div_nonneg (Finset.sum_nonneg fun d _ => mul_self_nonneg _) (by norm_num)) eps_pos

theorem c1024_coe : Ideal.ofBits .f32 0x44800000#32 = ((1024 : ℝ) : EReal) := by
  simp [Ideal.ofBits, Ideal.ieee, -EReal.coe_mul]; norm_num

/-! ## The body's operations on arrays of reals -/

theorem pay5_is {q : Vec Ideal S512x512 .bf16} {wq : Vec Ideal S512x1024 .bf16} {k : Vec Ideal S512x256 .bf16} {wk : Vec Ideal S256x1024 .bf16} {p : Vec Ideal S512x2048 .bf16} {wp : Vec Ideal S2048x1024 .bf16}
    {fq fk fp gq gk gp : ℕ → ℕ → ℝ} (hq : Is2 q fq) (hwq : Is2 wq gq) (hk : Is2 k fk) (hwk : Is2 wk gk) (hp : Is2 p fp) (hwp : Is2 wp gp) :
    Is2 (k0_pay5 q wq k wk p wp) (fun r c => (∑ j : Fin 512, fq r j * gq j c) + (∑ j : Fin 256, fk r j * gk j c) + ∑ j : Fin 2048, fp r j * gp j c) := by
  intro r c
  pointwise [k0_pay5]
  simp only [hq _ _, hwq _ _, hk _ _, hwk _ _, hp _ _, hwp _ _, ← EReal.coe_mul, sum_coe, ← EReal.coe_add]

theorem pay6_is {x : Vec Ideal S512x1024 .f32} {f : ℕ → ℕ → ℝ} (h : Is2 x f) :
    Is2 (k0_pay6 x) (fun r _ => (Real.sqrt ((∑ k : Fin 1024, f r k * f r k) / 1024 + eps))⁻¹) := by
  intro r c
  pointwise [k0_pay6]
  simp only [h _ _, ← EReal.coe_mul, sum_coe, c1024_coe, eps_coe, div_coe _ (1024 : ℝ) (by norm_num), ← EReal.coe_add]
  exact rsqrt_pos _ (add_pos_of_nonneg_of_pos (div_nonneg (Finset.sum_nonneg fun d _ => mul_self_nonneg _) (by norm_num)) eps_pos)

theorem pay7_is {x : Vec Ideal S512x1024 .f32} {f : ℕ → ℕ → ℝ} (h : Is2 x f) :
    Is2 (k0_pay7 x) (fun r c => f r c * (Real.sqrt ((∑ k : Fin 1024, f r k * f r k) / 1024 + eps))⁻¹) := by
  intro r c
  have h6 := pay6_is h
  pointwise [k0_pay7]
  simp only [h _ _, h6 _ _, ← EReal.coe_mul]

theorem pay8_is {q : Vec Ideal S512x512 .bf16} {wq : Vec Ideal S512x1024 .bf16} {k : Vec Ideal S512x256 .bf16} {wk : Vec Ideal S256x1024 .bf16} {p : Vec Ideal S512x2048 .bf16} {wp : Vec Ideal S2048x1024 .bf16}
    {o : Vec Ideal S8x1024 .f32} {f e : ℕ → ℕ → ℝ} (h : Is2 (k0_pay5 q wq k wk p wp) f) (ho : Is2 o e) :
    Is2 (k0_pay8 q wq k wk p wp o) (fun r c => e r c + ∑ n : Fin 64, f (n * 8 + r) c) := by
  intro r c
  pointwise [k0_pay8]
  simp only [h _ _, ho _ _, sum_coe, ← EReal.coe_add]

theorem pay1_is {d n : Vec Ideal S512x1024 .f32} {o : Vec Ideal S8x1024 .f32} {f g e : ℕ → ℕ → ℝ} (hd : Is2 d f) (hn : Is2 n g) (ho : Is2 o e) :
    Is2 (k0_pay1 d n o) (fun r c => e r c + ∑ n : Fin 64, f (n * 8 + r) c * g (n * 8 + r) c) := by
  intro r c
  pointwise [k0_pay1]
  simp only [hd _ _, hn _ _, ho _ _, ← EReal.coe_mul, sum_coe, ← EReal.coe_add]

theorem pay2_is {d n x : Vec Ideal S512x1024 .f32} {s : Vec Ideal S512x1 .f32} {g t : Vec Ideal S1x1024 .f32} {fd fn fx : ℕ → ℕ → ℝ} {fs fg ft : ℕ → ℝ}
    (hd : Is2 d fd) (hs : Is2 s (fun r _ => fs r)) (hn : Is2 n fn) (hg : Is2 g (fun _ c => fg c)) (ht : Is2 t (fun _ c => ft c)) (hx : Is2 x fx) :
    Is2 (k0_pay2 d s n g t x) (fun r c => fx r c + fs r * (fd r c * (fg c * ft c) - fn r c * ((∑ j : Fin 1024, fn r j * (fd r j * (fg j * ft j))) / 1024))) := by
  intro r c
  pointwise [k0_pay2]
  simp only [hd _ _, hs _ _, hn _ _, hg _ _, ht _ _, hx _ _, ← EReal.coe_mul, sum_coe, c1024_coe, div_coe _ (1024 : ℝ) (by norm_num), ← EReal.coe_add, ← EReal.coe_sub]

theorem pay3_is : Is2 (k0_pay3 (F := Ideal)) (fun _ _ => 0) := by
  intro r c
  pointwise [k0_pay3]
  rfl
theorem pay4_is : Is2 (k0_pay4 (F := Ideal)) (fun _ _ => 0) := by
  intro r c
  pointwise [k0_pay4]
  rfl

/-! ## The blocks at a point -/

/-- The eight argument arrays hold the reals `a`. -/
structure Holds (a : Args) (A0 A1 : Vec Ideal S8192x1024 .f32) (A2 : Vec Ideal S8192x512 .bf16) (A3 : Vec Ideal S8192x256 .bf16) (A4 : Vec Ideal S8192x2048 .bf16)
    (A5 : Vec Ideal S1024x2816 .f32) (A6 A7 : Vec Ideal S1x1024 .f32) : Prop where
  X : Is2 A0 a.X
  D : Is2 A1 a.D
  Q : Is2 A2 a.Q
  K : Is2 A3 a.K
  P : Is2 A4 a.P
  W : Is2 A5 a.W
  g : Is2 A6 (fun _ q => a.g q)
  s : Is2 A7 (fun _ q => a.s q)

variable (m : (ℓ : Loc nD τ Cert.Kernel2Ideal.sig) → Buf (Elt Ideal) ℓ) (c : Dev nD) {a}

/-- The kernel's arguments hold the reals `a`. -/
abbrev HoldsK (a : Args) : Prop := Holds a (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)) (m ((c : Thread nD τ).loc main_arg7))

/-- The transposed weights and the scale the launch is handed. -/
def tW (A5 : Vec Ideal S1024x2816 .f32) : Vec Ideal S2816x1024 .f32 := transpose S2816x1024 [1, 0] A5 transposes_S1024x2816_S2816x1024_1_0
def tScale (A7 : Vec Ideal S1x1024 .f32) : Vec Ideal S1x1024 .f32 := addf (F := Ideal) (φ := .f32) (broadcastInDim S1x1024 ![] bcast_S_S1x1024 (constant (F := Ideal) S_ .f32 0x3F800000#32)) A7

theorem V_v3 : (V m c main_v3 : Vec Ideal S2816x1024 .bf16) = fun y => tW (m ((c : Thread nD τ).loc main_arg5)) y := by
  show StableHlo.after (List.flatten [hostOps0]) (fun b => m (c, b)) (Proc.devRef .tc main_v3) = _
  simp only [hostOps0, List.flatten_cons, List.flatten_nil, List.append_nil, List.cons_append, List.nil_append]
  after_results_simp
  rfl
theorem V_v1 : (V m c main_v1 : Vec Ideal S1x1024 .f32) = tScale (m ((c : Thread nD τ).loc main_arg7)) := by
  show StableHlo.after (List.flatten [hostOps0]) (fun b => m (c, b)) (Proc.devRef .tc main_v1) = _
  simp only [hostOps0, List.flatten_cons, List.flatten_nil, List.append_nil, List.cons_append, List.nil_append]
  after_results_simp
  rfl

theorem tW_is (A5 : Vec Ideal S1024x2816 .f32) (h : Is2 A5 a.W) : Is2 (tW A5) (fun j k => a.W k j) := by
  intro r q
  pointwise [tW]
  exact h _ _
theorem tScale_is (A7 : Vec Ideal S1x1024 .f32) (h : Is2 A7 (fun _ q => a.s q)) : Is2 (tScale A7) (fun _ q => 1 + a.s q) := by
  intro r q
  pointwise [tScale, hlo_ix]
  simp only [h _ _, one_coe, ← EReal.coe_add]

theorem at0 : ∀ t : Fin cfg0.N, win0_0.index t 0 = t.val ∧ win0_0.index t 1 = 0 := (by decide +kernel : ∀ t : Fin grid0.N, _)
theorem at1 : ∀ t : Fin cfg0.N, win0_1.index t 0 = t.val ∧ win0_1.index t 1 = 0 := (by decide +kernel : ∀ t : Fin grid0.N, _)
theorem at2 : ∀ t : Fin cfg0.N, win0_2.index t 0 = t.val ∧ win0_2.index t 1 = 0 := (by decide +kernel : ∀ t : Fin grid0.N, _)
theorem at3 : ∀ t : Fin cfg0.N, win0_3.index t 0 = t.val ∧ win0_3.index t 1 = 0 := (by decide +kernel : ∀ t : Fin grid0.N, _)
theorem at4 : ∀ t : Fin cfg0.N, win0_4.index t 0 = t.val ∧ win0_4.index t 1 = 0 := (by decide +kernel : ∀ t : Fin grid0.N, _)
theorem at5 : ∀ t : Fin cfg0.N, win0_5.index t 0 = 0 ∧ win0_5.index t 1 = 0 := (by decide +kernel : ∀ t : Fin grid0.N, _)
theorem at6 : ∀ t : Fin cfg0.N, win0_6.index t 0 = 0 ∧ win0_6.index t 1 = 0 := (by decide +kernel : ∀ t : Fin grid0.N, _)
theorem at7 : ∀ t : Fin cfg0.N, win0_7.index t 0 = 0 ∧ win0_7.index t 1 = 0 := (by decide +kernel : ∀ t : Fin grid0.N, _)
theorem at8 : ∀ t : Fin cfg0.N, win0_8.index t 0 = t.val ∧ win0_8.index t 1 = 0 := (by decide +kernel : ∀ t : Fin grid0.N, _)

variable (H : HoldsK m c a)

include H in
theorem b0_is (t : Fin cfg0.N) : Is2 (iblk m c 0 t : Vec Ideal S512x1024 .f32) (fun r q => a.X (512 * t.val + r) q) := by
  intro r q
  obtain ⟨e0, e1⟩ := at0 t
  blk_simp [iblk]
  rw [V_main_arg0]
  refine H.X.idx _ ?_ ?_
  · blk_simp; omega
  · blk_simp; omega
include H in
theorem b1_is (t : Fin cfg0.N) : Is2 (iblk m c 1 t : Vec Ideal S512x1024 .f32) (fun r q => a.D (512 * t.val + r) q) := by
  intro r q
  obtain ⟨e0, e1⟩ := at1 t
  blk_simp [iblk]
  rw [V_main_arg1]
  refine H.D.idx _ ?_ ?_
  · blk_simp; omega
  · blk_simp; omega
include H in
theorem b2_is (t : Fin cfg0.N) : Is2 (iblk m c 2 t : Vec Ideal S512x512 .bf16) (fun r q => a.Q (512 * t.val + r) q) := by
  intro r q
  obtain ⟨e0, e1⟩ := at2 t
  blk_simp [iblk]
  rw [V_main_arg2]
  refine H.Q.idx _ ?_ ?_
  · blk_simp; omega
  · blk_simp; omega
include H in
theorem b3_is (t : Fin cfg0.N) : Is2 (iblk m c 3 t : Vec Ideal S512x256 .bf16) (fun r q => a.K (512 * t.val + r) q) := by
  intro r q
  obtain ⟨e0, e1⟩ := at3 t
  blk_simp [iblk]
  rw [V_main_arg3]
  refine H.K.idx _ ?_ ?_
  · blk_simp; omega
  · blk_simp; omega
include H in
theorem b4_is (t : Fin cfg0.N) : Is2 (iblk m c 4 t : Vec Ideal S512x2048 .bf16) (fun r q => a.P (512 * t.val + r) q) := by
  intro r q
  obtain ⟨e0, e1⟩ := at4 t
  blk_simp [iblk]
  rw [V_main_arg4]
  refine H.P.idx _ ?_ ?_
  · blk_simp; omega
  · blk_simp; omega
include H in
theorem b5_is (t : Fin cfg0.N) : Is2 (iblk m c 5 t : Vec Ideal S2816x1024 .bf16) (fun j k => a.W k j) := by
  intro r q
  obtain ⟨e0, e1⟩ := at5 t
  blk_simp [iblk]
  rw [V_v3]
  refine (tW_is _ H.W).idx _ ?_ ?_
  · blk_simp; omega
  · blk_simp; omega
include H in
theorem b6_is (t : Fin cfg0.N) : Is2 (iblk m c 6 t : Vec Ideal S1x1024 .f32) (fun _ q => a.g q) := by
  intro r q
  obtain ⟨e0, e1⟩ := at6 t
  blk_simp [iblk]
  rw [V_main_arg6]
  refine H.g.idx _ rfl ?_
  · blk_simp; omega
include H in
theorem b7_is (t : Fin cfg0.N) : Is2 (iblk m c 7 t : Vec Ideal S1x1024 .f32) (fun _ q => 1 + a.s q) := by
  intro r q
  obtain ⟨e0, e1⟩ := at7 t
  blk_simp [iblk]
  rw [V_v1]
  refine (tScale_is _ H.s).idx _ rfl ?_
  · blk_simp; omega

/-- The three row ranges of the transposed weights. -/
theorem rowsQ_is {w : Vec Ideal S2816x1024 .bf16} {f : ℕ → ℕ → ℝ} (h : Is2 w f) : Is2 (rowsQ w) f := by
  intro r q
  refine h.idx _ ?_ ?_
  · simp [Rect.unit]
  · simp [Rect.unit]
theorem rowsK_is {w : Vec Ideal S2816x1024 .bf16} {f : ℕ → ℕ → ℝ} (h : Is2 w f) : Is2 (rowsK w) (fun r q => f (512 + r) q) := by
  intro r q
  refine h.idx _ ?_ ?_
  · simp [Rect.unit]
  · simp [Rect.unit]
theorem rowsP_is {w : Vec Ideal S2816x1024 .bf16} {f : ℕ → ℕ → ℝ} (h : Is2 w f) : Is2 (rowsP w) (fun r q => f (768 + r) q) := by
  intro r q
  refine h.idx _ ?_ ?_
  · simp [Rect.unit]
  · simp [Rect.unit]

/-! ## What a point computes -/

include H in
theorem dhAt_is (t : Fin cfg0.N) : Is2 (dhAt m c t) (fun r k => dhR a (512 * t.val + r) k) :=
  pay5_is (b2_is m c H t) (rowsQ_is (b5_is m c H t)) (b3_is m c H t) (rowsK_is (b5_is m c H t)) (b4_is m c H t) (rowsP_is (b5_is m c H t))
include H in
theorem dxAt_is (t : Fin cfg0.N) : Is2 (dxAt m c t) (fun r k => dxR a (512 * t.val + r) k) :=
  pay2_is (dhAt_is m c H t) (pay6_is (b0_is m c H t)) (pay7_is (b0_is m c H t)) (b6_is m c H t) (b7_is m c H t) (b1_is m c H t)

include H in
theorem sumAt_is : ∀ (n : ℕ) (h : n ≤ cfg0.N), Is2 (sumAt m c n h) (fun r q => ∑ i ∈ Finset.range (64 * n), dhR a (i * 8 + r) q) := by
  intro n
  induction n with
  | zero => intro h; exact pay3_is.congr fun _ _ _ _ => by simp
  | succ n ih =>
    intro h
    refine (pay8_is (dhAt_is m c H ⟨n, h⟩) (ih (Nat.le_of_succ_le h))).congr fun r _ q _ => ?_
    rw [Nat.mul_succ, Finset.sum_range_add, Finset.sum_range (n := 64)]
    refine congrArg _ (Finset.sum_congr rfl fun i _ => ?_)
    rw [show 512 * n + (i.val * 8 + r) = (64 * n + i.val) * 8 + r by omega]
include H in
theorem sumNAt_is : ∀ (n : ℕ) (h : n ≤ cfg0.N), Is2 (sumNAt m c n h) (fun r q => ∑ i ∈ Finset.range (64 * n), dhR a (i * 8 + r) q * xnR a (i * 8 + r) q) := by
  intro n
  induction n with
  | zero => intro h; exact pay4_is.congr fun _ _ _ _ => by simp
  | succ n ih =>
    intro h
    refine (pay1_is (dhAt_is m c H ⟨n, h⟩) (pay7_is (b0_is m c H ⟨n, h⟩)) (ih (Nat.le_of_succ_le h))).congr fun r _ q _ => ?_
    rw [Nat.mul_succ, Finset.sum_range_add, Finset.sum_range (n := 64)]
    refine congrArg _ (Finset.sum_congr rfl fun i _ => ?_)
    show dhR a (512 * n + (i.val * 8 + r)) q * xnR a (512 * n + (i.val * 8 + r)) q = _
    rw [show 512 * n + (i.val * 8 + r) = (64 * n + i.val) * 8 + r by omega]

/-! ## The arrays after the run -/

include H in
theorem arr8_is : Is2 ((dats m 0 c).arrAt 8 cfg0.N : Vec Ideal S8192x1024 .f32) (dxR a) := by
  have e : (dats m 0 c).arrAt 8 cfg0.N = (fun y => ((dxR a (y 0).val (y 1).val : ℝ) : EReal) : Vec Ideal S8192x1024 .f32) := by
    refine (dats m 0 c).arrAt_eq_of_covers 8 _ (by decide +kernel) fun t hf y => ?_
    obtain ⟨e0, e1⟩ := at8 t
    rw [after0_8, outs_eq m c t.val t.isLt]
    blk_simp
    refine ((dxAt_is m c H t).idx _ rfl rfl).trans ?_
    rw [e0, e1, Nat.zero_mul, Nat.zero_add, Nat.mul_comm]
  intro r q
  rw [e]; rfl

/-- The last point. -/
def lastPt : Fin cfg0.N := ⟨15, lt_of_lt_of_eq (by omega : 15 < 16) N_0.symm⟩

theorem sum_groups (f : ℕ → ℝ) : ∑ i ∈ Finset.range (64 * (lastPt.val + 1)), f i = ∑ i : Fin 1024, f i := by
  rw [show 64 * (lastPt.val + 1) = 1024 from rfl, Finset.sum_range]

include H in
theorem arr9_is : Is2 ((dats m 0 c).arrAt 9 cfg0.N : Vec Ideal S8x1024 .f32) (fun r q => ∑ i : Fin 1024, dhR a (i * 8 + r) q) := by
  have e : (dats m 0 c).arrAt 9 cfg0.N = (fun y => (((fun r q => ∑ i : Fin 1024, dhR a (i * 8 + r) q) (y 0).val (y 1).val : ℝ) : EReal) : Vec Ideal S8x1024 .f32) := by
    refine (dats m 0 c).arrAt_eq_of_after_last 9 lastPt (by decide +kernel) _ fun y => ?_
    rw [after0_9, outs_eq m c lastPt.val lastPt.isLt]
    exact Is2.idx (f := fun r q => ∑ i : Fin 1024, dhR a (i * 8 + r) q) ((sumAt_is m c H (lastPt.val + 1) lastPt.isLt).congr fun r _ q _ => sum_groups fun i => dhR a (i * 8 + r) q) _ rfl rfl
  intro r q
  rw [e]; rfl
include H in
theorem arr10_is : Is2 ((dats m 0 c).arrAt 10 cfg0.N : Vec Ideal S8x1024 .f32) (fun r q => ∑ i : Fin 1024, dhR a (i * 8 + r) q * xnR a (i * 8 + r) q) := by
  have e : (dats m 0 c).arrAt 10 cfg0.N = (fun y => (((fun r q => ∑ i : Fin 1024, dhR a (i * 8 + r) q * xnR a (i * 8 + r) q) (y 0).val (y 1).val : ℝ) : EReal) : Vec Ideal S8x1024 .f32) := by
    refine (dats m 0 c).arrAt_eq_of_after_last 10 lastPt (by decide +kernel) _ fun y => ?_
    rw [after0_10, outs_eq m c lastPt.val lastPt.isLt]
    exact Is2.idx (f := fun r q => ∑ i : Fin 1024, dhR a (i * 8 + r) q * xnR a (i * 8 + r) q) ((sumNAt_is m c H (lastPt.val + 1) lastPt.isLt).congr fun r _ q _ => sum_groups fun i => dhR a (i * 8 + r) q * xnR a (i * 8 + r) q) _ rfl rfl
  intro r q
  rw [e]; rfl

/-! ## The host operations after the launch -/

/-- The sum over eight rows, and that sum times a row. -/
def tSum (v : Vec Ideal S8x1024 .f32) : Vec Ideal S1024 .f32 := Host.reduceAdd (F := Ideal) (φ := .f32) v (constant (F := Ideal) S_ .f32 0x00000000#32) reducesTo_S8x1024_S1024_d0 h_S_
def tMul (g : Vec Ideal S1x1024 .f32) (v : Vec Ideal S8x1024 .f32) : Vec Ideal S1024 .f32 := mulf (F := Ideal) (φ := .f32) (shapeCast S1024 g shapeCasts_S1x1024_S1024) (tSum v)

theorem spec0_inj : Function.Injective (Pipeline.arrRef spec0) := by decide

theorem tail_v5 : (Pipeline.afterTail₀ cfgs (dats m) 0 (V0 m) [hostOps1] c main_v5 : Vec Ideal S1024 .f32) = tSum ((dats m 0 c).arrAt 9 cfg0.N) := by
  unfold Pipeline.afterTail₀
  simp only [hostOps1, List.flatten_cons, List.flatten_nil, List.append_nil, List.cons_append, List.nil_append]
  after_results_simp
  exact congrArg tSum (Pipeline.withArrays_arr spec0 spec0_inj c (V0 m c) (fun w => (dats m 0 c).arrAt w (cfgs 0).N) 9)

theorem tSum_is (v : Vec Ideal S8x1024 .f32) (f : ℕ → ℕ → ℝ) (h : Is2 v (fun r q => ∑ n : Fin 1024, f (n * 8 + r) q)) (q : Fin 1024) :
    tSum v (ix1 q) = ((∑ r : Fin 8192, f r q : ℝ) : EReal) := by
  pointwise [tSum, hlo_ix]
  simp only [h _ _, sum_coe]
  have e : (∑ r : Fin 8192, f r q) = ∑ n : Fin 1024, ∑ r : Fin 8, f (n * 8 + r) q := sum_blocks 1024 8 (fun k => f k q)
  have e' : (∑ i : Fin 8, ∑ n : Fin 1024, f (n * 8 + i) q) = ∑ n : Fin 1024, ∑ r : Fin 8, f (n * 8 + r) q := Finset.sum_comm
  rw [e, ← e']
theorem tMul_is (g : Vec Ideal S1x1024 .f32) (v : Vec Ideal S8x1024 .f32) (f : ℕ → ℕ → ℝ) (k : ℕ → ℝ) (hg : Is2 g (fun _ q => k q)) (h : Is2 v (fun r q => ∑ n : Fin 1024, f (n * 8 + r) q)) (q : Fin 1024) :
    tMul g v (ix1 q) = ((k q * ∑ r : Fin 8192, f r q : ℝ) : EReal) := by
  have hs := tSum_is v f h
  pointwise [tMul, hlo_ix]
  rw [hs q, hg _ _, EReal.coe_mul]

end Cert.NormBwd

end
-- ==== Proof.NormRef.lean ====
module

public import proofs.«01_k».proof.Proof.NormVal
public import proofs.«01_k».proof.Proof.Gen.Reference2Ideal

@[expose] public section

set_option maxRecDepth 16384

noncomputable section

namespace Cert.NormBwd

open Idealize.ShloMosaic Idealize.ShloMosaic.Pointwise
open Cert.Reference2Ideal Cert.Reference2Ideal.Gen
open Cert.MixBwd (Is2 sum_coe one_coe div_coe eps eps_coe eps_pos rsqrt_pos half_coe)
open scoped BigOperators

/-! ## The reference's intermediate arrays and the reals they hold -/

section Defs
variable (A0 A1 : FVec Ideal S8192x1024 .f32) (A2 : FVec Ideal S8192x512 .bf16) (A3 : FVec Ideal S8192x256 .bf16) (A4 : FVec Ideal S8192x2048 .bf16)
  (A5 : FVec Ideal S1024x2816 .f32) (A6 A7 : FVec Ideal S1x1024 .f32)

/-- The projection's gradient, its three pieces side by side, and the modulated norm's. -/
def rDproj : FVec Ideal S8192x2816 .f32 :=
  concatenate S8192x2816 1 [⟨S8192x512, (extf .f32 A2 bitsLt_bf16_f32 : FVec Ideal S8192x512 .f32)⟩, ⟨S8192x256, (extf .f32 A3 bitsLt_bf16_f32 : FVec Ideal S8192x256 .f32)⟩, ⟨S8192x2048, (extf .f32 A4 bitsLt_bf16_f32 : FVec Ideal S8192x2048 .f32)⟩]
    concatenates_S8192x512_S8192x256_S8192x2048_S8192x2816_d1
def rDh : FVec Ideal S8192x1024 .f32 := Host.dotGeneral (F := Ideal) dot_S8192x2816_S1024x2816_S8192x1024_1_1_0_0_n_n none (rDproj A2 A3 A4) A5
/-- A row's shifted mean square, its reciprocal root, and the normalised row. -/
def r1024 : FVec Ideal S8192x1 .f32 := broadcastInDim S8192x1 ![] bcast_S_S8192x1 (constant S_ .f32 0x44800000#32)
def rMs : FVec Ideal S8192x1 .f32 :=
  addf (Host.divf (broadcastInDim S8192x1 ![0] bcast_S8192_S8192x1_0 (Host.reduceAdd (mulf A0 A0) (constant S_ .f32 0x00000000#32) reducesTo_S8192x1024_S8192_d1 h_S_)) r1024)
    (broadcastInDim S8192x1 ![] bcast_S_S8192x1 (constant S_ .f32 0x358637BD#32))
def rR : FVec Ideal S8192x1 .f32 := Host.rsqrt (rMs A0)
def rWide (v : FVec Ideal S8192x1 .f32) : FVec Ideal S8192x1024 .f32 := broadcastInDim S8192x1024 ![0, 1] bcast_S8192x1_S8192x1024_0_1 v
def rRow (v : FVec Ideal S1x1024 .f32) : FVec Ideal S8192x1024 .f32 := broadcastInDim S8192x1024 ![0, 1] bcast_S1x1024_S8192x1024_0_1 v
def rXn : FVec Ideal S8192x1024 .f32 := mulf A0 (rWide (rR A0))
/-- The cotangent scaled by the modulation, then by the gain. -/
def rS1 : FVec Ideal S1x1024 .f32 := addf (broadcastInDim S1x1024 ![] bcast_S_S1x1024 (constant S_ .f32 0x3F800000#32)) A7
def rDs : FVec Ideal S8192x1024 .f32 := mulf (rDh A2 A3 A4 A5) (rRow (rS1 A7))
def rDn : FVec Ideal S8192x1024 .f32 := mulf (rDs A2 A3 A4 A5 A7) (rRow A6)
/-- The mean square's part of a row's cotangent. -/
def rCorr (x n : FVec Ideal S8192x1024 .f32) (r s : FVec Ideal S8192x1 .f32) : FVec Ideal S8192x1024 .f32 :=
  broadcastInDim S8192x1024 ![0] bcast_S8192_S8192x1024_0 (Host.reduceAdd (Host.divf (mulf (shapeCast S8192x1 (Host.reduceAdd (mulf x n) (constant S_ .f32 0x00000000#32) reducesTo_S8192x1024_S8192_d1 h_S_) shapeCasts_S8192_S8192x1)
    (mulf (broadcastInDim S8192x1 ![] bcast_S_S8192x1 (constant S_ .f32 0xBF000000#32)) (Host.divf r s))) r1024) (constant S_ .f32 0x00000000#32) reducesTo_S8192x1_S8192_d1 h_S_)
def rC : FVec Ideal S8192x1024 .f32 := rCorr A0 (rDn A2 A3 A4 A5 A6 A7) (rR A0) (rMs A0)
/-- The four results. -/
def rDx : FVec Ideal S8192x1024 .f32 :=
  addf (addf (addf A1 (mulf (rDn A2 A3 A4 A5 A6 A7) (rWide (rR A0)))) (mulf A0 (rC A0 A2 A3 A4 A5 A6 A7))) (mulf (rC A0 A2 A3 A4 A5 A6 A7) A0)
def rSum (v : FVec Ideal S8192x1024 .f32) : FVec Ideal S1024 .f32 :=
  shapeCast S1024 (shapeCast S1x1024 (Host.reduceAdd v (constant S_ .f32 0x00000000#32) reducesTo_S8192x1024_S1024_d0 h_S_) shapeCasts_S1024_S1x1024) shapeCasts_S1x1024_S1024
def rDshift : FVec Ideal S1024 .f32 := rSum (rDh A2 A3 A4 A5)
def rDscale : FVec Ideal S1024 .f32 := rSum (mulf (mulf (rXn A0) (rRow A6)) (rDh A2 A3 A4 A5))
def rDgain : FVec Ideal S1024 .f32 := rSum (mulf (rXn A0) (rDs A2 A3 A4 A5 A7))
end Defs

variable {a : Args}

/-- A sum over 2816 columns, in three ranges. -/
theorem sum_three (f : ℕ → ℝ) : ∑ j : Fin 2816, f j = (∑ j : Fin 512, f j) + (∑ j : Fin 256, f (512 + j)) + ∑ j : Fin 2048, f (768 + j) := by
  rw [← Finset.sum_range, show 2816 = 512 + 256 + 2048 from rfl, Finset.sum_range_add, Finset.sum_range_add, Finset.sum_range (n := 512), Finset.sum_range (n := 256), Finset.sum_range (n := 2048)]

variable {A0 A1 : FVec Ideal S8192x1024 .f32} {A2 : FVec Ideal S8192x512 .bf16} {A3 : FVec Ideal S8192x256 .bf16} {A4 : FVec Ideal S8192x2048 .bf16}
  {A5 : FVec Ideal S1024x2816 .f32} {A6 A7 : FVec Ideal S1x1024 .f32} (H : Holds a A0 A1 A2 A3 A4 A5 A6 A7)

include H in
theorem rDproj_is : Is2 (rDproj A2 A3 A4) (fun r q => if q < 512 then a.Q r q else if q < 768 then a.K r (q - 512) else a.P r (q - 768)) := by
  intro r q
  have hq := q.isLt
  have hQ := H.Q
  have hK := H.K
  have hP := H.P
  pointwise [rDproj, hlo_ix]
  simp only [hQ _ _, hK _ _, hP _ _]
  split_ifs <;> first | rfl | omega
include H in
theorem rDh_is : Is2 (rDh A2 A3 A4 A5) (dhR a) := by
  intro r k
  have hp := rDproj_is H
  have hW := H.W
  pointwise [rDh, hlo_ix]
  simp only [hp _ _, hW _ _, ← EReal.coe_mul, sum_coe]
  refine congrArg _ ((sum_three fun j => (if j < 512 then a.Q r j else if j < 768 then a.K r (j - 512) else a.P r (j - 768)) * a.W k j).trans ?_)
  unfold dhR
  refine congrArg₂ _ (congrArg₂ _ (Finset.sum_congr rfl fun j _ => ?_) (Finset.sum_congr rfl fun j _ => ?_)) (Finset.sum_congr rfl fun j _ => ?_)
  · rw [if_pos j.isLt]
  · have := j.isLt
    rw [if_neg (by omega), if_pos (by omega), Nat.add_sub_cancel_left]
  · rw [if_neg (by omega), if_neg (by omega), Nat.add_sub_cancel_left]
include H in
theorem rMs_is : Is2 (rMs A0) (fun r _ => msR a r) := by
  intro r q
  have hX := H.X
  pointwise [rMs, r1024, hlo_ix]
  simp only [hX _ _, ← EReal.coe_mul, sum_coe, c1024_coe, eps_coe, div_coe _ (1024 : ℝ) (by norm_num), ← EReal.coe_add]
  rfl
include H in
theorem rR_is : Is2 (rR A0) (fun r _ => rrR a r) := by
  intro r q
  have hm := rMs_is H
  pointwise [rR, hlo_ix]
  rw [hm _ _]
  exact rsqrt_pos _ (msR_pos a _)
theorem rWide_is {v : FVec Ideal S8192x1 .f32} {f : ℕ → ℝ} (h : Is2 v (fun r _ => f r)) : Is2 (rWide v) (fun r _ => f r) := by
  intro r q
  pointwise [rWide, hlo_ix]
  exact h _ _
theorem rRow_is {v : FVec Ideal S1x1024 .f32} {f : ℕ → ℝ} (h : Is2 v (fun _ q => f q)) : Is2 (rRow v) (fun _ q => f q) := by
  intro r q
  pointwise [rRow, hlo_ix]
  exact h _ _
theorem mul_is {v w : FVec Ideal S8192x1024 .f32} {f g : ℕ → ℕ → ℝ} (h : Is2 v f) (k : Is2 w g) : Is2 (mulf v w) (fun r q => f r q * g r q) := by
  intro r q
  pointwise [hlo_ix]
  simp only [h _ _, k _ _, ← EReal.coe_mul]
include H in
theorem rXn_is : Is2 (rXn A0) (xnR a) := mul_is H.X (rWide_is (rR_is H))
include H in
theorem rS1_is : Is2 (rS1 A7) (fun _ q => 1 + a.s q) := by
  intro r q
  have hs := H.s
  pointwise [rS1, hlo_ix]
  simp only [hs _ _, one_coe, ← EReal.coe_add]
include H in
theorem rDs_is : Is2 (rDs A2 A3 A4 A5 A7) (fun r q => dhR a r q * (1 + a.s q)) := mul_is (rDh_is H) (rRow_is (rS1_is H))
include H in
theorem rDn_is : Is2 (rDn A2 A3 A4 A5 A6 A7) (dnR a) :=
  (mul_is (rDs_is H) (rRow_is H.g)).congr fun r _ q _ => by unfold dnR; ring
theorem rCorr_is {x n : FVec Ideal S8192x1024 .f32} {r s : FVec Ideal S8192x1 .f32} {f g : ℕ → ℕ → ℝ} {u w : ℕ → ℝ} (hw : ∀ i, w i ≠ 0) (hx : Is2 x f) (hn : Is2 n g) (hr : Is2 r (fun i _ => u i)) (hs : Is2 s (fun i _ => w i)) :
    Is2 (rCorr x n r s) (fun i _ => (∑ k : Fin 1024, f i k * g i k) * (-(1 / 2) * (u i / w i)) / 1024) := by
  intro i q
  pointwise [rCorr, r1024, hlo_ix]
  simp only [hx _ _, hn _ _, hr _ _, hs _ _, ← EReal.coe_mul, sum_coe, c1024_coe, half_coe, div_coe _ (1024 : ℝ) (by norm_num), div_coe _ (w _) (hw _), Finset.univ_unique, Finset.sum_singleton]
include H in
theorem rC_is : Is2 (rC A0 A2 A3 A4 A5 A6 A7) (fun r _ => (∑ k : Fin 1024, a.X r k * dnR a r k) * (-(1 / 2) * (rrR a r / msR a r)) / 1024) :=
  rCorr_is (fun i => (msR_pos a i).ne') H.X (rDn_is H) (rR_is H) (rMs_is H)

/-- The reciprocal root squared times the shifted mean square is one. -/
theorem rr_sq (r : ℕ) : rrR a r / msR a r = rrR a r * rrR a r * rrR a r := by
  have h := msR_pos a r
  have e : rrR a r * rrR a r = (msR a r)⁻¹ := by
    unfold rrR
    rw [← mul_inv, Real.mul_self_sqrt h.le]
  rw [e, div_eq_mul_inv, mul_comm]

include H in
theorem rDx_is : Is2 (rDx A0 A1 A2 A3 A4 A5 A6 A7) (dxR a) := by
  intro r q
  have hX := H.X
  have hD := H.D
  have hn := rDn_is H
  have hr := rWide_is (rR_is H)
  have hc := rC_is H
  pointwise [rDx, hlo_ix]
  simp only [hX _ _, hD _ _, hn _ _, hr _ _, hc _ _, ← EReal.coe_mul, ← EReal.coe_add]
  show _ = ((dxR a r q : ℝ) : EReal)
  have e : (∑ j : Fin 1024, xnR a r j * dnR a r j) = rrR a r * ∑ j : Fin 1024, a.X r j * dnR a r j := by
    rw [Finset.mul_sum]
    refine Finset.sum_congr rfl fun j _ => ?_
    unfold xnR; ring
  unfold dxR
  rw [e, rr_sq, show xnR a r q = a.X r q * rrR a r from rfl]
  congr 1; ring
theorem rSum_is {v : FVec Ideal S8192x1024 .f32} {f : ℕ → ℕ → ℝ} (h : Is2 v f) (q : Fin 1024) : rSum v (ix1 q) = ((∑ r : Fin 8192, f r q : ℝ) : EReal) := by
  pointwise [rSum, hlo_ix]
  simp only [h _ _, sum_coe]
include H in
theorem rDshift_is (q : Fin 1024) : rDshift A2 A3 A4 A5 (ix1 q) = ((dshiftR a q : ℝ) : EReal) := rSum_is (rDh_is H) q
include H in
theorem rDscale_is (q : Fin 1024) : rDscale A0 A2 A3 A4 A5 A6 (ix1 q) = ((dscaleR a q : ℝ) : EReal) := by
  refine (rSum_is (mul_is (mul_is (rXn_is H) (rRow_is H.g)) (rDh_is H)) q).trans (congrArg _ ?_)
  unfold dscaleR dmodR
  rw [Finset.mul_sum]
  exact Finset.sum_congr rfl fun r _ => by ring
include H in
theorem rDgain_is (q : Fin 1024) : rDgain A0 A2 A3 A4 A5 A7 (ix1 q) = ((dgainR a q : ℝ) : EReal) := by
  refine (rSum_is (mul_is (rXn_is H) (rDs_is H)) q).trans (congrArg _ ?_)
  unfold dgainR dmodR
  rw [Finset.mul_sum]
  exact Finset.sum_congr rfl fun r _ => by ring

end Cert.NormBwd

end
-- ==== Proof.NormAlg.lean ====
module

public import proofs.«01_k».proof.Proof.NormRef
public import proofs.«01_k».proof.Proof.Gen.Reference2Ideal.Run
public import proofs.«01_k».proof.Pre_finite2

@[expose] public section

set_option maxRecDepth 16384

noncomputable section

namespace Cert.NormBwd

open Idealize.ShloMosaic Idealize.ShloMosaic.TcCoe Idealize.ShloMosaic.Tactic Idealize.ShloMosaic.Pointwise Idealize.SL.Sem
open Cert.MixBwd (Is2 real2 real2_is real_all ext1)

/-! ## The kernel's run -/

section
open Cert.Kernel2Ideal Cert.Kernel2Ideal.Gen
variable (m : (ℓ : Loc nD τ Cert.Kernel2Ideal.sig) → Buf (Elt Ideal) ℓ) (c : Dev nD)

theorem tail_v8 : (Pipeline.afterTail₀ cfgs (dats m) 0 (V0 m) [hostOps1] c main_v8 : Vec Ideal S1024 .f32) = tMul (m ((c : Thread nD τ).loc main_arg6)) ((dats m 0 c).arrAt 10 cfg0.N) := by
  unfold Pipeline.afterTail₀
  simp only [hostOps1, List.flatten_cons, List.flatten_nil, List.append_nil, List.cons_append, List.nil_append]
  after_results_simp
  refine congrArg₂ tMul ?_ (Pipeline.withArrays_arr spec0 spec0_inj c (V0 m c) (fun w => (dats m 0 c).arrAt w (cfgs 0).N) 10)
  exact (Pipeline.withArrays_arr spec0 spec0_inj c (V0 m c) (fun w => (dats m 0 c).arrAt w (cfgs 0).N) 6).trans (((dats m 0 c).arrAt_in 6 rfl _).trans (V_main_arg6 m c))
theorem tail_v10 : (Pipeline.afterTail₀ cfgs (dats m) 0 (V0 m) [hostOps1] c main_v10 : Vec Ideal S1024 .f32) = tMul (tScale (m ((c : Thread nD τ).loc main_arg7))) ((dats m 0 c).arrAt 10 cfg0.N) := by
  unfold Pipeline.afterTail₀
  simp only [hostOps1, List.flatten_cons, List.flatten_nil, List.append_nil, List.cons_append, List.nil_append]
  after_results_simp
  refine congrArg₂ tMul ?_ (Pipeline.withArrays_arr spec0 spec0_inj c (V0 m c) (fun w => (dats m 0 c).arrAt w (cfgs 0).N) 10)
  exact (Pipeline.withArrays_arr spec0 spec0_inj c (V0 m c) (fun w => (dats m 0 c).arrAt w (cfgs 0).N) 7).trans (((dats m 0 c).arrAt_in 7 rfl _).trans (V_v1 m c))

/-- The kernel ends with the input's gradient at the launch's array, the three rows' gradients at the host's sums of the other two, and the arguments as they were. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v4_0) = (dats m 0 c).arrAt 8 cfg0.N
      ∧ r.2.mem ((c.tc : Thread nD τ).loc main_v5) = tSum ((dats m 0 c).arrAt 9 cfg0.N)
      ∧ r.2.mem ((c.tc : Thread nD τ).loc main_v8) = tMul (m ((c.tc : Thread nD τ).loc main_arg6)) ((dats m 0 c).arrAt 10 cfg0.N)
      ∧ r.2.mem ((c.tc : Thread nD τ).loc main_v10) = tMul (tScale (m ((c.tc : Thread nD τ).loc main_arg7))) ((dats m 0 c).arrAt 10 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  θ_run_mono (θ_run_and (run_main m ρ) (unchanged m ρ)) fun r h c => by
    have h1 := h.1 c
    exact ⟨h1.1 8, (h1.2 main_v5 (Pipeline.mem_restRefs_of main_v5 (by decide) (by decide))).trans (tail_v5 m c),
      (h1.2 main_v8 (Pipeline.mem_restRefs_of main_v8 (by decide) (by decide))).trans (tail_v8 m c),
      (h1.2 main_v10 (Pipeline.mem_restRefs_of main_v10 (by decide) (by decide))).trans (tail_v10 m c), h.2 c⟩
end

/-! ## The reference's run -/

section
open Cert.Reference2Ideal Cert.Reference2Ideal.Gen
variable (m : (ℓ : Loc nD τ Cert.Reference2Ideal.sig) → Buf (Elt Ideal) ℓ) (c : Dev nD)
abbrev y0 : FVec Ideal S8192x1024 .f32 := m ((c.tc : Thread nD τ).loc main_arg0)
abbrev y1 : FVec Ideal S8192x1024 .f32 := m ((c.tc : Thread nD τ).loc main_arg1)
abbrev y2 : FVec Ideal S8192x512 .bf16 := m ((c.tc : Thread nD τ).loc main_arg2)
abbrev y3 : FVec Ideal S8192x256 .bf16 := m ((c.tc : Thread nD τ).loc main_arg3)
abbrev y4 : FVec Ideal S8192x2048 .bf16 := m ((c.tc : Thread nD τ).loc main_arg4)
abbrev y5 : FVec Ideal S1024x2816 .f32 := m ((c.tc : Thread nD τ).loc main_arg5)
abbrev y6 : FVec Ideal S1x1024 .f32 := m ((c.tc : Thread nD τ).loc main_arg6)
abbrev y7 : FVec Ideal S1x1024 .f32 := m ((c.tc : Thread nD τ).loc main_arg7)

theorem res_dx : Cert.Reference2Ideal.Value.res_main_v54 m c = rDx (y0 m c) (y1 m c) (y2 m c) (y3 m c) (y4 m c) (y5 m c) (y6 m c) (y7 m c) := rfl

/-- The reference ends with each result at its named array of the arguments, and the arguments as they were. -/
theorem ref_run (ρ : Dev nD → PrngReg) :
    θ_run defs (onTc (τ := τ) (main (F := Ideal))) ⟨m, fun _ => 0, ρ⟩ fun r => ∀ c : Dev nD,
      r.2.mem ((c.tc : Thread nD τ).loc main_v54) = rDx (y0 m c) (y1 m c) (y2 m c) (y3 m c) (y4 m c) (y5 m c) (y6 m c) (y7 m c)
      ∧ r.2.mem ((c.tc : Thread nD τ).loc main_v55) = rDshift (y2 m c) (y3 m c) (y4 m c) (y5 m c)
      ∧ r.2.mem ((c.tc : Thread nD τ).loc main_v56) = rDscale (y0 m c) (y2 m c) (y3 m c) (y4 m c) (y5 m c) (y6 m c)
      ∧ r.2.mem ((c.tc : Thread nD τ).loc main_v57) = rDgain (y0 m c) (y2 m c) (y3 m c) (y4 m c) (y5 m c) (y7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
    obtain ⟨h0, h1, h2, h3, h4⟩ := h c
    exact ⟨h0.trans (res_dx m c), h1, h2, h3, h4⟩) (Cert.Reference2Ideal.Value.run m ρ)
end

/-! ## Finite arguments hold real numbers -/

/-- The shape facts the precondition's function states. -/
theorem pre_facts : Cert.Pre_finite2.Facts := by constructor <;> decide

section
variable [Cert.Pre_finite2.Facts]
open Cert.Pre_finite2

theorem row_is {v : FVec Ideal S1x1024 .f32} (h : ∀ i, (v i : EReal) = (((v i : EReal).toReal : ℝ) : EReal)) : Is2 (n := 1) (m := 1024) v (fun _ q => real2 (n := 1) (m := 1024) v 0 q) := by
  intro r q
  have hr : r = 0 := Subsingleton.elim _ _
  subst hr
  exact real2_is _ h 0 q

/-- Under the precondition the eight arguments hold real numbers. -/
theorem holds_of_finite (A0 A1 : FVec Ideal S8192x1024 .f32) (A2 : FVec Ideal S8192x512 .bf16) (A3 : FVec Ideal S8192x256 .bf16) (A4 : FVec Ideal S8192x2048 .bf16)
    (A5 : FVec Ideal S1024x2816 .f32) (A6 A7 : FVec Ideal S1x1024 .f32)
    (h : Cert.Pre_finite2.fn (F := Ideal) A0 A1 A2 A3 A4 A5 A6 A7 = fun _ => 1#1) : ∃ a : Args, Holds a A0 A1 A2 A3 A4 A5 A6 A7 := by
  have e := congrFun h (fun k => k.elim0)
  dsimp only [Cert.Pre_finite2.fn, Cert.Pre_finite2.fn_part1, Cert.Pre_finite2.fn_part2] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨⟨real2 A0, real2 A1, real2 A2, real2 A3, real2 A4, real2 A5, real2 (n := 1) (m := 1024) A6 0, real2 (n := 1) (m := 1024) A7 0⟩, ?_, ?_, ?_, ?_, ?_, ?_, ?_, ?_⟩
  · exact real2_is _ (real_all _ _ _ A0 _ e0)
  · exact real2_is _ (real_all _ _ _ A1 _ e1)
  · exact real2_is _ (real_all _ _ _ (extf (F := Ideal) .f32 A2 (by decide)) _ e2)
  · exact real2_is _ (real_all _ _ _ (extf (F := Ideal) .f32 A3 (by decide)) _ e3)
  · exact real2_is _ (real_all _ _ _ (extf (F := Ideal) .f32 A4 (by decide)) _ e4)
  · exact real2_is _ (real_all _ _ _ A5 _ e5)
  · exact row_is (real_all _ _ _ A6 _ e6)
  · exact row_is (real_all _ _ _ A7 _ e7)
end

/-- On finite arguments the kernel and the reference end with the same four arrays, as extended reals. -/
theorem algebraic [hP : Cert.Pre_finite2.Facts] : Cert.algebraic_Kernel2Ideal_Reference2Ideal_pre_finite2 := by
  intro m g m' g' hpre hagree
  refine ⟨fun c => rDx (y0 m' c) (y1 m' c) (y2 m' c) (y3 m' c) (y4 m' c) (y5 m' c) (y6 m' c) (y7 m' c), fun c => rDshift (y2 m' c) (y3 m' c) (y4 m' c) (y5 m' c),
    fun c => rDscale (y0 m' c) (y2 m' c) (y3 m' c) (y4 m' c) (y5 m' c) (y6 m' c), fun c => rDgain (y0 m' c) (y2 m' c) (y3 m' c) (y4 m' c) (y5 m' c) (y7 m' c),
    θ_run_mono (kernel_run m g) fun r h c => ?_, ref_run m' g'⟩
  obtain ⟨a, H⟩ : ∃ a : Args, HoldsK m c a := holds_of_finite _ _ _ _ _ _ _ _ (hpre c)
  obtain ⟨e0, e1, e2, e3, e4, e5, e6, e7⟩ := hagree c
  have HR : Holds a (y0 m' c) (y1 m' c) (y2 m' c) (y3 m' c) (y4 m' c) (y5 m' c) (y6 m' c) (y7 m' c) :=
    ⟨fun r q => (congrFun e0 _).trans (H.X r q), fun r q => (congrFun e1 _).trans (H.D r q), fun r q => (congrFun e2 _).trans (H.Q r q), fun r q => (congrFun e3 _).trans (H.K r q),
      fun r q => (congrFun e4 _).trans (H.P r q), fun r q => (congrFun e5 _).trans (H.W r q), fun r q => (congrFun e6 _).trans (H.g r q), fun r q => (congrFun e7 _).trans (H.s r q)⟩
  obtain ⟨h0, h1, h2, h3, hargs⟩ := h c
  refine ⟨h0.trans ?_, h1.trans ?_, h2.trans ?_, h3.trans ?_, hargs⟩
  · exact (arr8_is m c H).ext (rDx_is HR)
  · exact ext1 fun q => (tSum_is _ (dhR a) (arr9_is m c H) q).trans (rDshift_is HR q).symm
  · exact ext1 fun q => (tMul_is _ _ (fun r q => dhR a r q * xnR a r q) a.g H.g (arr10_is m c H) q).trans (rDscale_is HR q).symm
  · exact ext1 fun q => (tMul_is _ _ (fun r q => dhR a r q * xnR a r q) (fun q => 1 + a.s q) (Cert.NormBwd.tScale_is _ H.s) (arr10_is m c H) q).trans (rDgain_is HR q).symm

end Cert.NormBwd

end
-- ==== Proof.DwCase.lean ====
module

public import proofs.«01_k».proof.Proof.Gen.Kernel3Ideal.Frame
public import Idealize.ShloMosaic.Lib.Pipeline.Value
public import Idealize.ShloMosaic.Lib.Tactic
public import proofs.«01_k».proof.Proof.Alg

@[expose] public section

set_option maxRecDepth 16384

noncomputable section

namespace Cert.DwBwd

open Idealize.ShloMosaic Idealize.ShloMosaic.TcCoe Idealize.SL.Sem
open Idealize.ShloMosaic.Pipeline (Dat)
open Idealize.ShloMosaic.Pointwise
open Cert.Kernel3Ideal Cert.Kernel3Ideal.Gen

variable {F : FTy → Type} [FloatOps F]

theorem origin : (![0, 0] : Fin 2 → Nat) = fun _ => 0 := funext fun a => by fin_cases a <;> rfl
theorem origin3 : (![0, 0, 0] : Fin 3 → Nat) = fun _ => 0 := funext fun a => by fin_cases a <;> rfl

/-! ## Arrays written in ranges of rows -/

section
variable {Val : EltTy → Type} [∀ e, Nonempty (Val e)] {e : EltTy} {n k d off : ℕ}

/-- A place inside the rows written last holds what was written there. -/
theorem row_hit (inb : ∀ a, (![off, 0] : Fin 2 → ℕ) a + (![n, k] : Fin 2 → ℕ) a ≤ (⟨2, ![d, k]⟩ : Shape).size a) (w : (⟨2, ![n, k]⟩ : Shape).Idx → Val e)
    (L : List (View.Piece Val (⟨2, ![d, k]⟩ : Shape) e)) (r : Fin d) (q : Fin k) (hr : off ≤ r.1) (h : r.1 < off + n) :
    View.canon ((⟨Rect.unit ![off, 0] ![n, k] inb, w⟩ : View.Piece Val (⟨2, ![d, k]⟩ : Shape) e) :: L) (ix2 r q) = w (ix2 ⟨r.1 - off, by omega⟩ q) := by
  have e : (Rect.unit (s := (⟨2, ![d, k]⟩ : Shape)) ![off, 0] ![n, k] inb).emb (ix2 (n0 := n) (n1 := k) ⟨r.1 - off, by omega⟩ q) = (ix2 r q : (⟨2, ![d, k]⟩ : Shape).Idx) := by
    refine Rect.emb_eq_of_coords _ _ _ fun a => ?_
    fin_cases a
    · show r.1 = off + 1 * (r.1 - off)
      omega
    · show q.1 = 0 + 1 * q.1
      omega
  rw [← e]
  exact View.canon_cons_emb (Rect.unit (s := (⟨2, ![d, k]⟩ : Shape)) ![off, 0] ![n, k] inb) w L _

/-- A place outside them holds what was there before. -/
theorem row_miss (inb : ∀ a, (![off, 0] : Fin 2 → ℕ) a + (![n, k] : Fin 2 → ℕ) a ≤ (⟨2, ![d, k]⟩ : Shape).size a) (w : (⟨2, ![n, k]⟩ : Shape).Idx → Val e)
    (L : List (View.Piece Val (⟨2, ![d, k]⟩ : Shape) e)) (r : Fin d) (q : Fin k) (h : r.1 < off ∨ off + n ≤ r.1) :
    View.canon ((⟨Rect.unit ![off, 0] ![n, k] inb, w⟩ : View.Piece Val (⟨2, ![d, k]⟩ : Shape) e) :: L) (ix2 r q) = View.canon L (ix2 r q) := by
  refine View.canon_cons_of_not_mem _ L fun hm => ?_
  have h2 : ix2 r q ∈ (Rect.unit (s := (⟨2, ![d, k]⟩ : Shape)) ![off, 0] ![n, k] inb).set := hm
  have h3 := (Rect.mem_set_unit.1 h2) 0
  have h4 : off ≤ r.1 ∧ r.1 < off + n := h3
  omega

/-- The place a range of rows reads. -/
theorem row_idx (inb : ∀ a, (![off, 0] : Fin 2 → ℕ) a + (![n, k] : Fin 2 → ℕ) a ≤ (⟨2, ![d, k]⟩ : Shape).size a) (y : (⟨2, ![n, k]⟩ : Shape).Idx) (h : off + (y 0).val < d) :
    (Rect.unit (s := (⟨2, ![d, k]⟩ : Shape)) ![off, 0] ![n, k] inb).idx y = ix2 ⟨off + (y 0).val, h⟩ (y 1) := by
  funext a
  apply Fin.ext
  fin_cases a
  · show off + 1 * (y 0).val = off + (y 0).val
    omega
  · show 0 + 1 * (y 1).val = (y 1).val
    omega

theorem ix2_eta (y : (⟨2, ![n, k]⟩ : Shape).Idx) : y = ix2 (y 0) (y 1) := by
  funext a
  fin_cases a <;> rfl
end

/-- The rows of the accumulator that the three pieces of the projection's gradient add to. -/
abbrev rQ : Rect S2816x1024 := Rect.unit (s := S2816x1024) ![0, 0] ![512, 1024] inb_S2816x1024_S512x1024_0_0
abbrev rK : Rect S2816x1024 := Rect.unit (s := S2816x1024) ![512, 0] ![256, 1024] inb_S2816x1024_S256x1024_512_0
abbrev rP : Rect S2816x1024 := Rect.unit (s := S2816x1024) ![768, 0] ![2048, 1024] inb_S2816x1024_S2048x1024_768_0
abbrev rAll : Rect S2816x1024 := Rect.unit (s := S2816x1024) ![0, 0] ![2816, 1024] inb_S2816x1024_S2816x1024_0_0

/-- An accumulator put together from its three ranges of rows. -/
def stack (q : Vec F S512x1024 .f32) (k : Vec F S256x1024 .f32) (p : Vec F S2048x1024 .f32) : Vec F S2816x1024 .f32 :=
  View.canon (Val := Elt F) [⟨rP, p⟩, ⟨rK, k⟩, ⟨rQ, q⟩]

theorem stack_apply (q : Vec F S512x1024 .f32) (k : Vec F S256x1024 .f32) (p : Vec F S2048x1024 .f32) (L : List (View.Piece (Elt F) S2816x1024 .f32)) (r : Fin 2816) (c : Fin 1024) :
    View.canon (Val := Elt F) (⟨rP, p⟩ :: ⟨rK, k⟩ :: ⟨rQ, q⟩ :: L) (ix2 r c)
      = if h : r.1 < 512 then q (ix2 ⟨r.1, h⟩ c) else if h2 : r.1 < 768 then k (ix2 ⟨r.1 - 512, by omega⟩ c) else p (ix2 ⟨r.1 - 768, by omega⟩ c) := by
  by_cases h : r.1 < 512
  · rw [dif_pos h]
    exact (row_miss _ p _ r c (by omega)).trans ((row_miss _ k _ r c (by omega)).trans (row_hit _ q _ r c (by omega) (by omega)))
  · rw [dif_neg h]
    by_cases h2 : r.1 < 768
    · rw [dif_pos h2]
      exact (row_miss _ p _ r c (by omega)).trans (row_hit _ k _ r c (by omega) (by omega))
    · rw [dif_neg h2]
      exact row_hit _ p _ r c (by omega) (by omega)

/-- What was there before the three ranges were written doesn't matter. -/
theorem stack_over (q : Vec F S512x1024 .f32) (k : Vec F S256x1024 .f32) (p : Vec F S2048x1024 .f32) (L : List (View.Piece (Elt F) S2816x1024 .f32)) :
    View.canon (Val := Elt F) (⟨rP, p⟩ :: ⟨rK, k⟩ :: ⟨rQ, q⟩ :: L) = stack q k p := by
  funext y
  rw [ix2_eta y]
  exact (stack_apply q k p L _ _).trans (stack_apply q k p [] _ _).symm

/-- Reading a range of rows not yet written gives what the buffer was filled with. -/
theorem read_k (q : Vec F S512x1024 .f32) (z : Vec F S2816x1024 .f32) :
    (fun j => View.canon (Val := Elt F) [⟨rQ, q⟩, ⟨rAll, z⟩] (rK.idx j)) = View.ld z rK := by
  funext j
  have h0 : (j 0).val < 256 := (j 0).isLt
  show View.canon (Val := Elt F) [⟨rQ, q⟩, ⟨rAll, z⟩] (rK.idx j) = z (rK.idx j)
  rw [show rK.idx j = ix2 ⟨512 + (j 0).val, by omega⟩ (j 1) from row_idx _ j (by omega)]
  exact (row_miss _ q _ _ _ (Or.inr (by dsimp only; omega))).trans (congrFun (View.canon_unit_zero origin _ z) _)
theorem read_p (q : Vec F S512x1024 .f32) (k : Vec F S256x1024 .f32) (z : Vec F S2816x1024 .f32) :
    (fun j => View.canon (Val := Elt F) [⟨rK, k⟩, ⟨rQ, q⟩, ⟨rAll, z⟩] (rP.idx j)) = View.ld z rP := by
  funext j
  have h0 : (j 0).val < 2048 := (j 0).isLt
  show View.canon (Val := Elt F) [⟨rK, k⟩, ⟨rQ, q⟩, ⟨rAll, z⟩] (rP.idx j) = z (rP.idx j)
  rw [show rP.idx j = ix2 ⟨768 + (j 0).val, by omega⟩ (j 1) from row_idx _ j (by omega)]
  exact (row_miss _ k _ _ _ (Or.inr (by dsimp only; omega))).trans ((row_miss _ q _ _ _ (Or.inr (by dsimp only; omega))).trans (congrFun (View.canon_unit_zero origin _ z) _))

/-- The tile of the key and value gradients with the halos added: the first 128 rows, the last 128, and those between. -/
def dkvTile (i : grid0.Coords) (x5 : Vec F S512x256 .f32) (x6 x7 : Vec F S1x128x256 .f32) : Vec F S512x256 .bf16 :=
  View.canon (Val := Elt F) [⟨Rect.unit ![128, 0] ![256, 256] inb_S512x256_S256x256_128_0, k0_pay6 (View.ld x5 (Rect.unit ![128, 0] ![256, 256] inb_S512x256_S256x256_128_0))⟩,
    ⟨Rect.unit ![384, 0] ![128, 256] inb_S512x256_S128x256_384_0, k0_pay5 i (View.ld x5 (Rect.unit ![384, 0] ![128, 256] inb_S512x256_S128x256_384_0)) x7⟩,
    ⟨Rect.unit ![0, 0] ![128, 256] inb_S512x256_S128x256_0_0, k0_pay4 i (View.ld x5 (Rect.unit ![0, 0] ![128, 256] inb_S512x256_S128x256_0_0)) x6⟩]

/-- One point's addition to the accumulator. -/
def accNext (x0 : Vec F S512x1024 .f32) (x1 x2 x3 : Vec F S1x1024 .f32) (x4 : Vec F S512x512 .bf16) (dkv : Vec F S512x256 .bf16) (x8 : Vec F S512x2048 .bf16) (acc : Vec F S2816x1024 .f32) : Vec F S2816x1024 .f32 :=
  stack (k0_pay9 x0 (k0_pay7 x0) x1 x2 x3 (View.ld acc rQ) x4) (k0_pay10 x0 (k0_pay7 x0) x1 x2 x3 (View.ld acc rK) dkv) (k0_pay1 (k0_pay8 x0 (k0_pay7 x0) x1 x2 x3) (View.ld acc rP) x8)

/-- Reading a whole buffer reads its contents. -/
theorem read_all (v : Vec F S2816x1024 .f32) : (fun j => v (rAll.idx j)) = v := View.ld_unit_zero (S := S2816x1024) origin _ v
theorem read_dkv (v : Vec F S512x256 .bf16) : (fun j => v ((Rect.unit (s := S512x256) ![0, 0] ![512, 256] inb_S512x256_S512x256_0_0).idx j)) = v := View.ld_unit_zero (S := S512x256) origin _ v

/-- The three ranges one point writes, over what was there before, are its addition to the accumulator; -/
theorem finish (x0 : Vec F S512x1024 .f32) (x1 x2 x3 : Vec F S1x1024 .f32) (x4 : Vec F S512x512 .bf16) (dkv : Vec F S512x256 .bf16) (x8 : Vec F S512x2048 .bf16) (acc : Vec F S2816x1024 .f32) (L : List (View.Piece (Elt F) S2816x1024 .f32)) :
    View.canon (Val := Elt F) (⟨rP, k0_pay1 (k0_pay8 x0 (k0_pay7 x0) x1 x2 x3) (View.ld acc rP) x8⟩ :: ⟨rK, k0_pay10 x0 (k0_pay7 x0) x1 x2 x3 (View.ld acc rK) (fun j => dkv ((Rect.unit (s := S512x256) ![0, 0] ![512, 256] inb_S512x256_S512x256_0_0).idx j))⟩
      :: ⟨rQ, k0_pay9 x0 (k0_pay7 x0) x1 x2 x3 (View.ld acc rQ) x4⟩ :: L) = accNext x0 x1 x2 x3 x4 dkv x8 acc := by
  exact (stack_over _ _ _ _).trans (congrArg (fun d => stack (k0_pay9 x0 (k0_pay7 x0) x1 x2 x3 (View.ld acc rQ) x4) (k0_pay10 x0 (k0_pay7 x0) x1 x2 x3 (View.ld acc rK) d) (k0_pay1 (k0_pay8 x0 (k0_pay7 x0) x1 x2 x3) (View.ld acc rP) x8)) (read_dkv dkv))

/-- so they are when the buffer was filled just before. -/
theorem finish_fill (x0 : Vec F S512x1024 .f32) (x1 x2 x3 : Vec F S1x1024 .f32) (x4 : Vec F S512x512 .bf16) (dkv : Vec F S512x256 .bf16) (x8 : Vec F S512x2048 .bf16) (z : Vec F S2816x1024 .f32) (q : Vec F S512x1024 .f32) (k : Vec F S256x1024 .f32)
    (hq : q = k0_pay9 x0 (k0_pay7 x0) x1 x2 x3 (fun j => View.canon (Val := Elt F) [⟨rAll, z⟩] (rQ.idx j)) x4)
    (hk : k = k0_pay10 x0 (k0_pay7 x0) x1 x2 x3 (fun j => View.canon (Val := Elt F) [⟨rQ, q⟩, ⟨rAll, z⟩] (rK.idx j)) (fun j => dkv ((Rect.unit (s := S512x256) ![0, 0] ![512, 256] inb_S512x256_S512x256_0_0).idx j))) :
    View.canon (Val := Elt F) [⟨rP, k0_pay1 (k0_pay8 x0 (k0_pay7 x0) x1 x2 x3) (fun j => View.canon (Val := Elt F) [⟨rK, k⟩, ⟨rQ, q⟩, ⟨rAll, z⟩] (rP.idx j)) x8⟩, ⟨rK, k⟩, ⟨rQ, q⟩, ⟨rAll, z⟩]
      = accNext x0 x1 x2 x3 x4 dkv x8 z := by
  have eq : (fun j => View.canon (Val := Elt F) [⟨rAll, z⟩] (rQ.idx j)) = View.ld z rQ := funext fun j => congrFun (View.canon_unit_zero origin _ z) _
  have hq' : q = k0_pay9 x0 (k0_pay7 x0) x1 x2 x3 (View.ld z rQ) x4 := hq.trans (congrArg (fun l => k0_pay9 x0 (k0_pay7 x0) x1 x2 x3 l x4) eq)
  have hk' : k = k0_pay10 x0 (k0_pay7 x0) x1 x2 x3 (View.ld z rK) dkv := hk.trans (congrArg₂ (fun l d => k0_pay10 x0 (k0_pay7 x0) x1 x2 x3 l d) (read_k q z) (read_dkv dkv))
  have hp := congrArg (fun l => k0_pay1 (k0_pay8 x0 (k0_pay7 x0) x1 x2 x3) l x8) (read_p q k z)
  refine (stack_over _ _ _ _).trans ((congrArg (stack q k) hp).trans ?_)
  rw [hk', hq']
  rfl

/-! ## What one run of the body leaves in each output and in the accumulator -/

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x512 .bf16) (harg5 : arg5.IsWhole) (arg6 : Memref sig .tc .vmem S512x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S512x2048 .bf16) (harg9 : arg9.IsWhole) (arg10 : Memref sig .tc .vmem S2816x1024 .bf16) (harg10 : arg10.IsWhole) (arg11 : Memref sig .tc .vmem S512x256 .bf16) (harg11 : arg11.IsWhole) (arg12 : Memref sig .tc .vmem S2816x1024 .f32) (harg12 : arg12.IsWhole)
  (x0 : Vec F S512x1024 .f32) (x1 : Vec F S1x1024 .f32) (x2 : Vec F S1x1024 .f32) (x3 : Vec F S1x1024 .f32) (x4 : Vec F S512x512 .bf16) (x5 : Vec F S512x256 .f32) (x6 : Vec F S1x128x256 .f32) (x7 : Vec F S1x128x256 .f32) (x8 : Vec F S512x2048 .bf16)
  (xs0 : Vec F S2816x1024 .f32)

/-- First point: the accumulator. -/
theorem acc_A (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = accNext x0 x1 x2 x3 x4 (dkvTile i x5 x6 x7) x8 (k0_pay3 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1024) origin, View.ld_unit_zero (S := S1x1024) origin, View.ld_unit_zero (S := S512x256) origin, View.ld_unit_zero (S := S512x512) origin, View.ld_unit_zero (S := S512x2048) origin, View.ld_unit_zero (S := S2816x1024) origin, View.ld_unit_zero (S := S1x128x256) origin3]
  exact finish_fill x0 x1 x2 x3 x4 (dkvTile i x5 x6 x7) x8 k0_pay3 _ _ rfl rfl

/-- First point: the tile of the key and value gradients. -/
theorem dkv_A (hc0 : cond0_0 i) (hc1 : ¬cond0_1 i) :
    out0_A_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = dkvTile i x5 x6 x7 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1024) origin, View.ld_unit_zero (S := S1x1024) origin, View.ld_unit_zero (S := S512x256) origin, View.ld_unit_zero (S := S512x512) origin, View.ld_unit_zero (S := S512x2048) origin, View.ld_unit_zero (S := S2816x1024) origin, View.ld_unit_zero (S := S1x128x256) origin3]
  rfl

/-- A point between: the accumulator. -/
theorem acc_B (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = accNext x0 x1 x2 x3 x4 (dkvTile i x5 x6 x7) x8 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_B
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1024) origin, View.ld_unit_zero (S := S1x1024) origin, View.ld_unit_zero (S := S512x256) origin, View.ld_unit_zero (S := S512x512) origin, View.ld_unit_zero (S := S512x2048) origin, View.ld_unit_zero (S := S2816x1024) origin, View.ld_unit_zero (S := S1x128x256) origin3]
  exact finish x0 x1 x2 x3 x4 (dkvTile i x5 x6 x7) x8 xs0 []

/-- A point between: the tile of the key and value gradients. -/
theorem dkv_B (hc0 : ¬cond0_0 i) (hc1 : ¬cond0_1 i) :
    out0_B_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = dkvTile i x5 x6 x7 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_B
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1024) origin, View.ld_unit_zero (S := S1x1024) origin, View.ld_unit_zero (S := S512x256) origin, View.ld_unit_zero (S := S512x512) origin, View.ld_unit_zero (S := S512x2048) origin, View.ld_unit_zero (S := S2816x1024) origin, View.ld_unit_zero (S := S1x128x256) origin3]
  rfl

/-- Last point: the accumulator. -/
theorem acc_C (hc0 : ¬cond0_0 i) (hc1 : cond0_1 i) :
    sout0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = accNext x0 x1 x2 x3 x4 (dkvTile i x5 x6 x7) x8 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1024) origin, View.ld_unit_zero (S := S1x1024) origin, View.ld_unit_zero (S := S512x256) origin, View.ld_unit_zero (S := S512x512) origin, View.ld_unit_zero (S := S512x2048) origin, View.ld_unit_zero (S := S2816x1024) origin, View.ld_unit_zero (S := S1x128x256) origin3]
  exact finish x0 x1 x2 x3 x4 (dkvTile i x5 x6 x7) x8 xs0 []

/-- Last point: the tile of the key and value gradients. -/
theorem dkv_C (hc0 : ¬cond0_0 i) (hc1 : cond0_1 i) :
    out0_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = dkvTile i x5 x6 x7 := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1024) origin, View.ld_unit_zero (S := S1x1024) origin, View.ld_unit_zero (S := S512x256) origin, View.ld_unit_zero (S := S512x512) origin, View.ld_unit_zero (S := S512x2048) origin, View.ld_unit_zero (S := S2816x1024) origin, View.ld_unit_zero (S := S1x128x256) origin3]
  rfl

/-- Last point: the weight's gradient. -/
theorem dw_C (hc0 : ¬cond0_0 i) (hc1 : cond0_1 i) :
    out0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay2 (accNext x0 x1 x2 x3 x4 (dkvTile i x5 x6 x7) x8 xs0) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1024) origin, View.ld_unit_zero (S := S1x1024) origin, View.ld_unit_zero (S := S512x256) origin, View.ld_unit_zero (S := S512x512) origin, View.ld_unit_zero (S := S512x2048) origin, View.ld_unit_zero (S := S2816x1024) origin, View.ld_unit_zero (S := S1x128x256) origin3]
  rw [View.canon_unit_zero (S := S2816x1024) origin]
  exact congrArg k0_pay2 ((read_all _).trans (finish x0 x1 x2 x3 x4 (dkvTile i x5 x6 x7) x8 xs0 []))
end

/-! ## What the outputs hold after each point -/

variable (m : (ℓ : Loc nD τ sig) → Buf (Elt F) ℓ) (c : Dev nD)

/-- The tile of the key and value gradients at a point. -/
abbrev dkvAt (t : Fin cfg0.N) : Vec F S512x256 .bf16 := dkvTile (grid0.coords t) (iblk m c 5 t) (iblk m c 6 t) (iblk m c 7 t)

/-- The accumulator after `n` points. -/
def accAt : (n : ℕ) → n ≤ cfg0.N → Vec F S2816x1024 .f32
  | 0, _ => k0_pay3
  | n + 1, h => accNext (iblk m c 0 ⟨n, h⟩) (iblk m c 1 ⟨n, h⟩) (iblk m c 2 ⟨n, h⟩) (iblk m c 3 ⟨n, h⟩) (iblk m c 4 ⟨n, h⟩) (dkvAt m c ⟨n, h⟩) (iblk m c 8 ⟨n, h⟩) (accAt n (Nat.le_of_succ_le h))

/-- After the first point: the tile of the key and value gradients and the first addition. -/
theorem first (t : Fin cfg0.N) (h0 : t.val % 16 = 0) (h1 : ¬t.val % 16 = 15) :
    (outsAt0 m c t.val t.isLt).2 = (dkvAt m c t, accNext (iblk m c 0 t) (iblk m c 1 t) (iblk m c 2 t) (iblk m c 3 t) (iblk m c 4 t) (dkvAt m c t) (iblk m c 8 t) k0_pay3) := by
  rw [outsAt0_A m c t h0 h1]
  dsimp only
  rw [dkv_A, acc_A]

/-- After a later point: the tile, and the accumulator of the point before with the point's addition. -/
theorem later (t : Fin cfg0.N) (h0 : ¬t.val % 16 = 0) :
    (outsAt0 m c t.val t.isLt).2 = (dkvAt m c t, accNext (iblk m c 0 t) (iblk m c 1 t) (iblk m c 2 t) (iblk m c 3 t) (iblk m c 4 t) (dkvAt m c t) (iblk m c 8 t) (outsAt0 m c (t.val - 1) (Nat.lt_of_le_of_lt (Nat.sub_le _ _) t.isLt)).2.2) := by
  by_cases h1 : t.val % 16 = 15
  · rw [outsAt0_C m c t h0 h1]
    dsimp only
    rw [dkv_C, acc_C]
  · rw [outsAt0_B m c t h0 h1]
    dsimp only
    rw [dkv_B, acc_B]

/-- After the last point: the weight's gradient. -/
theorem last (t : Fin cfg0.N) (h0 : ¬t.val % 16 = 0) (h1 : t.val % 16 = 15) :
    (outsAt0 m c t.val t.isLt).1 = k0_pay2 (accNext (iblk m c 0 t) (iblk m c 1 t) (iblk m c 2 t) (iblk m c 3 t) (iblk m c 4 t) (dkvAt m c t) (iblk m c 8 t) (outsAt0 m c (t.val - 1) (Nat.lt_of_le_of_lt (Nat.sub_le _ _) t.isLt)).2.2) := by
  rw [outsAt0_C m c t h0 h1]
  dsimp only
  rw [dw_C]

/-- After each point: the tile of the key and value gradients and the accumulator so far. -/
theorem outs_eq : ∀ (n : ℕ) (h : n < cfg0.N), (outsAt0 m c n h).2 = (dkvAt m c ⟨n, h⟩, accAt m c (n + 1) h)
  | 0, h => first m c ⟨0, h⟩ (by decide : (0 : ℕ) % 16 = 0) (by decide : ¬(0 : ℕ) % 16 = 15)
  | n + 1, h => by
    have hN : cfg0.N = 16 := N_0
    have h0 : ¬(⟨n + 1, h⟩ : Fin cfg0.N).val % 16 = 0 := by dsimp only; omega
    have e : ∀ (k : ℕ) (hk : k < cfg0.N), k = n → (outsAt0 m c k hk).2.2 = accAt m c (n + 1) (Nat.le_of_succ_le h) := by
      intro k hk e
      subst e
      rw [outs_eq k hk]
    have s := later m c ⟨n + 1, h⟩ h0
    rw [e _ _ (Nat.add_sub_cancel n 1)] at s
    exact s

/-- After each point the first of these. -/
theorem outs_dkv (t : Fin cfg0.N) : (outsAt0 m c t.val t.isLt).2.1 = dkvAt m c t := by
  rw [outs_eq m c t.val t.isLt]

/-- After the last point the weight's gradient is the accumulator, rounded. -/
theorem outs_dw (t : Fin cfg0.N) (h1 : t.val = 15) : (outsAt0 m c t.val t.isLt).1 = k0_pay2 (accAt m c (t.val + 1) t.isLt) := by
  obtain ⟨n, h⟩ := t
  dsimp only at h1
  subst h1
  have e : ∀ (k : ℕ) (hk : k < cfg0.N), k = 14 → (outsAt0 m c k hk).2.2 = accAt m c 15 (Nat.le_of_succ_le h) := by
    intro k hk e
    subst e
    rw [outs_eq m c 14 hk]
  have s := last m c ⟨15, h⟩ (by decide : ¬(15 : ℕ) % 16 = 0) (by decide : (15 : ℕ) % 16 = 15)
  rw [e _ _ (Nat.add_sub_cancel 14 1)] at s
  exact s

end Cert.DwBwd
-- ==== Proof.DwVal.lean ====
module

public import proofs.«01_k».proof.Proof.DwCase
public import Idealize.ShloMosaic.Lib.Pipeline.ValueKit

@[expose] public section

set_option maxRecDepth 16384

noncomputable section

namespace Cert.DwBwd

open Idealize.ShloMosaic Idealize.ShloMosaic.Tactic Idealize.ShloMosaic.TcCoe Idealize.ShloMosaic.Pointwise Idealize.ShloMosaic.VecWindow
open Cert.Kernel3Ideal Cert.Kernel3Ideal.Gen
open scoped BigOperators

/-! ## Arrays of extended reals by their coordinates

The sums of products here are the same on both sides, term by term, so nothing needs to be finite. -/

/-- The array holds `f` at every place. -/
def At2 {n k : ℕ} (v : (⟨2, ![n, k]⟩ : Shape).Idx → EReal) (f : ℕ → ℕ → EReal) : Prop := ∀ (r : Fin n) (q : Fin k), v (ix2 r q) = f r q
def At3 {n k l : ℕ} (v : (⟨3, ![n, k, l]⟩ : Shape).Idx → EReal) (f : ℕ → ℕ → ℕ → EReal) : Prop := ∀ (p : Fin n) (r : Fin k) (q : Fin l), v (ix3 p r q) = f p r q

theorem At2.congr {n k : ℕ} {v : (⟨2, ![n, k]⟩ : Shape).Idx → EReal} {f g : ℕ → ℕ → EReal} (h : At2 v f) (e : ∀ r < n, ∀ q < k, f r q = g r q) : At2 v g :=
  fun r q => (h r q).trans (e r r.isLt q q.isLt)
theorem At2.idx {n k : ℕ} {v : (⟨2, ![n, k]⟩ : Shape).Idx → EReal} {f : ℕ → ℕ → EReal} (h : At2 v f) (y : (⟨2, ![n, k]⟩ : Shape).Idx) {r q : ℕ} (h0 : (y 0).val = r) (h1 : (y 1).val = q) : v y = f r q := by
  subst h0 h1
  exact (congrArg v (eq_ix2 y)).trans (h (y 0) (y 1))
theorem At3.idx {n k l : ℕ} {v : (⟨3, ![n, k, l]⟩ : Shape).Idx → EReal} {f : ℕ → ℕ → ℕ → EReal} (h : At3 v f) (y : (⟨3, ![n, k, l]⟩ : Shape).Idx) {p r q : ℕ} (h0 : (y 0).val = p) (h1 : (y 1).val = r) (h2 : (y 2).val = q) : v y = f p r q := by
  subst h0 h1 h2
  exact (congrArg v (eq_ix3 y)).trans (h (y 0) (y 1) (y 2))
theorem At2.ext {n k : ℕ} {v w : (⟨2, ![n, k]⟩ : Shape).Idx → EReal} {f : ℕ → ℕ → EReal} (hv : At2 v f) (hw : At2 w f) : v = w :=
  funext fun y => (hv.idx y rfl rfl).trans (hw.idx y rfl rfl).symm

/-! ## The computation, coordinate by coordinate -/

/-- The arguments: layer input, the projection's gradient in its three pieces, the two halos of the key and value gradients, gain, scale and shift. -/
structure Args where
  X : ℕ → ℕ → EReal
  Q : ℕ → ℕ → EReal
  K : ℕ → ℕ → EReal
  P : ℕ → ℕ → EReal
  HP : ℕ → ℕ → ℕ → EReal
  HN : ℕ → ℕ → ℕ → EReal
  g : ℕ → EReal
  s : ℕ → EReal
  b : ℕ → EReal

variable (a : Args)

/-- The modulated norm of a row's input. -/
def hE (r q : ℕ) : EReal :=
  a.X r q * Ideal.rsqrt (Ideal.div (∑ k : Fin 1024, a.X r k * a.X r k) (Ideal.ofBits .f32 0x44800000#32) + Ideal.ofBits .f32 0x358637BD#32) * a.g q
    * (1 + a.s q) + a.b q
/-- What the neighbouring chunks add to row `r` of chunk `t`: its first 128 rows from the chunk before, its last 128 from the chunk after. -/
def haloE (t r q : ℕ) : EReal :=
  if r < 128 then (if 0 < t then a.HN (t - 1) r q else 0) else if 384 ≤ r then (if t < 15 then a.HP (t + 1) (r - 384) q else 0) else 0
/-- The key and value gradients with the halos added. -/
def kE (r q : ℕ) : EReal := a.K r q + haloE a (r / 512) (r % 512) q
/-- The projection's gradient. -/
def projE (r j : ℕ) : EReal := if j < 512 then a.Q r j else if j < 768 then kE a r (j - 512) else a.P r (j - 768)
/-- The weight's gradient over the first `512 n` rows. -/
def dwE (n j q : ℕ) : EReal := ∑ r ∈ Finset.range (512 * n), projE a r j * hE a r q

/-! ## The body's operations -/

section
variable {x : Vec Ideal S512x1024 .f32} {g s b : Vec Ideal S1x1024 .f32} {fx fh : ℕ → ℕ → EReal} {fg fs fb : ℕ → EReal}

theorem pay8_at (hx : At2 x fx) (hg : At2 g fun _ q => fg q) (hs : At2 s fun _ q => fs q) (hb : At2 b fun _ q => fb q) :
    At2 (k0_pay8 x (k0_pay7 x) g s b) fun r q => fx r q * Ideal.rsqrt (Ideal.div (∑ k : Fin 1024, fx r k * fx r k) (Ideal.ofBits .f32 0x44800000#32) + Ideal.ofBits .f32 0x358637BD#32) * fg q * fs q + fb q := by
  intro r q
  pointwise [k0_pay8, k0_pay7]
  simp only [hx _ _, hg _ _, hs _ _, hb _ _]

theorem pay9_at {o : Vec Ideal S512x1024 .f32} {d : Vec Ideal S512x512 .bf16} {fo fd : ℕ → ℕ → EReal} (hh : At2 (k0_pay8 x (k0_pay7 x) g s b) fh) (ho : At2 o fo) (hd : At2 d fd) :
    At2 (k0_pay9 x (k0_pay7 x) g s b o d) fun r q => fo r q + ∑ k : Fin 512, fd k r * fh k q := by
  intro r q
  pointwise [k0_pay9]
  simp only [hh _ _, ho _ _, hd _ _]
theorem pay10_at {o : Vec Ideal S256x1024 .f32} {d : Vec Ideal S512x256 .bf16} {fo fd : ℕ → ℕ → EReal} (hh : At2 (k0_pay8 x (k0_pay7 x) g s b) fh) (ho : At2 o fo) (hd : At2 d fd) :
    At2 (k0_pay10 x (k0_pay7 x) g s b o d) fun r q => fo r q + ∑ k : Fin 512, fd k r * fh k q := by
  intro r q
  pointwise [k0_pay10]
  simp only [hh _ _, ho _ _, hd _ _]
theorem pay1_at {h : Vec Ideal S512x1024 .f32} {o : Vec Ideal S2048x1024 .f32} {d : Vec Ideal S512x2048 .bf16} {fo fd : ℕ → ℕ → EReal} (hh : At2 h fh) (ho : At2 o fo) (hd : At2 d fd) :
    At2 (k0_pay1 h o d) fun r q => fo r q + ∑ k : Fin 512, fd k r * fh k q := by
  intro r q
  pointwise [k0_pay1]
  simp only [hh _ _, ho _ _, hd _ _]
end

theorem pay2_at {o : Vec Ideal S2816x1024 .f32} {f : ℕ → ℕ → EReal} (h : At2 o f) : At2 (k0_pay2 o) f := by
  intro r q
  pointwise [k0_pay2]
  exact h _ _
theorem pay3_at : At2 (k0_pay3 (F := Ideal)) fun _ _ => 0 := by
  intro r q
  pointwise [k0_pay3]
theorem pay6_at {o : Vec Ideal S256x256 .f32} {f : ℕ → ℕ → EReal} (h : At2 o f) : At2 (k0_pay6 o) f := by
  intro r q
  pointwise [k0_pay6]
  exact h _ _

/-- The tests of the first and the last point. -/
theorem notFirst : ∀ t : Fin cfg0.N, Scalar.cmpi CmpIPredicate.sgt (BitVec.ofNat 32 (grid0.coords t 0)) 0#32 = BitVec.ofBool (decide (0 < t.val)) := (by decide +kernel : ∀ t : Fin grid0.N, _)
theorem notLast : ∀ t : Fin cfg0.N, Scalar.cmpi CmpIPredicate.slt (BitVec.ofNat 32 (grid0.coords t 0)) 15#32 = BitVec.ofBool (decide (t.val < 15)) := (by decide +kernel : ∀ t : Fin grid0.N, _)
theorem select_ofBool {α : Type} (p : Prop) [Decidable p] (x y : α) : Scalar.select (BitVec.ofBool (decide p)) x y = if p then x else y := by
  by_cases h : p <;> simp [h, Scalar.select]

theorem pay4_at (t : Fin cfg0.N) {o : Vec Ideal S128x256 .f32} {h : Vec Ideal S1x128x256 .f32} {f e : ℕ → ℕ → EReal} (ho : At2 o f) (hh : At3 h fun _ => e) :
    At2 (k0_pay4 (grid0.coords t) o h) fun r q => f r q + if 0 < t.val then e r q else 0 := by
  intro r q
  pointwise [k0_pay4]
  rw [notFirst t, select_ofBool, ho, hh]
theorem pay5_at (t : Fin cfg0.N) {o : Vec Ideal S128x256 .f32} {h : Vec Ideal S1x128x256 .f32} {f e : ℕ → ℕ → EReal} (ho : At2 o f) (hh : At3 h fun _ => e) :
    At2 (k0_pay5 (grid0.coords t) o h) fun r q => f r q + if t.val < 15 then e r q else 0 := by
  intro r q
  pointwise [k0_pay5]
  rw [notLast t, select_ofBool, ho, hh]

/-- A range of rows of an array. -/
theorem rows_at {n k d off : ℕ} (inb : ∀ i, (![off, 0] : Fin 2 → ℕ) i + (![n, k] : Fin 2 → ℕ) i ≤ (⟨2, ![d, k]⟩ : Shape).size i) {v : (⟨2, ![d, k]⟩ : Shape).Idx → EReal} {f : ℕ → ℕ → EReal} (h : At2 v f) :
    At2 (n := n) (k := k) (fun j => v ((Rect.unit (s := (⟨2, ![d, k]⟩ : Shape)) ![off, 0] ![n, k] inb).idx j)) fun r q => f (off + r) q := by
  intro r q
  refine h.idx _ ?_ ?_
  · show off + 1 * r.val = _
    omega
  · show 0 + 1 * q.val = _
    omega

/-- The tile of the key and value gradients with the halos added. -/
theorem dkvTile_at (t : Fin cfg0.N) {x5 : Vec Ideal S512x256 .f32} {x6 x7 : Vec Ideal S1x128x256 .f32} {f e6 e7 : ℕ → ℕ → EReal} (h5 : At2 x5 f) (h6 : At3 x6 fun _ => e6) (h7 : At3 x7 fun _ => e7) :
    At2 (dkvTile (grid0.coords t) x5 x6 x7) fun r q =>
      f r q + if r < 128 then (if 0 < t.val then e6 r q else 0) else if 384 ≤ r then (if t.val < 15 then e7 (r - 384) q else 0) else 0 := by
  intro r q
  have hr := r.isLt
  unfold dkvTile
  by_cases c1 : r.val < 128
  · refine (row_miss _ _ _ r q (by omega)).trans ((row_miss _ _ _ r q (by omega)).trans ((row_hit _ _ _ r q (by omega) (by omega)).trans ?_))
    refine (pay4_at t (rows_at _ h5) h6 _ _).trans ?_
    dsimp only
    rw [if_pos c1, Nat.sub_zero, Nat.zero_add]
  · by_cases c2 : 384 ≤ r.val
    · refine (row_miss _ _ _ r q (by omega)).trans ((row_hit _ _ _ r q (by omega) (by omega)).trans ?_)
      refine (pay5_at t (rows_at _ h5) h7 _ _).trans ?_
      dsimp only
      rw [if_neg c1, if_pos c2, Nat.add_sub_cancel' c2]
    · refine (row_hit _ _ _ r q (by omega) (by omega)).trans ?_
      refine (pay6_at (rows_at _ h5) _ _).trans ?_
      dsimp only
      rw [if_neg c1, if_neg c2, add_zero, Nat.add_sub_cancel' (by omega : 128 ≤ r.val)]

theorem stack_at (q : Vec Ideal S512x1024 .f32) (k : Vec Ideal S256x1024 .f32) (p : Vec Ideal S2048x1024 .f32) (r : Fin 2816) (c : Fin 1024) :
    stack q k p (ix2 r c) = if h : r.1 < 512 then q (ix2 ⟨r.1, h⟩ c) else if h2 : r.1 < 768 then k (ix2 ⟨r.1 - 512, by omega⟩ c) else p (ix2 ⟨r.1 - 768, by omega⟩ c) :=
  stack_apply q k p [] r c

/-- One point's addition to the accumulator, range by range. -/
theorem accNext_at {x : Vec Ideal S512x1024 .f32} {g s b : Vec Ideal S1x1024 .f32} {q : Vec Ideal S512x512 .bf16} {k : Vec Ideal S512x256 .bf16} {p : Vec Ideal S512x2048 .bf16} {o : Vec Ideal S2816x1024 .f32}
    {fh fq fk fp fo : ℕ → ℕ → EReal} (hh : At2 (k0_pay8 x (k0_pay7 x) g s b) fh) (hq : At2 q fq) (hk : At2 k fk) (hp : At2 p fp) (ho : At2 o fo) :
    At2 (accNext x g s b q k p o) fun j c => fo j c + ∑ r : Fin 512, (if j < 512 then fq r j else if j < 768 then fk r (j - 512) else fp r (j - 768)) * fh r c := by
  intro j c
  unfold accNext
  rw [stack_at]
  by_cases c1 : j.val < 512
  · rw [dif_pos c1]
    refine (pay9_at hh (rows_at _ ho) hq _ _).trans ?_
    simp only [if_pos c1, Nat.zero_add]
  · rw [dif_neg c1]
    by_cases c2 : j.val < 768
    · rw [dif_pos c2]
      refine (pay10_at hh (rows_at _ ho) hk _ _).trans ?_
      simp only [if_neg c1, if_pos c2, Nat.add_sub_cancel' (by omega : 512 ≤ j.val)]
    · rw [dif_neg c2]
      refine (pay1_at hh (rows_at _ ho) hp _ _).trans ?_
      simp only [if_neg c1, if_neg c2, Nat.add_sub_cancel' (by omega : 768 ≤ j.val)]

/-! ## The blocks at a point -/

/-- The nine argument arrays hold `a`. -/
structure Holds (a : Args) (A0 : Vec Ideal S8192x1024 .f32) (A1 A2 A3 : Vec Ideal S1x1024 .f32) (A4 : Vec Ideal S8192x512 .bf16) (A5 : Vec Ideal S8192x256 .f32) (A6 A7 : Vec Ideal S16x128x256 .f32) (A8 : Vec Ideal S8192x2048 .bf16) : Prop where
  X : At2 A0 a.X
  g : At2 A1 (fun _ q => a.g q)
  s : At2 A2 (fun _ q => a.s q)
  b : At2 A3 (fun _ q => a.b q)
  Q : At2 A4 a.Q
  K : At2 A5 a.K
  HP : At3 A6 a.HP
  HN : At3 A7 a.HN
  P : At2 A8 a.P

variable (m : (ℓ : Loc nD τ Cert.Kernel3Ideal.sig) → Buf (Elt Ideal) ℓ) (c : Dev nD) {a}

/-- The kernel's arguments hold `a`. -/
abbrev HoldsK (a : Args) : Prop := Holds a (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7)) (m ((c : Thread nD τ).loc main_arg8))

/-- The scale the launch is handed. -/
def scale1 (A2 : Vec Ideal S1x1024 .f32) : Vec Ideal S1x1024 .f32 := addf (F := Ideal) (φ := .f32) (broadcastInDim S1x1024 ![] bcast_S_S1x1024 (constant (F := Ideal) S_ .f32 0x3F800000#32)) A2

theorem V_v1 : (V m c main_v1 : Vec Ideal S1x1024 .f32) = scale1 (m ((c : Thread nD τ).loc main_arg2)) := by
  show StableHlo.after (List.flatten [hostOps0]) (fun b => m (c, b)) (Proc.devRef .tc main_v1) = _
  simp only [hostOps0, List.flatten_cons, List.flatten_nil, List.append_nil, List.cons_append, List.nil_append]
  after_results_simp
  rfl
theorem scale1_at {A2 : Vec Ideal S1x1024 .f32} {f : ℕ → EReal} (h : At2 A2 (fun _ q => f q)) : At2 (scale1 A2) (fun _ q => 1 + f q) := by
  intro r q
  pointwise [scale1, hlo_ix]
  rw [h]

theorem at0 : ∀ t : Fin cfg0.N, win0_0.index t 0 = t.val ∧ win0_0.index t 1 = 0 := (by decide +kernel : ∀ t : Fin grid0.N, _)
theorem at1 : ∀ t : Fin cfg0.N, win0_1.index t 0 = 0 ∧ win0_1.index t 1 = 0 := (by decide +kernel : ∀ t : Fin grid0.N, _)
theorem at2 : ∀ t : Fin cfg0.N, win0_2.index t 0 = 0 ∧ win0_2.index t 1 = 0 := (by decide +kernel : ∀ t : Fin grid0.N, _)
theorem at3 : ∀ t : Fin cfg0.N, win0_3.index t 0 = 0 ∧ win0_3.index t 1 = 0 := (by decide +kernel : ∀ t : Fin grid0.N, _)
theorem at4 : ∀ t : Fin cfg0.N, win0_4.index t 0 = t.val ∧ win0_4.index t 1 = 0 := (by decide +kernel : ∀ t : Fin grid0.N, _)
theorem at5 : ∀ t : Fin cfg0.N, win0_5.index t 0 = t.val ∧ win0_5.index t 1 = 0 := (by decide +kernel : ∀ t : Fin grid0.N, _)
theorem at8 : ∀ t : Fin cfg0.N, win0_8.index t 0 = t.val ∧ win0_8.index t 1 = 0 := (by decide +kernel : ∀ t : Fin grid0.N, _)
theorem at10 : ∀ t : Fin cfg0.N, win0_10.index t 0 = t.val ∧ win0_10.index t 1 = 0 := (by decide +kernel : ∀ t : Fin grid0.N, _)
theorem at6 : ∀ t : Fin cfg0.N, win0_6.index t 0 = t.val - 1 ∧ win0_6.index t 1 = 0 ∧ win0_6.index t 2 = 0 := (by decide +kernel : ∀ t : Fin grid0.N, _)
theorem at7 : ∀ t : Fin cfg0.N, win0_7.index t 0 = min (t.val + 1) 15 ∧ win0_7.index t 1 = 0 ∧ win0_7.index t 2 = 0 := (by decide +kernel : ∀ t : Fin grid0.N, _)

variable (H : HoldsK m c a)

include H in
theorem b0_at (t : Fin cfg0.N) : At2 (iblk m c 0 t : Vec Ideal S512x1024 .f32) (fun r q => a.X (512 * t.val + r) q) := by
  intro r q
  obtain ⟨e0, e1⟩ := at0 t
  blk_simp [iblk]
  rw [V_main_arg0]
  refine H.X.idx _ ?_ ?_
  · blk_simp; omega
  · blk_simp; omega
include H in
theorem b4_at (t : Fin cfg0.N) : At2 (iblk m c 4 t : Vec Ideal S512x512 .bf16) (fun r q => a.Q (512 * t.val + r) q) := by
  intro r q
  obtain ⟨e0, e1⟩ := at4 t
  blk_simp [iblk]
  rw [V_main_arg4]
  refine H.Q.idx _ ?_ ?_
  · blk_simp; omega
  · blk_simp; omega
include H in
theorem b5_at (t : Fin cfg0.N) : At2 (iblk m c 5 t : Vec Ideal S512x256 .f32) (fun r q => a.K (512 * t.val + r) q) := by
  intro r q
  obtain ⟨e0, e1⟩ := at5 t
  blk_simp [iblk]
  rw [V_main_arg5]
  refine H.K.idx _ ?_ ?_
  · blk_simp; omega
  · blk_simp; omega
include H in
theorem b8_at (t : Fin cfg0.N) : At2 (iblk m c 8 t : Vec Ideal S512x2048 .bf16) (fun r q => a.P (512 * t.val + r) q) := by
  intro r q
  obtain ⟨e0, e1⟩ := at8 t
  blk_simp [iblk]
  rw [V_main_arg8]
  refine H.P.idx _ ?_ ?_
  · blk_simp; omega
  · blk_simp; omega
include H in
theorem b1_at (t : Fin cfg0.N) : At2 (iblk m c 1 t : Vec Ideal S1x1024 .f32) (fun _ q => a.g q) := by
  intro r q
  obtain ⟨e0, e1⟩ := at1 t
  blk_simp [iblk]
  rw [V_main_arg1]
  refine H.g.idx _ rfl ?_
  · blk_simp; omega
include H in
theorem b3_at (t : Fin cfg0.N) : At2 (iblk m c 3 t : Vec Ideal S1x1024 .f32) (fun _ q => a.b q) := by
  intro r q
  obtain ⟨e0, e1⟩ := at3 t
  blk_simp [iblk]
  rw [V_main_arg3]
  refine H.b.idx _ rfl ?_
  · blk_simp; omega
include H in
theorem b2_at (t : Fin cfg0.N) : At2 (iblk m c 2 t : Vec Ideal S1x1024 .f32) (fun _ q => 1 + a.s q) := by
  intro r q
  obtain ⟨e0, e1⟩ := at2 t
  blk_simp [iblk]
  rw [V_v1]
  refine (scale1_at H.s).idx _ rfl ?_
  · blk_simp; omega
include H in
theorem b6_at (t : Fin cfg0.N) : At3 (iblk m c 6 t : Vec Ideal S1x128x256 .f32) (fun _ r q => a.HN (t.val - 1) r q) := by
  intro p r q
  obtain ⟨e0, e1, e2⟩ := at6 t
  have hp := p.isLt
  blk_simp [iblk]
  rw [V_main_arg7]
  refine H.HN.idx _ ?_ ?_ ?_
  · blk_simp; omega
  · blk_simp; omega
  · blk_simp; omega
include H in
theorem b7_at (t : Fin cfg0.N) : At3 (iblk m c 7 t : Vec Ideal S1x128x256 .f32) (fun _ r q => a.HP (min (t.val + 1) 15) r q) := by
  intro p r q
  obtain ⟨e0, e1, e2⟩ := at7 t
  have hp := p.isLt
  blk_simp [iblk]
  rw [V_main_arg6]
  refine H.HP.idx _ ?_ ?_ ?_
  · blk_simp; omega
  · blk_simp; omega
  · blk_simp; omega

/-! ## What a point computes -/

include H in
/-- The modulated norm of the tile's rows. -/
theorem h_at (t : Fin cfg0.N) : At2 (k0_pay8 (iblk m c 0 t : Vec Ideal S512x1024 .f32) (k0_pay7 (iblk m c 0 t)) (iblk m c 1 t) (iblk m c 2 t) (iblk m c 3 t)) (fun r q => hE a (512 * t.val + r) q) :=
  pay8_at (b0_at m c H t) (b1_at m c H t) (b2_at m c H t) (b3_at m c H t)

include H in
/-- The tile's key and value gradients. -/
theorem dkvAt_at (t : Fin cfg0.N) : At2 (dkvAt m c t) (fun r q => kE a (512 * t.val + r) q) := by
  refine (dkvTile_at t (b5_at m c H t) (b6_at m c H t) (b7_at m c H t)).congr fun r hr q _ => ?_
  unfold kE haloE
  rw [show (512 * t.val + r) / 512 = t.val by omega, show (512 * t.val + r) % 512 = r by omega]
  by_cases h15 : t.val < 15
  · rw [if_pos h15, if_pos h15, Nat.min_eq_left (by omega)]
  · rw [if_neg h15, if_neg h15]

include H in
/-- The accumulator after `n` points is the weight's gradient over their rows. -/
theorem accAt_at : ∀ (n : ℕ) (h : n ≤ cfg0.N), At2 (accAt m c n h) (dwE a n) := by
  intro n
  induction n with
  | zero => intro h; exact pay3_at.congr fun _ _ _ _ => by simp [dwE]
  | succ n ih =>
    intro h
    refine (accNext_at (h_at m c H ⟨n, h⟩) (b4_at m c H ⟨n, h⟩) (dkvAt_at m c H ⟨n, h⟩) (b8_at m c H ⟨n, h⟩) (ih (Nat.le_of_succ_le h))).congr fun j _ q _ => ?_
    unfold dwE
    rw [Nat.mul_succ, Finset.sum_range_add, Finset.sum_range (n := 512)]
    rfl

/-! ## The arrays after the run -/

include H in
theorem arr10_at : At2 ((dats m 0 c).arrAt 10 cfg0.N : Vec Ideal S8192x256 .bf16) (kE a) := by
  have e : (dats m 0 c).arrAt 10 cfg0.N = (fun y => kE a (y 0).val (y 1).val : Vec Ideal S8192x256 .bf16) := by
    refine (dats m 0 c).arrAt_eq_of_covers 10 _ (by decide +kernel) fun t hf y => ?_
    obtain ⟨e0, e1⟩ := at10 t
    rw [after0_10, outs_dkv m c t]
    blk_simp
    refine ((dkvAt_at m c H t).idx _ rfl rfl).trans ?_
    rw [e0, e1, Nat.zero_mul, Nat.zero_add, Nat.mul_comm]
  intro r q
  rw [e]; rfl

/-- The last point. -/
def lastPt : Fin cfg0.N := ⟨15, lt_of_lt_of_eq (by omega : 15 < 16) N_0.symm⟩

include H in
theorem arr9_at : At2 ((dats m 0 c).arrAt 9 cfg0.N : Vec Ideal S2816x1024 .bf16) (dwE a 16) := by
  have e : (dats m 0 c).arrAt 9 cfg0.N = (fun y => dwE a 16 (y 0).val (y 1).val : Vec Ideal S2816x1024 .bf16) := by
    refine (dats m 0 c).arrAt_eq_of_after_last 9 lastPt (by decide +kernel) _ fun y => ?_
    rw [after0_9, outs_dw m c lastPt rfl]
    exact (pay2_at (accAt_at m c H (lastPt.val + 1) lastPt.isLt)).idx _ rfl rfl
  intro r q
  rw [e]; rfl

end Cert.DwBwd

end
-- ==== Proof.DwRef.lean ====
module

public import proofs.«01_k».proof.Proof.DwVal
public import proofs.«01_k».proof.Proof.Gen.Reference3Ideal

@[expose] public section

set_option maxRecDepth 16384

noncomputable section

namespace Cert.DwBwd

open Idealize.ShloMosaic Idealize.ShloMosaic.Pointwise
open Cert.Reference3Ideal Cert.Reference3Ideal.Gen
open scoped BigOperators

/-! ## The reference's intermediate arrays and what they hold -/

section Defs
variable (A0 : FVec Ideal S8192x1024 .f32) (A1 A2 A3 : FVec Ideal S1x1024 .f32) (A4 : FVec Ideal S8192x512 .bf16) (A5 : FVec Ideal S8192x256 .f32) (A6 A7 : FVec Ideal S16x128x256 .f32) (A8 : FVec Ideal S8192x2048 .bf16)

/-- The halo each chunk gets from the chunk before (none for the first) and from the chunk after (none for the last). -/
def rAfter : FVec Ideal S16x128x256 .f32 :=
  concatenate S16x128x256 0 [⟨S1x128x256, (broadcastInDim S1x128x256 ![] bcast_S_S1x128x256 (constant S_ .f32 0x00000000#32) : FVec Ideal S1x128x256 .f32)⟩, ⟨S15x128x256, (extractStridedSlice S15x128x256 ![0, 0, 0] A7 slices_S16x128x256_S15x128x256_0_0_0 : FVec Ideal S15x128x256 .f32)⟩] concatenates_S1x128x256_S15x128x256_S16x128x256_d0
def rBefore : FVec Ideal S16x128x256 .f32 :=
  concatenate S16x128x256 0 [⟨S15x128x256, (extractStridedSlice S15x128x256 ![1, 0, 0] A6 slices_S16x128x256_S15x128x256_1_0_0 : FVec Ideal S15x128x256 .f32)⟩, ⟨S1x128x256, (broadcastInDim S1x128x256 ![] bcast_S_S1x128x256 (constant S_ .f32 0x00000000#32) : FVec Ideal S1x128x256 .f32)⟩] concatenates_S15x128x256_S1x128x256_S16x128x256_d0
/-- The halos at their rows of each chunk. -/
def rHalo : FVec Ideal S16x512x256 .f32 :=
  concatenate S16x512x256 1 [⟨S16x128x256, rAfter A7⟩, ⟨S16x256x256, (broadcastInDim S16x256x256 ![] bcast_S_S16x256x256 (constant S_ .f32 0x00000000#32) : FVec Ideal S16x256x256 .f32)⟩, ⟨S16x128x256, rBefore A6⟩] concatenates_S16x128x256_S16x256x256_S16x128x256_S16x512x256_d1
def rHaloRows : FVec Ideal S8192x256 .f32 := shapeCast S8192x256 (rHalo A6 A7) shapeCasts_S16x512x256_S8192x256
/-- The key and value gradients. -/
def rDkv : FVec Ideal S8192x256 .f32 := addf A5 (rHaloRows A6 A7)
/-- The projection's gradient, its three pieces side by side. -/
def rDproj : FVec Ideal S8192x2816 .f32 :=
  concatenate S8192x2816 1 [⟨S8192x512, (extf .f32 A4 bitsLt_bf16_f32 : FVec Ideal S8192x512 .f32)⟩, ⟨S8192x256, rDkv A5 A6 A7⟩, ⟨S8192x2048, (extf .f32 A8 bitsLt_bf16_f32 : FVec Ideal S8192x2048 .f32)⟩]
    concatenates_S8192x512_S8192x256_S8192x2048_S8192x2816_d1
/-- The modulated norm. -/
def rMs : FVec Ideal S8192x1 .f32 :=
  addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32))
def rRow (v : FVec Ideal S1x1024 .f32) : FVec Ideal S8192x1024 .f32 := broadcastInDim S8192x1024 ![0, 1] bcast_S1x1024_S8192x1024_0_1 v
def rXn : FVec Ideal S8192x1024 .f32 := mulf A0 (broadcastInDim S8192x1024 ![0, 1] bcast_S8192x1_S8192x1024_0_1 (Host.rsqrt (rMs A0)))
def rS1 : FVec Ideal S1x1024 .f32 := addf (broadcastInDim S1x1024 ![] bcast_S_S1x1024 (constant S_ .f32 0x3F800000#32)) A2
def rH : FVec Ideal S8192x1024 .f32 := addf (mulf (mulf (rXn A0) (rRow A1)) (rRow (rS1 A2))) (rRow A3)
/-- The two results: the weight's gradient, turned to the projection's orientation and back, and the key and value gradients. -/
def rProd : FVec Ideal S2816x1024 .f32 := Host.dotGeneral (F := Ideal) dot_S8192x2816_S8192x1024_S2816x1024_0_0_1_1_n_n none (rDproj A4 A5 A6 A7 A8) (rH A0 A1 A2 A3)
def rDw : FVec Ideal S2816x1024 .bf16 :=
  truncf .bf16 (transpose S2816x1024 [1, 0] (transpose S1024x2816 [1, 0] (rProd A0 A1 A2 A3 A4 A5 A6 A7 A8) transposes_S2816x1024_S1024x2816_1_0) transposes_S1024x2816_S2816x1024_1_0) bitsLt_bf16_f32
def rDkvb : FVec Ideal S8192x256 .bf16 := truncf .bf16 (rDkv A5 A6 A7) bitsLt_bf16_f32
end Defs

variable {a : Args} {A0 : FVec Ideal S8192x1024 .f32} {A1 A2 A3 : FVec Ideal S1x1024 .f32} {A4 : FVec Ideal S8192x512 .bf16} {A5 : FVec Ideal S8192x256 .f32} {A6 A7 : FVec Ideal S16x128x256 .f32} {A8 : FVec Ideal S8192x2048 .bf16}
  (H : Holds a A0 A1 A2 A3 A4 A5 A6 A7 A8)

include H in
theorem rAfter_at : At3 (rAfter A7) (fun t r q => if 0 < t then a.HN (t - 1) r q else 0) := by
  intro t r q
  have ht := t.isLt
  have hN := H.HN
  pointwise [rAfter, hlo_ix]
  simp only [hN _ _ _]
  split_ifs <;> first | rfl | omega
include H in
theorem rBefore_at : At3 (rBefore A6) (fun t r q => if t < 15 then a.HP (t + 1) r q else 0) := by
  intro t r q
  have ht := t.isLt
  have hP := H.HP
  pointwise [rBefore, hlo_ix]
  simp only [hP _ _ _, Nat.add_comm 1]
  split_ifs <;> first | rfl | omega
include H in
theorem rHalo_at : At3 (rHalo A6 A7) (haloE a) := by
  intro t r q
  have hr := r.isLt
  have h1 := rAfter_at H
  have h2 := rBefore_at H
  pointwise [rHalo, hlo_ix]
  simp only [h1 _ _ _, h2 _ _ _]
  unfold haloE
  split_ifs <;> first | rfl | omega
include H in
theorem rHaloRows_at : At2 (rHaloRows A6 A7) (fun r q => haloE a (r / 512) (r % 512) q) := by
  intro r q
  have h := rHalo_at H
  pointwise [rHaloRows, hlo_ix]
  exact h.idx _ rfl rfl rfl
include H in
theorem rDkv_at : At2 (rDkv A5 A6 A7) (kE a) := by
  intro r q
  have h := rHaloRows_at H
  have hK := H.K
  pointwise [rDkv, hlo_ix]
  rw [h, hK]
  rfl
include H in
theorem rDkvb_at : At2 (rDkvb A5 A6 A7) (kE a) := by
  intro r q
  have h := rDkv_at H
  pointwise [rDkvb, hlo_ix]
  exact h _ _
include H in
theorem rDproj_at : At2 (rDproj A4 A5 A6 A7 A8) (projE a) := by
  intro r q
  have hq := q.isLt
  have hQ := H.Q
  have hK := rDkv_at H
  have hP := H.P
  pointwise [rDproj, hlo_ix]
  simp only [hQ _ _, hK _ _, hP _ _]
  unfold projE
  split_ifs <;> first | rfl | omega
include H in
theorem rH_at : At2 (rH A0 A1 A2 A3) (hE a) := by
  intro r q
  have hX := H.X
  have hg := H.g
  have hs := H.s
  have hb := H.b
  pointwise [rH, rXn, rMs, rRow, rS1, hlo_ix]
  simp only [hX _ _, hg _ _, hs _ _, hb _ _]
  rfl
include H in
theorem rProd_at : At2 (rProd A0 A1 A2 A3 A4 A5 A6 A7 A8) (dwE a 16) := by
  intro j q
  have h1 := rDproj_at H
  have h2 := rH_at H
  pointwise [rProd, hlo_ix]
  simp only [h1 _ _, h2 _ _]
  unfold dwE
  exact (Finset.sum_range (n := 8192) fun r => projE a r j * hE a r q).symm
include H in
theorem rDw_at : At2 (rDw A0 A1 A2 A3 A4 A5 A6 A7 A8) (dwE a 16) := by
  intro j q
  have h := rProd_at H
  pointwise [rDw, hlo_ix]
  exact h _ _

end Cert.DwBwd

end
-- ==== Proof.DwAlg.lean ====
module

public import proofs.«01_k».proof.Proof.DwRef
public import proofs.«01_k».proof.Proof.Gen.Reference3Ideal.Run
public import proofs.«01_k».proof.Defs

@[expose] public section

set_option maxRecDepth 16384

noncomputable section

namespace Cert.DwBwd

open Idealize.ShloMosaic Idealize.ShloMosaic.TcCoe Idealize.ShloMosaic.Tactic Idealize.ShloMosaic.Pointwise Idealize.SL.Sem

/-! ## The kernel's run -/

section
open Cert.Kernel3Ideal Cert.Kernel3Ideal.Gen
variable (m : (ℓ : Loc nD τ Cert.Kernel3Ideal.sig) → Buf (Elt Ideal) ℓ)

/-- The kernel ends with its two results at the launch's arrays and the arguments as they were. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v2_0) = (dats m 0 c).arrAt 9 cfg0.N
      ∧ r.2.mem ((c.tc : Thread nD τ).loc main_v2_1) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  θ_run_mono (θ_run_and (run_main m ρ) (unchanged m ρ)) fun r h c => ⟨(h.1 c).1 9, (h.1 c).1 10, h.2 c⟩
end

/-! ## The reference's run -/

section
open Cert.Reference3Ideal Cert.Reference3Ideal.Gen
variable (m : (ℓ : Loc nD τ Cert.Reference3Ideal.sig) → Buf (Elt Ideal) ℓ) (c : Dev nD)
abbrev y0 : FVec Ideal S8192x1024 .f32 := m ((c.tc : Thread nD τ).loc main_arg0)
abbrev y1 : FVec Ideal S1x1024 .f32 := m ((c.tc : Thread nD τ).loc main_arg1)
abbrev y2 : FVec Ideal S1x1024 .f32 := m ((c.tc : Thread nD τ).loc main_arg2)
abbrev y3 : FVec Ideal S1x1024 .f32 := m ((c.tc : Thread nD τ).loc main_arg3)
abbrev y4 : FVec Ideal S8192x512 .bf16 := m ((c.tc : Thread nD τ).loc main_arg4)
abbrev y5 : FVec Ideal S8192x256 .f32 := m ((c.tc : Thread nD τ).loc main_arg5)
abbrev y6 : FVec Ideal S16x128x256 .f32 := m ((c.tc : Thread nD τ).loc main_arg6)
abbrev y7 : FVec Ideal S16x128x256 .f32 := m ((c.tc : Thread nD τ).loc main_arg7)
abbrev y8 : FVec Ideal S8192x2048 .bf16 := m ((c.tc : Thread nD τ).loc main_arg8)

/-- The reference ends with each result at its named array of the arguments, and the arguments as they were. -/
theorem ref_run (ρ : Dev nD → PrngReg) :
    θ_run defs (onTc (τ := τ) (main (F := Ideal))) ⟨m, fun _ => 0, ρ⟩ fun r => ∀ c : Dev nD,
      r.2.mem ((c.tc : Thread nD τ).loc main_v36) = rDw (y0 m c) (y1 m c) (y2 m c) (y3 m c) (y4 m c) (y5 m c) (y6 m c) (y7 m c) (y8 m c)
      ∧ r.2.mem ((c.tc : Thread nD τ).loc main_v37) = rDkvb (y5 m c) (y6 m c) (y7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => h c) (Cert.Reference3Ideal.Value.run m ρ)
end

/-- Every array holds what its coordinates give. -/
def nat2 {n k : ℕ} (v : (⟨2, ![n, k]⟩ : Shape).Idx → EReal) (r q : ℕ) : EReal := if h : r < n ∧ q < k then v (ix2 ⟨r, h.1⟩ ⟨q, h.2⟩) else 0
def nat3 {n k l : ℕ} (v : (⟨3, ![n, k, l]⟩ : Shape).Idx → EReal) (p r q : ℕ) : EReal := if h : p < n ∧ r < k ∧ q < l then v (ix3 ⟨p, h.1⟩ ⟨r, h.2.1⟩ ⟨q, h.2.2⟩) else 0
theorem nat2_at {n k : ℕ} (v : (⟨2, ![n, k]⟩ : Shape).Idx → EReal) : At2 v (nat2 v) := by
  intro r q
  unfold nat2
  rw [dif_pos ⟨r.isLt, q.isLt⟩]
theorem nat3_at {n k l : ℕ} (v : (⟨3, ![n, k, l]⟩ : Shape).Idx → EReal) : At3 v (nat3 v) := by
  intro p r q
  unfold nat3
  rw [dif_pos ⟨p.isLt, r.isLt, q.isLt⟩]
theorem row_at {k : ℕ} (v : (⟨2, ![1, k]⟩ : Shape).Idx → EReal) : At2 v (fun _ q => nat2 v 0 q) := by
  intro r q
  have hr : r = 0 := Subsingleton.elim _ _
  subst hr
  exact nat2_at v 0 q

theorem holds_any (A0 : Vec Ideal Cert.Kernel3Ideal.S8192x1024 .f32) (A1 A2 A3 : Vec Ideal Cert.Kernel3Ideal.S1x1024 .f32) (A4 : Vec Ideal Cert.Kernel3Ideal.S8192x512 .bf16) (A5 : Vec Ideal Cert.Kernel3Ideal.S8192x256 .f32)
    (A6 A7 : Vec Ideal Cert.Kernel3Ideal.S16x128x256 .f32) (A8 : Vec Ideal Cert.Kernel3Ideal.S8192x2048 .bf16) : ∃ a : Args, Holds a A0 A1 A2 A3 A4 A5 A6 A7 A8 :=
  ⟨⟨nat2 A0, nat2 A4, nat2 A5, nat2 A8, nat3 A6, nat3 A7, nat2 (n := 1) (k := 1024) A1 0, nat2 (n := 1) (k := 1024) A2 0, nat2 (n := 1) (k := 1024) A3 0⟩,
    nat2_at A0, row_at A1, row_at A2, row_at A3, nat2_at A4, nat2_at A5, nat3_at A6, nat3_at A7, nat2_at A8⟩

/-- On any arguments the kernel and the reference end with the same two arrays, as extended reals. -/
theorem algebraic : Cert.algebraic_Kernel3Ideal_Reference3Ideal := by
  intro m g m' g' _ hagree
  refine ⟨fun c => rDw (y0 m' c) (y1 m' c) (y2 m' c) (y3 m' c) (y4 m' c) (y5 m' c) (y6 m' c) (y7 m' c) (y8 m' c), fun c => rDkvb (y5 m' c) (y6 m' c) (y7 m' c), θ_run_mono (kernel_run m g) fun r h c => ?_, ref_run m' g'⟩
  obtain ⟨a, H⟩ : ∃ a : Args, HoldsK m c a := holds_any _ _ _ _ _ _ _ _ _
  obtain ⟨e0, e1, e2, e3, e4, e5, e6, e7, e8⟩ := hagree c
  have HR : Holds a (y0 m' c) (y1 m' c) (y2 m' c) (y3 m' c) (y4 m' c) (y5 m' c) (y6 m' c) (y7 m' c) (y8 m' c) :=
    ⟨fun r q => (congrFun e0 _).trans (H.X r q), fun r q => (congrFun e1 _).trans (H.g r q), fun r q => (congrFun e2 _).trans (H.s r q), fun r q => (congrFun e3 _).trans (H.b r q), fun r q => (congrFun e4 _).trans (H.Q r q),
      fun r q => (congrFun e5 _).trans (H.K r q), fun p r q => (congrFun e6 _).trans (H.HP p r q), fun p r q => (congrFun e7 _).trans (H.HN p r q), fun r q => (congrFun e8 _).trans (H.P r q)⟩
  obtain ⟨h0, h1, hargs⟩ := h c
  refine ⟨h0.trans ?_, h1.trans ?_, hargs⟩
  · exact (arr9_at m c H).ext (rDw_at HR)
  · exact (arr10_at m c H).ext (rDkvb_at HR)

end Cert.DwBwd

end
-- ==== Proof.LnFwd.lean ====
module

public import proofs.«01_k».proof.Proof.DwAlg
public import proofs.«01_k».proof.Proof.Gen.Kernel4Ideal.Frame
public import proofs.«01_k».proof.Proof.Gen.Reference4Ideal.Run

@[expose] public section

set_option maxRecDepth 16384

noncomputable section

namespace Cert.LnFwd

open Idealize.ShloMosaic Idealize.ShloMosaic.Tactic Idealize.ShloMosaic.TcCoe Idealize.ShloMosaic.Pointwise Idealize.ShloMosaic.VecWindow Idealize.SL.Sem
open Cert.DwBwd (At2 nat2 nat2_at row_at rows_at origin)
open scoped BigOperators

/-! ## The computation, coordinate by coordinate

The kernel and the reference add the same products in the same order, so nothing needs to be finite. -/

/-- The arguments: layer input, gain, scale, shift and the projection's weights. -/
structure Args where
  X : ℕ → ℕ → EReal
  g : ℕ → EReal
  s : ℕ → EReal
  b : ℕ → EReal
  W : ℕ → ℕ → EReal

/-- The argument arrays hold `a`. -/
structure Holds (a : Args) (A0 : Vec Ideal Cert.Kernel4Ideal.S8192x1024 .f32) (A1 A2 A3 : Vec Ideal Cert.Kernel4Ideal.S1x1024 .f32) (A4 : Vec Ideal Cert.Kernel4Ideal.S1024x2816 .f32) : Prop where
  X : At2 A0 a.X
  g : At2 A1 (fun _ q => a.g q)
  s : At2 A2 (fun _ q => a.s q)
  b : At2 A3 (fun _ q => a.b q)
  W : At2 A4 a.W

/-- The modulated norm of a row `x`, by gain `g`, factor `s` and shift `b`. -/
def normE (x g s b : ℕ → EReal) (q : ℕ) : EReal :=
  x q * Ideal.rsqrt (Ideal.div (∑ k : Fin 1024, x k * x k) (Ideal.ofBits .f32 0x44800000#32) + Ideal.ofBits .f32 0x358637BD#32) * g q * s q + b q
/-- The projection. -/
def projE (a : Args) (r j : ℕ) : EReal := ∑ q : Fin 1024, normE (a.X r) a.g (fun k => 1 + a.s k) a.b q * a.W q j

theorem holds_any (A0 : Vec Ideal Cert.Kernel4Ideal.S8192x1024 .f32) (A1 A2 A3 : Vec Ideal Cert.Kernel4Ideal.S1x1024 .f32) (A4 : Vec Ideal Cert.Kernel4Ideal.S1024x2816 .f32) : ∃ a : Args, Holds a A0 A1 A2 A3 A4 :=
  ⟨⟨nat2 A0, nat2 (n := 1) (k := 1024) A1 0, nat2 (n := 1) (k := 1024) A2 0, nat2 (n := 1) (k := 1024) A3 0, nat2 A4⟩, nat2_at A0, row_at A1, row_at A2, row_at A3, nat2_at A4⟩

/-! ## The kernel's two results -/

section Kernel
open Cert.Kernel4Ideal Cert.Kernel4Ideal.Gen

section
variable {x : Vec Ideal S512x1024 .f32} {g s b : Vec Ideal S1x1024 .f32} {fx : ℕ → ℕ → EReal} {fg fs fb : ℕ → EReal}

theorem pay1_at (hx : At2 x fx) (hg : At2 g fun _ q => fg q) (hs : At2 s fun _ q => fs q) (hb : At2 b fun _ q => fb q) :
    At2 (k0_pay1 x g s b) fun r q => normE (fx r) fg fs fb q := by
  intro r q
  pointwise [k0_pay1]
  simp only [hx _ _, hg _ _, hs _ _, hb _ _]
  rfl
theorem pay2_at {w : Vec Ideal S768x1024 .bf16} {fh fw : ℕ → ℕ → EReal} (hh : At2 (k0_pay1 x g s b) fh) (hw : At2 w fw) :
    At2 (k0_pay2 x g s b w) fun r j => ∑ q : Fin 1024, fh r q * fw j q := by
  intro r j
  pointwise [k0_pay2]
  simp only [hh _ _, hw _ _]
theorem pay3_at {w : Vec Ideal S2048x1024 .bf16} {fh fw : ℕ → ℕ → EReal} (hh : At2 (k0_pay1 x g s b) fh) (hw : At2 w fw) :
    At2 (k0_pay3 x g s b w) fun r j => ∑ q : Fin 1024, fh r q * fw j q := by
  intro r j
  pointwise [k0_pay3]
  simp only [hh _ _, hw _ _]

/-- One run of the body leaves the projection of its tile: the columns of q, k and v in one output, the others in the other. -/
theorem out5_at {w : Vec Ideal S2816x1024 .bf16} {fw : ℕ → ℕ → EReal} (hx : At2 x fx) (hg : At2 g fun _ q => fg q) (hs : At2 s fun _ q => fs q) (hb : At2 b fun _ q => fb q) (hw : At2 w fw) :
    At2 (out0_5 x g s b w) fun r j => ∑ q : Fin 1024, normE (fx r) fg fs fb q * fw j q := by
  unfold out0_5
  rw [View.canon_unit_zero origin, View.ld_unit_zero origin, View.ld_unit_zero origin, View.ld_unit_zero origin, View.ld_unit_zero origin]
  refine (pay2_at (pay1_at hx hg hs hb) (rows_at (n := 768) (off := 0) _ hw)).congr fun r _ j _ => ?_
  simp only [Nat.zero_add]
theorem out6_at {w : Vec Ideal S2816x1024 .bf16} {fw : ℕ → ℕ → EReal} (hx : At2 x fx) (hg : At2 g fun _ q => fg q) (hs : At2 s fun _ q => fs q) (hb : At2 b fun _ q => fb q) (hw : At2 w fw) :
    At2 (out0_6 x g s b w) fun r j => ∑ q : Fin 1024, normE (fx r) fg fs fb q * fw (768 + j) q := by
  unfold out0_6
  rw [View.canon_unit_zero origin, View.ld_unit_zero origin, View.ld_unit_zero origin, View.ld_unit_zero origin, View.ld_unit_zero origin]
  exact pay3_at (pay1_at hx hg hs hb) (rows_at (n := 2048) (off := 768) _ hw)
end

variable (m : (ℓ : Loc nD τ Cert.Kernel4Ideal.sig) → Buf (Elt Ideal) ℓ) (c : Dev nD) {a : Args}

/-- The kernel's arguments hold `a`. -/
abbrev HoldsK (a : Args) : Prop := Holds a (m ((c : Thread nD τ).loc main_arg0)) (m ((c : Thread nD τ).loc main_arg1)) (m ((c : Thread nD τ).loc main_arg2)) (m ((c : Thread nD τ).loc main_arg3)) (m ((c : Thread nD τ).loc main_arg4))

/-- The factor and the transposed weights the launch is handed. -/
def factor (A2 : Vec Ideal S1x1024 .f32) : Vec Ideal S1x1024 .f32 := addf (F := Ideal) (φ := .f32) (broadcastInDim S1x1024 ![] bcast_S_S1x1024 (constant (F := Ideal) S_ .f32 0x3F800000#32)) A2
def turned (A4 : Vec Ideal S1024x2816 .f32) : Vec Ideal S2816x1024 .f32 := transpose S2816x1024 [1, 0] A4 transposes_S1024x2816_S2816x1024_1_0

theorem V_v1 : (V m c main_v1 : Vec Ideal S1x1024 .f32) = factor (m ((c : Thread nD τ).loc main_arg2)) := by
  show StableHlo.after (List.flatten [hostOps0]) (fun b => m (c, b)) (Proc.devRef .tc main_v1) = _
  simp only [hostOps0, List.flatten_cons, List.flatten_nil, List.append_nil, List.cons_append, List.nil_append]
  after_results_simp
  rfl
theorem V_v3 : (V m c main_v3 : Vec Ideal S2816x1024 .bf16) = fun y => turned (m ((c : Thread nD τ).loc main_arg4)) y := by
  show StableHlo.after (List.flatten [hostOps0]) (fun b => m (c, b)) (Proc.devRef .tc main_v3) = _
  simp only [hostOps0, List.flatten_cons, List.flatten_nil, List.append_nil, List.cons_append, List.nil_append]
  after_results_simp
  rfl
theorem factor_at {A2 : Vec Ideal S1x1024 .f32} {f : ℕ → EReal} (h : At2 A2 (fun _ q => f q)) : At2 (factor A2) (fun _ q => 1 + f q) := by
  intro r q
  pointwise [factor, hlo_ix]
  rw [h]
theorem turned_at {A4 : Vec Ideal S1024x2816 .f32} {f : ℕ → ℕ → EReal} (h : At2 A4 f) : At2 (turned A4) (fun j q => f q j) := by
  intro r q
  pointwise [turned]
  exact h _ _

theorem at0 : ∀ t : Fin cfg0.N, win0_0.index t 0 = t.val ∧ win0_0.index t 1 = 0 := (by decide +kernel : ∀ t : Fin grid0.N, _)
theorem at1 : ∀ t : Fin cfg0.N, win0_1.index t 0 = 0 ∧ win0_1.index t 1 = 0 := (by decide +kernel : ∀ t : Fin grid0.N, _)
theorem at2 : ∀ t : Fin cfg0.N, win0_2.index t 0 = 0 ∧ win0_2.index t 1 = 0 := (by decide +kernel : ∀ t : Fin grid0.N, _)
theorem at3 : ∀ t : Fin cfg0.N, win0_3.index t 0 = 0 ∧ win0_3.index t 1 = 0 := (by decide +kernel : ∀ t : Fin grid0.N, _)
theorem at4 : ∀ t : Fin cfg0.N, win0_4.index t 0 = 0 ∧ win0_4.index t 1 = 0 := (by decide +kernel : ∀ t : Fin grid0.N, _)
theorem at5 : ∀ t : Fin cfg0.N, win0_5.index t 0 = t.val ∧ win0_5.index t 1 = 0 := (by decide +kernel : ∀ t : Fin grid0.N, _)
theorem at6 : ∀ t : Fin cfg0.N, win0_6.index t 0 = t.val ∧ win0_6.index t 1 = 0 := (by decide +kernel : ∀ t : Fin grid0.N, _)

variable (H : HoldsK m c a)

include H in
theorem b0_at (t : Fin cfg0.N) : At2 (iblk m c 0 t : Vec Ideal S512x1024 .f32) (fun r q => a.X (512 * t.val + r) q) := by
  intro r q
  obtain ⟨e0, e1⟩ := at0 t
  blk_simp [iblk]
  rw [V_main_arg0]
  refine H.X.idx _ ?_ ?_
  · blk_simp; omega
  · blk_simp; omega
include H in
theorem b1_at (t : Fin cfg0.N) : At2 (iblk m c 1 t : Vec Ideal S1x1024 .f32) (fun _ q => a.g q) := by
  intro r q
  obtain ⟨e0, e1⟩ := at1 t
  blk_simp [iblk]
  rw [V_main_arg1]
  refine H.g.idx _ rfl ?_
  · blk_simp; omega
include H in
theorem b2_at (t : Fin cfg0.N) : At2 (iblk m c 2 t : Vec Ideal S1x1024 .f32) (fun _ q => 1 + a.s q) := by
  intro r q
  obtain ⟨e0, e1⟩ := at2 t
  blk_simp [iblk]
  rw [V_v1]
  refine (factor_at H.s).idx _ rfl ?_
  · blk_simp; omega
include H in
theorem b3_at (t : Fin cfg0.N) : At2 (iblk m c 3 t : Vec Ideal S1x1024 .f32) (fun _ q => a.b q) := by
  intro r q
  obtain ⟨e0, e1⟩ := at3 t
  blk_simp [iblk]
  rw [V_main_arg3]
  refine H.b.idx _ rfl ?_
  · blk_simp; omega
include H in
theorem b4_at (t : Fin cfg0.N) : At2 (iblk m c 4 t : Vec Ideal S2816x1024 .bf16) (fun j q => a.W q j) := by
  intro r q
  obtain ⟨e0, e1⟩ := at4 t
  blk_simp [iblk]
  rw [V_v3]
  refine (turned_at H.W).idx _ ?_ ?_
  · blk_simp; omega
  · blk_simp; omega

/-- After the run the two outputs hold the projection's columns. -/
theorem arr5_at (H : HoldsK m c a) : At2 ((dats m 0 c).arrAt 5 cfg0.N : Vec Ideal S8192x768 .f32) (projE a) := by
  have e : (dats m 0 c).arrAt 5 cfg0.N = (fun y => projE a (y 0).val (y 1).val : Vec Ideal S8192x768 .f32) := by
    refine (dats m 0 c).arrAt_eq_of_covers 5 _ (by decide +kernel) fun t hf y => ?_
    obtain ⟨e0, e1⟩ := at5 t
    rw [after0_5]
    blk_simp
    refine ((out5_at (b0_at m c H t) (b1_at m c H t) (b2_at m c H t) (b3_at m c H t) (b4_at m c H t)).idx _ rfl rfl).trans ?_
    rw [e0, e1, Nat.zero_mul, Nat.zero_add, Nat.mul_comm]
    rfl
  intro r q
  rw [e]; rfl
theorem arr6_at (H : HoldsK m c a) : At2 ((dats m 0 c).arrAt 6 cfg0.N : Vec Ideal S8192x2048 .f32) (fun r j => projE a r (768 + j)) := by
  have e : (dats m 0 c).arrAt 6 cfg0.N = (fun y => projE a (y 0).val (768 + (y 1).val) : Vec Ideal S8192x2048 .f32) := by
    refine (dats m 0 c).arrAt_eq_of_covers 6 _ (by decide +kernel) fun t hf y => ?_
    obtain ⟨e0, e1⟩ := at6 t
    rw [after0_6]
    blk_simp
    refine ((out6_at (b0_at m c H t) (b1_at m c H t) (b2_at m c H t) (b3_at m c H t) (b4_at m c H t)).idx _ rfl rfl).trans ?_
    rw [e0, e1, Nat.zero_mul, Nat.zero_add, Nat.mul_comm]
    rfl
  intro r q
  rw [e]; rfl

/-- The kernel ends with its two results at the launch's arrays and the arguments as they were. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v4_0) = (dats m 0 c).arrAt 5 cfg0.N
      ∧ r.2.mem ((c.tc : Thread nD τ).loc main_v4_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (θ_run_and (run_main m ρ) (unchanged m ρ)) fun r h c => ⟨(h.1 c).1 5, (h.1 c).1 6, h.2 c⟩
end Kernel

/-! ## The reference's two results -/

section Reference
open Cert.Reference4Ideal Cert.Reference4Ideal.Gen

section
variable (A0 : FVec Ideal S8192x1024 .f32) (A1 A2 A3 : FVec Ideal S1x1024 .f32) (A4 : FVec Ideal S1024x2816 .f32)

/-- A row's mean square with the small constant added, and the modulated norm. -/
def rMs : FVec Ideal S8192x1 .f32 :=
  addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32))
def rRow (v : FVec Ideal S1x1024 .f32) : FVec Ideal S8192x1024 .f32 := broadcastInDim S8192x1024 ![0, 1] bcast_S1x1024_S8192x1024_0_1 v
def rH : FVec Ideal S8192x1024 .f32 :=
  addf (mulf (mulf (mulf A0 (broadcastInDim S8192x1024 ![0, 1] bcast_S8192x1_S8192x1024_0_1 (Host.rsqrt (rMs A0)))) (rRow A1)) (rRow (addf (broadcastInDim S1x1024 ![] bcast_S_S1x1024 (constant S_ .f32 0x3F800000#32)) A2))) (rRow A3)
/-- The projection, and its two ranges of columns. -/
def rProj : FVec Ideal S8192x2816 .f32 := Host.dotGeneral (F := Ideal) dot_S8192x1024_S1024x2816_S8192x2816_1_0_0_1_n_n none (rH A0 A1 A2 A3) A4
def rPa : FVec Ideal S8192x768 .f32 := extractStridedSlice S8192x768 ![0, 0] (rProj A0 A1 A2 A3 A4) slices_S8192x2816_S8192x768_0_0
def rPb : FVec Ideal S8192x2048 .f32 := extractStridedSlice S8192x2048 ![0, 768] (rProj A0 A1 A2 A3 A4) slices_S8192x2816_S8192x2048_0_768
end

variable {a : Args} {A0 : FVec Ideal S8192x1024 .f32} {A1 A2 A3 : FVec Ideal S1x1024 .f32} {A4 : FVec Ideal S1024x2816 .f32} (H : Holds a A0 A1 A2 A3 A4)

include H in
theorem rH_at : At2 (rH A0 A1 A2 A3) (fun r q => normE (a.X r) a.g (fun k => 1 + a.s k) a.b q) := by
  intro r q
  have hX := H.X
  have hg := H.g
  have hs := H.s
  have hb := H.b
  pointwise [rH, rMs, rRow, hlo_ix]
  simp only [hX _ _, hg _ _, hs _ _, hb _ _]
  rfl
include H in
theorem rProj_at : At2 (rProj A0 A1 A2 A3 A4) (projE a) := by
  intro r j
  have h1 := rH_at H
  have h2 := H.W
  pointwise [rProj, hlo_ix]
  simp only [h1 _ _, h2 _ _]
  rfl
include H in
theorem rPa_at : At2 (rPa A0 A1 A2 A3 A4) (projE a) := by
  intro r j
  have h := rProj_at H
  pointwise [rPa, hlo_ix]
  refine h.idx _ ?_ ?_ <;> simp
include H in
theorem rPb_at : At2 (rPb A0 A1 A2 A3 A4) (fun r j => projE a r (768 + j)) := by
  intro r j
  have h := rProj_at H
  pointwise [rPb, hlo_ix]
  refine h.idx _ ?_ ?_ <;> simp

variable (m : (ℓ : Loc nD τ Cert.Reference4Ideal.sig) → Buf (Elt Ideal) ℓ) (c : Dev nD)
abbrev y0 : FVec Ideal S8192x1024 .f32 := m ((c.tc : Thread nD τ).loc main_arg0)
abbrev y1 : FVec Ideal S1x1024 .f32 := m ((c.tc : Thread nD τ).loc main_arg1)
abbrev y2 : FVec Ideal S1x1024 .f32 := m ((c.tc : Thread nD τ).loc main_arg2)
abbrev y3 : FVec Ideal S1x1024 .f32 := m ((c.tc : Thread nD τ).loc main_arg3)
abbrev y4 : FVec Ideal S1024x2816 .f32 := m ((c.tc : Thread nD τ).loc main_arg4)

/-- The reference ends with each result at its named array of the arguments, and the arguments as they were. -/
theorem ref_run (ρ : Dev nD → PrngReg) :
    θ_run defs (onTc (τ := τ) (main (F := Ideal))) ⟨m, fun _ => 0, ρ⟩ fun r => ∀ c : Dev nD,
      r.2.mem ((c.tc : Thread nD τ).loc main_v19) = rPa (y0 m c) (y1 m c) (y2 m c) (y3 m c) (y4 m c)
      ∧ r.2.mem ((c.tc : Thread nD τ).loc main_v20) = rPb (y0 m c) (y1 m c) (y2 m c) (y3 m c) (y4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => h c) (Cert.Reference4Ideal.Value.run m ρ)
end Reference

/-- On any arguments the kernel and the reference end with the same two arrays, as extended reals. -/
theorem algebraic : Cert.algebraic_Kernel4Ideal_Reference4Ideal := by
  intro m g m' g' _ hagree
  refine ⟨fun c => rPa (y0 m' c) (y1 m' c) (y2 m' c) (y3 m' c) (y4 m' c), fun c => rPb (y0 m' c) (y1 m' c) (y2 m' c) (y3 m' c) (y4 m' c), θ_run_mono (kernel_run m g) fun r h c => ?_, ref_run m' g'⟩
  obtain ⟨a, H⟩ : ∃ a : Args, HoldsK m c a := holds_any _ _ _ _ _
  obtain ⟨e0, e1, e2, e3, e4⟩ := hagree c
  have HR : Holds a (y0 m' c) (y1 m' c) (y2 m' c) (y3 m' c) (y4 m' c) :=
    ⟨fun r q => (congrFun e0 _).trans (H.X r q), fun r q => (congrFun e1 _).trans (H.g r q), fun r q => (congrFun e2 _).trans (H.s r q), fun r q => (congrFun e3 _).trans (H.b r q), fun r q => (congrFun e4 _).trans (H.W r q)⟩
  obtain ⟨h0, h1, hargs⟩ := h c
  refine ⟨h0.trans ?_, h1.trans ?_, hargs⟩
  · exact (arr5_at m c H).ext (rPa_at HR)
  · exact (arr6_at m c H).ext (rPb_at HR)

end Cert.LnFwd

end
-- ==== Proof.Adam.lean ====
module

public import proofs.«01_k».proof.Proof.DwAlg

@[expose] public section

noncomputable section

namespace Cert.Adam

open Idealize.ShloMosaic Idealize.ShloMosaic.Tactic Idealize.ShloMosaic.Pointwise Idealize.ShloMosaic.VecWindow
open Cert.DwBwd (At2 At3)
open scoped BigOperators

/-! ## AdamW at one place -/

/-- The first moment after the step, from the gradient `g` and the moment `m` before. -/
def mE (g m : EReal) : EReal := Ideal.ofBits .f32 0x3F666666#32 * m + Ideal.ofBits .f32 0x3DCCCCCD#32 * g
/-- The second moment after the step, from the gradient `g` and the moment `v` before. -/
def vE (g v : EReal) : EReal := Ideal.ofBits .f32 0x3F7FBE77#32 * v + Ideal.ofBits .f32 0x3A83126F#32 * (g * g)
/-- What is added to a weight `w`, from the moments `m` and `v` after the step. -/
def stepE (w m v : EReal) : EReal :=
  Ideal.ofBits .f32 0xBA83126F#32 * (Ideal.div (Ideal.div m (Ideal.ofBits .f32 0x3F26BD02#32)) (Ideal.sqrt (Ideal.div v (Ideal.ofBits .f32 0x3C231ACC#32)) + Ideal.ofBits .f32 0x322BCC77#32) + Ideal.ofBits .f32 0x3C23D70A#32 * w)

/-- Eight terms added one after the other are their sum. -/
theorem eight (f : ℕ → EReal) : f 0 + f 1 + f 2 + f 3 + f 4 + f 5 + f 6 + f 7 = ∑ d : Fin 8, f d := by
  rw [Fin.sum_univ_eight]
  rfl

/-! ## One layer of a stack -/

section
variable {d n k p : ℕ}

/-- The layer read at `p`. -/
theorem layer_at (inb : ∀ a, (![p, 0, 0] : Fin 3 → ℕ) a + (![1, n, k] : Fin 3 → ℕ) a ≤ (⟨3, ![d, n, k]⟩ : Shape).size a) {v : (⟨3, ![d, n, k]⟩ : Shape).Idx → EReal} {f : ℕ → ℕ → ℕ → EReal} (h : At3 v f) :
    At3 (n := 1) (k := n) (l := k) (fun j => v ((Rect.unit (s := (⟨3, ![d, n, k]⟩ : Shape)) ![p, 0, 0] ![1, n, k] inb).idx j)) fun _ r q => f p r q := by
  intro z r q
  refine h.idx _ ?_ ?_ ?_
  · show p + 1 * z.val = _
    omega
  · show 0 + 1 * r.val = _
    omega
  · show 0 + 1 * q.val = _
    omega

variable {Val : EltTy → Type} [∀ e, Nonempty (Val e)] {e : EltTy}

/-- A place in the layer written last holds what was written. -/
theorem layer_hit (inb : ∀ a, (![p, 0, 0] : Fin 3 → ℕ) a + (![1, n, k] : Fin 3 → ℕ) a ≤ (⟨3, ![d, n, k]⟩ : Shape).size a) (w : (⟨3, ![1, n, k]⟩ : Shape).Idx → Val e)
    (L : List (View.Piece Val (⟨3, ![d, n, k]⟩ : Shape) e)) (z : Fin d) (r : Fin n) (q : Fin k) (h : z.val = p) :
    View.canon ((⟨Rect.unit ![p, 0, 0] ![1, n, k] inb, w⟩ : View.Piece Val (⟨3, ![d, n, k]⟩ : Shape) e) :: L) (ix3 z r q) = w (ix3 0 r q) := by
  have e : (Rect.unit (s := (⟨3, ![d, n, k]⟩ : Shape)) ![p, 0, 0] ![1, n, k] inb).emb (ix3 (n0 := 1) (n1 := n) (n2 := k) 0 r q) = (ix3 z r q : (⟨3, ![d, n, k]⟩ : Shape).Idx) := by
    refine Rect.emb_eq_of_coords _ _ _ fun a => ?_
    fin_cases a
    · show z.val = p + 1 * 0
      omega
    · show r.val = 0 + 1 * r.val
      omega
    · show q.val = 0 + 1 * q.val
      omega
  rw [← e]
  exact View.canon_cons_emb (Rect.unit (s := (⟨3, ![d, n, k]⟩ : Shape)) ![p, 0, 0] ![1, n, k] inb) w L _

/-- A place in another layer holds what was there before. -/
theorem layer_miss (inb : ∀ a, (![p, 0, 0] : Fin 3 → ℕ) a + (![1, n, k] : Fin 3 → ℕ) a ≤ (⟨3, ![d, n, k]⟩ : Shape).size a) (w : (⟨3, ![1, n, k]⟩ : Shape).Idx → Val e)
    (L : List (View.Piece Val (⟨3, ![d, n, k]⟩ : Shape) e)) (z : Fin d) (r : Fin n) (q : Fin k) (h : z.val ≠ p) :
    View.canon ((⟨Rect.unit ![p, 0, 0] ![1, n, k] inb, w⟩ : View.Piece Val (⟨3, ![d, n, k]⟩ : Shape) e) :: L) (ix3 z r q) = View.canon L (ix3 z r q) := by
  refine View.canon_cons_of_not_mem _ L fun hm => ?_
  have h2 : ix3 z r q ∈ (Rect.unit (s := (⟨3, ![d, n, k]⟩ : Shape)) ![p, 0, 0] ![1, n, k] inb).set := hm
  have h3 := (Rect.mem_set_unit.1 h2) 0
  have h4 : p ≤ z.val ∧ z.val < p + 1 := h3
  omega
end

/-- Two layers written one after the other fill a stack of two. -/
theorem layers_at {n k : ℕ} (i0 : ∀ a, (![0, 0, 0] : Fin 3 → ℕ) a + (![1, n, k] : Fin 3 → ℕ) a ≤ (⟨3, ![2, n, k]⟩ : Shape).size a) (i1 : ∀ a, (![1, 0, 0] : Fin 3 → ℕ) a + (![1, n, k] : Fin 3 → ℕ) a ≤ (⟨3, ![2, n, k]⟩ : Shape).size a)
    {w0 w1 : (⟨3, ![1, n, k]⟩ : Shape).Idx → Elt Ideal .f32} {f : ℕ → ℕ → ℕ → EReal} (h0 : At3 w0 fun _ r q => f 0 r q) (h1 : At3 w1 fun _ r q => f 1 r q) :
    At3 (View.canon (Val := Elt Ideal) (e := .f32) [(⟨Rect.unit ![1, 0, 0] ![1, n, k] i1, w1⟩ : View.Piece (Elt Ideal) (⟨3, ![2, n, k]⟩ : Shape) .f32), ⟨Rect.unit ![0, 0, 0] ![1, n, k] i0, w0⟩]) f := by
  intro z r q
  by_cases hz : z.val = 1
  · rw [layer_hit (Val := Elt Ideal) (e := .f32) i1 w1 _ z r q hz, hz]
    exact h1 0 r q
  · have hz0 : z.val = 0 := by omega
    rw [layer_miss (Val := Elt Ideal) (e := .f32) i1 w1 _ z r q hz, layer_hit (Val := Elt Ideal) (e := .f32) i0 w0 _ z r q hz0, hz0]
    exact h0 0 r q

end Cert.Adam

end
-- ==== Proof.AdaUpd.lean ====
module

public import proofs.«01_k».proof.Proof.Adam
public import proofs.«01_k».proof.Proof.Gen.Kernel5Ideal.Frame
public import proofs.«01_k».proof.Proof.Gen.Reference5Ideal.Run

@[expose] public section

set_option maxRecDepth 16384

noncomputable section

namespace Cert.AdaUpd

open Idealize.ShloMosaic Idealize.ShloMosaic.Tactic Idealize.ShloMosaic.TcCoe Idealize.ShloMosaic.Pointwise Idealize.ShloMosaic.VecWindow Idealize.SL.Sem
open Cert.DwBwd (At2 At3 nat2 nat3 nat2_at nat3_at origin)
open Cert.Adam (mE vE stepE layer_at layers_at)
open scoped BigOperators

/-! ## The computation, coordinate by coordinate

The kernel and the reference add the same eight products, with the factors in another order; nothing needs to be finite. -/

/-- The arguments: the conditioning, the gradient of its projection's columns, then the weight and its two moments. -/
structure Args where
  C : ℕ → ℕ → EReal
  D : ℕ → ℕ → ℕ → EReal
  w : ℕ → ℕ → ℕ → EReal
  m : ℕ → ℕ → ℕ → EReal
  v : ℕ → ℕ → ℕ → EReal

/-- The argument arrays hold `a`. -/
structure Holds (a : Args) (A0 : Vec Ideal Cert.Kernel5Ideal.S8x1024 .f32) (A1 : Vec Ideal Cert.Kernel5Ideal.S2x8x384 .f32) (A2 A3 A4 : Vec Ideal Cert.Kernel5Ideal.S2x1024x384 .f32) : Prop where
  C : At2 A0 a.C
  D : At3 A1 a.D
  w : At3 A2 a.w
  m : At3 A3 a.m
  v : At3 A4 a.v

/-- `x` times its logistic. -/
def siluE (x : EReal) : EReal := x * Ideal.div 1 (1 + Ideal.exp (-x))
/-- One layer of the weight's gradient, from the conditioning and that layer's gradient. -/
def gradE (c d : ℕ → ℕ → EReal) (r q : ℕ) : EReal := ∑ x : Fin 8, siluE (c x r) * d x q

theorem holds_any (A0 : Vec Ideal Cert.Kernel5Ideal.S8x1024 .f32) (A1 : Vec Ideal Cert.Kernel5Ideal.S2x8x384 .f32) (A2 A3 A4 : Vec Ideal Cert.Kernel5Ideal.S2x1024x384 .f32) : ∃ a : Args, Holds a A0 A1 A2 A3 A4 :=
  ⟨⟨nat2 A0, nat3 A1, nat3 A2, nat3 A3, nat3 A4⟩, nat2_at A0, nat3_at A1, nat3_at A2, nat3_at A3, nat3_at A4⟩

/-- The value of each result at a layer, a row and a column. -/
def gE (a : Args) (p r q : ℕ) : EReal := gradE a.C (a.D p) r q
def nmE (a : Args) (p r q : ℕ) : EReal := mE (gE a p r q) (a.m p r q)
def nvE (a : Args) (p r q : ℕ) : EReal := vE (gE a p r q) (a.v p r q)
def dE (a : Args) (p r q : ℕ) : EReal := stepE (a.w p r q) (nmE a p r q) (nvE a p r q)

/-! ## The kernel's four results -/

section Kernel
open Cert.Kernel5Ideal Cert.Kernel5Ideal.Gen

/-! ### One layer -/

section
variable {c : Vec Ideal S8x1024 .f32} {d : Vec Ideal S1x8x384 .f32} {g m' v' : FVec Ideal S1024x384 .f32} {w m v : Vec Ideal S1x1024x384 .f32} {fc fd fg fw fm fv fm' fv' : ℕ → ℕ → EReal}

theorem pay3_at (hc : At2 c fc) (hd : At3 d fun _ x q => fd x q) : At3 (k0_pay3 c d) (fun _ r q => gradE fc fd r q) := by
  intro z r q
  pointwise [k0_pay3, k0_pay2, k0_pay1]
  simp only [hc _ _, hd _ _ _, zero_sub]
  rfl
theorem pay12_at (hc : At2 c fc) (hd : At3 d fun _ x q => fd x q) : At3 (k0_pay12 (k0_pay1 c) d) (fun _ r q => gradE fc fd r q) := by
  intro z r q
  pointwise [k0_pay12, k0_pay11, k0_pay1]
  simp only [hc _ _, hd _ _ _, zero_sub]
  rfl
theorem pay11_at (hc : At2 c fc) (hd : At3 d fun _ x q => fd x q) : At2 (k0_pay11 (k0_pay1 c) d) (fun r q => gradE fc fd r q) := by
  intro r q
  pointwise [k0_pay11, k0_pay1]
  simp only [hc _ _, hd _ _ _, zero_sub]
  rfl
theorem pay5_at (hc : At2 c fc) (hd : At3 d fun _ x q => fd x q) (hm : At3 m fun _ r q => fm r q) : At2 (k0_pay5 c d m) (fun r q => mE (gradE fc fd r q) (fm r q)) := by
  intro r q
  pointwise [k0_pay5, k0_pay2, k0_pay1]
  simp only [hc _ _, hd _ _ _, hm _ _ _, zero_sub]
  rfl
theorem pay6_at (hc : At2 c fc) (hd : At3 d fun _ x q => fd x q) (hv : At3 v fun _ r q => fv r q) : At2 (k0_pay6 c d v) (fun r q => vE (gradE fc fd r q) (fv r q)) := by
  intro r q
  pointwise [k0_pay6, k0_pay2, k0_pay1]
  simp only [hc _ _, hd _ _ _, hv _ _ _, zero_sub]
  rfl
theorem pay9_at (h : At2 m' fm') : At3 (k0_pay9 m') (fun _ r q => fm' r q) := by
  intro z r q
  pointwise [k0_pay9]
  exact h _ _
theorem pay10_at (h : At2 v' fv') : At3 (k0_pay10 v') (fun _ r q => fv' r q) := by
  intro z r q
  pointwise [k0_pay10]
  exact h _ _
theorem pay8_at (hw : At3 w fun _ r q => fw r q) (hm : At2 m' fm') (hv : At2 v' fv') : At3 (k0_pay8 (k0_pay4 w) m' v' k0_pay7) (fun _ r q => stepE (fw r q) (fm' r q) (fv' r q)) := by
  intro z r q
  pointwise [k0_pay8, k0_pay4, k0_pay7]
  simp only [hw _ _ _, hm _ _, hv _ _]
  rfl
theorem pay17_at (hg : At2 g fg) (hm : At3 m fun _ r q => fm r q) : At3 (k0_pay17 g m) (fun _ r q => mE (fg r q) (fm r q)) := by
  intro z r q
  pointwise [k0_pay17, k0_pay14]
  simp only [hg _ _, hm _ _ _]
  rfl
theorem pay18_at (hg : At2 g fg) (hv : At3 v fun _ r q => fv r q) : At3 (k0_pay18 g v) (fun _ r q => vE (fg r q) (fv r q)) := by
  intro z r q
  pointwise [k0_pay18, k0_pay15]
  simp only [hg _ _, hv _ _ _]
  rfl
theorem pay16_at (hg : At2 g fg) (hw : At3 w fun _ r q => fw r q) (hm : At3 m fun _ r q => fm r q) (hv : At3 v fun _ r q => fv r q) :
    At3 (k0_pay16 g (k0_pay13 w) m v) (fun _ r q => stepE (fw r q) (mE (fg r q) (fm r q)) (vE (fg r q) (fv r q))) := by
  intro z r q
  pointwise [k0_pay16, k0_pay13, k0_pay14, k0_pay15]
  simp only [hg _ _, hw _ _ _, hm _ _ _, hv _ _ _]
  rfl
end

/-! ### Both layers -/

section
variable {a : Args} {x0 : Vec Ideal S8x1024 .f32} {x1 : Vec Ideal S2x8x384 .f32} {x2 x3 x4 : Vec Ideal S2x1024x384 .f32} (H : Holds a x0 x1 x2 x3 x4)

include H in
theorem c_all : At2 (View.ld x0 r0_0) a.C := by
  rw [View.ld_unit_zero origin]
  exact H.C
include H in
theorem g0_at : At3 (k0_pay3 (View.ld x0 r0_0) (View.ld x1 r0_1)) (fun _ r q => gE a 0 r q) := pay3_at (c_all H) (layer_at (p := 0) _ H.D)
include H in
theorem g1_at : At2 (k0_pay22 x0 x1 x2 x3 x4) (gE a 1) := pay11_at (c_all H) (layer_at (p := 1) _ H.D)
include H in
theorem m0_at : At2 (k0_pay20 x0 x1 x2 x3 x4) (nmE a 0) := pay5_at (c_all H) (layer_at (p := 0) _ H.D) (layer_at (p := 0) _ H.m)
include H in
theorem v0_at : At2 (k0_pay21 x0 x1 x2 x3 x4) (nvE a 0) := pay6_at (c_all H) (layer_at (p := 0) _ H.D) (layer_at (p := 0) _ H.v)

/-- What one run of the body leaves in each output. -/
theorem out5_at (H : Holds a x0 x1 x2 x3 x4) : At3 (out0_5 x0 x1 x2 x3 x4) (gE a) := by
  unfold out0_5
  exact layers_at inb_S2x1024x384_S1x1024x384_0_0_0 inb_S2x1024x384_S1x1024x384_1_0_0 (g0_at H) (pay12_at (c_all H) (layer_at (p := 1) _ H.D))
theorem out6_at (H : Holds a x0 x1 x2 x3 x4) : At3 (out0_6 x0 x1 x2 x3 x4) (dE a) := by
  unfold out0_6
  exact layers_at inb_S2x1024x384_S1x1024x384_0_0_0 inb_S2x1024x384_S1x1024x384_1_0_0 (pay8_at (layer_at (p := 0) _ H.w) (m0_at H) (v0_at H)) (pay16_at (g1_at H) (layer_at (p := 1) _ H.w) (layer_at (p := 1) _ H.m) (layer_at (p := 1) _ H.v))
theorem out7_at (H : Holds a x0 x1 x2 x3 x4) : At3 (out0_7 x0 x1 x2 x3 x4) (nmE a) := by
  unfold out0_7
  exact layers_at inb_S2x1024x384_S1x1024x384_0_0_0 inb_S2x1024x384_S1x1024x384_1_0_0 (pay9_at (m0_at H)) (pay17_at (g1_at H) (layer_at (p := 1) _ H.m))
theorem out8_at (H : Holds a x0 x1 x2 x3 x4) : At3 (out0_8 x0 x1 x2 x3 x4) (nvE a) := by
  unfold out0_8
  exact layers_at inb_S2x1024x384_S1x1024x384_0_0_0 inb_S2x1024x384_S1x1024x384_1_0_0 (pay10_at (v0_at H)) (pay18_at (g1_at H) (layer_at (p := 1) _ H.v))
end

variable (m : (ℓ : Loc nD τ Cert.Kernel5Ideal.sig) → Buf (Elt Ideal) ℓ) (c : Dev nD) {a : Args}

/-- The kernel's arguments hold `a`. -/
abbrev HoldsK (a : Args) : Prop := Holds a (m ((c : Thread nD τ).loc main_arg0)) (m ((c : Thread nD τ).loc main_arg1)) (m ((c : Thread nD τ).loc main_arg2)) (m ((c : Thread nD τ).loc main_arg3)) (m ((c : Thread nD τ).loc main_arg4))

theorem at0 : ∀ t : Fin cfg0.N, win0_0.index t 0 = 0 ∧ win0_0.index t 1 = 0 := (by decide +kernel : ∀ t : Fin grid0.N, _)
theorem at1 : ∀ t : Fin cfg0.N, win0_1.index t 0 = 0 ∧ win0_1.index t 1 = 0 ∧ win0_1.index t 2 = 0 := (by decide +kernel : ∀ t : Fin grid0.N, _)
theorem at2 : ∀ t : Fin cfg0.N, win0_2.index t 0 = 0 ∧ win0_2.index t 1 = 0 ∧ win0_2.index t 2 = 0 := (by decide +kernel : ∀ t : Fin grid0.N, _)
theorem at3 : ∀ t : Fin cfg0.N, win0_3.index t 0 = 0 ∧ win0_3.index t 1 = 0 ∧ win0_3.index t 2 = 0 := (by decide +kernel : ∀ t : Fin grid0.N, _)
theorem at4 : ∀ t : Fin cfg0.N, win0_4.index t 0 = 0 ∧ win0_4.index t 1 = 0 ∧ win0_4.index t 2 = 0 := (by decide +kernel : ∀ t : Fin grid0.N, _)
theorem at5 : ∀ t : Fin cfg0.N, win0_5.index t 0 = 0 ∧ win0_5.index t 1 = 0 ∧ win0_5.index t 2 = 0 := (by decide +kernel : ∀ t : Fin grid0.N, _)
theorem at6 : ∀ t : Fin cfg0.N, win0_6.index t 0 = 0 ∧ win0_6.index t 1 = 0 ∧ win0_6.index t 2 = 0 := (by decide +kernel : ∀ t : Fin grid0.N, _)
theorem at7 : ∀ t : Fin cfg0.N, win0_7.index t 0 = 0 ∧ win0_7.index t 1 = 0 ∧ win0_7.index t 2 = 0 := (by decide +kernel : ∀ t : Fin grid0.N, _)
theorem at8 : ∀ t : Fin cfg0.N, win0_8.index t 0 = 0 ∧ win0_8.index t 1 = 0 ∧ win0_8.index t 2 = 0 := (by decide +kernel : ∀ t : Fin grid0.N, _)

variable (H : HoldsK m c a)

include H in
theorem b0_at (t : Fin cfg0.N) : At2 (iblk m c 0 t : Vec Ideal S8x1024 .f32) a.C := by
  intro r q
  obtain ⟨e0, e1⟩ := at0 t
  blk_simp [iblk]
  rw [V_main_arg0]
  refine H.C.idx _ ?_ ?_
  · blk_simp; omega
  · blk_simp; omega
include H in
theorem b1_at (t : Fin cfg0.N) : At3 (iblk m c 1 t : Vec Ideal S2x8x384 .f32) a.D := by
  intro p r q
  obtain ⟨e0, e1, e2⟩ := at1 t
  blk_simp [iblk]
  rw [V_main_arg1]
  refine H.D.idx _ ?_ ?_ ?_
  · blk_simp; omega
  · blk_simp; omega
  · blk_simp; omega
include H in
theorem b2_at (t : Fin cfg0.N) : At3 (iblk m c 2 t : Vec Ideal S2x1024x384 .f32) a.w := by
  intro p r q
  obtain ⟨e0, e1, e2⟩ := at2 t
  blk_simp [iblk]
  rw [V_main_arg2]
  refine H.w.idx _ ?_ ?_ ?_
  · blk_simp; omega
  · blk_simp; omega
  · blk_simp; omega
include H in
theorem b3_at (t : Fin cfg0.N) : At3 (iblk m c 3 t : Vec Ideal S2x1024x384 .f32) a.m := by
  intro p r q
  obtain ⟨e0, e1, e2⟩ := at3 t
  blk_simp [iblk]
  rw [V_main_arg3]
  refine H.m.idx _ ?_ ?_ ?_
  · blk_simp; omega
  · blk_simp; omega
  · blk_simp; omega
include H in
theorem b4_at (t : Fin cfg0.N) : At3 (iblk m c 4 t : Vec Ideal S2x1024x384 .f32) a.v := by
  intro p r q
  obtain ⟨e0, e1, e2⟩ := at4 t
  blk_simp [iblk]
  rw [V_main_arg4]
  refine H.v.idx _ ?_ ?_ ?_
  · blk_simp; omega
  · blk_simp; omega
  · blk_simp; omega
include H in
/-- The blocks the body reads are the whole arrays. -/
theorem blocks_hold (t : Fin cfg0.N) : Holds a (iblk m c 0 t : Vec Ideal S8x1024 .f32) (iblk m c 1 t : Vec Ideal S2x8x384 .f32) (iblk m c 2 t : Vec Ideal S2x1024x384 .f32) (iblk m c 3 t : Vec Ideal S2x1024x384 .f32) (iblk m c 4 t : Vec Ideal S2x1024x384 .f32) :=
  ⟨b0_at m c H t, b1_at m c H t, b2_at m c H t, b3_at m c H t, b4_at m c H t⟩

/-- After the run the four outputs hold the gradient, the step and the two moments. -/
theorem arr5_at (H : HoldsK m c a) : At3 ((dats m 0 c).arrAt 5 cfg0.N : Vec Ideal S2x1024x384 .f32) (gE a) := by
  have e : (dats m 0 c).arrAt 5 cfg0.N = (fun y => gE a (y 0).val (y 1).val (y 2).val : Vec Ideal S2x1024x384 .f32) := by
    refine (dats m 0 c).arrAt_eq_of_covers 5 _ (by decide +kernel) fun t hf y => ?_
    obtain ⟨e0, e1, e2⟩ := at5 t
    rw [after0_5]
    blk_simp
    refine ((out5_at (blocks_hold m c H t)).idx _ rfl rfl rfl).trans ?_
    rw [e0, e1, e2, Nat.zero_mul, Nat.zero_add, Nat.zero_add, Nat.zero_add]
  intro p r q
  rw [e]; rfl
theorem arr6_at (H : HoldsK m c a) : At3 ((dats m 0 c).arrAt 6 cfg0.N : Vec Ideal S2x1024x384 .f32) (dE a) := by
  have e : (dats m 0 c).arrAt 6 cfg0.N = (fun y => dE a (y 0).val (y 1).val (y 2).val : Vec Ideal S2x1024x384 .f32) := by
    refine (dats m 0 c).arrAt_eq_of_covers 6 _ (by decide +kernel) fun t hf y => ?_
    obtain ⟨e0, e1, e2⟩ := at6 t
    rw [after0_6]
    blk_simp
    refine ((out6_at (blocks_hold m c H t)).idx _ rfl rfl rfl).trans ?_
    rw [e0, e1, e2, Nat.zero_mul, Nat.zero_add, Nat.zero_add, Nat.zero_add]
  intro p r q
  rw [e]; rfl
theorem arr7_at (H : HoldsK m c a) : At3 ((dats m 0 c).arrAt 7 cfg0.N : Vec Ideal S2x1024x384 .f32) (nmE a) := by
  have e : (dats m 0 c).arrAt 7 cfg0.N = (fun y => nmE a (y 0).val (y 1).val (y 2).val : Vec Ideal S2x1024x384 .f32) := by
    refine (dats m 0 c).arrAt_eq_of_covers 7 _ (by decide +kernel) fun t hf y => ?_
    obtain ⟨e0, e1, e2⟩ := at7 t
    rw [after0_7]
    blk_simp
    refine ((out7_at (blocks_hold m c H t)).idx _ rfl rfl rfl).trans ?_
    rw [e0, e1, e2, Nat.zero_mul, Nat.zero_add, Nat.zero_add, Nat.zero_add]
  intro p r q
  rw [e]; rfl
theorem arr8_at (H : HoldsK m c a) : At3 ((dats m 0 c).arrAt 8 cfg0.N : Vec Ideal S2x1024x384 .f32) (nvE a) := by
  have e : (dats m 0 c).arrAt 8 cfg0.N = (fun y => nvE a (y 0).val (y 1).val (y 2).val : Vec Ideal S2x1024x384 .f32) := by
    refine (dats m 0 c).arrAt_eq_of_covers 8 _ (by decide +kernel) fun t hf y => ?_
    obtain ⟨e0, e1, e2⟩ := at8 t
    rw [after0_8]
    blk_simp
    refine ((out8_at (blocks_hold m c H t)).idx _ rfl rfl rfl).trans ?_
    rw [e0, e1, e2, Nat.zero_mul, Nat.zero_add, Nat.zero_add, Nat.zero_add]
  intro p r q
  rw [e]; rfl

/-- The kernel ends with its four results at the launch's arrays and the arguments as they were. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_v0_3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (θ_run_and (run_main m ρ) (unchanged m ρ)) fun r h c => ⟨(h.1 c).1 5, (h.1 c).1 6, (h.1 c).1 7, (h.1 c).1 8, h.2 c⟩
end Kernel

/-! ## The reference's four results -/

section Reference
open Cert.Reference5Ideal Cert.Reference5Ideal.Gen

/-- The conditioning's activation, and the weight's gradient. -/
def rSilu (A0 : FVec Ideal S8x1024 .f32) : FVec Ideal S8x1024 .f32 :=
  mulf A0 (Host.divf (broadcastInDim S8x1024 ![] bcast_S_S8x1024 (constant S_ .f32 0x3F800000#32)) (addf (broadcastInDim S8x1024 ![] bcast_S_S8x1024 (constant S_ .f32 0x3F800000#32)) (Host.exp (Host.negf A0))))
def rG (A0 : FVec Ideal S8x1024 .f32) (A1 : FVec Ideal S2x8x384 .f32) : FVec Ideal S2x1024x384 .f32 :=
  transpose S2x1024x384 [0, 2, 1] (Host.dotGeneral dot_S2x384x8_S8x1024_S2x384x1024_2_0_01_1_n_n none (transpose S2x384x8 [0, 2, 1] A1 transposes_S2x8x384_S2x384x8_0_2_1) (rSilu A0)) transposes_S2x384x1024_S2x1024x384_0_2_1

/-- The moments after the step, and the step, from the gradient. -/
def rM (g m : FVec Ideal S2x1024x384 .f32) : FVec Ideal S2x1024x384 .f32 := addf (mulf (broadcastInDim S2x1024x384 ![] bcast_S_S2x1024x384 (constant S_ .f32 0x3F666666#32)) m) (mulf (broadcastInDim S2x1024x384 ![] bcast_S_S2x1024x384 (constant S_ .f32 0x3DCCCCCD#32)) g)
def rV (g v : FVec Ideal S2x1024x384 .f32) : FVec Ideal S2x1024x384 .f32 := addf (mulf (broadcastInDim S2x1024x384 ![] bcast_S_S2x1024x384 (constant S_ .f32 0x3F7FBE77#32)) v) (mulf (broadcastInDim S2x1024x384 ![] bcast_S_S2x1024x384 (constant S_ .f32 0x3A83126F#32)) (mulf g g))
def rD (w m v : FVec Ideal S2x1024x384 .f32) : FVec Ideal S2x1024x384 .f32 :=
  mulf (broadcastInDim S2x1024x384 ![] bcast_S_S2x1024x384 (constant S_ .f32 0xBA83126F#32)) (addf (Host.divf (Host.divf m (broadcastInDim S2x1024x384 ![] bcast_S_S2x1024x384 (constant S_ .f32 0x3F26BD02#32))) (addf (Host.sqrt (Host.divf v (broadcastInDim S2x1024x384 ![] bcast_S_S2x1024x384 (constant S_ .f32 0x3C231ACC#32)))) (broadcastInDim S2x1024x384 ![] bcast_S_S2x1024x384 (constant S_ .f32 0x322BCC77#32)))) (mulf (broadcastInDim S2x1024x384 ![] bcast_S_S2x1024x384 (constant S_ .f32 0x3C23D70A#32)) w))

section
variable {g w m v : FVec Ideal S2x1024x384 .f32} {fg fw fm fv : ℕ → ℕ → ℕ → EReal}
theorem rM_at (hg : At3 g fg) (hm : At3 m fm) : At3 (rM g m) (fun p r q => mE (fg p r q) (fm p r q)) := by
  intro p r q
  pointwise [rM, hlo_ix]
  rw [hg, hm]
  rfl
theorem rV_at (hg : At3 g fg) (hv : At3 v fv) : At3 (rV g v) (fun p r q => vE (fg p r q) (fv p r q)) := by
  intro p r q
  pointwise [rV, hlo_ix]
  rw [hg, hv]
  rfl
theorem rD_at (hw : At3 w fw) (hm : At3 m fm) (hv : At3 v fv) : At3 (rD w m v) (fun p r q => stepE (fw p r q) (fm p r q) (fv p r q)) := by
  intro p r q
  pointwise [rD, hlo_ix]
  rw [hw, hm, hv]
  rfl
end

theorem rG_at {A0 : FVec Ideal S8x1024 .f32} {A1 : FVec Ideal S2x8x384 .f32} {C : ℕ → ℕ → EReal} {D : ℕ → ℕ → ℕ → EReal} (hC : At2 A0 C) (hD : At3 A1 D) : At3 (rG A0 A1) (fun p r q => gradE C (D p) r q) := by
  intro p r q
  pointwise [rG, rSilu, hlo_ix]
  simp only [hC _ _, hD _ _ _]
  exact Finset.sum_congr rfl fun x _ => mul_comm _ _

variable (m : (ℓ : Loc nD τ Cert.Reference5Ideal.sig) → Buf (Elt Ideal) ℓ) (c : Dev nD)
abbrev y0 : FVec Ideal S8x1024 .f32 := m ((c.tc : Thread nD τ).loc main_arg0)
abbrev y1 : FVec Ideal S2x8x384 .f32 := m ((c.tc : Thread nD τ).loc main_arg1)
abbrev y2 : FVec Ideal S2x1024x384 .f32 := m ((c.tc : Thread nD τ).loc main_arg2)
abbrev y3 : FVec Ideal S2x1024x384 .f32 := m ((c.tc : Thread nD τ).loc main_arg3)
abbrev y4 : FVec Ideal S2x1024x384 .f32 := m ((c.tc : Thread nD τ).loc main_arg4)

/-- The reference ends with each result at its named array of the arguments, and the arguments as they were. -/
theorem ref_run (ρ : Dev nD → PrngReg) :
    θ_run defs (onTc (τ := τ) (main (F := Ideal))) ⟨m, fun _ => 0, ρ⟩ fun r => ∀ c : Dev nD,
      r.2.mem ((c.tc : Thread nD τ).loc main_v5) = rG (y0 m c) (y1 m c)
      ∧ r.2.mem ((c.tc : Thread nD τ).loc main_v29) = rD (y2 m c) (rM (rG (y0 m c) (y1 m c)) (y3 m c)) (rV (rG (y0 m c) (y1 m c)) (y4 m c))
      ∧ r.2.mem ((c.tc : Thread nD τ).loc main_v10) = rM (rG (y0 m c) (y1 m c)) (y3 m c)
      ∧ r.2.mem ((c.tc : Thread nD τ).loc main_v16) = rV (rG (y0 m c) (y1 m c)) (y4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => h c) (Cert.Reference5Ideal.Value.run m ρ)
end Reference

/-- Two arrays with the same values at every place are the same. -/
theorem same {n k l : ℕ} {v w : (⟨3, ![n, k, l]⟩ : Shape).Idx → EReal} {f : ℕ → ℕ → ℕ → EReal} (hv : At3 v f) (hw : At3 w f) : v = w :=
  funext fun y => (hv.idx y rfl rfl rfl).trans (hw.idx y rfl rfl rfl).symm

/-- On any arguments the kernel and the reference end with the same four arrays, as extended reals. -/
theorem algebraic : Cert.algebraic_Kernel5Ideal_Reference5Ideal := by
  intro m g m' g' _ hagree
  refine ⟨fun c => rG (y0 m' c) (y1 m' c), fun c => rD (y2 m' c) (rM (rG (y0 m' c) (y1 m' c)) (y3 m' c)) (rV (rG (y0 m' c) (y1 m' c)) (y4 m' c)), fun c => rM (rG (y0 m' c) (y1 m' c)) (y3 m' c), fun c => rV (rG (y0 m' c) (y1 m' c)) (y4 m' c), θ_run_mono (kernel_run m g) fun r h c => ?_, ref_run m' g'⟩
  obtain ⟨a, H⟩ : ∃ a : Args, HoldsK m c a := holds_any _ _ _ _ _
  obtain ⟨e0, e1, e2, e3, e4⟩ := hagree c
  have R0 : At2 (y0 m' c) a.C := fun r q => (congrFun e0 _).trans (H.C r q)
  have R1 : At3 (y1 m' c) a.D := fun p r q => (congrFun e1 _).trans (H.D p r q)
  have R2 : At3 (y2 m' c) a.w := fun p r q => (congrFun e2 _).trans (H.w p r q)
  have R3 : At3 (y3 m' c) a.m := fun p r q => (congrFun e3 _).trans (H.m p r q)
  have R4 : At3 (y4 m' c) a.v := fun p r q => (congrFun e4 _).trans (H.v p r q)
  have G := rG_at R0 R1
  have M := rM_at G R3
  have V := rV_at G R4
  obtain ⟨h0, h1, h2, h3, hargs⟩ := h c
  refine ⟨h0.trans ?_, h1.trans ?_, h2.trans ?_, h3.trans ?_, hargs⟩
  · exact same (arr5_at m c H) G
  · exact same (arr6_at m c H) (rD_at R2 M V)
  · exact same (arr7_at m c H) M
  · exact same (arr8_at m c H) V

end Cert.AdaUpd

end
-- ==== Proof.SmallUpd.lean ====
module

public import proofs.«01_k».proof.Proof.Adam
public import proofs.«01_k».proof.Proof.Gen.Kernel6Ideal.Frame
public import proofs.«01_k».proof.Proof.Gen.Reference6Ideal.Run

@[expose] public section

set_option maxRecDepth 16384

noncomputable section

namespace Cert.SmallUpd

open Idealize.ShloMosaic Idealize.ShloMosaic.Tactic Idealize.ShloMosaic.TcCoe Idealize.ShloMosaic.Pointwise Idealize.ShloMosaic.VecWindow Idealize.SL.Sem
open Cert.DwBwd (At2 At3 nat2 nat3 nat2_at nat3_at origin)
open Cert.Adam (mE vE stepE eight layer_at)
open scoped BigOperators

/-! ## The computation, coordinate by coordinate

The kernel adds the eight devices' gradients one after the other, the reference sums over them; nothing needs to be finite. -/

/-- The arguments: the gathered gradients, then weights, first and second moments, of the packed rows and of the spatial weight. -/
structure Args where
  G : ℕ → ℕ → ℕ → EReal
  Gs : ℕ → ℕ → ℕ → EReal
  w : ℕ → ℕ → EReal
  m : ℕ → ℕ → EReal
  v : ℕ → ℕ → EReal
  ws : ℕ → ℕ → EReal
  ms : ℕ → ℕ → EReal
  vs : ℕ → ℕ → EReal

/-- The argument arrays hold `a`. -/
structure Holds (a : Args) (A0 : Vec Ideal Cert.Kernel6Ideal.S8x112x128 .f32) (A1 : Vec Ideal Cert.Kernel6Ideal.S8x2048x128 .bf16) (A2 A3 A4 : Vec Ideal Cert.Kernel6Ideal.S112x128 .f32) (A5 A6 A7 : Vec Ideal Cert.Kernel6Ideal.S2048x128 .f32) : Prop where
  G : At3 A0 a.G
  Gs : At3 (n := 8) (k := 2048) (l := 128) A1 a.Gs
  w : At2 A2 a.w
  m : At2 A3 a.m
  v : At2 A4 a.v
  ws : At2 A5 a.ws
  ms : At2 A6 a.ms
  vs : At2 A7 a.vs

/-- The sum over the devices. -/
def sumE (f : ℕ → ℕ → ℕ → EReal) (r q : ℕ) : EReal := ∑ d : Fin 8, f d r q

theorem holds_any (A0 : Vec Ideal Cert.Kernel6Ideal.S8x112x128 .f32) (A1 : Vec Ideal Cert.Kernel6Ideal.S8x2048x128 .bf16) (A2 A3 A4 : Vec Ideal Cert.Kernel6Ideal.S112x128 .f32) (A5 A6 A7 : Vec Ideal Cert.Kernel6Ideal.S2048x128 .f32) : ∃ a : Args, Holds a A0 A1 A2 A3 A4 A5 A6 A7 :=
  ⟨⟨nat3 A0, nat3 (n := 8) (k := 2048) (l := 128) A1, nat2 A2, nat2 A3, nat2 A4, nat2 A5, nat2 A6, nat2 A7⟩, nat3_at A0, nat3_at (n := 8) (k := 2048) (l := 128) A1, nat2_at A2, nat2_at A3, nat2_at A4, nat2_at A5, nat2_at A6, nat2_at A7⟩

/-! ## The kernel's eight results -/

section Kernel
open Cert.Kernel6Ideal Cert.Kernel6Ideal.Gen

section
variable {x0 : Vec Ideal S8x112x128 .f32} {x1 : Vec Ideal S8x2048x128 .bf16} {x2 x3 x4 : Vec Ideal S112x128 .f32} {x5 x6 x7 : Vec Ideal S2048x128 .f32} {f0 f1 : ℕ → ℕ → ℕ → EReal} {f2 f3 f4 f5 f6 f7 : ℕ → ℕ → EReal}

/-- The packed rows' gradient. -/
theorem pay10_at (h0 : At3 x0 f0) : At2 (k0_pay10 x0 x1 x2 x3 x4 x5 x6 x7) (sumE f0) := by
  intro r q
  have e0 := layer_at (p := 0) inb_S8x112x128_S1x112x128_0_0_0 h0 0 r q
  have e1 := layer_at (p := 1) inb_S8x112x128_S1x112x128_1_0_0 h0 0 r q
  have e2 := layer_at (p := 2) inb_S8x112x128_S1x112x128_2_0_0 h0 0 r q
  have e3 := layer_at (p := 3) inb_S8x112x128_S1x112x128_3_0_0 h0 0 r q
  have e4 := layer_at (p := 4) inb_S8x112x128_S1x112x128_4_0_0 h0 0 r q
  have e5 := layer_at (p := 5) inb_S8x112x128_S1x112x128_5_0_0 h0 0 r q
  have e6 := layer_at (p := 6) inb_S8x112x128_S1x112x128_6_0_0 h0 0 r q
  have e7 := layer_at (p := 7) inb_S8x112x128_S1x112x128_7_0_0 h0 0 r q
  refine Eq.trans ?_ (eight fun d => f0 d r q)
  simp only [← e0, ← e1, ← e2, ← e3, ← e4, ← e5, ← e6, ← e7]
  unfold k0_pay10
  pointwise [k0_pay3]
/-- The spatial weight's gradient. -/
theorem pay12_at (h1 : At3 (n := 8) (k := 2048) (l := 128) x1 f1) : At2 (k0_pay12 x0 x1 x2 x3 x4 x5 x6 x7) (sumE f1) := by
  intro r q
  have e0 := layer_at (p := 0) inb_S8x2048x128_S1x2048x128_0_0_0 h1 0 r q
  have e1 := layer_at (p := 1) inb_S8x2048x128_S1x2048x128_1_0_0 h1 0 r q
  have e2 := layer_at (p := 2) inb_S8x2048x128_S1x2048x128_2_0_0 h1 0 r q
  have e3 := layer_at (p := 3) inb_S8x2048x128_S1x2048x128_3_0_0 h1 0 r q
  have e4 := layer_at (p := 4) inb_S8x2048x128_S1x2048x128_4_0_0 h1 0 r q
  have e5 := layer_at (p := 5) inb_S8x2048x128_S1x2048x128_5_0_0 h1 0 r q
  have e6 := layer_at (p := 6) inb_S8x2048x128_S1x2048x128_6_0_0 h1 0 r q
  have e7 := layer_at (p := 7) inb_S8x2048x128_S1x2048x128_7_0_0 h1 0 r q
  refine Eq.trans ?_ (eight fun d => f1 d r q)
  simp only [← e0, ← e1, ← e2, ← e3, ← e4, ← e5, ← e6, ← e7]
  unfold k0_pay12 k0_pay11
  pointwise [k0_pay8, k0_pay7]

/-- What one run of the body leaves in each output. -/
theorem out8_at (h0 : At3 x0 f0) : At2 (out0_8 x0 x1 x2 x3 x4 x5 x6 x7) (sumE f0) := by
  unfold out0_8
  rw [View.canon_unit_zero origin]
  exact pay10_at (x1 := x1) (x2 := x2) (x3 := x3) (x4 := x4) (x5 := x5) (x6 := x6) (x7 := x7) h0
theorem out12_at (h1 : At3 (n := 8) (k := 2048) (l := 128) x1 f1) : At2 (out0_12 x0 x1 x2 x3 x4 x5 x6 x7) (sumE f1) := by
  unfold out0_12
  rw [View.canon_unit_zero origin]
  exact pay12_at (x0 := x0) (x2 := x2) (x3 := x3) (x4 := x4) (x5 := x5) (x6 := x6) (x7 := x7) h1
theorem out10_at (h0 : At3 x0 f0) (h3 : At2 x3 f3) : At2 (out0_10 x0 x1 x2 x3 x4 x5 x6 x7) (fun r q => mE (sumE f0 r q) (f3 r q)) := by
  intro r q
  have g : At2 (k0_pay10 x0 x1 x2 x3 x4 x5 x6 x7) (sumE f0) := pay10_at h0
  unfold out0_10
  rw [View.canon_unit_zero origin]
  pointwise [k0_pay4]
  simp only [g _ _, h3 _ _]
  rfl
theorem out11_at (h0 : At3 x0 f0) (h4 : At2 x4 f4) : At2 (out0_11 x0 x1 x2 x3 x4 x5 x6 x7) (fun r q => vE (sumE f0 r q) (f4 r q)) := by
  intro r q
  have g : At2 (k0_pay10 x0 x1 x2 x3 x4 x5 x6 x7) (sumE f0) := pay10_at h0
  unfold out0_11
  rw [View.canon_unit_zero origin]
  pointwise [k0_pay5]
  simp only [g _ _, h4 _ _]
  rfl
theorem out9_at (h0 : At3 x0 f0) (h2 : At2 x2 f2) (h3 : At2 x3 f3) (h4 : At2 x4 f4) : At2 (out0_9 x0 x1 x2 x3 x4 x5 x6 x7) (fun r q => stepE (f2 r q) (mE (sumE f0 r q) (f3 r q)) (vE (sumE f0 r q) (f4 r q))) := by
  intro r q
  have g : At2 (k0_pay10 x0 x1 x2 x3 x4 x5 x6 x7) (sumE f0) := pay10_at h0
  unfold out0_9
  rw [View.canon_unit_zero origin]
  pointwise [k0_pay6, k0_pay4, k0_pay5]
  simp only [g _ _, h2 _ _, h3 _ _, h4 _ _]
  rfl
theorem pay13_at (h1 : At3 (n := 8) (k := 2048) (l := 128) x1 f1) (h6 : At2 x6 f6) : At2 (k0_pay13 x0 x1 x2 x3 x4 x5 x6 x7) (fun r q => mE (sumE f1 r q) (f6 r q)) := by
  intro r q
  have g : At2 (k0_pay12 x0 x1 x2 x3 x4 x5 x6 x7) (sumE f1) := pay12_at h1
  refine Eq.trans ?_ (congrArg₂ mE (g r q) (h6 r q))
  unfold k0_pay13 k0_pay12
  pointwise [k0_pay9, k0_pay8, mE]
theorem out14_at (h1 : At3 (n := 8) (k := 2048) (l := 128) x1 f1) (h6 : At2 x6 f6) : At2 (out0_14 x0 x1 x2 x3 x4 x5 x6 x7) (fun r q => mE (sumE f1 r q) (f6 r q)) := by
  unfold out0_14
  rw [View.canon_unit_zero origin]
  exact pay13_at h1 h6
theorem out15_at (h1 : At3 (n := 8) (k := 2048) (l := 128) x1 f1) (h7 : At2 x7 f7) : At2 (out0_15 x0 x1 x2 x3 x4 x5 x6 x7) (fun r q => vE (sumE f1 r q) (f7 r q)) := by
  intro r q
  have g : At2 (k0_pay12 x0 x1 x2 x3 x4 x5 x6 x7) (sumE f1) := pay12_at h1
  unfold out0_15
  rw [View.canon_unit_zero origin]
  pointwise [k0_pay1]
  simp only [g _ _, h7 _ _]
  rfl
theorem out13_at (h1 : At3 (n := 8) (k := 2048) (l := 128) x1 f1) (h5 : At2 x5 f5) (h6 : At2 x6 f6) (h7 : At2 x7 f7) : At2 (out0_13 x0 x1 x2 x3 x4 x5 x6 x7) (fun r q => stepE (f5 r q) (mE (sumE f1 r q) (f6 r q)) (vE (sumE f1 r q) (f7 r q))) := by
  intro r q
  have g : At2 (k0_pay12 x0 x1 x2 x3 x4 x5 x6 x7) (sumE f1) := pay12_at h1
  have n : At2 (k0_pay13 x0 x1 x2 x3 x4 x5 x6 x7) (fun r q => mE (sumE f1 r q) (f6 r q)) := pay13_at h1 h6
  unfold out0_13
  rw [View.canon_unit_zero origin]
  pointwise [k0_pay2, k0_pay1]
  simp only [g _ _, n _ _, h5 _ _, h7 _ _]
  rfl
end

variable (m : (ℓ : Loc nD τ Cert.Kernel6Ideal.sig) → Buf (Elt Ideal) ℓ) (c : Dev nD) {a : Args}

/-- The kernel's arguments hold `a`. -/
abbrev HoldsK (a : Args) : Prop := Holds a (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem at0 : ∀ t : Fin cfg0.N, win0_0.index t 0 = 0 ∧ win0_0.index t 1 = 0 ∧ win0_0.index t 2 = 0 := (by decide +kernel : ∀ t : Fin grid0.N, _)
theorem at1 : ∀ t : Fin cfg0.N, win0_1.index t 0 = 0 ∧ win0_1.index t 1 = 0 ∧ win0_1.index t 2 = 0 := (by decide +kernel : ∀ t : Fin grid0.N, _)
theorem at2 : ∀ t : Fin cfg0.N, win0_2.index t 0 = 0 ∧ win0_2.index t 1 = 0 := (by decide +kernel : ∀ t : Fin grid0.N, _)
theorem at3 : ∀ t : Fin cfg0.N, win0_3.index t 0 = 0 ∧ win0_3.index t 1 = 0 := (by decide +kernel : ∀ t : Fin grid0.N, _)
theorem at4 : ∀ t : Fin cfg0.N, win0_4.index t 0 = 0 ∧ win0_4.index t 1 = 0 := (by decide +kernel : ∀ t : Fin grid0.N, _)
theorem at5 : ∀ t : Fin cfg0.N, win0_5.index t 0 = 0 ∧ win0_5.index t 1 = 0 := (by decide +kernel : ∀ t : Fin grid0.N, _)
theorem at6 : ∀ t : Fin cfg0.N, win0_6.index t 0 = 0 ∧ win0_6.index t 1 = 0 := (by decide +kernel : ∀ t : Fin grid0.N, _)
theorem at7 : ∀ t : Fin cfg0.N, win0_7.index t 0 = 0 ∧ win0_7.index t 1 = 0 := (by decide +kernel : ∀ t : Fin grid0.N, _)
theorem at8 : ∀ t : Fin cfg0.N, win0_8.index t 0 = 0 ∧ win0_8.index t 1 = 0 := (by decide +kernel : ∀ t : Fin grid0.N, _)
theorem at9 : ∀ t : Fin cfg0.N, win0_9.index t 0 = 0 ∧ win0_9.index t 1 = 0 := (by decide +kernel : ∀ t : Fin grid0.N, _)
theorem at10 : ∀ t : Fin cfg0.N, win0_10.index t 0 = 0 ∧ win0_10.index t 1 = 0 := (by decide +kernel : ∀ t : Fin grid0.N, _)
theorem at11 : ∀ t : Fin cfg0.N, win0_11.index t 0 = 0 ∧ win0_11.index t 1 = 0 := (by decide +kernel : ∀ t : Fin grid0.N, _)
theorem at12 : ∀ t : Fin cfg0.N, win0_12.index t 0 = 0 ∧ win0_12.index t 1 = 0 := (by decide +kernel : ∀ t : Fin grid0.N, _)
theorem at13 : ∀ t : Fin cfg0.N, win0_13.index t 0 = 0 ∧ win0_13.index t 1 = 0 := (by decide +kernel : ∀ t : Fin grid0.N, _)
theorem at14 : ∀ t : Fin cfg0.N, win0_14.index t 0 = 0 ∧ win0_14.index t 1 = 0 := (by decide +kernel : ∀ t : Fin grid0.N, _)
theorem at15 : ∀ t : Fin cfg0.N, win0_15.index t 0 = 0 ∧ win0_15.index t 1 = 0 := (by decide +kernel : ∀ t : Fin grid0.N, _)

variable (H : HoldsK m c a)

include H in
theorem b0_at (t : Fin cfg0.N) : At3 (n := 8) (k := 112) (l := 128) (iblk m c 0 t : Vec Ideal S8x112x128 .f32) a.G := by
  intro p r q
  obtain ⟨e0, e1, e2⟩ := at0 t
  blk_simp [iblk]
  rw [V_main_arg0]
  refine H.G.idx _ ?_ ?_ ?_
  · blk_simp; omega
  · blk_simp; omega
  · blk_simp; omega
include H in
theorem b1_at (t : Fin cfg0.N) : At3 (n := 8) (k := 2048) (l := 128) (iblk m c 1 t : Vec Ideal S8x2048x128 .bf16) a.Gs := by
  intro p r q
  obtain ⟨e0, e1, e2⟩ := at1 t
  blk_simp [iblk]
  rw [V_main_arg1]
  refine H.Gs.idx _ ?_ ?_ ?_
  · blk_simp; omega
  · blk_simp; omega
  · blk_simp; omega
include H in
theorem b2_at (t : Fin cfg0.N) : At2 (iblk m c 2 t : Vec Ideal S112x128 .f32) a.w := by
  intro r q
  obtain ⟨e0, e1⟩ := at2 t
  blk_simp [iblk]
  rw [V_main_arg2]
  refine H.w.idx _ ?_ ?_
  · blk_simp; omega
  · blk_simp; omega
include H in
theorem b3_at (t : Fin cfg0.N) : At2 (iblk m c 3 t : Vec Ideal S112x128 .f32) a.m := by
  intro r q
  obtain ⟨e0, e1⟩ := at3 t
  blk_simp [iblk]
  rw [V_main_arg3]
  refine H.m.idx _ ?_ ?_
  · blk_simp; omega
  · blk_simp; omega
include H in
theorem b4_at (t : Fin cfg0.N) : At2 (iblk m c 4 t : Vec Ideal S112x128 .f32) a.v := by
  intro r q
  obtain ⟨e0, e1⟩ := at4 t
  blk_simp [iblk]
  rw [V_main_arg4]
  refine H.v.idx _ ?_ ?_
  · blk_simp; omega
  · blk_simp; omega
include H in
theorem b5_at (t : Fin cfg0.N) : At2 (iblk m c 5 t : Vec Ideal S2048x128 .f32) a.ws := by
  intro r q
  obtain ⟨e0, e1⟩ := at5 t
  blk_simp [iblk]
  rw [V_main_arg5]
  refine H.ws.idx _ ?_ ?_
  · blk_simp; omega
  · blk_simp; omega
include H in
theorem b6_at (t : Fin cfg0.N) : At2 (iblk m c 6 t : Vec Ideal S2048x128 .f32) a.ms := by
  intro r q
  obtain ⟨e0, e1⟩ := at6 t
  blk_simp [iblk]
  rw [V_main_arg6]
  refine H.ms.idx _ ?_ ?_
  · blk_simp; omega
  · blk_simp; omega
include H in
theorem b7_at (t : Fin cfg0.N) : At2 (iblk m c 7 t : Vec Ideal S2048x128 .f32) a.vs := by
  intro r q
  obtain ⟨e0, e1⟩ := at7 t
  blk_simp [iblk]
  rw [V_main_arg7]
  refine H.vs.idx _ ?_ ?_
  · blk_simp; omega
  · blk_simp; omega

/-! The value of each result at a row and a column. -/

def gE (a : Args) (r q : ℕ) : EReal := sumE a.G r q
def nmE (a : Args) (r q : ℕ) : EReal := mE (sumE a.G r q) (a.m r q)
def nvE (a : Args) (r q : ℕ) : EReal := vE (sumE a.G r q) (a.v r q)
def dE (a : Args) (r q : ℕ) : EReal := stepE (a.w r q) (nmE a r q) (nvE a r q)
def gsE (a : Args) (r q : ℕ) : EReal := sumE a.Gs r q
def nmsE (a : Args) (r q : ℕ) : EReal := mE (sumE a.Gs r q) (a.ms r q)
def nvsE (a : Args) (r q : ℕ) : EReal := vE (sumE a.Gs r q) (a.vs r q)
def dsE (a : Args) (r q : ℕ) : EReal := stepE (a.ws r q) (nmsE a r q) (nvsE a r q)

/-- After the run the eight outputs hold these values. -/
theorem arr8_at (H : HoldsK m c a) : At2 ((dats m 0 c).arrAt 8 cfg0.N : Vec Ideal S112x128 .f32) (gE a) := by
  have e : (dats m 0 c).arrAt 8 cfg0.N = (fun y => gE a (y 0).val (y 1).val : Vec Ideal S112x128 .f32) := by
    refine (dats m 0 c).arrAt_eq_of_covers 8 _ (by decide +kernel) fun t hf y => ?_
    obtain ⟨e0, e1⟩ := at8 t
    rw [after0_8]
    blk_simp
    refine ((out8_at (b0_at m c H t)).idx _ rfl rfl).trans ?_
    rw [e0, e1, Nat.zero_mul, Nat.zero_add, Nat.zero_add]
    rfl
  intro r q
  rw [e]; rfl
theorem arr9_at (H : HoldsK m c a) : At2 ((dats m 0 c).arrAt 9 cfg0.N : Vec Ideal S112x128 .f32) (dE a) := by
  have e : (dats m 0 c).arrAt 9 cfg0.N = (fun y => dE a (y 0).val (y 1).val : Vec Ideal S112x128 .f32) := by
    refine (dats m 0 c).arrAt_eq_of_covers 9 _ (by decide +kernel) fun t hf y => ?_
    obtain ⟨e0, e1⟩ := at9 t
    rw [after0_9]
    blk_simp
    refine ((out9_at (b0_at m c H t) (b2_at m c H t) (b3_at m c H t) (b4_at m c H t)).idx _ rfl rfl).trans ?_
    rw [e0, e1, Nat.zero_mul, Nat.zero_add, Nat.zero_add]
    rfl
  intro r q
  rw [e]; rfl
theorem arr10_at (H : HoldsK m c a) : At2 ((dats m 0 c).arrAt 10 cfg0.N : Vec Ideal S112x128 .f32) (nmE a) := by
  have e : (dats m 0 c).arrAt 10 cfg0.N = (fun y => nmE a (y 0).val (y 1).val : Vec Ideal S112x128 .f32) := by
    refine (dats m 0 c).arrAt_eq_of_covers 10 _ (by decide +kernel) fun t hf y => ?_
    obtain ⟨e0, e1⟩ := at10 t
    rw [after0_10]
    blk_simp
    refine ((out10_at (b0_at m c H t) (b3_at m c H t)).idx _ rfl rfl).trans ?_
    rw [e0, e1, Nat.zero_mul, Nat.zero_add, Nat.zero_add]
    rfl
  intro r q
  rw [e]; rfl
theorem arr11_at (H : HoldsK m c a) : At2 ((dats m 0 c).arrAt 11 cfg0.N : Vec Ideal S112x128 .f32) (nvE a) := by
  have e : (dats m 0 c).arrAt 11 cfg0.N = (fun y => nvE a (y 0).val (y 1).val : Vec Ideal S112x128 .f32) := by
    refine (dats m 0 c).arrAt_eq_of_covers 11 _ (by decide +kernel) fun t hf y => ?_
    obtain ⟨e0, e1⟩ := at11 t
    rw [after0_11]
    blk_simp
    refine ((out11_at (b0_at m c H t) (b4_at m c H t)).idx _ rfl rfl).trans ?_
    rw [e0, e1, Nat.zero_mul, Nat.zero_add, Nat.zero_add]
    rfl
  intro r q
  rw [e]; rfl
theorem arr12_at (H : HoldsK m c a) : At2 ((dats m 0 c).arrAt 12 cfg0.N : Vec Ideal S2048x128 .f32) (gsE a) := by
  have e : (dats m 0 c).arrAt 12 cfg0.N = (fun y => gsE a (y 0).val (y 1).val : Vec Ideal S2048x128 .f32) := by
    refine (dats m 0 c).arrAt_eq_of_covers 12 _ (by decide +kernel) fun t hf y => ?_
    obtain ⟨e0, e1⟩ := at12 t
    rw [after0_12]
    blk_simp
    refine ((out12_at (b1_at m c H t)).idx _ rfl rfl).trans ?_
    rw [e0, e1, Nat.zero_mul, Nat.zero_add, Nat.zero_add]
    rfl
  intro r q
  rw [e]; rfl
theorem arr13_at (H : HoldsK m c a) : At2 ((dats m 0 c).arrAt 13 cfg0.N : Vec Ideal S2048x128 .f32) (dsE a) := by
  have e : (dats m 0 c).arrAt 13 cfg0.N = (fun y => dsE a (y 0).val (y 1).val : Vec Ideal S2048x128 .f32) := by
    refine (dats m 0 c).arrAt_eq_of_covers 13 _ (by decide +kernel) fun t hf y => ?_
    obtain ⟨e0, e1⟩ := at13 t
    rw [after0_13]
    blk_simp
    refine ((out13_at (b1_at m c H t) (b5_at m c H t) (b6_at m c H t) (b7_at m c H t)).idx _ rfl rfl).trans ?_
    rw [e0, e1, Nat.zero_mul, Nat.zero_add, Nat.zero_add]
    rfl
  intro r q
  rw [e]; rfl
theorem arr14_at (H : HoldsK m c a) : At2 ((dats m 0 c).arrAt 14 cfg0.N : Vec Ideal S2048x128 .f32) (nmsE a) := by
  have e : (dats m 0 c).arrAt 14 cfg0.N = (fun y => nmsE a (y 0).val (y 1).val : Vec Ideal S2048x128 .f32) := by
    refine (dats m 0 c).arrAt_eq_of_covers 14 _ (by decide +kernel) fun t hf y => ?_
    obtain ⟨e0, e1⟩ := at14 t
    rw [after0_14]
    blk_simp
    refine ((out14_at (b1_at m c H t) (b6_at m c H t)).idx _ rfl rfl).trans ?_
    rw [e0, e1, Nat.zero_mul, Nat.zero_add, Nat.zero_add]
    rfl
  intro r q
  rw [e]; rfl
theorem arr15_at (H : HoldsK m c a) : At2 ((dats m 0 c).arrAt 15 cfg0.N : Vec Ideal S2048x128 .f32) (nvsE a) := by
  have e : (dats m 0 c).arrAt 15 cfg0.N = (fun y => nvsE a (y 0).val (y 1).val : Vec Ideal S2048x128 .f32) := by
    refine (dats m 0 c).arrAt_eq_of_covers 15 _ (by decide +kernel) fun t hf y => ?_
    obtain ⟨e0, e1⟩ := at15 t
    rw [after0_15]
    blk_simp
    refine ((out15_at (b1_at m c H t) (b7_at m c H t)).idx _ rfl rfl).trans ?_
    rw [e0, e1, Nat.zero_mul, Nat.zero_add, Nat.zero_add]
    rfl
  intro r q
  rw [e]; rfl

/-- The kernel ends with its eight results at the launch's arrays and the arguments as they were. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0_0) = (dats m 0 c).arrAt 8 cfg0.N
      ∧ r.2.mem ((c.tc : Thread nD τ).loc main_v0_1) = (dats m 0 c).arrAt 9 cfg0.N
      ∧ r.2.mem ((c.tc : Thread nD τ).loc main_v0_2) = (dats m 0 c).arrAt 10 cfg0.N
      ∧ r.2.mem ((c.tc : Thread nD τ).loc main_v0_3) = (dats m 0 c).arrAt 11 cfg0.N
      ∧ r.2.mem ((c.tc : Thread nD τ).loc main_v0_4) = (dats m 0 c).arrAt 12 cfg0.N
      ∧ r.2.mem ((c.tc : Thread nD τ).loc main_v0_5) = (dats m 0 c).arrAt 13 cfg0.N
      ∧ r.2.mem ((c.tc : Thread nD τ).loc main_v0_6) = (dats m 0 c).arrAt 14 cfg0.N
      ∧ r.2.mem ((c.tc : Thread nD τ).loc main_v0_7) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  θ_run_mono (θ_run_and (run_main m ρ) (unchanged m ρ)) fun r h c => ⟨(h.1 c).1 8, (h.1 c).1 9, (h.1 c).1 10, (h.1 c).1 11, (h.1 c).1 12, (h.1 c).1 13, (h.1 c).1 14, (h.1 c).1 15, h.2 c⟩
end Kernel

/-! ## The reference's eight results -/

section Reference
open Cert.Reference6Ideal Cert.Reference6Ideal.Gen

/-- The two gradients, summed over the devices. -/
def rG (A0 : FVec Ideal S8x112x128 .f32) : FVec Ideal S112x128 .f32 := Host.reduceAdd A0 (constant S_ .f32 0x00000000#32) reducesTo_S8x112x128_S112x128_d0 h_S_
def rGs (A1 : FVec Ideal S8x2048x128 .bf16) : FVec Ideal S2048x128 .f32 := Host.reduceAdd (extf .f32 A1 bitsLt_bf16_f32) (constant S_ .f32 0x00000000#32) reducesTo_S8x2048x128_S2048x128_d0 h_S_

/-- The moments after the step, and the step, from the gradient. -/
def rM (g m : FVec Ideal S112x128 .f32) : FVec Ideal S112x128 .f32 := addf (mulf (broadcastInDim S112x128 ![] bcast_S_S112x128 (constant S_ .f32 0x3F666666#32)) m) (mulf (broadcastInDim S112x128 ![] bcast_S_S112x128 (constant S_ .f32 0x3DCCCCCD#32)) g)
def rV (g v : FVec Ideal S112x128 .f32) : FVec Ideal S112x128 .f32 := addf (mulf (broadcastInDim S112x128 ![] bcast_S_S112x128 (constant S_ .f32 0x3F7FBE77#32)) v) (mulf (broadcastInDim S112x128 ![] bcast_S_S112x128 (constant S_ .f32 0x3A83126F#32)) (mulf g g))
def rD (w m v : FVec Ideal S112x128 .f32) : FVec Ideal S112x128 .f32 :=
  mulf (broadcastInDim S112x128 ![] bcast_S_S112x128 (constant S_ .f32 0xBA83126F#32)) (addf (Host.divf (Host.divf m (broadcastInDim S112x128 ![] bcast_S_S112x128 (constant S_ .f32 0x3F26BD02#32))) (addf (Host.sqrt (Host.divf v (broadcastInDim S112x128 ![] bcast_S_S112x128 (constant S_ .f32 0x3C231ACC#32)))) (broadcastInDim S112x128 ![] bcast_S_S112x128 (constant S_ .f32 0x322BCC77#32)))) (mulf (broadcastInDim S112x128 ![] bcast_S_S112x128 (constant S_ .f32 0x3C23D70A#32)) w))

section
variable {g w m v : FVec Ideal S112x128 .f32} {fg fw fm fv : ℕ → ℕ → EReal}
theorem rM_at (hg : At2 g fg) (hm : At2 m fm) : At2 (rM g m) (fun r q => mE (fg r q) (fm r q)) := by
  intro r q
  pointwise [rM, hlo_ix]
  rw [hg, hm]
  rfl
theorem rV_at (hg : At2 g fg) (hv : At2 v fv) : At2 (rV g v) (fun r q => vE (fg r q) (fv r q)) := by
  intro r q
  pointwise [rV, hlo_ix]
  rw [hg, hv]
  rfl
theorem rD_at (hw : At2 w fw) (hm : At2 m fm) (hv : At2 v fv) : At2 (rD w m v) (fun r q => stepE (fw r q) (fm r q) (fv r q)) := by
  intro r q
  pointwise [rD, hlo_ix]
  rw [hw, hm, hv]
  rfl
end

/-- The moments after the step, and the step, from the gradient. -/
def rMs (g m : FVec Ideal S2048x128 .f32) : FVec Ideal S2048x128 .f32 := addf (mulf (broadcastInDim S2048x128 ![] bcast_S_S2048x128 (constant S_ .f32 0x3F666666#32)) m) (mulf (broadcastInDim S2048x128 ![] bcast_S_S2048x128 (constant S_ .f32 0x3DCCCCCD#32)) g)
def rVs (g v : FVec Ideal S2048x128 .f32) : FVec Ideal S2048x128 .f32 := addf (mulf (broadcastInDim S2048x128 ![] bcast_S_S2048x128 (constant S_ .f32 0x3F7FBE77#32)) v) (mulf (broadcastInDim S2048x128 ![] bcast_S_S2048x128 (constant S_ .f32 0x3A83126F#32)) (mulf g g))
def rDs (w m v : FVec Ideal S2048x128 .f32) : FVec Ideal S2048x128 .f32 :=
  mulf (broadcastInDim S2048x128 ![] bcast_S_S2048x128 (constant S_ .f32 0xBA83126F#32)) (addf (Host.divf (Host.divf m (broadcastInDim S2048x128 ![] bcast_S_S2048x128 (constant S_ .f32 0x3F26BD02#32))) (addf (Host.sqrt (Host.divf v (broadcastInDim S2048x128 ![] bcast_S_S2048x128 (constant S_ .f32 0x3C231ACC#32)))) (broadcastInDim S2048x128 ![] bcast_S_S2048x128 (constant S_ .f32 0x322BCC77#32)))) (mulf (broadcastInDim S2048x128 ![] bcast_S_S2048x128 (constant S_ .f32 0x3C23D70A#32)) w))

section
variable {g w m v : FVec Ideal S2048x128 .f32} {fg fw fm fv : ℕ → ℕ → EReal}
theorem rMs_at (hg : At2 g fg) (hm : At2 m fm) : At2 (rMs g m) (fun r q => mE (fg r q) (fm r q)) := by
  intro r q
  pointwise [rMs, hlo_ix]
  rw [hg, hm]
  rfl
theorem rVs_at (hg : At2 g fg) (hv : At2 v fv) : At2 (rVs g v) (fun r q => vE (fg r q) (fv r q)) := by
  intro r q
  pointwise [rVs, hlo_ix]
  rw [hg, hv]
  rfl
theorem rDs_at (hw : At2 w fw) (hm : At2 m fm) (hv : At2 v fv) : At2 (rDs w m v) (fun r q => stepE (fw r q) (fm r q) (fv r q)) := by
  intro r q
  pointwise [rDs, hlo_ix]
  rw [hw, hm, hv]
  rfl
end

theorem rG_at {A0 : FVec Ideal S8x112x128 .f32} {f : ℕ → ℕ → ℕ → EReal} (h : At3 A0 f) : At2 (rG A0) (sumE f) := by
  intro r q
  pointwise [rG, hlo_ix]
  simp only [h _ _ _]
  rfl
theorem rGs_at {A1 : FVec Ideal S8x2048x128 .bf16} {f : ℕ → ℕ → ℕ → EReal} (h : At3 (n := 8) (k := 2048) (l := 128) A1 f) : At2 (rGs A1) (sumE f) := by
  intro r q
  pointwise [rGs, hlo_ix]
  simp only [h _ _ _]
  rfl

variable (m : (ℓ : Loc nD τ Cert.Reference6Ideal.sig) → Buf (Elt Ideal) ℓ) (c : Dev nD)
abbrev y0 : FVec Ideal S8x112x128 .f32 := m ((c.tc : Thread nD τ).loc main_arg0)
abbrev y1 : FVec Ideal S8x2048x128 .bf16 := m ((c.tc : Thread nD τ).loc main_arg1)
abbrev y2 : FVec Ideal S112x128 .f32 := m ((c.tc : Thread nD τ).loc main_arg2)
abbrev y3 : FVec Ideal S112x128 .f32 := m ((c.tc : Thread nD τ).loc main_arg3)
abbrev y4 : FVec Ideal S112x128 .f32 := m ((c.tc : Thread nD τ).loc main_arg4)
abbrev y5 : FVec Ideal S2048x128 .f32 := m ((c.tc : Thread nD τ).loc main_arg5)
abbrev y6 : FVec Ideal S2048x128 .f32 := m ((c.tc : Thread nD τ).loc main_arg6)
abbrev y7 : FVec Ideal S2048x128 .f32 := m ((c.tc : Thread nD τ).loc main_arg7)

/-- The reference ends with each result at its named array of the arguments, and the arguments as they were. -/
theorem ref_run (ρ : Dev nD → PrngReg) :
    θ_run defs (onTc (τ := τ) (main (F := Ideal))) ⟨m, fun _ => 0, ρ⟩ fun r => ∀ c : Dev nD,
      r.2.mem ((c.tc : Thread nD τ).loc main_v0) = rG (y0 m c)
      ∧ r.2.mem ((c.tc : Thread nD τ).loc main_v26) = rD (y2 m c) (rM (rG (y0 m c)) (y3 m c)) (rV (rG (y0 m c)) (y4 m c))
      ∧ r.2.mem ((c.tc : Thread nD τ).loc main_v7) = rM (rG (y0 m c)) (y3 m c)
      ∧ r.2.mem ((c.tc : Thread nD τ).loc main_v13) = rV (rG (y0 m c)) (y4 m c)
      ∧ r.2.mem ((c.tc : Thread nD τ).loc main_v2) = rGs (y1 m c)
      ∧ r.2.mem ((c.tc : Thread nD τ).loc main_v50) = rDs (y5 m c) (rMs (rGs (y1 m c)) (y6 m c)) (rVs (rGs (y1 m c)) (y7 m c))
      ∧ r.2.mem ((c.tc : Thread nD τ).loc main_v31) = rMs (rGs (y1 m c)) (y6 m c)
      ∧ r.2.mem ((c.tc : Thread nD τ).loc main_v37) = rVs (rGs (y1 m c)) (y7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => h c) (Cert.Reference6Ideal.Value.run m ρ)
end Reference

/-- On any arguments the kernel and the reference end with the same eight arrays, as extended reals. -/
theorem algebraic : Cert.algebraic_Kernel6Ideal_Reference6Ideal := by
  intro m g m' g' _ hagree
  refine ⟨fun c => rG (y0 m' c), fun c => rD (y2 m' c) (rM (rG (y0 m' c)) (y3 m' c)) (rV (rG (y0 m' c)) (y4 m' c)), fun c => rM (rG (y0 m' c)) (y3 m' c), fun c => rV (rG (y0 m' c)) (y4 m' c), fun c => rGs (y1 m' c), fun c => rDs (y5 m' c) (rMs (rGs (y1 m' c)) (y6 m' c)) (rVs (rGs (y1 m' c)) (y7 m' c)), fun c => rMs (rGs (y1 m' c)) (y6 m' c), fun c => rVs (rGs (y1 m' c)) (y7 m' c), θ_run_mono (kernel_run m g) fun r h c => ?_, ref_run m' g'⟩
  obtain ⟨a, H⟩ : ∃ a : Args, HoldsK m c a := holds_any _ _ _ _ _ _ _ _
  obtain ⟨e0, e1, e2, e3, e4, e5, e6, e7⟩ := hagree c
  have R0 : At3 (y0 m' c) a.G := fun p r q => (congrFun e0 _).trans (H.G p r q)
  have R1 : At3 (n := 8) (k := 2048) (l := 128) (y1 m' c) a.Gs := fun p r q => (congrFun e1 _).trans (H.Gs p r q)
  have R2 : At2 (y2 m' c) a.w := fun r q => (congrFun e2 _).trans (H.w r q)
  have R3 : At2 (y3 m' c) a.m := fun r q => (congrFun e3 _).trans (H.m r q)
  have R4 : At2 (y4 m' c) a.v := fun r q => (congrFun e4 _).trans (H.v r q)
  have R5 : At2 (y5 m' c) a.ws := fun r q => (congrFun e5 _).trans (H.ws r q)
  have R6 : At2 (y6 m' c) a.ms := fun r q => (congrFun e6 _).trans (H.ms r q)
  have R7 : At2 (y7 m' c) a.vs := fun r q => (congrFun e7 _).trans (H.vs r q)
  have M := rM_at (rG_at R0) R3
  have V := rV_at (rG_at R0) R4
  have Ms := rMs_at (rGs_at R1) R6
  have Vs := rVs_at (rGs_at R1) R7
  obtain ⟨h0, h1, h2, h3, h4, h5, h6, h7, hargs⟩ := h c
  refine ⟨h0.trans ?_, h1.trans ?_, h2.trans ?_, h3.trans ?_, h4.trans ?_, h5.trans ?_, h6.trans ?_, h7.trans ?_, hargs⟩
  · exact (arr8_at m c H).ext (rG_at R0)
  · exact (arr9_at m c H).ext (rD_at R2 M V)
  · exact (arr10_at m c H).ext M
  · exact (arr11_at m c H).ext V
  · exact (arr12_at m c H).ext (rGs_at R1)
  · exact (arr13_at m c H).ext (rDs_at R5 Ms Vs)
  · exact (arr14_at m c H).ext Ms
  · exact (arr15_at m c H).ext Vs

end Cert.SmallUpd

end
-- ==== Proof.SumBlk.lean ====
module

public import proofs.«01_k».proof.Proof.Adam
public import proofs.«01_k».proof.Proof.Gen.Kernel7Ideal.Frame
public import proofs.«01_k».proof.Proof.Gen.Reference7Ideal.Run

@[expose] public section

set_option maxRecDepth 16384

noncomputable section

namespace Cert.SumBlk

open Idealize.ShloMosaic Idealize.ShloMosaic.Tactic Idealize.ShloMosaic.TcCoe Idealize.ShloMosaic.Pointwise Idealize.ShloMosaic.VecWindow Idealize.SL.Sem
open Cert.DwBwd (At2 At3 nat3 nat3_at origin)
open Cert.Adam (eight layer_at)
open scoped BigOperators

/-! ## The sum of the blocks that the eight devices sent, three arrays at once -/

/-- The sum over the devices. -/
def totalE (f : ℕ → ℕ → ℕ → EReal) (r q : ℕ) : EReal := ∑ d : Fin 8, f d r q

/-! ## The kernel's three results -/

section Kernel
open Cert.Kernel7Ideal Cert.Kernel7Ideal.Gen

section
variable {x0 : Vec Ideal S8x128x1024 .bf16} {x1 : Vec Ideal S8x352x1024 .bf16} {x2 : Vec Ideal S8x128x1024 .bf16} {f : ℕ → ℕ → ℕ → EReal}

/-- What one run of the body leaves in each output. -/
theorem out3_at (h : At3 (n := 8) (k := 128) (l := 1024) x0 f) : At2 (out0_3 x0 x1 x2) (totalE f) := by
  intro r q
  have e0 := layer_at (p := 0) inb_S8x128x1024_S1x128x1024_0_0_0 h 0 r q
  have e1 := layer_at (p := 1) inb_S8x128x1024_S1x128x1024_1_0_0 h 0 r q
  have e2 := layer_at (p := 2) inb_S8x128x1024_S1x128x1024_2_0_0 h 0 r q
  have e3 := layer_at (p := 3) inb_S8x128x1024_S1x128x1024_3_0_0 h 0 r q
  have e4 := layer_at (p := 4) inb_S8x128x1024_S1x128x1024_4_0_0 h 0 r q
  have e5 := layer_at (p := 5) inb_S8x128x1024_S1x128x1024_5_0_0 h 0 r q
  have e6 := layer_at (p := 6) inb_S8x128x1024_S1x128x1024_6_0_0 h 0 r q
  have e7 := layer_at (p := 7) inb_S8x128x1024_S1x128x1024_7_0_0 h 0 r q
  refine Eq.trans ?_ (eight fun d => f d r q)
  simp only [← e0, ← e1, ← e2, ← e3, ← e4, ← e5, ← e6, ← e7]
  unfold out0_3
  rw [View.canon_unit_zero origin]
  pointwise [k0_pay2]
theorem out4_at (h : At3 (n := 8) (k := 352) (l := 1024) x1 f) : At2 (out0_4 x0 x1 x2) (totalE f) := by
  intro r q
  have e0 := layer_at (p := 0) inb_S8x352x1024_S1x352x1024_0_0_0 h 0 r q
  have e1 := layer_at (p := 1) inb_S8x352x1024_S1x352x1024_1_0_0 h 0 r q
  have e2 := layer_at (p := 2) inb_S8x352x1024_S1x352x1024_2_0_0 h 0 r q
  have e3 := layer_at (p := 3) inb_S8x352x1024_S1x352x1024_3_0_0 h 0 r q
  have e4 := layer_at (p := 4) inb_S8x352x1024_S1x352x1024_4_0_0 h 0 r q
  have e5 := layer_at (p := 5) inb_S8x352x1024_S1x352x1024_5_0_0 h 0 r q
  have e6 := layer_at (p := 6) inb_S8x352x1024_S1x352x1024_6_0_0 h 0 r q
  have e7 := layer_at (p := 7) inb_S8x352x1024_S1x352x1024_7_0_0 h 0 r q
  refine Eq.trans ?_ (eight fun d => f d r q)
  simp only [← e0, ← e1, ← e2, ← e3, ← e4, ← e5, ← e6, ← e7]
  unfold out0_4
  rw [View.canon_unit_zero origin]
  pointwise [k0_pay3]
theorem out5_at (h : At3 (n := 8) (k := 128) (l := 1024) x2 f) : At2 (out0_5 x0 x1 x2) (totalE f) := by
  intro r q
  have e0 := layer_at (p := 0) inb_S8x128x1024_S1x128x1024_0_0_0 h 0 r q
  have e1 := layer_at (p := 1) inb_S8x128x1024_S1x128x1024_1_0_0 h 0 r q
  have e2 := layer_at (p := 2) inb_S8x128x1024_S1x128x1024_2_0_0 h 0 r q
  have e3 := layer_at (p := 3) inb_S8x128x1024_S1x128x1024_3_0_0 h 0 r q
  have e4 := layer_at (p := 4) inb_S8x128x1024_S1x128x1024_4_0_0 h 0 r q
  have e5 := layer_at (p := 5) inb_S8x128x1024_S1x128x1024_5_0_0 h 0 r q
  have e6 := layer_at (p := 6) inb_S8x128x1024_S1x128x1024_6_0_0 h 0 r q
  have e7 := layer_at (p := 7) inb_S8x128x1024_S1x128x1024_7_0_0 h 0 r q
  refine Eq.trans ?_ (eight fun d => f d r q)
  simp only [← e0, ← e1, ← e2, ← e3, ← e4, ← e5, ← e6, ← e7]
  unfold out0_5
  rw [View.canon_unit_zero origin]
  pointwise [k0_pay1]
end

variable (m : (ℓ : Loc nD τ Cert.Kernel7Ideal.sig) → Buf (Elt Ideal) ℓ) (c : Dev nD) {f : ℕ → ℕ → ℕ → EReal}

theorem at0 : ∀ t : Fin cfg0.N, win0_0.index t 0 = 0 ∧ win0_0.index t 1 = 0 ∧ win0_0.index t 2 = 0 := (by decide +kernel : ∀ t : Fin grid0.N, _)
theorem at1 : ∀ t : Fin cfg0.N, win0_1.index t 0 = 0 ∧ win0_1.index t 1 = 0 ∧ win0_1.index t 2 = 0 := (by decide +kernel : ∀ t : Fin grid0.N, _)
theorem at2 : ∀ t : Fin cfg0.N, win0_2.index t 0 = 0 ∧ win0_2.index t 1 = 0 ∧ win0_2.index t 2 = 0 := (by decide +kernel : ∀ t : Fin grid0.N, _)
theorem at3 : ∀ t : Fin cfg0.N, win0_3.index t 0 = 0 ∧ win0_3.index t 1 = 0 := (by decide +kernel : ∀ t : Fin grid0.N, _)
theorem at4 : ∀ t : Fin cfg0.N, win0_4.index t 0 = 0 ∧ win0_4.index t 1 = 0 := (by decide +kernel : ∀ t : Fin grid0.N, _)
theorem at5 : ∀ t : Fin cfg0.N, win0_5.index t 0 = 0 ∧ win0_5.index t 1 = 0 := (by decide +kernel : ∀ t : Fin grid0.N, _)

/-- The first input's block is the whole array, and its output's array holds its sum after the run. -/
theorem b0_at (H : At3 (n := 8) (k := 128) (l := 1024) (m ((c : Thread nD τ).loc main_arg0) : Vec Ideal S8x128x1024 .bf16) f) (t : Fin cfg0.N) : At3 (n := 8) (k := 128) (l := 1024) (iblk m c 0 t : Vec Ideal S8x128x1024 .bf16) f := by
  intro p r q
  obtain ⟨e0, e1, e2⟩ := at0 t
  blk_simp [iblk]
  rw [V_main_arg0]
  refine H.idx _ ?_ ?_ ?_
  · blk_simp; omega
  · blk_simp; omega
  · blk_simp; omega
theorem arr3_at (H : At3 (n := 8) (k := 128) (l := 1024) (m ((c : Thread nD τ).loc main_arg0) : Vec Ideal S8x128x1024 .bf16) f) : At2 ((dats m 0 c).arrAt 3 cfg0.N : Vec Ideal S128x1024 .f32) (totalE f) := by
  have e : (dats m 0 c).arrAt 3 cfg0.N = (fun y => totalE f (y 0).val (y 1).val : Vec Ideal S128x1024 .f32) := by
    refine (dats m 0 c).arrAt_eq_of_covers 3 _ (by decide +kernel) fun t hf y => ?_
    obtain ⟨e0, e1⟩ := at3 t
    rw [after0_3]
    blk_simp
    refine ((out3_at (b0_at m c H t)).idx _ rfl rfl).trans ?_
    rw [e0, e1, Nat.zero_mul, Nat.zero_add, Nat.zero_add]
  intro r q
  rw [e]; rfl
/-- The second input's block is the whole array, and its output's array holds its sum after the run. -/
theorem b1_at (H : At3 (n := 8) (k := 352) (l := 1024) (m ((c : Thread nD τ).loc main_arg1) : Vec Ideal S8x352x1024 .bf16) f) (t : Fin cfg0.N) : At3 (n := 8) (k := 352) (l := 1024) (iblk m c 1 t : Vec Ideal S8x352x1024 .bf16) f := by
  intro p r q
  obtain ⟨e0, e1, e2⟩ := at1 t
  blk_simp [iblk]
  rw [V_main_arg1]
  refine H.idx _ ?_ ?_ ?_
  · blk_simp; omega
  · blk_simp; omega
  · blk_simp; omega
theorem arr4_at (H : At3 (n := 8) (k := 352) (l := 1024) (m ((c : Thread nD τ).loc main_arg1) : Vec Ideal S8x352x1024 .bf16) f) : At2 ((dats m 0 c).arrAt 4 cfg0.N : Vec Ideal S352x1024 .f32) (totalE f) := by
  have e : (dats m 0 c).arrAt 4 cfg0.N = (fun y => totalE f (y 0).val (y 1).val : Vec Ideal S352x1024 .f32) := by
    refine (dats m 0 c).arrAt_eq_of_covers 4 _ (by decide +kernel) fun t hf y => ?_
    obtain ⟨e0, e1⟩ := at4 t
    rw [after0_4]
    blk_simp
    refine ((out4_at (b1_at m c H t)).idx _ rfl rfl).trans ?_
    rw [e0, e1, Nat.zero_mul, Nat.zero_add, Nat.zero_add]
  intro r q
  rw [e]; rfl
/-- The third input's block is the whole array, and its output's array holds its sum after the run. -/
theorem b2_at (H : At3 (n := 8) (k := 128) (l := 1024) (m ((c : Thread nD τ).loc main_arg2) : Vec Ideal S8x128x1024 .bf16) f) (t : Fin cfg0.N) : At3 (n := 8) (k := 128) (l := 1024) (iblk m c 2 t : Vec Ideal S8x128x1024 .bf16) f := by
  intro p r q
  obtain ⟨e0, e1, e2⟩ := at2 t
  blk_simp [iblk]
  rw [V_main_arg2]
  refine H.idx _ ?_ ?_ ?_
  · blk_simp; omega
  · blk_simp; omega
  · blk_simp; omega
theorem arr5_at (H : At3 (n := 8) (k := 128) (l := 1024) (m ((c : Thread nD τ).loc main_arg2) : Vec Ideal S8x128x1024 .bf16) f) : At2 ((dats m 0 c).arrAt 5 cfg0.N : Vec Ideal S128x1024 .f32) (totalE f) := by
  have e : (dats m 0 c).arrAt 5 cfg0.N = (fun y => totalE f (y 0).val (y 1).val : Vec Ideal S128x1024 .f32) := by
    refine (dats m 0 c).arrAt_eq_of_covers 5 _ (by decide +kernel) fun t hf y => ?_
    obtain ⟨e0, e1⟩ := at5 t
    rw [after0_5]
    blk_simp
    refine ((out5_at (b2_at m c H t)).idx _ rfl rfl).trans ?_
    rw [e0, e1, Nat.zero_mul, Nat.zero_add, Nat.zero_add]
  intro r q
  rw [e]; rfl

/-- The kernel ends with its three results at the launch's arrays and the arguments as they were. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_v0_2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (run_main m ρ) (unchanged m ρ)) fun r h c => ⟨(h.1 c).1 3, (h.1 c).1 4, (h.1 c).1 5, h.2 c⟩
end Kernel

/-! ## The reference's three results -/

section Reference
open Cert.Reference7Ideal Cert.Reference7Ideal.Gen

/-- The sum over the devices' axis. -/
def rOut (A : FVec Ideal S8x128x1024 .bf16) : FVec Ideal S128x1024 .f32 := Host.reduceAdd (extf .f32 A bitsLt_bf16_f32) (constant S_ .f32 0x00000000#32) reducesTo_S8x128x1024_S128x1024_d0 h_S_
def rIn (A : FVec Ideal S8x352x1024 .bf16) : FVec Ideal S352x1024 .f32 := Host.reduceAdd (extf .f32 A bitsLt_bf16_f32) (constant S_ .f32 0x00000000#32) reducesTo_S8x352x1024_S352x1024_d0 h_S_
theorem rOut_at {A : FVec Ideal S8x128x1024 .bf16} {f : ℕ → ℕ → ℕ → EReal} (h : At3 (n := 8) (k := 128) (l := 1024) A f) : At2 (rOut A) (totalE f) := by
  intro r q
  pointwise [rOut, hlo_ix]
  simp only [h _ _ _]
  rfl
theorem rIn_at {A : FVec Ideal S8x352x1024 .bf16} {f : ℕ → ℕ → ℕ → EReal} (h : At3 (n := 8) (k := 352) (l := 1024) A f) : At2 (rIn A) (totalE f) := by
  intro r q
  pointwise [rIn, hlo_ix]
  simp only [h _ _ _]
  rfl

variable (m : (ℓ : Loc nD τ Cert.Reference7Ideal.sig) → Buf (Elt Ideal) ℓ) (c : Dev nD)
abbrev y0 : FVec Ideal S8x128x1024 .bf16 := m ((c.tc : Thread nD τ).loc main_arg0)
abbrev y1 : FVec Ideal S8x352x1024 .bf16 := m ((c.tc : Thread nD τ).loc main_arg1)
abbrev y2 : FVec Ideal S8x128x1024 .bf16 := m ((c.tc : Thread nD τ).loc main_arg2)

/-- The reference ends with each result at its named array of the arguments, and the arguments as they were. -/
theorem ref_run (ρ : Dev nD → PrngReg) :
    θ_run defs (onTc (τ := τ) (main (F := Ideal))) ⟨m, fun _ => 0, ρ⟩ fun r => ∀ c : Dev nD,
      r.2.mem ((c.tc : Thread nD τ).loc main_v1) = rOut (y0 m c)
      ∧ r.2.mem ((c.tc : Thread nD τ).loc main_v3) = rIn (y1 m c)
      ∧ r.2.mem ((c.tc : Thread nD τ).loc main_v5) = rOut (y2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => h c) (Cert.Reference7Ideal.Value.run m ρ)
end Reference

/-- On any arguments the kernel and the reference end with the same three arrays, as extended reals. -/
theorem algebraic : Cert.algebraic_Kernel7Ideal_Reference7Ideal := by
  intro m g m' g' _ hagree
  refine ⟨fun c => rOut (y0 m' c), fun c => rIn (y1 m' c), fun c => rOut (y2 m' c), θ_run_mono (kernel_run m g) fun r h c => ?_, ref_run m' g'⟩
  obtain ⟨e0, e1, e2⟩ := hagree c
  have R0 : At3 (n := 8) (k := 128) (l := 1024) (y0 m' c) (nat3 (n := 8) (k := 128) (l := 1024) (y0 m' c)) := nat3_at (n := 8) (k := 128) (l := 1024) _
  have R1 : At3 (n := 8) (k := 352) (l := 1024) (y1 m' c) (nat3 (n := 8) (k := 352) (l := 1024) (y1 m' c)) := nat3_at (n := 8) (k := 352) (l := 1024) _
  have R2 : At3 (n := 8) (k := 128) (l := 1024) (y2 m' c) (nat3 (n := 8) (k := 128) (l := 1024) (y2 m' c)) := nat3_at (n := 8) (k := 128) (l := 1024) _
  obtain ⟨h0, h1, h2, hargs⟩ := h c
  refine ⟨h0.trans ?_, h1.trans ?_, h2.trans ?_, hargs⟩
  · exact (arr3_at m c fun p r q => (congrFun e0 _).symm.trans (R0 p r q)).ext (rOut_at R0)
  · exact (arr4_at m c fun p r q => (congrFun e1 _).symm.trans (R1 p r q)).ext (rIn_at R1)
  · exact (arr5_at m c fun p r q => (congrFun e2 _).symm.trans (R2 p r q)).ext (rOut_at R2)

end Cert.SumBlk

end
-- ==== Proof.lean ====
module

public import proofs.«01_k».proof.Proof.Gen.Kernel2.Frame
public import proofs.«01_k».proof.Proof.Gen.Kernel3.Frame
public import proofs.«01_k».proof.Proof.Gen.Kernel2Ideal.Frame
public import proofs.«01_k».proof.Proof.Gen.Kernel3Ideal.Frame
public import proofs.«01_k».proof.Proof.Gen.Reference2Ideal.Run
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Twin
public import proofs.«01_k».proof.Proof.Alg
public import proofs.«01_k».proof.Proof.NormAlg
public import proofs.«01_k».proof.Proof.DwAlg
public import proofs.«01_k».proof.Proof.LnFwd
public import proofs.«01_k».proof.Proof.AdaUpd
public import proofs.«01_k».proof.Proof.SmallUpd
public import proofs.«01_k».proof.Proof.SumBlk
public import Idealize.ShloMosaic.Adequacy
public import Idealize.ShloMosaic.Init

@[expose] public section

noncomputable section

namespace Cert.Proof

open Idealize.ShloMosaic Idealize.SL.Sem Cert.Kernel

/-- The kernel at the floats' bits leaves its arguments as they were and every semaphore at zero. -/
theorem frame_kernel : Cert.quiescent_Kernel := fun m ρ _ =>
  Eq.mpr (congrArg (fun D => θ_run D (onTc (τ := Cert.Kernel.τ) (Cert.Kernel.main (F := Bits))) _ _) Cert.MixBwd.defs_eq)
    (Cert.MixBwd.framed (F := Bits) m ρ)

/-- So does the kernel over the extended reals. -/
theorem frame_ideal : Cert.quiescent_KernelIdeal := fun m ρ _ => Cert.MixBwd.framed (F := Ideal) m ρ

/-- So does the reference. -/
theorem frame_reference : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

/-- Stated of finite arguments, both hold as they hold of all. -/
theorem frame_ideal_finite [Cert.Pre_finite.Facts] : Cert.quiescent_KernelIdeal_pre_finite := fun m ρ _ => frame_ideal m ρ trivial
theorem frame_reference_finite [Cert.Pre_finite.Facts] : Cert.quiescent_ReferenceIdeal_pre_finite := fun m ρ _ => frame_reference m ρ trivial

/-- The second program pair: the input projection's gradient through the modulated norm. -/
theorem frame_kernel2 : Cert.quiescent_Kernel2 := fun m ρ _ => Cert.Kernel2.Gen.frame (F := Bits) m ρ
theorem frame_ideal2 : Cert.quiescent_Kernel2Ideal := fun m ρ _ => Cert.Kernel2Ideal.Gen.frame (F := Ideal) m ρ
theorem frame_reference2 : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)
theorem frame_ideal2_finite [Cert.Pre_finite2.Facts] : Cert.quiescent_Kernel2Ideal_pre_finite2 := fun m ρ _ => frame_ideal2 m ρ trivial
theorem frame_reference2_finite [Cert.Pre_finite2.Facts] : Cert.quiescent_Reference2Ideal_pre_finite2 := fun m ρ _ => frame_reference2 m ρ trivial

/-- The third: the projection's weight gradient and the assembled key and value gradients. -/
theorem frame_kernel3 : Cert.quiescent_Kernel3 := fun m ρ _ => Cert.Kernel3.Gen.frame (F := Bits) m ρ
theorem frame_ideal3 : Cert.quiescent_Kernel3Ideal := fun m ρ _ => Cert.Kernel3Ideal.Gen.frame (F := Ideal) m ρ
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The fourth: the forward projection of the modulated norm. -/
theorem frame_kernel4 : Cert.quiescent_Kernel4 := fun m ρ _ => Cert.Kernel4.Gen.frame (F := Bits) m ρ
theorem frame_ideal4 : Cert.quiescent_Kernel4Ideal := fun m ρ _ => Cert.Kernel4Ideal.Gen.frame (F := Ideal) m ρ
theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The fifth: the conditioning weight's gradient and its AdamW step. -/
theorem frame_kernel5 : Cert.quiescent_Kernel5 := fun m ρ _ => Cert.Kernel5.Gen.frame (F := Bits) m ρ
theorem frame_ideal5 : Cert.quiescent_Kernel5Ideal := fun m ρ _ => Cert.Kernel5Ideal.Gen.frame (F := Ideal) m ρ
theorem frame_reference5 : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

/-- The sixth: the sum over the devices of the small weights' gradients and their AdamW step. -/
theorem frame_kernel6 : Cert.quiescent_Kernel6 := fun m ρ _ => Cert.Kernel6.Gen.frame (F := Bits) m ρ
theorem frame_ideal6 : Cert.quiescent_Kernel6Ideal := fun m ρ _ => Cert.Kernel6Ideal.Gen.frame (F := Ideal) m ρ
theorem frame_reference6 : Cert.quiescent_Reference6Ideal := fun m ρ _ =>
  (θ_run Cert.Reference6Ideal.defs _ _).mono (fun r h => ⟨fun c => (h c).2.2.2.2.2.2.2.2, sem_eq_zero_of_no_sems (by decide) r.2⟩)
    (Cert.Reference6Ideal.Value.run (F := Ideal) m ρ)

/-- The seventh: the sum of the blocks of the weights' gradients that the devices sent. -/
theorem frame_kernel7 : Cert.quiescent_Kernel7 := fun m ρ _ => Cert.Kernel7.Gen.frame (F := Bits) m ρ
theorem frame_ideal7 : Cert.quiescent_Kernel7Ideal := fun m ρ _ => Cert.Kernel7Ideal.Gen.frame (F := Ideal) m ρ
theorem frame_reference7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.MixBwd.pre_facts, Cert.NormBwd.pre_facts,
  frame_kernel, frame_ideal, @frame_ideal_finite Cert.MixBwd.pre_facts, frame_reference, @frame_reference_finite Cert.MixBwd.pre_facts,
  frame_kernel2, frame_ideal2, @frame_ideal2_finite Cert.NormBwd.pre_facts, frame_reference2, @frame_reference2_finite Cert.NormBwd.pre_facts,
  frame_kernel3, frame_ideal3, frame_reference3, frame_kernel4, frame_ideal4, frame_reference4,
  frame_kernel5, frame_ideal5, frame_reference5, frame_kernel6, frame_ideal6, frame_reference6, frame_kernel7, frame_ideal7, frame_reference7,
  trivial, @Cert.MixBwd.algebraic Cert.MixBwd.pre_facts, trivial, @Cert.NormBwd.algebraic Cert.NormBwd.pre_facts, trivial, Cert.DwBwd.algebraic, trivial, Cert.LnFwd.algebraic,
  trivial, Cert.AdaUpd.algebraic, trivial, Cert.SmallUpd.algebraic, trivial, Cert.SumBlk.algebraic⟩

end Cert.Proof

end
